-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_DwWide (m : (ℓ : Loc Cert.DwWide.nD Cert.DwWide.τ Cert.DwWide.sig) → Buf (Elt Bits) ℓ) : Prop :=
  True

def Pre_DwWideIdeal (m : (ℓ : Loc Cert.DwWideIdeal.nD Cert.DwWideIdeal.τ Cert.DwWideIdeal.sig) → Buf (Elt Ideal) ℓ) : Prop :=
  True

def Pre_DwWideRefIdeal (m : (ℓ : Loc Cert.DwWideRefIdeal.nD Cert.DwWideRefIdeal.τ Cert.DwWideRefIdeal.sig) → Buf (Elt Ideal) ℓ) : Prop :=
  True

def Pre_DwSquare (m : (ℓ : Loc Cert.DwSquare.nD Cert.DwSquare.τ Cert.DwSquare.sig) → Buf (Elt Bits) ℓ) : Prop :=
  True

def Pre_DwSquareIdeal (m : (ℓ : Loc Cert.DwSquareIdeal.nD Cert.DwSquareIdeal.τ Cert.DwSquareIdeal.sig) → Buf (Elt Ideal) ℓ) : Prop :=
  True

def Pre_DwSquareRefIdeal (m : (ℓ : Loc Cert.DwSquareRefIdeal.nD Cert.DwSquareRefIdeal.τ Cert.DwSquareRefIdeal.sig) → Buf (Elt Ideal) ℓ) : Prop :=
  True

def Pre_DwFlat (m : (ℓ : Loc Cert.DwFlat.nD Cert.DwFlat.τ Cert.DwFlat.sig) → Buf (Elt Bits) ℓ) : Prop :=
  True

def Pre_DwFlatIdeal (m : (ℓ : Loc Cert.DwFlatIdeal.nD Cert.DwFlatIdeal.τ Cert.DwFlatIdeal.sig) → Buf (Elt Ideal) ℓ) : Prop :=
  True

def Pre_DwFlatRefIdeal (m : (ℓ : Loc Cert.DwFlatRefIdeal.nD Cert.DwFlatRefIdeal.τ Cert.DwFlatRefIdeal.sig) → Buf (Elt Ideal) ℓ) : Prop :=
  True

def Pre_DwSsm (m : (ℓ : Loc Cert.DwSsm.nD Cert.DwSsm.τ Cert.DwSsm.sig) → Buf (Elt Bits) ℓ) : Prop :=
  True

def Pre_DwSsmIdeal (m : (ℓ : Loc Cert.DwSsmIdeal.nD Cert.DwSsmIdeal.τ Cert.DwSsmIdeal.sig) → Buf (Elt Ideal) ℓ) : Prop :=
  True

def Pre_DwSsmRefIdeal (m : (ℓ : Loc Cert.DwSsmRefIdeal.nD Cert.DwSsmRefIdeal.τ Cert.DwSsmRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdIdeal_finite_fwd [hPre_finite_fwd : Cert.Pre_finite_fwd.Facts] (m : (ℓ : Loc Cert.FwdIdeal.nD Cert.FwdIdeal.τ Cert.FwdIdeal.sig) → Buf (Elt Ideal) ℓ) : Prop :=
  ∀ c : Dev Cert.FwdIdeal.nD,
    (Cert.Pre_finite_fwd.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2))) = (fun _ => 1#1)

def Pre_FwdRefIdeal (m : (ℓ : Loc Cert.FwdRefIdeal.nD Cert.FwdRefIdeal.τ Cert.FwdRefIdeal.sig) → Buf (Elt Ideal) ℓ) : Prop :=
  True

def Pre_FwdRefIdeal_finite_fwd [hPre_finite_fwd : Cert.Pre_finite_fwd.Facts] (m : (ℓ : Loc Cert.FwdRefIdeal.nD Cert.FwdRefIdeal.τ Cert.FwdRefIdeal.sig) → Buf (Elt Ideal) ℓ) : Prop :=
  ∀ c : Dev Cert.FwdRefIdeal.nD,
    (Cert.Pre_finite_fwd.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_DwWide [hDwWide : Cert.DwWide.Facts] : Prop :=
  ∀ (m : (ℓ : Loc Cert.DwWide.nD Cert.DwWide.τ Cert.DwWide.sig) → Buf (Elt Bits) ℓ) (g : Dev Cert.DwWide.nD → PrngReg), Pre_DwWide m →
    θ_run (Cert.DwWide.defs (F := Bits)) (onTc (τ := Cert.DwWide.τ) (Cert.DwWide.main (F := Bits))) ⟨m, fun _ => 0, g⟩ (fun r => (∀ c : Dev Cert.DwWide.nD,
      r.2.mem ((c.tc : Thread Cert.DwWide.nD Cert.DwWide.τ).loc Cert.DwWide.main_arg0) = m ((c.tc : Thread Cert.DwWide.nD Cert.DwWide.τ).loc Cert.DwWide.main_arg0)
      ∧ r.2.mem ((c.tc : Thread Cert.DwWide.nD Cert.DwWide.τ).loc Cert.DwWide.main_arg1) = m ((c.tc : Thread Cert.DwWide.nD Cert.DwWide.τ).loc Cert.DwWide.main_arg1))
      ∧ r.2.sem = fun _ => 0)

def quiescent_DwWideIdeal [hDwWideIdeal : Cert.DwWideIdeal.Facts] : Prop :=
  ∀ (m : (ℓ : Loc Cert.DwWideIdeal.nD Cert.DwWideIdeal.τ Cert.DwWideIdeal.sig) → Buf (Elt Ideal) ℓ) (g : Dev Cert.DwWideIdeal.nD → PrngReg), Pre_DwWideIdeal m →
    θ_run (Cert.DwWideIdeal.defs (F := Ideal)) (onTc (τ := Cert.DwWideIdeal.τ) (Cert.DwWideIdeal.main (F := Ideal))) ⟨m, fun _ => 0, g⟩ (fun r => (∀ c : Dev Cert.DwWideIdeal.nD,
      r.2.mem ((c.tc : Thread Cert.DwWideIdeal.nD Cert.DwWideIdeal.τ).loc Cert.DwWideIdeal.main_arg0) = m ((c.tc : Thread Cert.DwWideIdeal.nD Cert.DwWideIdeal.τ).loc Cert.DwWideIdeal.main_arg0)
      ∧ r.2.mem ((c.tc : Thread Cert.DwWideIdeal.nD Cert.DwWideIdeal.τ).loc Cert.DwWideIdeal.main_arg1) = m ((c.tc : Thread Cert.DwWideIdeal.nD Cert.DwWideIdeal.τ).loc Cert.DwWideIdeal.main_arg1))
      ∧ r.2.sem = fun _ => 0)

def quiescent_DwWideRefIdeal [hDwWideRefIdeal : Cert.DwWideRefIdeal.Facts] : Prop :=
  ∀ (m : (ℓ : Loc Cert.DwWideRefIdeal.nD Cert.DwWideRefIdeal.τ Cert.DwWideRefIdeal.sig) → Buf (Elt Ideal) ℓ) (g : Dev Cert.DwWideRefIdeal.nD → PrngReg), Pre_DwWideRefIdeal m →
    θ_run (Cert.DwWideRefIdeal.defs (F := Ideal)) (onTc (τ := Cert.DwWideRefIdeal.τ) (Cert.DwWideRefIdeal.main (F := Ideal))) ⟨m, fun _ => 0, g⟩ (fun r => (∀ c : Dev Cert.DwWideRefIdeal.nD,
      r.2.mem ((c.tc : Thread Cert.DwWideRefIdeal.nD Cert.DwWideRefIdeal.τ).loc Cert.DwWideRefIdeal.main_arg0) = m ((c.tc : Thread Cert.DwWideRefIdeal.nD Cert.DwWideRefIdeal.τ).loc Cert.DwWideRefIdeal.main_arg0)
      ∧ r.2.mem ((c.tc : Thread Cert.DwWideRefIdeal.nD Cert.DwWideRefIdeal.τ).loc Cert.DwWideRefIdeal.main_arg1) = m ((c.tc : Thread Cert.DwWideRefIdeal.nD Cert.DwWideRefIdeal.τ).loc Cert.DwWideRefIdeal.main_arg1))
      ∧ r.2.sem = fun _ => 0)

def quiescent_DwSquare [hDwSquare : Cert.DwSquare.Facts] : Prop :=
  ∀ (m : (ℓ : Loc Cert.DwSquare.nD Cert.DwSquare.τ Cert.DwSquare.sig) → Buf (Elt Bits) ℓ) (g : Dev Cert.DwSquare.nD → PrngReg), Pre_DwSquare m →
    θ_run (Cert.DwSquare.defs (F := Bits)) (onTc (τ := Cert.DwSquare.τ) (Cert.DwSquare.main (F := Bits))) ⟨m, fun _ => 0, g⟩ (fun r => (∀ c : Dev Cert.DwSquare.nD,
      r.2.mem ((c.tc : Thread Cert.DwSquare.nD Cert.DwSquare.τ).loc Cert.DwSquare.main_arg0) = m ((c.tc : Thread Cert.DwSquare.nD Cert.DwSquare.τ).loc Cert.DwSquare.main_arg0)
      ∧ r.2.mem ((c.tc : Thread Cert.DwSquare.nD Cert.DwSquare.τ).loc Cert.DwSquare.main_arg1) = m ((c.tc : Thread Cert.DwSquare.nD Cert.DwSquare.τ).loc Cert.DwSquare.main_arg1))
      ∧ r.2.sem = fun _ => 0)

def quiescent_DwSquareIdeal [hDwSquareIdeal : Cert.DwSquareIdeal.Facts] : Prop :=
  ∀ (m : (ℓ : Loc Cert.DwSquareIdeal.nD Cert.DwSquareIdeal.τ Cert.DwSquareIdeal.sig) → Buf (Elt Ideal) ℓ) (g : Dev Cert.DwSquareIdeal.nD → PrngReg), Pre_DwSquareIdeal m →
    θ_run (Cert.DwSquareIdeal.defs (F := Ideal)) (onTc (τ := Cert.DwSquareIdeal.τ) (Cert.DwSquareIdeal.main (F := Ideal))) ⟨m, fun _ => 0, g⟩ (fun r => (∀ c : Dev Cert.DwSquareIdeal.nD,
      r.2.mem ((c.tc : Thread Cert.DwSquareIdeal.nD Cert.DwSquareIdeal.τ).loc Cert.DwSquareIdeal.main_arg0) = m ((c.tc : Thread Cert.DwSquareIdeal.nD Cert.DwSquareIdeal.τ).loc Cert.DwSquareIdeal.main_arg0)
      ∧ r.2.mem ((c.tc : Thread Cert.DwSquareIdeal.nD Cert.DwSquareIdeal.τ).loc Cert.DwSquareIdeal.main_arg1) = m ((c.tc : Thread Cert.DwSquareIdeal.nD Cert.DwSquareIdeal.τ).loc Cert.DwSquareIdeal.main_arg1))
      ∧ r.2.sem = fun _ => 0)

def quiescent_DwSquareRefIdeal [hDwSquareRefIdeal : Cert.DwSquareRefIdeal.Facts] : Prop :=
  ∀ (m : (ℓ : Loc Cert.DwSquareRefIdeal.nD Cert.DwSquareRefIdeal.τ Cert.DwSquareRefIdeal.sig) → Buf (Elt Ideal) ℓ) (g : Dev Cert.DwSquareRefIdeal.nD → PrngReg), Pre_DwSquareRefIdeal m →
    θ_run (Cert.DwSquareRefIdeal.defs (F := Ideal)) (onTc (τ := Cert.DwSquareRefIdeal.τ) (Cert.DwSquareRefIdeal.main (F := Ideal))) ⟨m, fun _ => 0, g⟩ (fun r => (∀ c : Dev Cert.DwSquareRefIdeal.nD,
      r.2.mem ((c.tc : Thread Cert.DwSquareRefIdeal.nD Cert.DwSquareRefIdeal.τ).loc Cert.DwSquareRefIdeal.main_arg0) = m ((c.tc : Thread Cert.DwSquareRefIdeal.nD Cert.DwSquareRefIdeal.τ).loc Cert.DwSquareRefIdeal.main_arg0)
      ∧ r.2.mem ((c.tc : Thread Cert.DwSquareRefIdeal.nD Cert.DwSquareRefIdeal.τ).loc Cert.DwSquareRefIdeal.main_arg1) = m ((c.tc : Thread Cert.DwSquareRefIdeal.nD Cert.DwSquareRefIdeal.τ).loc Cert.DwSquareRefIdeal.main_arg1))
      ∧ r.2.sem = fun _ => 0)

def quiescent_DwFlat [hDwFlat : Cert.DwFlat.Facts] : Prop :=
  ∀ (m : (ℓ : Loc Cert.DwFlat.nD Cert.DwFlat.τ Cert.DwFlat.sig) → Buf (Elt Bits) ℓ) (g : Dev Cert.DwFlat.nD → PrngReg), Pre_DwFlat m →
    θ_run (Cert.DwFlat.defs (F := Bits)) (onTc (τ := Cert.DwFlat.τ) (Cert.DwFlat.main (F := Bits))) ⟨m, fun _ => 0, g⟩ (fun r => (∀ c : Dev Cert.DwFlat.nD,
      r.2.mem ((c.tc : Thread Cert.DwFlat.nD Cert.DwFlat.τ).loc Cert.DwFlat.main_arg0) = m ((c.tc : Thread Cert.DwFlat.nD Cert.DwFlat.τ).loc Cert.DwFlat.main_arg0)
      ∧ r.2.mem ((c.tc : Thread Cert.DwFlat.nD Cert.DwFlat.τ).loc Cert.DwFlat.main_arg1) = m ((c.tc : Thread Cert.DwFlat.nD Cert.DwFlat.τ).loc Cert.DwFlat.main_arg1))
      ∧ r.2.sem = fun _ => 0)

def quiescent_DwFlatIdeal [hDwFlatIdeal : Cert.DwFlatIdeal.Facts] : Prop :=
  ∀ (m : (ℓ : Loc Cert.DwFlatIdeal.nD Cert.DwFlatIdeal.τ Cert.DwFlatIdeal.sig) → Buf (Elt Ideal) ℓ) (g : Dev Cert.DwFlatIdeal.nD → PrngReg), Pre_DwFlatIdeal m →
    θ_run (Cert.DwFlatIdeal.defs (F := Ideal)) (onTc (τ := Cert.DwFlatIdeal.τ) (Cert.DwFlatIdeal.main (F := Ideal))) ⟨m, fun _ => 0, g⟩ (fun r => (∀ c : Dev Cert.DwFlatIdeal.nD,
      r.2.mem ((c.tc : Thread Cert.DwFlatIdeal.nD Cert.DwFlatIdeal.τ).loc Cert.DwFlatIdeal.main_arg0) = m ((c.tc : Thread Cert.DwFlatIdeal.nD Cert.DwFlatIdeal.τ).loc Cert.DwFlatIdeal.main_arg0)
      ∧ r.2.mem ((c.tc : Thread Cert.DwFlatIdeal.nD Cert.DwFlatIdeal.τ).loc Cert.DwFlatIdeal.main_arg1) = m ((c.tc : Thread Cert.DwFlatIdeal.nD Cert.DwFlatIdeal.τ).loc Cert.DwFlatIdeal.main_arg1))
      ∧ r.2.sem = fun _ => 0)

def quiescent_DwFlatRefIdeal [hDwFlatRefIdeal : Cert.DwFlatRefIdeal.Facts] : Prop :=
  ∀ (m : (ℓ : Loc Cert.DwFlatRefIdeal.nD Cert.DwFlatRefIdeal.τ Cert.DwFlatRefIdeal.sig) → Buf (Elt Ideal) ℓ) (g : Dev Cert.DwFlatRefIdeal.nD → PrngReg), Pre_DwFlatRefIdeal m →
    θ_run (Cert.DwFlatRefIdeal.defs (F := Ideal)) (onTc (τ := Cert.DwFlatRefIdeal.τ) (Cert.DwFlatRefIdeal.main (F := Ideal))) ⟨m, fun _ => 0, g⟩ (fun r => (∀ c : Dev Cert.DwFlatRefIdeal.nD,
      r.2.mem ((c.tc : Thread Cert.DwFlatRefIdeal.nD Cert.DwFlatRefIdeal.τ).loc Cert.DwFlatRefIdeal.main_arg0) = m ((c.tc : Thread Cert.DwFlatRefIdeal.nD Cert.DwFlatRefIdeal.τ).loc Cert.DwFlatRefIdeal.main_arg0)
      ∧ r.2.mem ((c.tc : Thread Cert.DwFlatRefIdeal.nD Cert.DwFlatRefIdeal.τ).loc Cert.DwFlatRefIdeal.main_arg1) = m ((c.tc : Thread Cert.DwFlatRefIdeal.nD Cert.DwFlatRefIdeal.τ).loc Cert.DwFlatRefIdeal.main_arg1))
      ∧ r.2.sem = fun _ => 0)

def quiescent_DwSsm [hDwSsm : Cert.DwSsm.Facts] : Prop :=
  ∀ (m : (ℓ : Loc Cert.DwSsm.nD Cert.DwSsm.τ Cert.DwSsm.sig) → Buf (Elt Bits) ℓ) (g : Dev Cert.DwSsm.nD → PrngReg), Pre_DwSsm m →
    θ_run (Cert.DwSsm.defs (F := Bits)) (onTc (τ := Cert.DwSsm.τ) (Cert.DwSsm.main (F := Bits))) ⟨m, fun _ => 0, g⟩ (fun r => (∀ c : Dev Cert.DwSsm.nD,
      r.2.mem ((c.tc : Thread Cert.DwSsm.nD Cert.DwSsm.τ).loc Cert.DwSsm.main_arg0) = m ((c.tc : Thread Cert.DwSsm.nD Cert.DwSsm.τ).loc Cert.DwSsm.main_arg0)
      ∧ r.2.mem ((c.tc : Thread Cert.DwSsm.nD Cert.DwSsm.τ).loc Cert.DwSsm.main_arg1) = m ((c.tc : Thread Cert.DwSsm.nD Cert.DwSsm.τ).loc Cert.DwSsm.main_arg1))
      ∧ r.2.sem = fun _ => 0)

def quiescent_DwSsmIdeal [hDwSsmIdeal : Cert.DwSsmIdeal.Facts] : Prop :=
  ∀ (m : (ℓ : Loc Cert.DwSsmIdeal.nD Cert.DwSsmIdeal.τ Cert.DwSsmIdeal.sig) → Buf (Elt Ideal) ℓ) (g : Dev Cert.DwSsmIdeal.nD → PrngReg), Pre_DwSsmIdeal m →
    θ_run (Cert.DwSsmIdeal.defs (F := Ideal)) (onTc (τ := Cert.DwSsmIdeal.τ) (Cert.DwSsmIdeal.main (F := Ideal))) ⟨m, fun _ => 0, g⟩ (fun r => (∀ c : Dev Cert.DwSsmIdeal.nD,
      r.2.mem ((c.tc : Thread Cert.DwSsmIdeal.nD Cert.DwSsmIdeal.τ).loc Cert.DwSsmIdeal.main_arg0) = m ((c.tc : Thread Cert.DwSsmIdeal.nD Cert.DwSsmIdeal.τ).loc Cert.DwSsmIdeal.main_arg0)
      ∧ r.2.mem ((c.tc : Thread Cert.DwSsmIdeal.nD Cert.DwSsmIdeal.τ).loc Cert.DwSsmIdeal.main_arg1) = m ((c.tc : Thread Cert.DwSsmIdeal.nD Cert.DwSsmIdeal.τ).loc Cert.DwSsmIdeal.main_arg1))
      ∧ r.2.sem = fun _ => 0)

def quiescent_DwSsmRefIdeal [hDwSsmRefIdeal : Cert.DwSsmRefIdeal.Facts] : Prop :=
  ∀ (m : (ℓ : Loc Cert.DwSsmRefIdeal.nD Cert.DwSsmRefIdeal.τ Cert.DwSsmRefIdeal.sig) → Buf (Elt Ideal) ℓ) (g : Dev Cert.DwSsmRefIdeal.nD → PrngReg), Pre_DwSsmRefIdeal m →
    θ_run (Cert.DwSsmRefIdeal.defs (F := Ideal)) (onTc (τ := Cert.DwSsmRefIdeal.τ) (Cert.DwSsmRefIdeal.main (F := Ideal))) ⟨m, fun _ => 0, g⟩ (fun r => (∀ c : Dev Cert.DwSsmRefIdeal.nD,
      r.2.mem ((c.tc : Thread Cert.DwSsmRefIdeal.nD Cert.DwSsmRefIdeal.τ).loc Cert.DwSsmRefIdeal.main_arg0) = m ((c.tc : Thread Cert.DwSsmRefIdeal.nD Cert.DwSsmRefIdeal.τ).loc Cert.DwSsmRefIdeal.main_arg0)
      ∧ r.2.mem ((c.tc : Thread Cert.DwSsmRefIdeal.nD Cert.DwSsmRefIdeal.τ).loc Cert.DwSsmRefIdeal.main_arg1) = m ((c.tc : Thread Cert.DwSsmRefIdeal.nD Cert.DwSsmRefIdeal.τ).loc Cert.DwSsmRefIdeal.main_arg1))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7)
      ∧ r.2.mem ((c.tc : Thread Cert.InProj.nD Cert.InProj.τ).loc Cert.InProj.main_arg8) = m ((c.tc : Thread Cert.InProj.nD Cert.InProj.τ).loc Cert.InProj.main_arg8)
      ∧ r.2.mem ((c.tc : Thread Cert.InProj.nD Cert.InProj.τ).loc Cert.InProj.main_arg9) = m ((c.tc : Thread Cert.InProj.nD Cert.InProj.τ).loc Cert.InProj.main_arg9))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
      ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8)
      ∧ r.2.mem ((c.tc : Thread Cert.InProjIdeal.nD Cert.InProjIdeal.τ).loc Cert.InProjIdeal.main_arg9) = m ((c.tc : Thread Cert.InProjIdeal.nD Cert.InProjIdeal.τ).loc Cert.InProjIdeal.main_arg9))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6)
      ∧ r.2.mem ((c.tc : Thread Cert.InProjRefIdeal.nD Cert.InProjRefIdeal.τ).loc Cert.InProjRefIdeal.main_arg7) = m ((c.tc : Thread Cert.InProjRefIdeal.nD Cert.InProjRefIdeal.τ).loc Cert.InProjRefIdeal.main_arg7)
      ∧ r.2.mem ((c.tc : Thread Cert.InProjRefIdeal.nD Cert.InProjRefIdeal.τ).loc Cert.InProjRefIdeal.main_arg8) = m ((c.tc : Thread Cert.InProjRefIdeal.nD Cert.InProjRefIdeal.τ).loc Cert.InProjRefIdeal.main_arg8)
      ∧ r.2.mem ((c.tc : Thread Cert.InProjRefIdeal.nD Cert.InProjRefIdeal.τ).loc Cert.InProjRefIdeal.main_arg9) = m ((c.tc : Thread Cert.InProjRefIdeal.nD Cert.InProjRefIdeal.τ).loc Cert.InProjRefIdeal.main_arg9))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdIdeal_pre_finite_fwd [hFwdIdeal : Cert.FwdIdeal.Facts] [hPre_finite_fwd : Cert.Pre_finite_fwd.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal_finite_fwd m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2))
      ∧ r.2.sem = fun _ => 0)

def quiescent_FwdRefIdeal_pre_finite_fwd [hFwdRefIdeal : Cert.FwdRefIdeal.Facts] [hPre_finite_fwd : Cert.Pre_finite_fwd.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal_finite_fwd m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v83_0)) (v1 : (c : Dev Cert.KernelIdeal.nD) → Buf (Elt Ideal) ((c.tc : Thread Cert.KernelIdeal.nD Cert.KernelIdeal.τ).loc Cert.KernelIdeal.main_v83_1)) (v2 : (c : Dev Cert.KernelIdeal.nD) → Buf (Elt Ideal) ((c.tc : Thread Cert.KernelIdeal.nD Cert.KernelIdeal.τ).loc Cert.KernelIdeal.main_v83_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83_0) = v0 c
          ∧ r.2.mem ((c.tc : Thread Cert.KernelIdeal.nD Cert.KernelIdeal.τ).loc Cert.KernelIdeal.main_v83_1) = v1 c
          ∧ r.2.mem ((c.tc : Thread Cert.KernelIdeal.nD Cert.KernelIdeal.τ).loc Cert.KernelIdeal.main_v83_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_DwWide_DwWideIdeal : Prop :=
  True

def algebraic_DwWideIdeal_DwWideRefIdeal [hDwWideIdeal : Cert.DwWideIdeal.Facts] [hDwWideRefIdeal : Cert.DwWideRefIdeal.Facts] : Prop :=
  ∀ (m : (ℓ : Loc Cert.DwWideIdeal.nD Cert.DwWideIdeal.τ Cert.DwWideIdeal.sig) → Buf (Elt Ideal) ℓ) (g : Dev Cert.DwWideIdeal.nD → PrngReg)
    (m' : (ℓ : Loc Cert.DwWideRefIdeal.nD Cert.DwWideRefIdeal.τ Cert.DwWideRefIdeal.sig) → Buf (Elt Ideal) ℓ) (g' : Dev Cert.DwWideRefIdeal.nD → PrngReg), Pre_DwWideIdeal m →
    (∀ c : Dev Cert.DwWideIdeal.nD,
      m' ((c.tc : Thread Cert.DwWideRefIdeal.nD Cert.DwWideRefIdeal.τ).loc Cert.DwWideRefIdeal.main_arg0) = m ((c.tc : Thread Cert.DwWideIdeal.nD Cert.DwWideIdeal.τ).loc Cert.DwWideIdeal.main_arg0)
      ∧ m' ((c.tc : Thread Cert.DwWideRefIdeal.nD Cert.DwWideRefIdeal.τ).loc Cert.DwWideRefIdeal.main_arg1) = m ((c.tc : Thread Cert.DwWideIdeal.nD Cert.DwWideIdeal.τ).loc Cert.DwWideIdeal.main_arg1)) →
    ∃ (v0 : (c : Dev Cert.DwWideIdeal.nD) → Buf (Elt Ideal) ((c.tc : Thread Cert.DwWideIdeal.nD Cert.DwWideIdeal.τ).loc Cert.DwWideIdeal.main_v0)),
      θ_run (Cert.DwWideIdeal.defs (F := Ideal)) (onTc (τ := Cert.DwWideIdeal.τ) (Cert.DwWideIdeal.main (F := Ideal))) ⟨m, fun _ => 0, g⟩ (fun r => ∀ c : Dev Cert.DwWideIdeal.nD,
          r.2.mem ((c.tc : Thread Cert.DwWideIdeal.nD Cert.DwWideIdeal.τ).loc Cert.DwWideIdeal.main_v0) = v0 c
          ∧ r.2.mem ((c.tc : Thread Cert.DwWideIdeal.nD Cert.DwWideIdeal.τ).loc Cert.DwWideIdeal.main_arg0) = m ((c.tc : Thread Cert.DwWideIdeal.nD Cert.DwWideIdeal.τ).loc Cert.DwWideIdeal.main_arg0)
          ∧ r.2.mem ((c.tc : Thread Cert.DwWideIdeal.nD Cert.DwWideIdeal.τ).loc Cert.DwWideIdeal.main_arg1) = m ((c.tc : Thread Cert.DwWideIdeal.nD Cert.DwWideIdeal.τ).loc Cert.DwWideIdeal.main_arg1))
      ∧ θ_run (Cert.DwWideRefIdeal.defs (F := Ideal)) (onTc (τ := Cert.DwWideRefIdeal.τ) (Cert.DwWideRefIdeal.main (F := Ideal))) ⟨m', fun _ => 0, g'⟩ (fun r => ∀ c : Dev Cert.DwWideRefIdeal.nD,
          r.2.mem ((c.tc : Thread Cert.DwWideRefIdeal.nD Cert.DwWideRefIdeal.τ).loc Cert.DwWideRefIdeal.main_v7) = v0 c
          ∧ r.2.mem ((c.tc : Thread Cert.DwWideRefIdeal.nD Cert.DwWideRefIdeal.τ).loc Cert.DwWideRefIdeal.main_arg0) = m' ((c.tc : Thread Cert.DwWideRefIdeal.nD Cert.DwWideRefIdeal.τ).loc Cert.DwWideRefIdeal.main_arg0)
          ∧ r.2.mem ((c.tc : Thread Cert.DwWideRefIdeal.nD Cert.DwWideRefIdeal.τ).loc Cert.DwWideRefIdeal.main_arg1) = m' ((c.tc : Thread Cert.DwWideRefIdeal.nD Cert.DwWideRefIdeal.τ).loc Cert.DwWideRefIdeal.main_arg1))

def preserves_DwSquare_DwSquareIdeal : Prop :=
  True

def algebraic_DwSquareIdeal_DwSquareRefIdeal [hDwSquareIdeal : Cert.DwSquareIdeal.Facts] [hDwSquareRefIdeal : Cert.DwSquareRefIdeal.Facts] : Prop :=
  ∀ (m : (ℓ : Loc Cert.DwSquareIdeal.nD Cert.DwSquareIdeal.τ Cert.DwSquareIdeal.sig) → Buf (Elt Ideal) ℓ) (g : Dev Cert.DwSquareIdeal.nD → PrngReg)
    (m' : (ℓ : Loc Cert.DwSquareRefIdeal.nD Cert.DwSquareRefIdeal.τ Cert.DwSquareRefIdeal.sig) → Buf (Elt Ideal) ℓ) (g' : Dev Cert.DwSquareRefIdeal.nD → PrngReg), Pre_DwSquareIdeal m →
    (∀ c : Dev Cert.DwSquareIdeal.nD,
      m' ((c.tc : Thread Cert.DwSquareRefIdeal.nD Cert.DwSquareRefIdeal.τ).loc Cert.DwSquareRefIdeal.main_arg0) = m ((c.tc : Thread Cert.DwSquareIdeal.nD Cert.DwSquareIdeal.τ).loc Cert.DwSquareIdeal.main_arg0)
      ∧ m' ((c.tc : Thread Cert.DwSquareRefIdeal.nD Cert.DwSquareRefIdeal.τ).loc Cert.DwSquareRefIdeal.main_arg1) = m ((c.tc : Thread Cert.DwSquareIdeal.nD Cert.DwSquareIdeal.τ).loc Cert.DwSquareIdeal.main_arg1)) →
    ∃ (v0 : (c : Dev Cert.DwSquareIdeal.nD) → Buf (Elt Ideal) ((c.tc : Thread Cert.DwSquareIdeal.nD Cert.DwSquareIdeal.τ).loc Cert.DwSquareIdeal.main_v0)),
      θ_run (Cert.DwSquareIdeal.defs (F := Ideal)) (onTc (τ := Cert.DwSquareIdeal.τ) (Cert.DwSquareIdeal.main (F := Ideal))) ⟨m, fun _ => 0, g⟩ (fun r => ∀ c : Dev Cert.DwSquareIdeal.nD,
          r.2.mem ((c.tc : Thread Cert.DwSquareIdeal.nD Cert.DwSquareIdeal.τ).loc Cert.DwSquareIdeal.main_v0) = v0 c
          ∧ r.2.mem ((c.tc : Thread Cert.DwSquareIdeal.nD Cert.DwSquareIdeal.τ).loc Cert.DwSquareIdeal.main_arg0) = m ((c.tc : Thread Cert.DwSquareIdeal.nD Cert.DwSquareIdeal.τ).loc Cert.DwSquareIdeal.main_arg0)
          ∧ r.2.mem ((c.tc : Thread Cert.DwSquareIdeal.nD Cert.DwSquareIdeal.τ).loc Cert.DwSquareIdeal.main_arg1) = m ((c.tc : Thread Cert.DwSquareIdeal.nD Cert.DwSquareIdeal.τ).loc Cert.DwSquareIdeal.main_arg1))
      ∧ θ_run (Cert.DwSquareRefIdeal.defs (F := Ideal)) (onTc (τ := Cert.DwSquareRefIdeal.τ) (Cert.DwSquareRefIdeal.main (F := Ideal))) ⟨m', fun _ => 0, g'⟩ (fun r => ∀ c : Dev Cert.DwSquareRefIdeal.nD,
          r.2.mem ((c.tc : Thread Cert.DwSquareRefIdeal.nD Cert.DwSquareRefIdeal.τ).loc Cert.DwSquareRefIdeal.main_v7) = v0 c
          ∧ r.2.mem ((c.tc : Thread Cert.DwSquareRefIdeal.nD Cert.DwSquareRefIdeal.τ).loc Cert.DwSquareRefIdeal.main_arg0) = m' ((c.tc : Thread Cert.DwSquareRefIdeal.nD Cert.DwSquareRefIdeal.τ).loc Cert.DwSquareRefIdeal.main_arg0)
          ∧ r.2.mem ((c.tc : Thread Cert.DwSquareRefIdeal.nD Cert.DwSquareRefIdeal.τ).loc Cert.DwSquareRefIdeal.main_arg1) = m' ((c.tc : Thread Cert.DwSquareRefIdeal.nD Cert.DwSquareRefIdeal.τ).loc Cert.DwSquareRefIdeal.main_arg1))

def preserves_DwFlat_DwFlatIdeal : Prop :=
  True

def algebraic_DwFlatIdeal_DwFlatRefIdeal [hDwFlatIdeal : Cert.DwFlatIdeal.Facts] [hDwFlatRefIdeal : Cert.DwFlatRefIdeal.Facts] : Prop :=
  ∀ (m : (ℓ : Loc Cert.DwFlatIdeal.nD Cert.DwFlatIdeal.τ Cert.DwFlatIdeal.sig) → Buf (Elt Ideal) ℓ) (g : Dev Cert.DwFlatIdeal.nD → PrngReg)
    (m' : (ℓ : Loc Cert.DwFlatRefIdeal.nD Cert.DwFlatRefIdeal.τ Cert.DwFlatRefIdeal.sig) → Buf (Elt Ideal) ℓ) (g' : Dev Cert.DwFlatRefIdeal.nD → PrngReg), Pre_DwFlatIdeal m →
    (∀ c : Dev Cert.DwFlatIdeal.nD,
      m' ((c.tc : Thread Cert.DwFlatRefIdeal.nD Cert.DwFlatRefIdeal.τ).loc Cert.DwFlatRefIdeal.main_arg0) = m ((c.tc : Thread Cert.DwFlatIdeal.nD Cert.DwFlatIdeal.τ).loc Cert.DwFlatIdeal.main_arg0)
      ∧ m' ((c.tc : Thread Cert.DwFlatRefIdeal.nD Cert.DwFlatRefIdeal.τ).loc Cert.DwFlatRefIdeal.main_arg1) = m ((c.tc : Thread Cert.DwFlatIdeal.nD Cert.DwFlatIdeal.τ).loc Cert.DwFlatIdeal.main_arg1)) →
    ∃ (v0 : (c : Dev Cert.DwFlatIdeal.nD) → Buf (Elt Ideal) ((c.tc : Thread Cert.DwFlatIdeal.nD Cert.DwFlatIdeal.τ).loc Cert.DwFlatIdeal.main_v0)),
      θ_run (Cert.DwFlatIdeal.defs (F := Ideal)) (onTc (τ := Cert.DwFlatIdeal.τ) (Cert.DwFlatIdeal.main (F := Ideal))) ⟨m, fun _ => 0, g⟩ (fun r => ∀ c : Dev Cert.DwFlatIdeal.nD,
          r.2.mem ((c.tc : Thread Cert.DwFlatIdeal.nD Cert.DwFlatIdeal.τ).loc Cert.DwFlatIdeal.main_v0) = v0 c
          ∧ r.2.mem ((c.tc : Thread Cert.DwFlatIdeal.nD Cert.DwFlatIdeal.τ).loc Cert.DwFlatIdeal.main_arg0) = m ((c.tc : Thread Cert.DwFlatIdeal.nD Cert.DwFlatIdeal.τ).loc Cert.DwFlatIdeal.main_arg0)
          ∧ r.2.mem ((c.tc : Thread Cert.DwFlatIdeal.nD Cert.DwFlatIdeal.τ).loc Cert.DwFlatIdeal.main_arg1) = m ((c.tc : Thread Cert.DwFlatIdeal.nD Cert.DwFlatIdeal.τ).loc Cert.DwFlatIdeal.main_arg1))
      ∧ θ_run (Cert.DwFlatRefIdeal.defs (F := Ideal)) (onTc (τ := Cert.DwFlatRefIdeal.τ) (Cert.DwFlatRefIdeal.main (F := Ideal))) ⟨m', fun _ => 0, g'⟩ (fun r => ∀ c : Dev Cert.DwFlatRefIdeal.nD,
          r.2.mem ((c.tc : Thread Cert.DwFlatRefIdeal.nD Cert.DwFlatRefIdeal.τ).loc Cert.DwFlatRefIdeal.main_v6) = v0 c
          ∧ r.2.mem ((c.tc : Thread Cert.DwFlatRefIdeal.nD Cert.DwFlatRefIdeal.τ).loc Cert.DwFlatRefIdeal.main_arg0) = m' ((c.tc : Thread Cert.DwFlatRefIdeal.nD Cert.DwFlatRefIdeal.τ).loc Cert.DwFlatRefIdeal.main_arg0)
          ∧ r.2.mem ((c.tc : Thread Cert.DwFlatRefIdeal.nD Cert.DwFlatRefIdeal.τ).loc Cert.DwFlatRefIdeal.main_arg1) = m' ((c.tc : Thread Cert.DwFlatRefIdeal.nD Cert.DwFlatRefIdeal.τ).loc Cert.DwFlatRefIdeal.main_arg1))

def preserves_DwSsm_DwSsmIdeal : Prop :=
  True

def algebraic_DwSsmIdeal_DwSsmRefIdeal [hDwSsmIdeal : Cert.DwSsmIdeal.Facts] [hDwSsmRefIdeal : Cert.DwSsmRefIdeal.Facts] : Prop :=
  ∀ (m : (ℓ : Loc Cert.DwSsmIdeal.nD Cert.DwSsmIdeal.τ Cert.DwSsmIdeal.sig) → Buf (Elt Ideal) ℓ) (g : Dev Cert.DwSsmIdeal.nD → PrngReg)
    (m' : (ℓ : Loc Cert.DwSsmRefIdeal.nD Cert.DwSsmRefIdeal.τ Cert.DwSsmRefIdeal.sig) → Buf (Elt Ideal) ℓ) (g' : Dev Cert.DwSsmRefIdeal.nD → PrngReg), Pre_DwSsmIdeal m →
    (∀ c : Dev Cert.DwSsmIdeal.nD,
      m' ((c.tc : Thread Cert.DwSsmRefIdeal.nD Cert.DwSsmRefIdeal.τ).loc Cert.DwSsmRefIdeal.main_arg0) = m ((c.tc : Thread Cert.DwSsmIdeal.nD Cert.DwSsmIdeal.τ).loc Cert.DwSsmIdeal.main_arg0)
      ∧ m' ((c.tc : Thread Cert.DwSsmRefIdeal.nD Cert.DwSsmRefIdeal.τ).loc Cert.DwSsmRefIdeal.main_arg1) = m ((c.tc : Thread Cert.DwSsmIdeal.nD Cert.DwSsmIdeal.τ).loc Cert.DwSsmIdeal.main_arg1)) →
    ∃ (v0 : (c : Dev Cert.DwSsmIdeal.nD) → Buf (Elt Ideal) ((c.tc : Thread Cert.DwSsmIdeal.nD Cert.DwSsmIdeal.τ).loc Cert.DwSsmIdeal.main_v0)),
      θ_run (Cert.DwSsmIdeal.defs (F := Ideal)) (onTc (τ := Cert.DwSsmIdeal.τ) (Cert.DwSsmIdeal.main (F := Ideal))) ⟨m, fun _ => 0, g⟩ (fun r => ∀ c : Dev Cert.DwSsmIdeal.nD,
          r.2.mem ((c.tc : Thread Cert.DwSsmIdeal.nD Cert.DwSsmIdeal.τ).loc Cert.DwSsmIdeal.main_v0) = v0 c
          ∧ r.2.mem ((c.tc : Thread Cert.DwSsmIdeal.nD Cert.DwSsmIdeal.τ).loc Cert.DwSsmIdeal.main_arg0) = m ((c.tc : Thread Cert.DwSsmIdeal.nD Cert.DwSsmIdeal.τ).loc Cert.DwSsmIdeal.main_arg0)
          ∧ r.2.mem ((c.tc : Thread Cert.DwSsmIdeal.nD Cert.DwSsmIdeal.τ).loc Cert.DwSsmIdeal.main_arg1) = m ((c.tc : Thread Cert.DwSsmIdeal.nD Cert.DwSsmIdeal.τ).loc Cert.DwSsmIdeal.main_arg1))
      ∧ θ_run (Cert.DwSsmRefIdeal.defs (F := Ideal)) (onTc (τ := Cert.DwSsmRefIdeal.τ) (Cert.DwSsmRefIdeal.main (F := Ideal))) ⟨m', fun _ => 0, g'⟩ (fun r => ∀ c : Dev Cert.DwSsmRefIdeal.nD,
          r.2.mem ((c.tc : Thread Cert.DwSsmRefIdeal.nD Cert.DwSsmRefIdeal.τ).loc Cert.DwSsmRefIdeal.main_v7) = v0 c
          ∧ r.2.mem ((c.tc : Thread Cert.DwSsmRefIdeal.nD Cert.DwSsmRefIdeal.τ).loc Cert.DwSsmRefIdeal.main_arg0) = m' ((c.tc : Thread Cert.DwSsmRefIdeal.nD Cert.DwSsmRefIdeal.τ).loc Cert.DwSsmRefIdeal.main_arg0)
          ∧ r.2.mem ((c.tc : Thread Cert.DwSsmRefIdeal.nD Cert.DwSsmRefIdeal.τ).loc Cert.DwSsmRefIdeal.main_arg1) = m' ((c.tc : Thread Cert.DwSsmRefIdeal.nD Cert.DwSsmRefIdeal.τ).loc Cert.DwSsmRefIdeal.main_arg1))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v4_0)) (v1 : (c : Dev Cert.MlpIdeal.nD) → Buf (Elt Ideal) ((c.tc : Thread Cert.MlpIdeal.nD Cert.MlpIdeal.τ).loc Cert.MlpIdeal.main_v4_1)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v4_0) = v0 c
          ∧ r.2.mem ((c.tc : Thread Cert.MlpIdeal.nD Cert.MlpIdeal.τ).loc Cert.MlpIdeal.main_v4_1) = v1 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v39) = v0 c
          ∧ r.2.mem ((c.tc : Thread Cert.MlpRefIdeal.nD Cert.MlpRefIdeal.τ).loc Cert.MlpRefIdeal.main_v40) = v1 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
      ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)
      ∧ m' ((c.tc : Thread Cert.InProjRefIdeal.nD Cert.InProjRefIdeal.τ).loc Cert.InProjRefIdeal.main_arg7) = m ((c.tc : Thread Cert.InProjIdeal.nD Cert.InProjIdeal.τ).loc Cert.InProjIdeal.main_arg7)
      ∧ m' ((c.tc : Thread Cert.InProjRefIdeal.nD Cert.InProjRefIdeal.τ).loc Cert.InProjRefIdeal.main_arg8) = m ((c.tc : Thread Cert.InProjIdeal.nD Cert.InProjIdeal.τ).loc Cert.InProjIdeal.main_arg8)
      ∧ m' ((c.tc : Thread Cert.InProjRefIdeal.nD Cert.InProjRefIdeal.τ).loc Cert.InProjRefIdeal.main_arg9) = m ((c.tc : Thread Cert.InProjIdeal.nD Cert.InProjIdeal.τ).loc Cert.InProjIdeal.main_arg9)) →
    ∃ (v0 : (c : Dev Cert.InProjIdeal.nD) → Buf (Elt Ideal) ((c.tc : Thread Cert.InProjIdeal.nD Cert.InProjIdeal.τ).loc Cert.InProjIdeal.main_v5_0)) (v1 : (c : Dev Cert.InProjIdeal.nD) → Buf (Elt Ideal) ((c.tc : Thread Cert.InProjIdeal.nD Cert.InProjIdeal.τ).loc Cert.InProjIdeal.main_v5_1)) (v2 : (c : Dev Cert.InProjIdeal.nD) → Buf (Elt Ideal) ((c.tc : Thread Cert.InProjIdeal.nD Cert.InProjIdeal.τ).loc Cert.InProjIdeal.main_v5_2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v5_0) = v0 c
          ∧ r.2.mem ((c.tc : Thread Cert.InProjIdeal.nD Cert.InProjIdeal.τ).loc Cert.InProjIdeal.main_v5_1) = v1 c
          ∧ r.2.mem ((c.tc : Thread Cert.InProjIdeal.nD Cert.InProjIdeal.τ).loc Cert.InProjIdeal.main_v5_2) = v2 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
          ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
          ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8)
          ∧ r.2.mem ((c.tc : Thread Cert.InProjIdeal.nD Cert.InProjIdeal.τ).loc Cert.InProjIdeal.main_arg9) = m ((c.tc : Thread Cert.InProjIdeal.nD Cert.InProjIdeal.τ).loc Cert.InProjIdeal.main_arg9))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v52) = v0 c
          ∧ r.2.mem ((c.tc : Thread Cert.InProjRefIdeal.nD Cert.InProjRefIdeal.τ).loc Cert.InProjRefIdeal.main_v53) = v1 c
          ∧ r.2.mem ((c.tc : Thread Cert.InProjRefIdeal.nD Cert.InProjRefIdeal.τ).loc Cert.InProjRefIdeal.main_v54) = v2 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6)
          ∧ r.2.mem ((c.tc : Thread Cert.InProjRefIdeal.nD Cert.InProjRefIdeal.τ).loc Cert.InProjRefIdeal.main_arg7) = m' ((c.tc : Thread Cert.InProjRefIdeal.nD Cert.InProjRefIdeal.τ).loc Cert.InProjRefIdeal.main_arg7)
          ∧ r.2.mem ((c.tc : Thread Cert.InProjRefIdeal.nD Cert.InProjRefIdeal.τ).loc Cert.InProjRefIdeal.main_arg8) = m' ((c.tc : Thread Cert.InProjRefIdeal.nD Cert.InProjRefIdeal.τ).loc Cert.InProjRefIdeal.main_arg8)
          ∧ r.2.mem ((c.tc : Thread Cert.InProjRefIdeal.nD Cert.InProjRefIdeal.τ).loc Cert.InProjRefIdeal.main_arg9) = m' ((c.tc : Thread Cert.InProjRefIdeal.nD Cert.InProjRefIdeal.τ).loc Cert.InProjRefIdeal.main_arg9))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v14_0)) (v1 : (c : Dev Cert.LossIdeal.nD) → Buf (Elt Ideal) ((c.tc : Thread Cert.LossIdeal.nD Cert.LossIdeal.τ).loc Cert.LossIdeal.main_v14_1)) (v2 : (c : Dev Cert.LossIdeal.nD) → Buf (Elt Ideal) ((c.tc : Thread Cert.LossIdeal.nD Cert.LossIdeal.τ).loc Cert.LossIdeal.main_v14_2)) (v3 : (c : Dev Cert.LossIdeal.nD) → Buf (Elt Ideal) ((c.tc : Thread Cert.LossIdeal.nD Cert.LossIdeal.τ).loc Cert.LossIdeal.main_v14_3)) (v4 : (c : Dev Cert.LossIdeal.nD) → Buf (Elt Ideal) ((c.tc : Thread Cert.LossIdeal.nD Cert.LossIdeal.τ).loc Cert.LossIdeal.main_v14_4)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v14_0) = v0 c
          ∧ r.2.mem ((c.tc : Thread Cert.LossIdeal.nD Cert.LossIdeal.τ).loc Cert.LossIdeal.main_v14_1) = v1 c
          ∧ r.2.mem ((c.tc : Thread Cert.LossIdeal.nD Cert.LossIdeal.τ).loc Cert.LossIdeal.main_v14_2) = v2 c
          ∧ r.2.mem ((c.tc : Thread Cert.LossIdeal.nD Cert.LossIdeal.τ).loc Cert.LossIdeal.main_v14_3) = v3 c
          ∧ r.2.mem ((c.tc : Thread Cert.LossIdeal.nD Cert.LossIdeal.τ).loc Cert.LossIdeal.main_v14_4) = v4 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v66) = v0 c
          ∧ r.2.mem ((c.tc : Thread Cert.LossRefIdeal.nD Cert.LossRefIdeal.τ).loc Cert.LossRefIdeal.main_v61) = v1 c
          ∧ r.2.mem ((c.tc : Thread Cert.LossRefIdeal.nD Cert.LossRefIdeal.τ).loc Cert.LossRefIdeal.main_v67) = v2 c
          ∧ r.2.mem ((c.tc : Thread Cert.LossRefIdeal.nD Cert.LossRefIdeal.τ).loc Cert.LossRefIdeal.main_v68) = v3 c
          ∧ r.2.mem ((c.tc : Thread Cert.LossRefIdeal.nD Cert.LossRefIdeal.τ).loc Cert.LossRefIdeal.main_v69) = v4 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_Fwd_FwdIdeal : Prop :=
  IdealRules.named_const.Statement Cert.FwdIdeal.κ "mask" .f32 0xF149F2CA#32 ⊥

def algebraic_FwdIdeal_FwdRefIdeal_pre_finite_fwd [hFwdIdeal : Cert.FwdIdeal.Facts] [hFwdRefIdeal : Cert.FwdRefIdeal.Facts] [hPre_finite_fwd : Cert.Pre_finite_fwd.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal_finite_fwd m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)) →
    ∃ (v0 : (c : Dev Cert.FwdIdeal.nD) → Buf (Elt Ideal) ((c.tc : Thread Cert.FwdIdeal.nD Cert.FwdIdeal.τ).loc Cert.FwdIdeal.main_v18_0)) (v1 : (c : Dev Cert.FwdIdeal.nD) → Buf (Elt Ideal) ((c.tc : Thread Cert.FwdIdeal.nD Cert.FwdIdeal.τ).loc Cert.FwdIdeal.main_v18_1)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v18_0) = v0 c
          ∧ r.2.mem ((c.tc : Thread Cert.FwdIdeal.nD Cert.FwdIdeal.τ).loc Cert.FwdIdeal.main_v18_1) = v1 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v25) = v0 c
          ∧ r.2.mem ((c.tc : Thread Cert.FwdRefIdeal.nD Cert.FwdRefIdeal.τ).loc Cert.FwdRefIdeal.main_v26) = v1 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v4_0)) (v1 : (c : Dev Cert.ProjIdeal.nD) → Buf (Elt Ideal) ((c.tc : Thread Cert.ProjIdeal.nD Cert.ProjIdeal.τ).loc Cert.ProjIdeal.main_v4_1)) (v2 : (c : Dev Cert.ProjIdeal.nD) → Buf (Elt Ideal) ((c.tc : Thread Cert.ProjIdeal.nD Cert.ProjIdeal.τ).loc Cert.ProjIdeal.main_v4_2)) (v3 : (c : Dev Cert.ProjIdeal.nD) → Buf (Elt Ideal) ((c.tc : Thread Cert.ProjIdeal.nD Cert.ProjIdeal.τ).loc Cert.ProjIdeal.main_v4_3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v4_0) = v0 c
          ∧ r.2.mem ((c.tc : Thread Cert.ProjIdeal.nD Cert.ProjIdeal.τ).loc Cert.ProjIdeal.main_v4_1) = v1 c
          ∧ r.2.mem ((c.tc : Thread Cert.ProjIdeal.nD Cert.ProjIdeal.τ).loc Cert.ProjIdeal.main_v4_2) = v2 c
          ∧ r.2.mem ((c.tc : Thread Cert.ProjIdeal.nD Cert.ProjIdeal.τ).loc Cert.ProjIdeal.main_v4_3) = v3 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v14) = v0 c
          ∧ r.2.mem ((c.tc : Thread Cert.ProjRefIdeal.nD Cert.ProjRefIdeal.τ).loc Cert.ProjRefIdeal.main_v15) = v1 c
          ∧ r.2.mem ((c.tc : Thread Cert.ProjRefIdeal.nD Cert.ProjRefIdeal.τ).loc Cert.ProjRefIdeal.main_v16) = v2 c
          ∧ r.2.mem ((c.tc : Thread Cert.ProjRefIdeal.nD Cert.ProjRefIdeal.τ).loc Cert.ProjRefIdeal.main_v17) = v3 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)) →
    ∃ (v0 : (c : Dev Cert.MixIdeal.nD) → Buf (Elt Ideal) ((c.tc : Thread Cert.MixIdeal.nD Cert.MixIdeal.τ).loc Cert.MixIdeal.main_v5_0)) (v1 : (c : Dev Cert.MixIdeal.nD) → Buf (Elt Ideal) ((c.tc : Thread Cert.MixIdeal.nD Cert.MixIdeal.τ).loc Cert.MixIdeal.main_v5_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v5_0) = v0 c
          ∧ r.2.mem ((c.tc : Thread Cert.MixIdeal.nD Cert.MixIdeal.τ).loc Cert.MixIdeal.main_v5_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v22) = v0 c
          ∧ r.2.mem ((c.tc : Thread Cert.MixRefIdeal.nD Cert.MixRefIdeal.τ).loc Cert.MixRefIdeal.main_v23) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v4_0)) (v1 : (c : Dev Cert.UpIdeal.nD) → Buf (Elt Ideal) ((c.tc : Thread Cert.UpIdeal.nD Cert.UpIdeal.τ).loc Cert.UpIdeal.main_v4_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v4_0) = v0 c
          ∧ r.2.mem ((c.tc : Thread Cert.UpIdeal.nD Cert.UpIdeal.τ).loc Cert.UpIdeal.main_v4_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v15) = v0 c
          ∧ r.2.mem ((c.tc : Thread Cert.UpRefIdeal.nD Cert.UpRefIdeal.τ).loc Cert.UpRefIdeal.main_v16) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def Claim : Prop :=
  ∃ (hKernel : Cert.Kernel.Facts) (hKernelIdeal : Cert.KernelIdeal.Facts) (hReferenceIdeal : Cert.ReferenceIdeal.Facts) (hDwWide : Cert.DwWide.Facts) (hDwWideIdeal : Cert.DwWideIdeal.Facts) (hDwWideRefIdeal : Cert.DwWideRefIdeal.Facts) (hDwSquare : Cert.DwSquare.Facts) (hDwSquareIdeal : Cert.DwSquareIdeal.Facts) (hDwSquareRefIdeal : Cert.DwSquareRefIdeal.Facts) (hDwFlat : Cert.DwFlat.Facts) (hDwFlatIdeal : Cert.DwFlatIdeal.Facts) (hDwFlatRefIdeal : Cert.DwFlatRefIdeal.Facts) (hDwSsm : Cert.DwSsm.Facts) (hDwSsmIdeal : Cert.DwSsmIdeal.Facts) (hDwSsmRefIdeal : Cert.DwSsmRefIdeal.Facts) (hMlp : Cert.Mlp.Facts) (hMlpIdeal : Cert.MlpIdeal.Facts) (hMlpRefIdeal : Cert.MlpRefIdeal.Facts) (hInProj : Cert.InProj.Facts) (hInProjIdeal : Cert.InProjIdeal.Facts) (hInProjRefIdeal : Cert.InProjRefIdeal.Facts) (hLoss : Cert.Loss.Facts) (hLossIdeal : Cert.LossIdeal.Facts) (hLossRefIdeal : Cert.LossRefIdeal.Facts) (hFwd : Cert.Fwd.Facts) (hFwdIdeal : Cert.FwdIdeal.Facts) (hFwdRefIdeal : Cert.FwdRefIdeal.Facts) (hProj : Cert.Proj.Facts) (hProjIdeal : Cert.ProjIdeal.Facts) (hProjRefIdeal : Cert.ProjRefIdeal.Facts) (hMix : Cert.Mix.Facts) (hMixIdeal : Cert.MixIdeal.Facts) (hMixRefIdeal : Cert.MixRefIdeal.Facts) (hUp : Cert.Up.Facts) (hUpIdeal : Cert.UpIdeal.Facts) (hUpRefIdeal : Cert.UpRefIdeal.Facts) (hPre_finite : Cert.Pre_finite.Facts) (hPre_finite_fwd : Cert.Pre_finite_fwd.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DwWide (hDwWide := hDwWide)
    ∧ quiescent_DwWideIdeal (hDwWideIdeal := hDwWideIdeal)
    ∧ quiescent_DwWideRefIdeal (hDwWideRefIdeal := hDwWideRefIdeal)
    ∧ quiescent_DwSquare (hDwSquare := hDwSquare)
    ∧ quiescent_DwSquareIdeal (hDwSquareIdeal := hDwSquareIdeal)
    ∧ quiescent_DwSquareRefIdeal (hDwSquareRefIdeal := hDwSquareRefIdeal)
    ∧ quiescent_DwFlat (hDwFlat := hDwFlat)
    ∧ quiescent_DwFlatIdeal (hDwFlatIdeal := hDwFlatIdeal)
    ∧ quiescent_DwFlatRefIdeal (hDwFlatRefIdeal := hDwFlatRefIdeal)
    ∧ quiescent_DwSsm (hDwSsm := hDwSsm)
    ∧ quiescent_DwSsmIdeal (hDwSsmIdeal := hDwSsmIdeal)
    ∧ quiescent_DwSsmRefIdeal (hDwSsmRefIdeal := hDwSsmRefIdeal)
    ∧ quiescent_Mlp (hMlp := hMlp)
    ∧ quiescent_MlpIdeal (hMlpIdeal := hMlpIdeal)
    ∧ quiescent_MlpRefIdeal (hMlpRefIdeal := hMlpRefIdeal)
    ∧ quiescent_InProj (hInProj := hInProj)
    ∧ quiescent_InProjIdeal (hInProjIdeal := hInProjIdeal)
    ∧ quiescent_InProjRefIdeal (hInProjRefIdeal := hInProjRefIdeal)
    ∧ quiescent_Loss (hLoss := hLoss)
    ∧ quiescent_LossIdeal (hLossIdeal := hLossIdeal)
    ∧ quiescent_LossRefIdeal (hLossRefIdeal := hLossRefIdeal)
    ∧ quiescent_Fwd (hFwd := hFwd)
    ∧ quiescent_FwdIdeal (hFwdIdeal := hFwdIdeal)
    ∧ quiescent_FwdIdeal_pre_finite_fwd (hFwdIdeal := hFwdIdeal) (hPre_finite_fwd := hPre_finite_fwd)
    ∧ quiescent_FwdRefIdeal (hFwdRefIdeal := hFwdRefIdeal)
    ∧ quiescent_FwdRefIdeal_pre_finite_fwd (hFwdRefIdeal := hFwdRefIdeal) (hPre_finite_fwd := hPre_finite_fwd)
    ∧ quiescent_Proj (hProj := hProj)
    ∧ quiescent_ProjIdeal (hProjIdeal := hProjIdeal)
    ∧ quiescent_ProjRefIdeal (hProjRefIdeal := hProjRefIdeal)
    ∧ quiescent_Mix (hMix := hMix)
    ∧ quiescent_MixIdeal (hMixIdeal := hMixIdeal)
    ∧ quiescent_MixRefIdeal (hMixRefIdeal := hMixRefIdeal)
    ∧ quiescent_Up (hUp := hUp)
    ∧ quiescent_UpIdeal (hUpIdeal := hUpIdeal)
    ∧ quiescent_UpRefIdeal (hUpRefIdeal := hUpRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DwWide_DwWideIdeal
    ∧ algebraic_DwWideIdeal_DwWideRefIdeal (hDwWideIdeal := hDwWideIdeal) (hDwWideRefIdeal := hDwWideRefIdeal)
    ∧ preserves_DwSquare_DwSquareIdeal
    ∧ algebraic_DwSquareIdeal_DwSquareRefIdeal (hDwSquareIdeal := hDwSquareIdeal) (hDwSquareRefIdeal := hDwSquareRefIdeal)
    ∧ preserves_DwFlat_DwFlatIdeal
    ∧ algebraic_DwFlatIdeal_DwFlatRefIdeal (hDwFlatIdeal := hDwFlatIdeal) (hDwFlatRefIdeal := hDwFlatRefIdeal)
    ∧ preserves_DwSsm_DwSsmIdeal
    ∧ algebraic_DwSsmIdeal_DwSsmRefIdeal (hDwSsmIdeal := hDwSsmIdeal) (hDwSsmRefIdeal := hDwSsmRefIdeal)
    ∧ preserves_Mlp_MlpIdeal
    ∧ algebraic_MlpIdeal_MlpRefIdeal (hMlpIdeal := hMlpIdeal) (hMlpRefIdeal := hMlpRefIdeal)
    ∧ preserves_InProj_InProjIdeal
    ∧ algebraic_InProjIdeal_InProjRefIdeal (hInProjIdeal := hInProjIdeal) (hInProjRefIdeal := hInProjRefIdeal)
    ∧ preserves_Loss_LossIdeal
    ∧ algebraic_LossIdeal_LossRefIdeal (hLossIdeal := hLossIdeal) (hLossRefIdeal := hLossRefIdeal)
    ∧ preserves_Fwd_FwdIdeal
    ∧ algebraic_FwdIdeal_FwdRefIdeal_pre_finite_fwd (hFwdIdeal := hFwdIdeal) (hFwdRefIdeal := hFwdRefIdeal) (hPre_finite_fwd := hPre_finite_fwd)
    ∧ preserves_Proj_ProjIdeal
    ∧ algebraic_ProjIdeal_ProjRefIdeal (hProjIdeal := hProjIdeal) (hProjRefIdeal := hProjRefIdeal)
    ∧ preserves_Mix_MixIdeal
    ∧ algebraic_MixIdeal_MixRefIdeal (hMixIdeal := hMixIdeal) (hMixRefIdeal := hMixRefIdeal)
    ∧ preserves_Up_UpIdeal
    ∧ algebraic_UpIdeal_UpRefIdeal (hUpIdeal := hUpIdeal) (hUpRefIdeal := hUpRefIdeal)
-- ==== Pre_finite.lean ====
abbrev S8208x1024 : Shape := ⟨2, ![8208, 1024]⟩
abbrev S8208x256 : Shape := ⟨2, ![8208, 256]⟩
abbrev S_ : Shape := ⟨0, ![]⟩

class Facts : Prop where
  bcast_S_S8208x1024 : S_.BroadcastsInDim S8208x1024 (![] : Fin 0 → Fin S8208x1024.rank)
  reducesTo_S8208x1024_S_d0_1 : S8208x1024.ReducesTo [0, 1] S_
  h_S_ : 0 < S_.numel
  bcast_S_S8208x256 : S_.BroadcastsInDim S8208x256 (![] : Fin 0 → Fin S8208x256.rank)
  reducesTo_S8208x256_S_d0_1 : S8208x256.ReducesTo [0, 1] S_

variable [Facts]

def fn_part1 {F : FTy → Type} [FloatOps F] (main_v13 : IVec S_ 1) (main_v16 : IVec S8208x1024 1) : IVec S_ 1 :=
  let main_c_5 : IVec S_ 1 := constantI S_ 1 1#1
  let main_v17 : IVec S_ 1 := (fun x v => Host.reduce IntOp.andi x v reducesTo_S8208x1024_S_d0_1 h_S_) main_v16 main_c_5
  let main_v18 : IVec S_ 1 := andi main_v13 main_v17
  main_v18

def fn {F : FTy → Type} [FloatOps F] (main_arg0 : FVec F S8208x1024 .f32) (main_arg1 : FVec F S8208x256 .f32) (main_arg2 : FVec F S8208x256 .f32) (main_arg3 : FVec F S8208x1024 .f32) : IVec S_ 1 :=
  let main_v0 : FVec F S8208x1024 .f32 := Host.absf main_arg0
  let main_cst : FVec F S_ .f32 := constant S_ .f32 0x7F800000#32
  let main_v1 : FVec F S8208x1024 .f32 := broadcastInDim S8208x1024 ![] bcast_S_S8208x1024 main_cst
  let main_v2 : IVec S8208x1024 1 := cmpf .olt main_v0 main_v1
  let main_c : IVec S_ 1 := constantI S_ 1 1#1
  let main_v3 : IVec S_ 1 := (fun x v => Host.reduce IntOp.andi x v reducesTo_S8208x1024_S_d0_1 h_S_) main_v2 main_c
  let main_v4 : FVec F S8208x256 .f32 := Host.absf main_arg1
  let main_cst_0 : FVec F S_ .f32 := constant S_ .f32 0x7F800000#32
  let main_v5 : FVec F S8208x256 .f32 := broadcastInDim S8208x256 ![] bcast_S_S8208x256 main_cst_0
  let main_v6 : IVec S8208x256 1 := cmpf .olt main_v4 main_v5
  let main_c_1 : IVec S_ 1 := constantI S_ 1 1#1
  let main_v7 : IVec S_ 1 := (fun x v => Host.reduce IntOp.andi x v reducesTo_S8208x256_S_d0_1 h_S_) main_v6 main_c_1
  let main_v8 : IVec S_ 1 := andi main_v3 main_v7
  let main_v9 : FVec F S8208x256 .f32 := Host.absf main_arg2
  let main_cst_2 : FVec F S_ .f32 := constant S_ .f32 0x7F800000#32
  let main_v10 : FVec F S8208x256 .f32 := broadcastInDim S8208x256 ![] bcast_S_S8208x256 main_cst_2
  let main_v11 : IVec S8208x256 1 := cmpf .olt main_v9 main_v10
  let main_c_3 : IVec S_ 1 := constantI S_ 1 1#1
  let main_v12 : IVec S_ 1 := (fun x v => Host.reduce IntOp.andi x v reducesTo_S8208x256_S_d0_1 h_S_) main_v11 main_c_3
  let main_v13 : IVec S_ 1 := andi main_v8 main_v12
  let main_v14 : FVec F S8208x1024 .f32 := Host.absf main_arg3
  let main_cst_4 : FVec F S_ .f32 := constant S_ .f32 0x7F800000#32
  let main_v15 : FVec F S8208x1024 .f32 := broadcastInDim S8208x1024 ![] bcast_S_S8208x1024 main_cst_4
  let main_v16 : IVec S8208x1024 1 := cmpf .olt main_v14 main_v15
  fn_part1 (F := F) main_v13 main_v16
-- ==== Pre_finite_fwd.lean ====
abbrev S8208x1024 : Shape := ⟨2, ![8208, 1024]⟩
abbrev S8208x256 : Shape := ⟨2, ![8208, 256]⟩
abbrev S_ : Shape := ⟨0, ![]⟩

class Facts : Prop where
  bcast_S_S8208x1024 : S_.BroadcastsInDim S8208x1024 (![] : Fin 0 → Fin S8208x1024.rank)
  reducesTo_S8208x1024_S_d0_1 : S8208x1024.ReducesTo [0, 1] S_
  h_S_ : 0 < S_.numel
  bcast_S_S8208x256 : S_.BroadcastsInDim S8208x256 (![] : Fin 0 → Fin S8208x256.rank)
  reducesTo_S8208x256_S_d0_1 : S8208x256.ReducesTo [0, 1] S_

variable [Facts]

def fn {F : FTy → Type} [FloatOps F] (main_arg0 : FVec F S8208x1024 .f32) (main_arg1 : FVec F S8208x256 .f32) (main_arg2 : FVec F S8208x256 .f32) : IVec S_ 1 :=
  let main_v0 : FVec F S8208x1024 .f32 := Host.absf main_arg0
  let main_cst : FVec F S_ .f32 := constant S_ .f32 0x7F800000#32
  let main_v1 : FVec F S8208x1024 .f32 := broadcastInDim S8208x1024 ![] bcast_S_S8208x1024 main_cst
  let main_v2 : IVec S8208x1024 1 := cmpf .olt main_v0 main_v1
  let main_c : IVec S_ 1 := constantI S_ 1 1#1
  let main_v3 : IVec S_ 1 := (fun x v => Host.reduce IntOp.andi x v reducesTo_S8208x1024_S_d0_1 h_S_) main_v2 main_c
  let main_v4 : FVec F S8208x256 .f32 := Host.absf main_arg1
  let main_cst_0 : FVec F S_ .f32 := constant S_ .f32 0x7F800000#32
  let main_v5 : FVec F S8208x256 .f32 := broadcastInDim S8208x256 ![] bcast_S_S8208x256 main_cst_0
  let main_v6 : IVec S8208x256 1 := cmpf .olt main_v4 main_v5
  let main_c_1 : IVec S_ 1 := constantI S_ 1 1#1
  let main_v7 : IVec S_ 1 := (fun x v => Host.reduce IntOp.andi x v reducesTo_S8208x256_S_d0_1 h_S_) main_v6 main_c_1
  let main_v8 : IVec S_ 1 := andi main_v3 main_v7
  let main_v9 : FVec F S8208x256 .f32 := Host.absf main_arg2
  let main_cst_2 : FVec F S_ .f32 := constant S_ .f32 0x7F800000#32
  let main_v10 : FVec F S8208x256 .f32 := broadcastInDim S8208x256 ![] bcast_S_S8208x256 main_cst_2
  let main_v11 : IVec S8208x256 1 := cmpf .olt main_v9 main_v10
  let main_c_3 : IVec S_ 1 := constantI S_ 1 1#1
  let main_v12 : IVec S_ 1 := (fun x v => Host.reduce IntOp.andi x v reducesTo_S8208x256_S_d0_1 h_S_) main_v11 main_c_3
  let main_v13 : IVec S_ 1 := andi main_v8 main_v12
  main_v13
-- ==== Kernel.lean ====
abbrev S8208x1024 : Shape := ⟨2, ![8208, 1024]⟩
abbrev S8208x256 : Shape := ⟨2, ![8208, 256]⟩
abbrev S8208x4x4x64 : Shape := ⟨4, ![8208, 4, 4, 64]⟩
abbrev S8208x4x64 : Shape := ⟨3, ![8208, 4, 64]⟩
abbrev S4x8208x8208x4 : Shape := ⟨4, ![4, 8208, 8208, 4]⟩
abbrev S4x4x8208x8208 : Shape := ⟨4, ![4, 4, 8208, 8208]⟩
abbrev S_ : Shape := ⟨0, ![]⟩
abbrev S4x4x8208 : Shape := ⟨3, ![4, 4, 8208]⟩
abbrev S4x4x8208x1 : Shape := ⟨4, ![4, 4, 8208, 1]⟩
abbrev S4x64x4x8208 : Shape := ⟨4, ![4, 64, 4, 8208]⟩
abbrev S8208x4x4 : Shape := ⟨3, ![8208, 4, 4]⟩
abbrev S4x4x8208x2816 : Shape := ⟨4, ![4, 4, 8208, 2816]⟩
abbrev S4x4x8208x5632 : Shape := ⟨4, ![4, 4, 8208, 5632]⟩
abbrev S4x4x8208x2576 : Shape := ⟨4, ![4, 4, 8208, 2576]⟩
abbrev S16x8208x8208 : Shape := ⟨3, ![16, 8208, 8208]⟩
abbrev S16x8448x8448 : Shape := ⟨3, ![16, 8448, 8448]⟩
abbrev S8448x4x128 : Shape := ⟨3, ![8448, 4, 128]⟩
abbrev S8448x512 : Shape := ⟨2, ![8448, 512]⟩
abbrev S1x8448x512 : Shape := ⟨3, ![1, 8448, 512]⟩
abbrev S3x8448x512 : Shape := ⟨3, ![3, 8448, 512]⟩
abbrev S8448x1024 : Shape := ⟨2, ![8448, 1024]⟩
abbrev S4x8208x64 : Shape := ⟨3, ![4, 8208, 64]⟩
abbrev S4x8448x64 : Shape := ⟨3, ![4, 8448, 64]⟩
abbrev S4x8448x128 : Shape := ⟨3, ![4, 8448, 128]⟩
abbrev S256x256 : Shape := ⟨2, ![256, 256]⟩
abbrev S1x2816x64 : Shape := ⟨3, ![1, 2816, 64]⟩
abbrev S1x2816x128 : Shape := ⟨3, ![1, 2816, 128]⟩
abbrev S4x256x2816 : Shape := ⟨3, ![4, 256, 2816]⟩
abbrev S1x256x128 : Shape := ⟨3, ![1, 256, 128]⟩
abbrev S256x128 : Shape := ⟨2, ![256, 128]⟩
abbrev S8448x256 : Shape := ⟨2, ![8448, 256]⟩
abbrev S2816x64 : Shape := ⟨2, ![2816, 64]⟩
abbrev S2816x128 : Shape := ⟨2, ![2816, 128]⟩
abbrev S256x64 : Shape := ⟨2, ![256, 64]⟩
abbrev S256x1 : Shape := ⟨2, ![256, 1]⟩
abbrev S256x2816 : Shape := ⟨2, ![256, 2816]⟩
abbrev S1x256x2816 : Shape := ⟨3, ![1, 256, 2816]⟩

abbrev nBuf : Space → Nat
  | .hbm => 119
  | .vmem => 24
  | .smem => 0
  | _ => 0

abbrev bufTy : (tb : Table) → Fin (tcTables nBuf tb) → BufTy
  | .hbm, ⟨0, _⟩ => ⟨S8208x1024, .f32⟩
  | .hbm, ⟨1, _⟩ => ⟨S8208x256, .f32⟩
  | .hbm, ⟨2, _⟩ => ⟨S8208x256, .f32⟩
  | .hbm, ⟨3, _⟩ => ⟨S8208x1024, .f32⟩
  | .hbm, ⟨4, _⟩ => ⟨S8208x4x4x64, .f32⟩
  | .hbm, ⟨5, _⟩ => ⟨S8208x4x64, .f32⟩
  | .hbm, ⟨6, _⟩ => ⟨S8208x4x64, .f32⟩
  | .hbm, ⟨7, _⟩ => ⟨S4x8208x8208x4, .f32⟩
  | .hbm, ⟨8, _⟩ => ⟨S4x4x8208x8208, .f32⟩
  | .hbm, ⟨9, _⟩ => ⟨S_, .f32⟩
  | .hbm, ⟨10, _⟩ => ⟨S4x4x8208, .f32⟩
  | .hbm, ⟨11, _⟩ => ⟨S_, .f32⟩
  | .hbm, ⟨12, _⟩ => ⟨S4x4x8208, .f32⟩
  | .hbm, ⟨13, _⟩ => ⟨S4x4x8208, .f32⟩
  | .hbm, ⟨14, _⟩ => ⟨S4x4x8208x1, .f32⟩
  | .hbm, ⟨15, _⟩ => ⟨S4x4x8208x8208, .f32⟩
  | .hbm, ⟨16, _⟩ => ⟨S4x4x8208x8208, .f32⟩
  | .hbm, ⟨17, _⟩ => ⟨S4x4x8208x8208, .f32⟩
  | .hbm, ⟨18, _⟩ => ⟨S_, .f32⟩
  | .hbm, ⟨19, _⟩ => ⟨S4x4x8208, .f32⟩
  | .hbm, ⟨20, _⟩ => ⟨S4x4x8208x1, .f32⟩
  | .hbm, ⟨21, _⟩ => ⟨S4x4x8208x8208, .f32⟩
  | .hbm, ⟨22, _⟩ => ⟨S4x4x8208x8208, .f32⟩
  | .hbm, ⟨23, _⟩ => ⟨S4x64x4x8208, .f32⟩
  | .hbm, ⟨24, _⟩ => ⟨S8208x4x4x64, .f32⟩
  | .hbm, ⟨25, _⟩ => ⟨S8208x4x4x64, .f32⟩
  | .hbm, ⟨26, _⟩ => ⟨S8208x4x4x64, .f32⟩
  | .hbm, ⟨27, _⟩ => ⟨S_, .f32⟩
  | .hbm, ⟨28, _⟩ => ⟨S8208x4x4, .f32⟩
  | .hbm, ⟨29, _⟩ => ⟨S4x4x8208x2816, .f32⟩
  | .hbm, ⟨30, _⟩ => ⟨S_, .f32⟩
  | .hbm, ⟨31, _⟩ => ⟨S4x4x8208, .f32⟩
  | .hbm, ⟨32, _⟩ => ⟨S4x4x8208x5632, .f32⟩
  | .hbm, ⟨33, _⟩ => ⟨S_, .f32⟩
  | .hbm, ⟨34, _⟩ => ⟨S4x4x8208, .f32⟩
  | .hbm, ⟨35, _⟩ => ⟨S_, .f32⟩
  | .hbm, ⟨36, _⟩ => ⟨S4x4x8208, .f32⟩
  | .hbm, ⟨37, _⟩ => ⟨S4x4x8208x1, .f32⟩
  | .hbm, ⟨38, _⟩ => ⟨S4x4x8208x8208, .f32⟩
  | .hbm, ⟨39, _⟩ => ⟨S4x4x8208x8208, .f32⟩
  | .hbm, ⟨40, _⟩ => ⟨S4x4x8208x8208, .f32⟩
  | .hbm, ⟨41, _⟩ => ⟨S_, .f32⟩
  | .hbm, ⟨42, _⟩ => ⟨S4x4x8208, .f32⟩
  | .hbm, ⟨43, _⟩ => ⟨S4x4x8208, .f32⟩
  | .hbm, ⟨44, _⟩ => ⟨S4x4x8208, .f32⟩
  | .hbm, ⟨45, _⟩ => ⟨S4x4x8208x2816, .f32⟩
  | .hbm, ⟨46, _⟩ => ⟨S4x4x8208x1, .f32⟩
  | .hbm, ⟨47, _⟩ => ⟨S4x4x8208x2816, .f32⟩
  | .hbm, ⟨48, _⟩ => ⟨S4x4x8208x2816, .f32⟩
  | .hbm, ⟨49, _⟩ => ⟨S4x4x8208x2816, .f32⟩
  | .hbm, ⟨50, _⟩ => ⟨S4x4x8208x2816, .f32⟩
  | .hbm, ⟨51, _⟩ => ⟨S4x4x8208x1, .f32⟩
  | .hbm, ⟨52, _⟩ => ⟨S4x4x8208x2816, .f32⟩
  | .hbm, ⟨53, _⟩ => ⟨S4x4x8208x2816, .f32⟩
  | .hbm, ⟨54, _⟩ => ⟨S4x4x8208x2816, .f32⟩
  | .hbm, ⟨55, _⟩ => ⟨S4x4x8208x2576, .f32⟩
  | .hbm, ⟨56, _⟩ => ⟨S4x4x8208x1, .f32⟩
  | .hbm, ⟨57, _⟩ => ⟨S4x4x8208x2576, .f32⟩
  | .hbm, ⟨58, _⟩ => ⟨S4x4x8208x2576, .f32⟩
  | .hbm, ⟨59, _⟩ => ⟨S4x4x8208x2576, .f32⟩
  | .hbm, ⟨60, _⟩ => ⟨S4x4x8208x8208, .f32⟩
  | .hbm, ⟨61, _⟩ => ⟨S16x8208x8208, .f32⟩
  | .hbm, ⟨62, _⟩ => ⟨S_, .i32⟩
  | .hbm, ⟨63, _⟩ => ⟨S_, .f32⟩
  | .hbm, ⟨64, _⟩ => ⟨S16x8448x8448, .f32⟩
  | .hbm, ⟨65, _⟩ => ⟨S16x8448x8448, .bf16⟩
  | .hbm, ⟨66, _⟩ => ⟨S8208x4x4, .f32⟩
  | .hbm, ⟨67, _⟩ => ⟨S_, .i32⟩
  | .hbm, ⟨68, _⟩ => ⟨S_, .f32⟩
  | .hbm, ⟨69, _⟩ => ⟨S8448x4x128, .f32⟩
  | .hbm, ⟨70, _⟩ => ⟨S8448x512, .f32⟩
  | .hbm, ⟨71, _⟩ => ⟨S8208x4x4, .f32⟩
  | .hbm, ⟨72, _⟩ => ⟨S_, .i32⟩
  | .hbm, ⟨73, _⟩ => ⟨S_, .f32⟩
  | .hbm, ⟨74, _⟩ => ⟨S8448x4x128, .f32⟩
  | .hbm, ⟨75, _⟩ => ⟨S8448x512, .f32⟩
  | .hbm, ⟨76, _⟩ => ⟨S8208x4x4, .f32⟩
  | .hbm, ⟨77, _⟩ => ⟨S_, .i32⟩
  | .hbm, ⟨78, _⟩ => ⟨S_, .f32⟩
  | .hbm, ⟨79, _⟩ => ⟨S8448x4x128, .f32⟩
  | .hbm, ⟨80, _⟩ => ⟨S8448x512, .f32⟩
  | .hbm, ⟨81, _⟩ => ⟨S8208x4x4, .f32⟩
  | .hbm, ⟨82, _⟩ => ⟨S_, .i32⟩
  | .hbm, ⟨83, _⟩ => ⟨S_, .f32⟩
  | .hbm, ⟨84, _⟩ => ⟨S8448x4x128, .f32⟩
  | .hbm, ⟨85, _⟩ => ⟨S8448x512, .f32⟩
  | .hbm, ⟨86, _⟩ => ⟨S1x8448x512, .f32⟩
  | .hbm, ⟨87, _⟩ => ⟨S1x8448x512, .f32⟩
  | .hbm, ⟨88, _⟩ => ⟨S1x8448x512, .f32⟩
  | .hbm, ⟨89, _⟩ => ⟨S3x8448x512, .f32⟩
  | .hbm, ⟨90, _⟩ => ⟨S_, .i32⟩
  | .hbm, ⟨91, _⟩ => ⟨S_, .f32⟩
  | .hbm, ⟨92, _⟩ => ⟨S8448x4x128, .f32⟩
  | .hbm, ⟨93, _⟩ => ⟨S8448x512, .f32⟩
  | .hbm, ⟨94, _⟩ => ⟨S_, .i32⟩
  | .hbm, ⟨95, _⟩ => ⟨S_, .f32⟩
  | .hbm, ⟨96, _⟩ => ⟨S8448x1024, .f32⟩
  | .hbm, ⟨97, _⟩ => ⟨S8448x1024, .bf16⟩
  | .hbm, ⟨98, _⟩ => ⟨S_, .i32⟩
  | .hbm, ⟨99, _⟩ => ⟨S_, .f32⟩
  | .hbm, ⟨100, _⟩ => ⟨S8448x1024, .f32⟩
  | .hbm, ⟨101, _⟩ => ⟨S8448x1024, .bf16⟩
  | .hbm, ⟨102, _⟩ => ⟨S4x8208x64, .f32⟩
  | .hbm, ⟨103, _⟩ => ⟨S_, .i32⟩
  | .hbm, ⟨104, _⟩ => ⟨S_, .f32⟩
  | .hbm, ⟨105, _⟩ => ⟨S4x8448x64, .f32⟩
  | .hbm, ⟨106, _⟩ => ⟨S4x8448x64, .bf16⟩
  | .hbm, ⟨107, _⟩ => ⟨S4x8208x64, .f32⟩
  | .hbm, ⟨108, _⟩ => ⟨S_, .i32⟩
  | .hbm, ⟨109, _⟩ => ⟨S_, .f32⟩
  | .hbm, ⟨110, _⟩ => ⟨S4x8448x64, .f32⟩
  | .hbm, ⟨111, _⟩ => ⟨S4x8448x64, .bf16⟩
  | .hbm, ⟨112, _⟩ => ⟨S_, .f32⟩
  | .hbm, ⟨113, _⟩ => ⟨S4x8448x64, .f32⟩
  | .hbm, ⟨114, _⟩ => ⟨S4x8448x64, .bf16⟩
  | .hbm, ⟨115, _⟩ => ⟨S4x8448x128, .bf16⟩
  | .hbm, ⟨116, _⟩ => ⟨S8448x1024, .f32⟩
  | .hbm, ⟨117, _⟩ => ⟨S4x8448x64, .f32⟩
  | .hbm, ⟨118, _⟩ => ⟨S4x8448x64, .f32⟩
  | .local _ .vmem, ⟨0, _⟩ => ⟨S256x256, .bf16⟩
  | .local _ .vmem, ⟨1, _⟩ => ⟨S256x256, .bf16⟩
  | .local _ .vmem, ⟨2, _⟩ => ⟨S1x2816x64, .bf16⟩
  | .local _ .vmem, ⟨3, _⟩ => ⟨S1x2816x64, .bf16⟩
  | .local _ .vmem, ⟨4, _⟩ => ⟨S1x2816x128, .bf16⟩
  | .local _ .vmem, ⟨5, _⟩ => ⟨S1x2816x128, .bf16⟩
  | .local _ .vmem, ⟨6, _⟩ => ⟨S4x256x2816, .bf16⟩
  | .local _ .vmem, ⟨7, _⟩ => ⟨S4x256x2816, .bf16⟩
  | .local _ .vmem, ⟨8, _⟩ => ⟨S1x256x128, .f32⟩
  | .local _ .vmem, ⟨9, _⟩ => ⟨S1x256x128, .f32⟩
  | .local _ .vmem, ⟨10, _⟩ => ⟨S256x256, .bf16⟩
  | .local _ .vmem, ⟨11, _⟩ => ⟨S256x256, .bf16⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S8448x256, .f32⟩
  | .local _ .vmem, ⟨17, _⟩ => ⟨S8448x256, .f32⟩
  | .local _ .vmem, ⟨18, _⟩ => ⟨S1x2816x64, .f32⟩
  | .local _ .vmem, ⟨19, _⟩ => ⟨S1x2816x64, .f32⟩
  | .local _ .vmem, ⟨20, _⟩ => ⟨S1x2816x64, .f32⟩
  | .local _ .vmem, ⟨21, _⟩ => ⟨S1x2816x64, .f32⟩
  | .local _ .vmem, ⟨22, _⟩ => ⟨S2816x64, .f32⟩
  | .local _ .vmem, ⟨23, _⟩ => ⟨S2816x64, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_c : Ref sig .tc := ⟨.hbm, 62, rfl⟩
abbrev main_call0_v0 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_c_7 : Ref sig .tc := ⟨.hbm, 67, rfl⟩
abbrev main_call1_v0 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_c_8 : Ref sig .tc := ⟨.hbm, 72, rfl⟩
abbrev main_call2_v0 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_c_9 : Ref sig .tc := ⟨.hbm, 77, rfl⟩
abbrev main_call3_v0 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_c_10 : Ref sig .tc := ⟨.hbm, 82, rfl⟩
abbrev main_call4_v0 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_c_11 : Ref sig .tc := ⟨.hbm, 90, rfl⟩
abbrev main_call5_v0 : Ref sig .tc := ⟨.hbm, 91, rfl⟩
abbrev main_v68 : Ref sig .tc := ⟨.hbm, 92, rfl⟩
abbrev main_v69 : Ref sig .tc := ⟨.hbm, 93, rfl⟩
abbrev main_c_12 : Ref sig .tc := ⟨.hbm, 94, rfl⟩
abbrev main_call6_v0 : Ref sig .tc := ⟨.hbm, 95, rfl⟩
abbrev main_v70 : Ref sig .tc := ⟨.hbm, 96, rfl⟩
abbrev main_v71 : Ref sig .tc := ⟨.hbm, 97, rfl⟩
abbrev main_c_13 : Ref sig .tc := ⟨.hbm, 98, rfl⟩
abbrev main_call7_v0 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_c_14 : Ref sig .tc := ⟨.hbm, 103, rfl⟩
abbrev main_call8_v0 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_c_15 : Ref sig .tc := ⟨.hbm, 108, rfl⟩
abbrev main_call9_v0 : Ref sig .tc := ⟨.hbm, 109, rfl⟩
abbrev main_v78 : Ref sig .tc := ⟨.hbm, 110, rfl⟩
abbrev main_v79 : Ref sig .tc := ⟨.hbm, 111, rfl⟩
abbrev main_cst_16 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83_0 : Ref sig .tc := ⟨.hbm, 116, rfl⟩
abbrev main_v83_1 : Ref sig .tc := ⟨.hbm, 117, rfl⟩
abbrev main_v83_2 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![4, 3, 33], ![false, false, false]⟩

def k0_mult1 (i : grid0.Coords) : BitVec 32 :=
  let arg2 : BitVec 32 := BitVec.ofNat 32 (i 2).val
  let c256_i32 : BitVec 32 := 256#32
  let v150 : BitVec 32 := Scalar.muli arg2 c256_i32
  v150
def k0_off1 (i : grid0.Coords) : Fin 2 → Nat :=
  let arg2 : BitVec 32 := BitVec.ofNat 32 (i 2).val
  let c256_i32 : BitVec 32 := 256#32
  let v150 : BitVec 32 := Scalar.muli arg2 c256_i32
  let v151 : BitVec 32 := v150
  let v152 : Index := Scalar.indexCast v151
  let c0_97 : Index := 0#32
  ![v152.toNat, 0]
def k0_cond3 (i : grid0.Coords) : BitVec 1 :=
  let arg2 : BitVec 32 := BitVec.ofNat 32 (i 2).val
  let c32_i32 : BitVec 32 := 32#32
  let v159 : BitVec 1 := Scalar.cmpi .eq arg2 c32_i32
  let v160 : BitVec 32 := Scalar.extui v159
  let c0_i32_99 : BitVec 32 := 0#32
  let v161 : BitVec 1 := Scalar.cmpi .ne v160 c0_i32_99
  v161

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2816x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2816x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4x256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, true]

abbrev stage0_8 : Fin 2 → Memref sig .tc .vmem S8448x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S1x2816x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1x2816x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== ReferenceIdeal.lean ====
abbrev S8208x1024 : Shape := ⟨2, ![8208, 1024]⟩
abbrev S8208x256 : Shape := ⟨2, ![8208, 256]⟩
abbrev S8208x4x4x64 : Shape := ⟨4, ![8208, 4, 4, 64]⟩
abbrev S8208x4x64 : Shape := ⟨3, ![8208, 4, 64]⟩
abbrev S4x8208x8208x4 : Shape := ⟨4, ![4, 8208, 8208, 4]⟩
abbrev S4x4x8208x8208 : Shape := ⟨4, ![4, 4, 8208, 8208]⟩
abbrev S_ : Shape := ⟨0, ![]⟩
abbrev S4x4x8208 : Shape := ⟨3, ![4, 4, 8208]⟩
abbrev S4x4x8208x1 : Shape := ⟨4, ![4, 4, 8208, 1]⟩
abbrev S4x64x4x8208 : Shape := ⟨4, ![4, 64, 4, 8208]⟩
abbrev S4x64x8208 : Shape := ⟨3, ![4, 64, 8208]⟩
abbrev S4x8208x4x64 : Shape := ⟨4, ![4, 8208, 4, 64]⟩
abbrev S4x8208x64 : Shape := ⟨3, ![4, 8208, 64]⟩
abbrev S8448x1024 : Shape := ⟨2, ![8448, 1024]⟩
abbrev S4x8448x64 : Shape := ⟨3, ![4, 8448, 64]⟩

abbrev nBuf : Space → Nat
  | .hbm => 90
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S8208x256, .f32⟩
  | .hbm, ⟨2, _⟩ => ⟨S8208x256, .f32⟩
  | .hbm, ⟨3, _⟩ => ⟨S8208x1024, .f32⟩
  | .hbm, ⟨4, _⟩ => ⟨S8208x4x4x64, .f32⟩
  | .hbm, ⟨5, _⟩ => ⟨S8208x4x64, .f32⟩
  | .hbm, ⟨6, _⟩ => ⟨S8208x4x64, .f32⟩
  | .hbm, ⟨7, _⟩ => ⟨S4x8208x8208x4, .f32⟩
  | .hbm, ⟨8, _⟩ => ⟨S4x4x8208x8208, .f32⟩
  | .hbm, ⟨9, _⟩ => ⟨S_, .f32⟩
  | .hbm, ⟨10, _⟩ => ⟨S4x4x8208, .f32⟩
  | .hbm, ⟨11, _⟩ => ⟨S4x4x8208x1, .f32⟩
  | .hbm, ⟨12, _⟩ => ⟨S4x4x8208x8208, .f32⟩
  | .hbm, ⟨13, _⟩ => ⟨S4x4x8208x8208, .i1⟩
  | .hbm, ⟨14, _⟩ => ⟨S4x4x8208x8208, .f32⟩
  | .hbm, ⟨15, _⟩ => ⟨S_, .f32⟩
  | .hbm, ⟨16, _⟩ => ⟨S4x4x8208, .f32⟩
  | .hbm, ⟨17, _⟩ => ⟨S_, .f32⟩
  | .hbm, ⟨18, _⟩ => ⟨S4x4x8208, .f32⟩
  | .hbm, ⟨19, _⟩ => ⟨S4x4x8208, .f32⟩
  | .hbm, ⟨20, _⟩ => ⟨S_, .f32⟩
  | .hbm, ⟨21, _⟩ => ⟨S4x4x8208, .f32⟩
  | .hbm, ⟨22, _⟩ => ⟨S4x4x8208, .i1⟩
  | .hbm, ⟨23, _⟩ => ⟨S_, .f32⟩
  | .hbm, ⟨24, _⟩ => ⟨S4x4x8208, .f32⟩
  | .hbm, ⟨25, _⟩ => ⟨S4x4x8208, .i1⟩
  | .hbm, ⟨26, _⟩ => ⟨S_, .f32⟩
  | .hbm, ⟨27, _⟩ => ⟨S4x4x8208, .f32⟩
  | .hbm, ⟨28, _⟩ => ⟨S_, .f32⟩
  | .hbm, ⟨29, _⟩ => ⟨S4x4x8208, .f32⟩
  | .hbm, ⟨30, _⟩ => ⟨S_, .f32⟩
  | .hbm, ⟨31, _⟩ => ⟨S4x4x8208, .f32⟩
  | .hbm, ⟨32, _⟩ => ⟨S4x4x8208, .f32⟩
  | .hbm, ⟨33, _⟩ => ⟨S4x4x8208, .f32⟩
  | .hbm, ⟨34, _⟩ => ⟨S4x4x8208x1, .f32⟩
  | .hbm, ⟨35, _⟩ => ⟨S4x4x8208x8208, .f32⟩
  | .hbm, ⟨36, _⟩ => ⟨S4x4x8208x8208, .f32⟩
  | .hbm, ⟨37, _⟩ => ⟨S4x4x8208x8208, .f32⟩
  | .hbm, ⟨38, _⟩ => ⟨S_, .f32⟩
  | .hbm, ⟨39, _⟩ => ⟨S4x4x8208, .f32⟩
  | .hbm, ⟨40, _⟩ => ⟨S4x4x8208x1, .f32⟩
  | .hbm, ⟨41, _⟩ => ⟨S4x4x8208x8208, .f32⟩
  | .hbm, ⟨42, _⟩ => ⟨S4x4x8208x8208, .f32⟩
  | .hbm, ⟨43, _⟩ => ⟨S4x4x8208x1, .f32⟩
  | .hbm, ⟨44, _⟩ => ⟨S_, .f32⟩
  | .hbm, ⟨45, _⟩ => ⟨S4x4x8208x1, .f32⟩
  | .hbm, ⟨46, _⟩ => ⟨S4x4x8208x1, .f32⟩
  | .hbm, ⟨47, _⟩ => ⟨S4x64x4x8208, .f32⟩
  | .hbm, ⟨48, _⟩ => ⟨S8208x4x4x64, .f32⟩
  | .hbm, ⟨49, _⟩ => ⟨S8208x1024, .f32⟩
  | .hbm, ⟨50, _⟩ => ⟨S8208x4x4x64, .f32⟩
  | .hbm, ⟨51, _⟩ => ⟨S4x64x4x8208, .f32⟩
  | .hbm, ⟨52, _⟩ => ⟨S4x4x8208x8208, .f32⟩
  | .hbm, ⟨53, _⟩ => ⟨S4x64x8208, .f32⟩
  | .hbm, ⟨54, _⟩ => ⟨S8208x4x64, .f32⟩
  | .hbm, ⟨55, _⟩ => ⟨S4x4x8208x8208, .f32⟩
  | .hbm, ⟨56, _⟩ => ⟨S4x4x8208x8208, .f32⟩
  | .hbm, ⟨57, _⟩ => ⟨S4x4x8208x8208, .f32⟩
  | .hbm, ⟨58, _⟩ => ⟨S_, .f32⟩
  | .hbm, ⟨59, _⟩ => ⟨S4x4x8208, .f32⟩
  | .hbm, ⟨60, _⟩ => ⟨S4x4x8208x1, .f32⟩
  | .hbm, ⟨61, _⟩ => ⟨S4x4x8208x1, .f32⟩
  | .hbm, ⟨62, _⟩ => ⟨S4x4x8208x8208, .f32⟩
  | .hbm, ⟨63, _⟩ => ⟨S4x4x8208x8208, .f32⟩
  | .hbm, ⟨64, _⟩ => ⟨S_, .f32⟩
  | .hbm, ⟨65, _⟩ => ⟨S4x4x8208, .f32⟩
  | .hbm, ⟨66, _⟩ => ⟨S4x4x8208x8208, .f32⟩
  | .hbm, ⟨67, _⟩ => ⟨S4x4x8208x8208, .f32⟩
  | .hbm, ⟨68, _⟩ => ⟨S4x4x8208x8208, .f32⟩
  | .hbm, ⟨69, _⟩ => ⟨S4x8208x8208x4, .f32⟩
  | .hbm, ⟨70, _⟩ => ⟨S4x8208x4x64, .f32⟩
  | .hbm, ⟨71, _⟩ => ⟨S8208x4x4x64, .f32⟩
  | .hbm, ⟨72, _⟩ => ⟨S4x8208x64, .f32⟩
  | .hbm, ⟨73, _⟩ => ⟨S8208x4x64, .f32⟩
  | .hbm, ⟨74, _⟩ => ⟨S8208x256, .f32⟩
  | .hbm, ⟨75, _⟩ => ⟨S8208x256, .f32⟩
  | .hbm, ⟨76, _⟩ => ⟨S8208x1024, .f32⟩
  | .hbm, ⟨77, _⟩ => ⟨S_, .i32⟩
  | .hbm, ⟨78, _⟩ => ⟨S_, .f32⟩
  | .hbm, ⟨79, _⟩ => ⟨S8448x1024, .f32⟩
  | .hbm, ⟨80, _⟩ => ⟨S8208x4x64, .f32⟩
  | .hbm, ⟨81, _⟩ => ⟨S4x8208x64, .f32⟩
  | .hbm, ⟨82, _⟩ => ⟨S_, .i32⟩
  | .hbm, ⟨83, _⟩ => ⟨S_, .f32⟩
  | .hbm, ⟨84, _⟩ => ⟨S4x8448x64, .f32⟩
  | .hbm, ⟨85, _⟩ => ⟨S8208x4x64, .f32⟩
  | .hbm, ⟨86, _⟩ => ⟨S4x8208x64, .f32⟩
  | .hbm, ⟨87, _⟩ => ⟨S_, .i32⟩
  | .hbm, ⟨88, _⟩ => ⟨S_, .f32⟩
  | .hbm, ⟨89, _⟩ => ⟨S4x8448x64, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_9 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_c : Ref sig .tc := ⟨.hbm, 77, rfl⟩
abbrev main_call0_v0 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_c_11 : Ref sig .tc := ⟨.hbm, 82, rfl⟩
abbrev main_call1_v0 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_c_12 : Ref sig .tc := ⟨.hbm, 87, rfl⟩
abbrev main_call2_v0 : Ref sig .tc := ⟨.hbm, 88, rfl⟩
abbrev main_v67 : Ref sig .tc := ⟨.hbm, 89, rfl⟩

abbrev nD : Nat := 1
abbrev τ : Topo := Topo.v7x

variable {F : FTy → Type} [FloatOps F]
-- ==== DwWide.lean ====
abbrev S8448x1024 : Shape := ⟨2, ![8448, 1024]⟩
abbrev S8448x4096 : Shape := ⟨2, ![8448, 4096]⟩
abbrev S4x1024x1024 : Shape := ⟨3, ![4, 1024, 1024]⟩
abbrev S768x1024 : Shape := ⟨2, ![768, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S8448x4096, .bf16⟩
  | .hbm, ⟨2, _⟩ => ⟨S4x1024x1024, .f32⟩
  | .local _ .vmem, ⟨0, _⟩ => ⟨S768x1024, .bf16⟩
  | .local _ .vmem, ⟨1, _⟩ => ⟨S768x1024, .bf16⟩
  | .local _ .vmem, ⟨2, _⟩ => ⟨S768x1024, .bf16⟩
  | .local _ .vmem, ⟨3, _⟩ => ⟨S768x1024, .bf16⟩
  | .local _ .vmem, ⟨4, _⟩ => ⟨S1x1024x1024, .f32⟩
  | .local _ .vmem, ⟨5, _⟩ => ⟨S1x1024x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 11], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .ne arg1 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwWideRefIdeal.lean ====
abbrev S8448x1024 : Shape := ⟨2, ![8448, 1024]⟩
abbrev S8448x4096 : Shape := ⟨2, ![8448, 4096]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x4096, .bf16⟩
  | .hbm, ⟨2, _⟩ => ⟨S8448x1024, .f32⟩
  | .hbm, ⟨3, _⟩ => ⟨S8448x4096, .f32⟩
  | .hbm, ⟨4, _⟩ => ⟨S_, .f32⟩
  | .hbm, ⟨5, _⟩ => ⟨S1024x4096, .f32⟩
  | .hbm, ⟨6, _⟩ => ⟨S8448x4096, .f32⟩
  | .hbm, ⟨7, _⟩ => ⟨S4096x1024, .f32⟩
  | .hbm, ⟨8, _⟩ => ⟨S1024x4096, .f32⟩
  | .hbm, ⟨9, _⟩ => ⟨S1024x4x1024, .f32⟩
  | .hbm, ⟨10, _⟩ => ⟨S4x1024x1024, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwSquare.lean ====
abbrev S8448x4096 : Shape := ⟨2, ![8448, 4096]⟩
abbrev S8448x1024 : Shape := ⟨2, ![8448, 1024]⟩
abbrev S1x4096x1024 : Shape := ⟨3, ![1, 4096, 1024]⟩
abbrev S768x4096 : Shape := ⟨2, ![768, 4096]⟩
abbrev S768x512 : Shape := ⟨2, ![768, 512]⟩
abbrev S1x4096x512 : Shape := ⟨3, ![1, 4096, 512]⟩
abbrev S4096x512 : Shape := ⟨2, ![4096, 512]⟩

abbrev nBuf : Space → Nat
  | .hbm => 3
  | .vmem => 6
  | .smem => 0
  | _ => 0

abbrev bufTy : (tb : Table) → Fin (tcTables nBuf tb) → BufTy
  | .hbm, ⟨0, _⟩ => ⟨S8448x4096, .bf16⟩
  | .hbm, ⟨1, _⟩ => ⟨S8448x1024, .bf16⟩
  | .hbm, ⟨2, _⟩ => ⟨S1x4096x1024, .f32⟩
  | .local _ .vmem, ⟨0, _⟩ => ⟨S768x4096, .bf16⟩
  | .local _ .vmem, ⟨1, _⟩ => ⟨S768x4096, .bf16⟩
  | .local _ .vmem, ⟨2, _⟩ => ⟨S768x512, .bf16⟩
  | .local _ .vmem, ⟨3, _⟩ => ⟨S768x512, .bf16⟩
  | .local _ .vmem, ⟨4, _⟩ => ⟨S1x4096x512, .f32⟩
  | .local _ .vmem, ⟨5, _⟩ => ⟨S1x4096x512, .f32⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 11], ![false, false]⟩

def k0_cond1 (i : grid0.Coords) : BitVec 1 :=
  let arg1 : BitVec 32 := BitVec.ofNat 32 (i 1).val
  let c0_i32 : BitVec 32 := 0#32
  let v6 : BitVec 1 := Scalar.cmpi .eq arg1 c0_i32
  let v7 : BitVec 32 := Scalar.extui v6
  let c0_i32_3 : BitVec 32 := 0#32
  let v8 : BitVec 1 := Scalar.cmpi .ne v7 c0_i32_3
  v8

def k0_cond2 (i : grid0.Coords) : BitVec 1 :=
  let arg1 : BitVec 32 := BitVec.ofNat 32 (i 1).val
  let c0_i32_4 : BitVec 32 := 0#32
  let v9 : BitVec 1 := Scalar.cmpi .ne arg1 c0_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S768x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S768x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwSquareRefIdeal.lean ====
abbrev S8448x4096 : Shape := ⟨2, ![8448, 4096]⟩
abbrev S8448x1024 : Shape := ⟨2, ![8448, 1024]⟩
abbrev S_ : Shape := ⟨0, ![]⟩
abbrev S4096x1024 : Shape := ⟨2, ![4096, 1024]⟩
abbrev S1024x4096 : Shape := ⟨2, ![1024, 4096]⟩
abbrev S1x4096x1024 : Shape := ⟨3, ![1, 4096, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S8448x1024, .bf16⟩
  | .hbm, ⟨2, _⟩ => ⟨S8448x4096, .f32⟩
  | .hbm, ⟨3, _⟩ => ⟨S8448x4096, .f32⟩
  | .hbm, ⟨4, _⟩ => ⟨S8448x1024, .f32⟩
  | .hbm, ⟨5, _⟩ => ⟨S_, .f32⟩
  | .hbm, ⟨6, _⟩ => ⟨S4096x1024, .f32⟩
  | .hbm, ⟨7, _⟩ => ⟨S8448x1024, .f32⟩
  | .hbm, ⟨8, _⟩ => ⟨S1024x4096, .f32⟩
  | .hbm, ⟨9, _⟩ => ⟨S4096x1024, .f32⟩
  | .hbm, ⟨10, _⟩ => ⟨S1x4096x1024, .f32⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwFlat.lean ====
abbrev S8448x1024 : Shape := ⟨2, ![8448, 1024]⟩
abbrev S1x1024x1024 : Shape := ⟨3, ![1, 1024, 1024]⟩
abbrev S768x1024 : Shape := ⟨2, ![768, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S1x1024x1024, .f32⟩
  | .local _ .vmem, ⟨0, _⟩ => ⟨S768x1024, .bf16⟩
  | .local _ .vmem, ⟨1, _⟩ => ⟨S768x1024, .bf16⟩
  | .local _ .vmem, ⟨2, _⟩ => ⟨S768x1024, .bf16⟩
  | .local _ .vmem, ⟨3, _⟩ => ⟨S768x1024, .bf16⟩
  | .local _ .vmem, ⟨4, _⟩ => ⟨S1x1024x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 11], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .ne arg1 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== DwFlatRefIdeal.lean ====
abbrev S8448x1024 : Shape := ⟨2, ![8448, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S8448x1024, .f32⟩
  | .hbm, ⟨3, _⟩ => ⟨S8448x1024, .f32⟩
  | .hbm, ⟨4, _⟩ => ⟨S_, .f32⟩
  | .hbm, ⟨5, _⟩ => ⟨S1024x1024, .f32⟩
  | .hbm, ⟨6, _⟩ => ⟨S8448x1024, .f32⟩
  | .hbm, ⟨7, _⟩ => ⟨S1024x1024, .f32⟩
  | .hbm, ⟨8, _⟩ => ⟨S1024x1024, .f32⟩
  | .hbm, ⟨9, _⟩ => ⟨S1x1024x1024, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwSsm.lean ====
abbrev S8448x512 : Shape := ⟨2, ![8448, 512]⟩
abbrev S8448x1024 : Shape := ⟨2, ![8448, 1024]⟩
abbrev S4x512x256 : Shape := ⟨3, ![4, 512, 256]⟩
abbrev S768x512 : Shape := ⟨2, ![768, 512]⟩
abbrev S768x256 : Shape := ⟨2, ![768, 256]⟩
abbrev S1x512x256 : Shape := ⟨3, ![1, 512, 256]⟩
abbrev S512x256 : Shape := ⟨2, ![512, 256]⟩

abbrev nBuf : Space → Nat
  | .hbm => 3
  | .vmem => 6
  | .smem => 0
  | _ => 0

abbrev bufTy : (tb : Table) → Fin (tcTables nBuf tb) → BufTy
  | .hbm, ⟨0, _⟩ => ⟨S8448x512, .bf16⟩
  | .hbm, ⟨1, _⟩ => ⟨S8448x1024, .bf16⟩
  | .hbm, ⟨2, _⟩ => ⟨S4x512x256, .f32⟩
  | .local _ .vmem, ⟨0, _⟩ => ⟨S768x512, .bf16⟩
  | .local _ .vmem, ⟨1, _⟩ => ⟨S768x512, .bf16⟩
  | .local _ .vmem, ⟨2, _⟩ => ⟨S768x256, .bf16⟩
  | .local _ .vmem, ⟨3, _⟩ => ⟨S768x256, .bf16⟩
  | .local _ .vmem, ⟨4, _⟩ => ⟨S1x512x256, .f32⟩
  | .local _ .vmem, ⟨5, _⟩ => ⟨S1x512x256, .f32⟩
  | _, _ => ⟨S8448x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 11], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .ne arg1 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

abbrev stage0_0 : Fin 2 → Memref sig .tc .vmem S768x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S768x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwSsmRefIdeal.lean ====
abbrev S8448x512 : Shape := ⟨2, ![8448, 512]⟩
abbrev S8448x1024 : Shape := ⟨2, ![8448, 1024]⟩
abbrev S_ : Shape := ⟨0, ![]⟩
abbrev S512x1024 : Shape := ⟨2, ![512, 1024]⟩
abbrev S1024x512 : Shape := ⟨2, ![1024, 512]⟩
abbrev S512x4x256 : Shape := ⟨3, ![512, 4, 256]⟩
abbrev S4x512x256 : Shape := ⟨3, ![4, 512, 256]⟩

abbrev nBuf : Space → Nat
  | .hbm => 11
  | .vmem => 0
  | .smem => 0
  | _ => 0

abbrev bufTy : (tb : Table) → Fin (tcTables nBuf tb) → BufTy
  | .hbm, ⟨0, _⟩ => ⟨S8448x512, .bf16⟩
  | .hbm, ⟨1, _⟩ => ⟨S8448x1024, .bf16⟩
  | .hbm, ⟨2, _⟩ => ⟨S8448x512, .f32⟩
  | .hbm, ⟨3, _⟩ => ⟨S8448x1024, .f32⟩
  | .hbm, ⟨4, _⟩ => ⟨S_, .f32⟩
  | .hbm, ⟨5, _⟩ => ⟨S512x1024, .f32⟩
  | .hbm, ⟨6, _⟩ => ⟨S8448x1024, .f32⟩
  | .hbm, ⟨7, _⟩ => ⟨S1024x512, .f32⟩
  | .hbm, ⟨8, _⟩ => ⟨S512x1024, .f32⟩
  | .hbm, ⟨9, _⟩ => ⟨S512x4x256, .f32⟩
  | .hbm, ⟨10, _⟩ => ⟨S4x512x256, .f32⟩
  | _, _ => ⟨S8448x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Mlp.lean ====
abbrev S8448x4096 : Shape := ⟨2, ![8448, 4096]⟩
abbrev S8448x1024 : Shape := ⟨2, ![8448, 1024]⟩
abbrev S1024 : Shape := ⟨1, ![1024]⟩
abbrev S1024x4096 : Shape := ⟨2, ![1024, 4096]⟩
abbrev S1x1024 : Shape := ⟨2, ![1, 1024]⟩
abbrev S1024x4x1024 : Shape := ⟨3, ![1024, 4, 1024]⟩
abbrev S4x1024x1024 : Shape := ⟨3, ![4, 1024, 1024]⟩
abbrev S384x4096 : Shape := ⟨2, ![384, 4096]⟩
abbrev S384x1024 : Shape := ⟨2, ![384, 1024]⟩
abbrev S1x1024x1024 : Shape := ⟨3, ![1, 1024, 1024]⟩
abbrev S1024x1024 : Shape := ⟨2, ![1024, 1024]⟩
abbrev S384 : Shape := ⟨1, ![384]⟩
abbrev S384x1 : Shape := ⟨2, ![384, 1]⟩

abbrev nBuf : Space → Nat
  | .hbm => 11
  | .vmem => 11
  | .smem => 0
  | _ => 0

abbrev bufTy : (tb : Table) → Fin (tcTables nBuf tb) → BufTy
  | .hbm, ⟨0, _⟩ => ⟨S8448x4096, .bf16⟩
  | .hbm, ⟨1, _⟩ => ⟨S8448x1024, .f32⟩
  | .hbm, ⟨2, _⟩ => ⟨S8448x1024, .f32⟩
  | .hbm, ⟨3, _⟩ => ⟨S1024, .f32⟩
  | .hbm, ⟨4, _⟩ => ⟨S1024x4096, .f32⟩
  | .hbm, ⟨5, _⟩ => ⟨S1x1024, .f32⟩
  | .hbm, ⟨6, _⟩ => ⟨S1024x4x1024, .f32⟩
  | .hbm, ⟨7, _⟩ => ⟨S4x1024x1024, .f32⟩
  | .hbm, ⟨8, _⟩ => ⟨S4x1024x1024, .bf16⟩
  | .hbm, ⟨9, _⟩ => ⟨S8448x1024, .f32⟩
  | .hbm, ⟨10, _⟩ => ⟨S1x1024, .f32⟩
  | .local _ .vmem, ⟨0, _⟩ => ⟨S384x4096, .bf16⟩
  | .local _ .vmem, ⟨1, _⟩ => ⟨S384x4096, .bf16⟩
  | .local _ .vmem, ⟨2, _⟩ => ⟨S384x1024, .f32⟩
  | .local _ .vmem, ⟨3, _⟩ => ⟨S384x1024, .f32⟩
  | .local _ .vmem, ⟨4, _⟩ => ⟨S384x1024, .f32⟩
  | .local _ .vmem, ⟨5, _⟩ => ⟨S384x1024, .f32⟩
  | .local _ .vmem, ⟨6, _⟩ => ⟨S1x1024, .f32⟩
  | .local _ .vmem, ⟨7, _⟩ => ⟨S4x1024x1024, .bf16⟩
  | .local _ .vmem, ⟨8, _⟩ => ⟨S384x1024, .f32⟩
  | .local _ .vmem, ⟨9, _⟩ => ⟨S384x1024, .f32⟩
  | .local _ .vmem, ⟨10, _⟩ => ⟨S1x1024, .f32⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![22], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v51 : BitVec 32 := Scalar.extui v0
  let c0_i32_30 : BitVec 32 := 0#32
  let v52 : BitVec 1 := Scalar.cmpi .ne v51 c0_i32_30
  v52

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v53 : BitVec 1 := Scalar.xori v0 v_true
  let v54 : BitVec 32 := Scalar.extui v53
  let c0_i32_31 : BitVec 32 := 0#32
  let v55 : BitVec 1 := Scalar.cmpi .ne v54 c0_i32_31
  v55

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== MlpRefIdeal.lean ====
abbrev S8448x4096 : Shape := ⟨2, ![8448, 4096]⟩
abbrev S8448x1024 : Shape := ⟨2, ![8448, 1024]⟩
abbrev S1024 : Shape := ⟨1, ![1024]⟩
abbrev S1024x4096 : Shape := ⟨2, ![1024, 4096]⟩
abbrev S_ : Shape := ⟨0, ![]⟩
abbrev S8448 : Shape := ⟨1, ![8448]⟩
abbrev S8448x1 : Shape := ⟨2, ![8448, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S8448x1024, .f32⟩
  | .hbm, ⟨2, _⟩ => ⟨S8448x1024, .f32⟩
  | .hbm, ⟨3, _⟩ => ⟨S1024, .f32⟩
  | .hbm, ⟨4, _⟩ => ⟨S1024x4096, .f32⟩
  | .hbm, ⟨5, _⟩ => ⟨S8448x1024, .f32⟩
  | .hbm, ⟨6, _⟩ => ⟨S_, .f32⟩
  | .hbm, ⟨7, _⟩ => ⟨S8448, .f32⟩
  | .hbm, ⟨8, _⟩ => ⟨S8448x1, .f32⟩
  | .hbm, ⟨9, _⟩ => ⟨S_, .f32⟩
  | .hbm, ⟨10, _⟩ => ⟨S8448x1, .f32⟩
  | .hbm, ⟨11, _⟩ => ⟨S8448x1, .f32⟩
  | .hbm, ⟨12, _⟩ => ⟨S_, .f32⟩
  | .hbm, ⟨13, _⟩ => ⟨S8448x1, .f32⟩
  | .hbm, ⟨14, _⟩ => ⟨S8448x1, .f32⟩
  | .hbm, ⟨15, _⟩ => ⟨S8448x1, .f32⟩
  | .hbm, ⟨16, _⟩ => ⟨S8448x1, .f32⟩
  | .hbm, ⟨17, _⟩ => ⟨S_, .f32⟩
  | .hbm, ⟨18, _⟩ => ⟨S8448x1, .f32⟩
  | .hbm, ⟨19, _⟩ => ⟨S8448x1, .f32⟩
  | .hbm, ⟨20, _⟩ => ⟨S8448x1024, .f32⟩
  | .hbm, ⟨21, _⟩ => ⟨S8448x1024, .f32⟩
  | .hbm, ⟨22, _⟩ => ⟨S1x1024, .f32⟩
  | .hbm, ⟨23, _⟩ => ⟨S8448x1024, .f32⟩
  | .hbm, ⟨24, _⟩ => ⟨S8448x1024, .f32⟩
  | .hbm, ⟨25, _⟩ => ⟨S8448x4096, .f32⟩
  | .hbm, ⟨26, _⟩ => ⟨S8448x4096, .f32⟩
  | .hbm, ⟨27, _⟩ => ⟨S8448x1024, .f32⟩
  | .hbm, ⟨28, _⟩ => ⟨S8448x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8448x1024, .f32⟩
  | .hbm, ⟨33, _⟩ => ⟨S8448x1024, .f32⟩
  | .hbm, ⟨34, _⟩ => ⟨S_, .f32⟩
  | .hbm, ⟨35, _⟩ => ⟨S1024, .f32⟩
  | .hbm, ⟨36, _⟩ => ⟨S8448x1024, .f32⟩
  | .hbm, ⟨37, _⟩ => ⟨S_, .f32⟩
  | .hbm, ⟨38, _⟩ => ⟨S8448, .f32⟩
  | .hbm, ⟨39, _⟩ => ⟨S8448x1, .f32⟩
  | .hbm, ⟨40, _⟩ => ⟨S8448x1024, .f32⟩
  | .hbm, ⟨41, _⟩ => ⟨S8448x1024, .f32⟩
  | .hbm, ⟨42, _⟩ => ⟨S8448x1024, .f32⟩
  | .hbm, ⟨43, _⟩ => ⟨S8448x1, .f32⟩
  | .hbm, ⟨44, _⟩ => ⟨S_, .f32⟩
  | .hbm, ⟨45, _⟩ => ⟨S8448x1, .f32⟩
  | .hbm, ⟨46, _⟩ => ⟨S8448x1, .f32⟩
  | .hbm, ⟨47, _⟩ => ⟨S_, .f32⟩
  | .hbm, ⟨48, _⟩ => ⟨S8448, .f32⟩
  | .hbm, ⟨49, _⟩ => ⟨S8448x1024, .f32⟩
  | .hbm, ⟨50, _⟩ => ⟨S8448x1024, .f32⟩
  | .hbm, ⟨51, _⟩ => ⟨S8448x1024, .f32⟩
  | .hbm, ⟨52, _⟩ => ⟨S8448x1024, .f32⟩
  | .hbm, ⟨53, _⟩ => ⟨S8448x1024, .f32⟩
  | .hbm, ⟨54, _⟩ => ⟨S1x1024, .f32⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== InProj.lean ====
abbrev S8448x512 : Shape := ⟨2, ![8448, 512]⟩
abbrev S512 : Shape := ⟨1, ![512]⟩
abbrev S8448x1536 : Shape := ⟨2, ![8448, 1536]⟩
abbrev S8448x2048 : Shape := ⟨2, ![8448, 2048]⟩
abbrev S8448x1024 : Shape := ⟨2, ![8448, 1024]⟩
abbrev S1024 : Shape := ⟨1, ![1024]⟩
abbrev S1024x4096 : Shape := ⟨2, ![1024, 4096]⟩
abbrev S1x512 : Shape := ⟨2, ![1, 512]⟩
abbrev S1x1024 : Shape := ⟨2, ![1, 1024]⟩
abbrev S1024x4x1024 : Shape := ⟨3, ![1024, 4, 1024]⟩
abbrev S4x1024x1024 : Shape := ⟨3, ![4, 1024, 1024]⟩
abbrev S8448x4096 : Shape := ⟨2, ![8448, 4096]⟩
abbrev S256x512 : Shape := ⟨2, ![256, 512]⟩
abbrev S256x1536 : Shape := ⟨2, ![256, 1536]⟩
abbrev S256x2048 : Shape := ⟨2, ![256, 2048]⟩
abbrev S256x1024 : Shape := ⟨2, ![256, 1024]⟩
abbrev S256x4096 : Shape := ⟨2, ![256, 4096]⟩
abbrev S1x1024x512 : Shape := ⟨3, ![1, 1024, 512]⟩
abbrev S1024x512 : Shape := ⟨2, ![1024, 512]⟩
abbrev S1x1024x1024 : Shape := ⟨3, ![1, 1024, 1024]⟩
abbrev S1024x1024 : Shape := ⟨2, ![1024, 1024]⟩
abbrev S256 : Shape := ⟨1, ![256]⟩
abbrev S256x1 : Shape := ⟨2, ![256, 1]⟩

abbrev nBuf : Space → Nat
  | .hbm => 18
  | .vmem => 22
  | .smem => 0
  | _ => 0

abbrev bufTy : (tb : Table) → Fin (tcTables nBuf tb) → BufTy
  | .hbm, ⟨0, _⟩ => ⟨S8448x512, .f32⟩
  | .hbm, ⟨1, _⟩ => ⟨S8448x512, .f32⟩
  | .hbm, ⟨2, _⟩ => ⟨S8448x512, .f32⟩
  | .hbm, ⟨3, _⟩ => ⟨S512, .f32⟩
  | .hbm, ⟨4, _⟩ => ⟨S8448x1536, .bf16⟩
  | .hbm, ⟨5, _⟩ => ⟨S8448x2048, .bf16⟩
  | .hbm, ⟨6, _⟩ => ⟨S8448x1024, .f32⟩
  | .hbm, ⟨7, _⟩ => ⟨S8448x1024, .f32⟩
  | .hbm, ⟨8, _⟩ => ⟨S1024, .f32⟩
  | .hbm, ⟨9, _⟩ => ⟨S1024x4096, .f32⟩
  | .hbm, ⟨10, _⟩ => ⟨S1x512, .f32⟩
  | .hbm, ⟨11, _⟩ => ⟨S1x1024, .f32⟩
  | .hbm, ⟨12, _⟩ => ⟨S1024x4x1024, .f32⟩
  | .hbm, ⟨13, _⟩ => ⟨S4x1024x1024, .f32⟩
  | .hbm, ⟨14, _⟩ => ⟨S4x1024x1024, .bf16⟩
  | .hbm, ⟨15, _⟩ => ⟨S8448x1024, .f32⟩
  | .hbm, ⟨16, _⟩ => ⟨S1x1024, .f32⟩
  | .hbm, ⟨17, _⟩ => ⟨S8448x4096, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S1x512, .f32⟩
  | .local _ .vmem, ⟨7, _⟩ => ⟨S256x1536, .bf16⟩
  | .local _ .vmem, ⟨8, _⟩ => ⟨S256x1536, .bf16⟩
  | .local _ .vmem, ⟨9, _⟩ => ⟨S256x2048, .bf16⟩
  | .local _ .vmem, ⟨10, _⟩ => ⟨S256x2048, .bf16⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S1x1024, .f32⟩
  | .local _ .vmem, ⟨16, _⟩ => ⟨S4x1024x1024, .bf16⟩
  | .local _ .vmem, ⟨17, _⟩ => ⟨S256x1024, .f32⟩
  | .local _ .vmem, ⟨18, _⟩ => ⟨S256x1024, .f32⟩
  | .local _ .vmem, ⟨19, _⟩ => ⟨S1x1024, .f32⟩
  | .local _ .vmem, ⟨20, _⟩ => ⟨S256x4096, .bf16⟩
  | .local _ .vmem, ⟨21, _⟩ => ⟨S256x4096, .bf16⟩
  | _, _ => ⟨S8448x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v70 : BitVec 32 := Scalar.extui v0
  let c0_i32_45 : BitVec 32 := 0#32
  let v71 : BitVec 1 := Scalar.cmpi .ne v70 c0_i32_45
  v71

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v72 : BitVec 1 := Scalar.xori v0 v_true
  let v73 : BitVec 32 := Scalar.extui v72
  let c0_i32_46 : BitVec 32 := 0#32
  let v74 : BitVec 1 := Scalar.cmpi .ne v73 c0_i32_46
  v74

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== InProjRefIdeal.lean ====
abbrev S8448x512 : Shape := ⟨2, ![8448, 512]⟩
abbrev S512 : Shape := ⟨1, ![512]⟩
abbrev S8448x1536 : Shape := ⟨2, ![8448, 1536]⟩
abbrev S8448x2048 : Shape := ⟨2, ![8448, 2048]⟩
abbrev S8448x1024 : Shape := ⟨2, ![8448, 1024]⟩
abbrev S1024 : Shape := ⟨1, ![1024]⟩
abbrev S1024x4096 : Shape := ⟨2, ![1024, 4096]⟩
abbrev S_ : Shape := ⟨0, ![]⟩
abbrev S8448x4096 : Shape := ⟨2, ![8448, 4096]⟩
abbrev S1x512 : Shape := ⟨2, ![1, 512]⟩
abbrev S8448 : Shape := ⟨1, ![8448]⟩
abbrev S8448x1 : Shape := ⟨2, ![8448, 1]⟩
abbrev S1x1024 : Shape := ⟨2, ![1, 1024]⟩

abbrev nBuf : Space → Nat
  | .hbm => 75
  | .vmem => 0
  | .smem => 0
  | _ => 0

abbrev bufTy : (tb : Table) → Fin (tcTables nBuf tb) → BufTy
  | .hbm, ⟨0, _⟩ => ⟨S8448x512, .f32⟩
  | .hbm, ⟨1, _⟩ => ⟨S8448x512, .f32⟩
  | .hbm, ⟨2, _⟩ => ⟨S8448x512, .f32⟩
  | .hbm, ⟨3, _⟩ => ⟨S512, .f32⟩
  | .hbm, ⟨4, _⟩ => ⟨S8448x1536, .bf16⟩
  | .hbm, ⟨5, _⟩ => ⟨S8448x2048, .bf16⟩
  | .hbm, ⟨6, _⟩ => ⟨S8448x1024, .f32⟩
  | .hbm, ⟨7, _⟩ => ⟨S8448x1024, .f32⟩
  | .hbm, ⟨8, _⟩ => ⟨S1024, .f32⟩
  | .hbm, ⟨9, _⟩ => ⟨S1024x4096, .f32⟩
  | .hbm, ⟨10, _⟩ => ⟨S_, .f32⟩
  | .hbm, ⟨11, _⟩ => ⟨S8448x4096, .f32⟩
  | .hbm, ⟨12, _⟩ => ⟨S8448x512, .f32⟩
  | .hbm, ⟨13, _⟩ => ⟨S8448x1536, .f32⟩
  | .hbm, ⟨14, _⟩ => ⟨S8448x2048, .f32⟩
  | .hbm, ⟨15, _⟩ => ⟨S1x512, .f32⟩
  | .hbm, ⟨16, _⟩ => ⟨S8448x512, .f32⟩
  | .hbm, ⟨17, _⟩ => ⟨S8448x512, .f32⟩
  | .hbm, ⟨18, _⟩ => ⟨S8448x1536, .f32⟩
  | .hbm, ⟨19, _⟩ => ⟨S8448x2048, .f32⟩
  | .hbm, ⟨20, _⟩ => ⟨S8448x512, .f32⟩
  | .hbm, ⟨21, _⟩ => ⟨S8448x512, .f32⟩
  | .hbm, ⟨22, _⟩ => ⟨S8448x512, .f32⟩
  | .hbm, ⟨23, _⟩ => ⟨S8448x512, .f32⟩
  | .hbm, ⟨24, _⟩ => ⟨S8448x4096, .f32⟩
  | .hbm, ⟨25, _⟩ => ⟨S8448x1024, .f32⟩
  | .hbm, ⟨26, _⟩ => ⟨S_, .f32⟩
  | .hbm, ⟨27, _⟩ => ⟨S8448, .f32⟩
  | .hbm, ⟨28, _⟩ => ⟨S8448x1, .f32⟩
  | .hbm, ⟨29, _⟩ => ⟨S_, .f32⟩
  | .hbm, ⟨30, _⟩ => ⟨S8448x1, .f32⟩
  | .hbm, ⟨31, _⟩ => ⟨S8448x1, .f32⟩
  | .hbm, ⟨32, _⟩ => ⟨S_, .f32⟩
  | .hbm, ⟨33, _⟩ => ⟨S8448x1, .f32⟩
  | .hbm, ⟨34, _⟩ => ⟨S8448x1, .f32⟩
  | .hbm, ⟨35, _⟩ => ⟨S8448x1, .f32⟩
  | .hbm, ⟨36, _⟩ => ⟨S8448x1, .f32⟩
  | .hbm, ⟨37, _⟩ => ⟨S_, .f32⟩
  | .hbm, ⟨38, _⟩ => ⟨S8448x1, .f32⟩
  | .hbm, ⟨39, _⟩ => ⟨S8448x1, .f32⟩
  | .hbm, ⟨40, _⟩ => ⟨S8448x1024, .f32⟩
  | .hbm, ⟨41, _⟩ => ⟨S8448x1024, .f32⟩
  | .hbm, ⟨42, _⟩ => ⟨S1x1024, .f32⟩
  | .hbm, ⟨43, _⟩ => ⟨S8448x1024, .f32⟩
  | .hbm, ⟨44, _⟩ => ⟨S8448x1024, .f32⟩
  | .hbm, ⟨45, _⟩ => ⟨S8448x4096, .f32⟩
  | .hbm, ⟨46, _⟩ => ⟨S8448x1024, .f32⟩
  | .hbm, ⟨47, _⟩ => ⟨S8448x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S8448x1024, .f32⟩
  | .hbm, ⟨52, _⟩ => ⟨S8448x1024, .f32⟩
  | .hbm, ⟨53, _⟩ => ⟨S_, .f32⟩
  | .hbm, ⟨54, _⟩ => ⟨S1024, .f32⟩
  | .hbm, ⟨55, _⟩ => ⟨S8448x1024, .f32⟩
  | .hbm, ⟨56, _⟩ => ⟨S_, .f32⟩
  | .hbm, ⟨57, _⟩ => ⟨S8448, .f32⟩
  | .hbm, ⟨58, _⟩ => ⟨S8448x1, .f32⟩
  | .hbm, ⟨59, _⟩ => ⟨S8448x1024, .f32⟩
  | .hbm, ⟨60, _⟩ => ⟨S8448x1024, .f32⟩
  | .hbm, ⟨61, _⟩ => ⟨S8448x1024, .f32⟩
  | .hbm, ⟨62, _⟩ => ⟨S8448x1, .f32⟩
  | .hbm, ⟨63, _⟩ => ⟨S_, .f32⟩
  | .hbm, ⟨64, _⟩ => ⟨S8448x1, .f32⟩
  | .hbm, ⟨65, _⟩ => ⟨S8448x1, .f32⟩
  | .hbm, ⟨66, _⟩ => ⟨S_, .f32⟩
  | .hbm, ⟨67, _⟩ => ⟨S8448, .f32⟩
  | .hbm, ⟨68, _⟩ => ⟨S8448x1024, .f32⟩
  | .hbm, ⟨69, _⟩ => ⟨S8448x1024, .f32⟩
  | .hbm, ⟨70, _⟩ => ⟨S8448x1024, .f32⟩
  | .hbm, ⟨71, _⟩ => ⟨S8448x1024, .f32⟩
  | .hbm, ⟨72, _⟩ => ⟨S8448x1024, .f32⟩
  | .hbm, ⟨73, _⟩ => ⟨S1x1024, .f32⟩
  | .hbm, ⟨74, _⟩ => ⟨S8448x4096, .bf16⟩
  | _, _ => ⟨S8448x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_7 : Ref sig .tc := ⟨.hbm, 63, rfl⟩
abbrev main_v45 : Ref sig .tc := ⟨.hbm, 64, rfl⟩
abbrev main_v46 : Ref sig .tc := ⟨.hbm, 65, rfl⟩
abbrev main_cst_8 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== Loss.lean ====
abbrev S8448x1024 : Shape := ⟨2, ![8448, 1024]⟩
abbrev S8448x4096 : Shape := ⟨2, ![8448, 4096]⟩
abbrev S4096x1024 : Shape := ⟨2, ![4096, 1024]⟩
abbrev S1024 : Shape := ⟨1, ![1024]⟩
abbrev S8192x1024 : Shape := ⟨2, ![8192, 1024]⟩
abbrev S_ : Shape := ⟨0, ![]⟩
abbrev S8448 : Shape := ⟨1, ![8448]⟩
abbrev S8448x1 : Shape := ⟨2, ![8448, 1]⟩
abbrev S1x1024 : Shape := ⟨2, ![1, 1024]⟩
abbrev S8x128 : Shape := ⟨2, ![8, 128]⟩
abbrev S384x1024 : Shape := ⟨2, ![384, 1024]⟩
abbrev S384x4096 : Shape := ⟨2, ![384, 4096]⟩
abbrev S384x1 : Shape := ⟨2, ![384, 1]⟩
abbrev S384 : Shape := ⟨1, ![384]⟩
abbrev S1 : Shape := ⟨1, ![1]⟩
abbrev S1x1 : Shape := ⟨2, ![1, 1]⟩

abbrev nBuf : Space → Nat
  | .hbm => 33
  | .vmem => 18
  | .smem => 0
  | _ => 0

abbrev bufTy : (tb : Table) → Fin (tcTables nBuf tb) → BufTy
  | .hbm, ⟨0, _⟩ => ⟨S8448x1024, .f32⟩
  | .hbm, ⟨1, _⟩ => ⟨S8448x4096, .f32⟩
  | .hbm, ⟨2, _⟩ => ⟨S4096x1024, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8448x4096, .f32⟩
  | .hbm, ⟨7, _⟩ => ⟨S8448x4096, .f32⟩
  | .hbm, ⟨8, _⟩ => ⟨S8448x4096, .bf16⟩
  | .hbm, ⟨9, _⟩ => ⟨S_, .i32⟩
  | .hbm, ⟨10, _⟩ => ⟨S_, .f32⟩
  | .hbm, ⟨11, _⟩ => ⟨S8448x1024, .f32⟩
  | .hbm, ⟨12, _⟩ => ⟨S8448, .i32⟩
  | .hbm, ⟨13, _⟩ => ⟨S_, .i32⟩
  | .hbm, ⟨14, _⟩ => ⟨S8448, .i32⟩
  | .hbm, ⟨15, _⟩ => ⟨S8448, .i1⟩
  | .hbm, ⟨16, _⟩ => ⟨S_, .i32⟩
  | .hbm, ⟨17, _⟩ => ⟨S8448, .i32⟩
  | .hbm, ⟨18, _⟩ => ⟨S8448, .i1⟩
  | .hbm, ⟨19, _⟩ => ⟨S8448, .i1⟩
  | .hbm, ⟨20, _⟩ => ⟨S_, .f32⟩
  | .hbm, ⟨21, _⟩ => ⟨S_, .f32⟩
  | .hbm, ⟨22, _⟩ => ⟨S8448, .f32⟩
  | .hbm, ⟨23, _⟩ => ⟨S8448, .f32⟩
  | .hbm, ⟨24, _⟩ => ⟨S8448, .f32⟩
  | .hbm, ⟨25, _⟩ => ⟨S8448x1, .f32⟩
  | .hbm, ⟨26, _⟩ => ⟨S4096x1024, .bf16⟩
  | .hbm, ⟨27, _⟩ => ⟨S1x1024, .f32⟩
  | .hbm, ⟨28, _⟩ => ⟨S8x128, .f32⟩
  | .hbm, ⟨29, _⟩ => ⟨S8448x1024, .f32⟩
  | .hbm, ⟨30, _⟩ => ⟨S1x1024, .f32⟩
  | .hbm, ⟨31, _⟩ => ⟨S8448x4096, .bf16⟩
  | .hbm, ⟨32, _⟩ => ⟨S8448x1024, .bf16⟩
  | .local _ .vmem, ⟨0, _⟩ => ⟨S384x1024, .f32⟩
  | .local _ .vmem, ⟨1, _⟩ => ⟨S384x1024, .f32⟩
  | .local _ .vmem, ⟨2, _⟩ => ⟨S384x4096, .bf16⟩
  | .local _ .vmem, ⟨3, _⟩ => ⟨S384x4096, .bf16⟩
  | .local _ .vmem, ⟨4, _⟩ => ⟨S4096x1024, .bf16⟩
  | .local _ .vmem, ⟨5, _⟩ => ⟨S1x1024, .f32⟩
  | .local _ .vmem, ⟨6, _⟩ => ⟨S384x1024, .f32⟩
  | .local _ .vmem, ⟨7, _⟩ => ⟨S384x1024, .f32⟩
  | .local _ .vmem, ⟨8, _⟩ => ⟨S384x1, .f32⟩
  | .local _ .vmem, ⟨9, _⟩ => ⟨S384x1, .f32⟩
  | .local _ .vmem, ⟨10, _⟩ => ⟨S8x128, .f32⟩
  | .local _ .vmem, ⟨11, _⟩ => ⟨S384x1024, .f32⟩
  | .local _ .vmem, ⟨12, _⟩ => ⟨S384x1024, .f32⟩
  | .local _ .vmem, ⟨13, _⟩ => ⟨S1x1024, .f32⟩
  | .local _ .vmem, ⟨14, _⟩ => ⟨S384x4096, .bf16⟩
  | .local _ .vmem, ⟨15, _⟩ => ⟨S384x4096, .bf16⟩
  | .local _ .vmem, ⟨16, _⟩ => ⟨S384x1024, .bf16⟩
  | .local _ .vmem, ⟨17, _⟩ => ⟨S384x1024, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14_0 : Ref sig .tc := ⟨.hbm, 28, rfl⟩
abbrev main_v14_1 : Ref sig .tc := ⟨.hbm, 29, rfl⟩
abbrev main_v14_2 : Ref sig .tc := ⟨.hbm, 30, rfl⟩
abbrev main_v14_3 : Ref sig .tc := ⟨.hbm, 31, rfl⟩
abbrev main_v14_4 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![22], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v43 : BitVec 32 := Scalar.extui v0
  let c0_i32_18 : BitVec 32 := 0#32
  let v44 : BitVec 1 := Scalar.cmpi .ne v43 c0_i32_18
  v44

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v45 : BitVec 1 := Scalar.xori v0 v_true
  let v46 : BitVec 32 := Scalar.extui v45
  let c0_i32_19 : BitVec 32 := 0#32
  let v47 : BitVec 1 := Scalar.cmpi .ne v46 c0_i32_19
  v47

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v76 : BitVec 32 := Scalar.extui v0
  let c0_i32_29 : BitVec 32 := 0#32
  let v77 : BitVec 1 := Scalar.cmpi .ne v76 c0_i32_29
  v77

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_30 : BitVec 1 := 1#1
  let v78 : BitVec 1 := Scalar.xori v0 true_30
  let v79 : BitVec 32 := Scalar.extui v78
  let c0_i32_31 : BitVec 32 := 0#32
  let v80 : BitVec 1 := Scalar.cmpi .ne v79 c0_i32_31
  v80

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S384x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S384x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S384x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== LossRefIdeal.lean ====
abbrev S8448x1024 : Shape := ⟨2, ![8448, 1024]⟩
abbrev S8448x4096 : Shape := ⟨2, ![8448, 4096]⟩
abbrev S4096x1024 : Shape := ⟨2, ![4096, 1024]⟩
abbrev S1024 : Shape := ⟨1, ![1024]⟩
abbrev S8192x1024 : Shape := ⟨2, ![8192, 1024]⟩
abbrev S_ : Shape := ⟨0, ![]⟩
abbrev S8448 : Shape := ⟨1, ![8448]⟩
abbrev S8448x1 : Shape := ⟨2, ![8448, 1]⟩
abbrev S1x1024 : Shape := ⟨2, ![1, 1024]⟩
abbrev S8192 : Shape := ⟨1, ![8192]⟩
abbrev S8x128 : Shape := ⟨2, ![8, 128]⟩

abbrev nBuf : Space → Nat
  | .hbm => 99
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x4096, .f32⟩
  | .hbm, ⟨2, _⟩ => ⟨S4096x1024, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8448x4096, .f32⟩
  | .hbm, ⟨7, _⟩ => ⟨S8448x4096, .f32⟩
  | .hbm, ⟨8, _⟩ => ⟨S_, .f32⟩
  | .hbm, ⟨9, _⟩ => ⟨S8448x4096, .f32⟩
  | .hbm, ⟨10, _⟩ => ⟨S8448x4096, .i1⟩
  | .hbm, ⟨11, _⟩ => ⟨S_, .f32⟩
  | .hbm, ⟨12, _⟩ => ⟨S8448x4096, .f32⟩
  | .hbm, ⟨13, _⟩ => ⟨S8448x4096, .f32⟩
  | .hbm, ⟨14, _⟩ => ⟨S_, .f32⟩
  | .hbm, ⟨15, _⟩ => ⟨S8448x4096, .f32⟩
  | .hbm, ⟨16, _⟩ => ⟨S8448x4096, .f32⟩
  | .hbm, ⟨17, _⟩ => ⟨S8448x1024, .f32⟩
  | .hbm, ⟨18, _⟩ => ⟨S8448x1024, .f32⟩
  | .hbm, ⟨19, _⟩ => ⟨S8448x1024, .f32⟩
  | .hbm, ⟨20, _⟩ => ⟨S_, .f32⟩
  | .hbm, ⟨21, _⟩ => ⟨S8448, .f32⟩
  | .hbm, ⟨22, _⟩ => ⟨S8448x1, .f32⟩
  | .hbm, ⟨23, _⟩ => ⟨S_, .f32⟩
  | .hbm, ⟨24, _⟩ => ⟨S8448x1, .f32⟩
  | .hbm, ⟨25, _⟩ => ⟨S8448x1, .f32⟩
  | .hbm, ⟨26, _⟩ => ⟨S_, .f32⟩
  | .hbm, ⟨27, _⟩ => ⟨S8448x1, .f32⟩
  | .hbm, ⟨28, _⟩ => ⟨S8448x1, .f32⟩
  | .hbm, ⟨29, _⟩ => ⟨S8448x1, .f32⟩
  | .hbm, ⟨30, _⟩ => ⟨S8448x1, .f32⟩
  | .hbm, ⟨31, _⟩ => ⟨S_, .f32⟩
  | .hbm, ⟨32, _⟩ => ⟨S8448x1, .f32⟩
  | .hbm, ⟨33, _⟩ => ⟨S8448x1, .f32⟩
  | .hbm, ⟨34, _⟩ => ⟨S8448x1024, .f32⟩
  | .hbm, ⟨35, _⟩ => ⟨S8448x1024, .f32⟩
  | .hbm, ⟨36, _⟩ => ⟨S1x1024, .f32⟩
  | .hbm, ⟨37, _⟩ => ⟨S8448x1024, .f32⟩
  | .hbm, ⟨38, _⟩ => ⟨S8448x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192, .f32⟩
  | .hbm, ⟨47, _⟩ => ⟨S_, .f32⟩
  | .hbm, ⟨48, _⟩ => ⟨S8192, .f32⟩
  | .hbm, ⟨49, _⟩ => ⟨S8192, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S8192, .f32⟩
  | .hbm, ⟨58, _⟩ => ⟨S_, .f32⟩
  | .hbm, ⟨59, _⟩ => ⟨S8192, .f32⟩
  | .hbm, ⟨60, _⟩ => ⟨S8192, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S8448x1024, .f32⟩
  | .hbm, ⟨65, _⟩ => ⟨S8448x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S8448x1024, .f32⟩
  | .hbm, ⟨70, _⟩ => ⟨S8448x1024, .f32⟩
  | .hbm, ⟨71, _⟩ => ⟨S_, .f32⟩
  | .hbm, ⟨72, _⟩ => ⟨S1024, .f32⟩
  | .hbm, ⟨73, _⟩ => ⟨S8448x1024, .f32⟩
  | .hbm, ⟨74, _⟩ => ⟨S_, .f32⟩
  | .hbm, ⟨75, _⟩ => ⟨S8448, .f32⟩
  | .hbm, ⟨76, _⟩ => ⟨S8448x1, .f32⟩
  | .hbm, ⟨77, _⟩ => ⟨S8448x1024, .f32⟩
  | .hbm, ⟨78, _⟩ => ⟨S8448x1024, .f32⟩
  | .hbm, ⟨79, _⟩ => ⟨S8448x1, .f32⟩
  | .hbm, ⟨80, _⟩ => ⟨S_, .f32⟩
  | .hbm, ⟨81, _⟩ => ⟨S8448x1, .f32⟩
  | .hbm, ⟨82, _⟩ => ⟨S8448x1, .f32⟩
  | .hbm, ⟨83, _⟩ => ⟨S_, .f32⟩
  | .hbm, ⟨84, _⟩ => ⟨S8448, .f32⟩
  | .hbm, ⟨85, _⟩ => ⟨S8448x1024, .f32⟩
  | .hbm, ⟨86, _⟩ => ⟨S8448x1024, .f32⟩
  | .hbm, ⟨87, _⟩ => ⟨S8448x1024, .f32⟩
  | .hbm, ⟨88, _⟩ => ⟨S8448x1024, .f32⟩
  | .hbm, ⟨89, _⟩ => ⟨S8448x1024, .f32⟩
  | .hbm, ⟨90, _⟩ => ⟨S8448x4096, .f32⟩
  | .hbm, ⟨91, _⟩ => ⟨S8448x4096, .f32⟩
  | .hbm, ⟨92, _⟩ => ⟨S_, .f32⟩
  | .hbm, ⟨93, _⟩ => ⟨S8448x4096, .f32⟩
  | .hbm, ⟨94, _⟩ => ⟨S8448x4096, .f32⟩
  | .hbm, ⟨95, _⟩ => ⟨S8x128, .f32⟩
  | .hbm, ⟨96, _⟩ => ⟨S1x1024, .f32⟩
  | .hbm, ⟨97, _⟩ => ⟨S8448x4096, .bf16⟩
  | .hbm, ⟨98, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩
abbrev main_cst_9 : Ref sig .tc := ⟨.hbm, 50, rfl⟩
abbrev main_v33 : Ref sig .tc := ⟨.hbm, 51, rfl⟩
abbrev main_cst_10 : Ref sig .tc := ⟨.hbm, 52, rfl⟩
abbrev main_v34 : Ref sig .tc := ⟨.hbm, 53, rfl⟩
abbrev main_cst_11 : Ref sig .tc := ⟨.hbm, 54, rfl⟩
abbrev main_cst_12 : Ref sig .tc := ⟨.hbm, 55, rfl⟩
abbrev main_v35 : Ref sig .tc := ⟨.hbm, 56, rfl⟩
abbrev main_v36 : Ref sig .tc := ⟨.hbm, 57, rfl⟩
abbrev main_cst_13 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_14 : Ref sig .tc := ⟨.hbm, 63, rfl⟩
abbrev main_v41 : Ref sig .tc := ⟨.hbm, 64, rfl⟩
abbrev main_v42 : Ref sig .tc := ⟨.hbm, 65, rfl⟩
abbrev main_cst_15 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_16 : Ref sig .tc := ⟨.hbm, 71, rfl⟩
abbrev main_v47 : Ref sig .tc := ⟨.hbm, 72, rfl⟩
abbrev main_v48 : Ref sig .tc := ⟨.hbm, 73, rfl⟩
abbrev main_cst_17 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_18 : Ref sig .tc := ⟨.hbm, 80, rfl⟩
abbrev main_v54 : Ref sig .tc := ⟨.hbm, 81, rfl⟩
abbrev main_v55 : Ref sig .tc := ⟨.hbm, 82, rfl⟩
abbrev main_cst_19 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_20 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩

abbrev nD : Nat := 1
abbrev τ : Topo := Topo.v7x

variable {F : FTy → Type} [FloatOps F]
-- ==== Fwd.lean ====
abbrev S8208x1024 : Shape := ⟨2, ![8208, 1024]⟩
abbrev S8208x256 : Shape := ⟨2, ![8208, 256]⟩
abbrev S_ : Shape := ⟨0, ![]⟩
abbrev S8448x1024 : Shape := ⟨2, ![8448, 1024]⟩
abbrev S8208x4x64 : Shape := ⟨3, ![8208, 4, 64]⟩
abbrev S4x8208x64 : Shape := ⟨3, ![4, 8208, 64]⟩
abbrev S4x8448x64 : Shape := ⟨3, ![4, 8448, 64]⟩
abbrev S4x8448x128 : Shape := ⟨3, ![4, 8448, 128]⟩
abbrev S8448 : Shape := ⟨1, ![8448]⟩
abbrev S1x8448 : Shape := ⟨2, ![1, 8448]⟩
abbrev S8448x512 : Shape := ⟨2, ![8448, 512]⟩
abbrev S16x8448x8448 : Shape := ⟨3, ![16, 8448, 8448]⟩
abbrev S3x8448x512 : Shape := ⟨3, ![3, 8448, 512]⟩
abbrev S384x256 : Shape := ⟨2, ![384, 256]⟩
abbrev S1x2816x64 : Shape := ⟨3, ![1, 2816, 64]⟩
abbrev S1x2816x128 : Shape := ⟨3, ![1, 2816, 128]⟩
abbrev S1x2816 : Shape := ⟨2, ![1, 2816]⟩
abbrev S384x128 : Shape := ⟨2, ![384, 128]⟩
abbrev S4x384x2816 : Shape := ⟨3, ![4, 384, 2816]⟩
abbrev S1x384x128 : Shape := ⟨3, ![1, 384, 128]⟩
abbrev S4x384x128 : Shape := ⟨3, ![4, 384, 128]⟩
abbrev S2816x64 : Shape := ⟨2, ![2816, 64]⟩
abbrev S2816x128 : Shape := ⟨2, ![2816, 128]⟩
abbrev S384x64 : Shape := ⟨2, ![384, 64]⟩
abbrev S384x2816 : Shape := ⟨2, ![384, 2816]⟩
abbrev S384 : Shape := ⟨1, ![384]⟩
abbrev S384x1 : Shape := ⟨2, ![384, 1]⟩
abbrev S1x384x2816 : Shape := ⟨3, ![1, 384, 2816]⟩
abbrev S384x2560 : Shape := ⟨2, ![384, 2560]⟩
abbrev S1x256 : Shape := ⟨2, ![1, 256]⟩

abbrev nBuf : Space → Nat
  | .hbm => 37
  | .vmem => 18
  | .smem => 0
  | _ => 0

abbrev bufTy : (tb : Table) → Fin (tcTables nBuf tb) → BufTy
  | .hbm, ⟨0, _⟩ => ⟨S8208x1024, .f32⟩
  | .hbm, ⟨1, _⟩ => ⟨S8208x256, .f32⟩
  | .hbm, ⟨2, _⟩ => ⟨S8208x256, .f32⟩
  | .hbm, ⟨3, _⟩ => ⟨S_, .i32⟩
  | .hbm, ⟨4, _⟩ => ⟨S_, .f32⟩
  | .hbm, ⟨5, _⟩ => ⟨S8448x1024, .f32⟩
  | .hbm, ⟨6, _⟩ => ⟨S8448x1024, .bf16⟩
  | .hbm, ⟨7, _⟩ => ⟨S8208x4x64, .f32⟩
  | .hbm, ⟨8, _⟩ => ⟨S4x8208x64, .f32⟩
  | .hbm, ⟨9, _⟩ => ⟨S_, .i32⟩
  | .hbm, ⟨10, _⟩ => ⟨S_, .f32⟩
  | .hbm, ⟨11, _⟩ => ⟨S4x8448x64, .f32⟩
  | .hbm, ⟨12, _⟩ => ⟨S4x8448x64, .bf16⟩
  | .hbm, ⟨13, _⟩ => ⟨S8208x4x64, .f32⟩
  | .hbm, ⟨14, _⟩ => ⟨S4x8208x64, .f32⟩
  | .hbm, ⟨15, _⟩ => ⟨S_, .i32⟩
  | .hbm, ⟨16, _⟩ => ⟨S_, .f32⟩
  | .hbm, ⟨17, _⟩ => ⟨S4x8448x64, .f32⟩
  | .hbm, ⟨18, _⟩ => ⟨S4x8448x64, .bf16⟩
  | .hbm, ⟨19, _⟩ => ⟨S_, .f32⟩
  | .hbm, ⟨20, _⟩ => ⟨S4x8448x64, .f32⟩
  | .hbm, ⟨21, _⟩ => ⟨S4x8448x64, .bf16⟩
  | .hbm, ⟨22, _⟩ => ⟨S4x8448x128, .bf16⟩
  | .hbm, ⟨23, _⟩ => ⟨S8448, .i32⟩
  | .hbm, ⟨24, _⟩ => ⟨S_, .i32⟩
  | .hbm, ⟨25, _⟩ => ⟨S8448, .i32⟩
  | .hbm, ⟨26, _⟩ => ⟨S8448, .i1⟩
  | .hbm, ⟨27, _⟩ => ⟨S_, .f32⟩
  | .hbm, ⟨28, _⟩ => ⟨S_, .f32⟩
  | .hbm, ⟨29, _⟩ => ⟨S8448, .f32⟩
  | .hbm, ⟨30, _⟩ => ⟨S8448, .f32⟩
  | .hbm, ⟨31, _⟩ => ⟨S8448, .f32⟩
  | .hbm, ⟨32, _⟩ => ⟨S1x8448, .f32⟩
  | .hbm, ⟨33, _⟩ => ⟨S8448x1024, .bf16⟩
  | .hbm, ⟨34, _⟩ => ⟨S8448x512, .f32⟩
  | .hbm, ⟨35, _⟩ => ⟨S16x8448x8448, .bf16⟩
  | .hbm, ⟨36, _⟩ => ⟨S3x8448x512, .f32⟩
  | .local _ .vmem, ⟨0, _⟩ => ⟨S384x256, .bf16⟩
  | .local _ .vmem, ⟨1, _⟩ => ⟨S384x256, .bf16⟩
  | .local _ .vmem, ⟨2, _⟩ => ⟨S1x2816x64, .bf16⟩
  | .local _ .vmem, ⟨3, _⟩ => ⟨S1x2816x64, .bf16⟩
  | .local _ .vmem, ⟨4, _⟩ => ⟨S1x2816x128, .bf16⟩
  | .local _ .vmem, ⟨5, _⟩ => ⟨S1x2816x128, .bf16⟩
  | .local _ .vmem, ⟨6, _⟩ => ⟨S1x2816, .f32⟩
  | .local _ .vmem, ⟨7, _⟩ => ⟨S1x2816, .f32⟩
  | .local _ .vmem, ⟨8, _⟩ => ⟨S384x256, .bf16⟩
  | .local _ .vmem, ⟨9, _⟩ => ⟨S384x256, .bf16⟩
  | .local _ .vmem, ⟨10, _⟩ => ⟨S384x128, .f32⟩
  | .local _ .vmem, ⟨11, _⟩ => ⟨S384x128, .f32⟩
  | .local _ .vmem, ⟨12, _⟩ => ⟨S4x384x2816, .bf16⟩
  | .local _ .vmem, ⟨13, _⟩ => ⟨S4x384x2816, .bf16⟩
  | .local _ .vmem, ⟨14, _⟩ => ⟨S1x384x128, .f32⟩
  | .local _ .vmem, ⟨15, _⟩ => ⟨S1x384x128, .f32⟩
  | .local _ .vmem, ⟨16, _⟩ => ⟨S4x384x128, .f32⟩
  | .local _ .vmem, ⟨17, _⟩ => ⟨S4x384x128, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_call2_v0 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_cst_4 : Ref sig .tc := ⟨.hbm, 28, rfl⟩
abbrev main_call3_v0 : Ref sig .tc := ⟨.hbm, 29, rfl⟩
abbrev main_call3_v1 : Ref sig .tc := ⟨.hbm, 30, rfl⟩
abbrev main_v16 : Ref sig .tc := ⟨.hbm, 31, rfl⟩
abbrev main_v17 : Ref sig .tc := ⟨.hbm, 32, rfl⟩
abbrev main_v18_0 : Ref sig .tc := ⟨.hbm, 33, rfl⟩
abbrev main_v18_1 : Ref sig .tc := ⟨.hbm, 34, rfl⟩
abbrev main_v18_2 : Ref sig .tc := ⟨.hbm, 35, rfl⟩
abbrev main_v18_3 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![4, 22, 3], ![false, false, false]⟩

def k0_cond4 (i : grid0.Coords) : BitVec 1 :=
  let arg2 : BitVec 32 := BitVec.ofNat 32 (i 2).val
  let c2_i32_4 : BitVec 32 := 2#32
  let v9 : BitVec 1 := Scalar.cmpi .eq arg2 c2_i32_4
  let v10 : BitVec 32 := Scalar.extui v9
  let c0_i32_5 : BitVec 32 := 0#32
  let v11 : BitVec 1 := Scalar.cmpi .ne v10 c0_i32_5
  v11

def k0_cond2 (i : grid0.Coords) : BitVec 1 :=
  let arg2 : BitVec 32 := BitVec.ofNat 32 (i 2).val
  let c2_i32 : BitVec 32 := 2#32
  let v3 : BitVec 1 := Scalar.cmpi .ne arg2 c2_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg2 : BitVec 32 := BitVec.ofNat 32 (i 2).val
  let c2_i32_2 : BitVec 32 := 2#32
  let v6 : BitVec 1 := Scalar.cmpi .eq arg2 c2_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat, arg0.toNat]

abbrev stage0_0 : Fin 2 → Memref sig .tc .vmem S384x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2816x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2816x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S384x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S384x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S4x384x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x384x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== FwdIdeal.lean ====
variable {F : FTy → Type} [FloatOps F] [Named F]
def κ : String → Option EReal := fun
  | "mask" => some ⊥
  | _ => none
-- ==== FwdRefIdeal.lean ====
abbrev S8208x1024 : Shape := ⟨2, ![8208, 1024]⟩
abbrev S8208x256 : Shape := ⟨2, ![8208, 256]⟩
abbrev S_ : Shape := ⟨0, ![]⟩
abbrev S8448x1024 : Shape := ⟨2, ![8448, 1024]⟩
abbrev S8448x4x4x64 : Shape := ⟨4, ![8448, 4, 4, 64]⟩
abbrev S8208x4x64 : Shape := ⟨3, ![8208, 4, 64]⟩
abbrev S4x8208x8448x4 : Shape := ⟨4, ![4, 8208, 8448, 4]⟩
abbrev S4x4x8448x8208 : Shape := ⟨4, ![4, 4, 8448, 8208]⟩
abbrev S4x4x8448 : Shape := ⟨3, ![4, 4, 8448]⟩
abbrev S4x4x8448x1 : Shape := ⟨4, ![4, 4, 8448, 1]⟩
abbrev S4x64x4x8448 : Shape := ⟨4, ![4, 64, 4, 8448]⟩
abbrev S8448x4x4 : Shape := ⟨3, ![8448, 4, 4]⟩
abbrev S8448x4x128 : Shape := ⟨3, ![8448, 4, 128]⟩
abbrev S8448x512 : Shape := ⟨2, ![8448, 512]⟩

abbrev nBuf : Space → Nat
  | .hbm => 38
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S8208x256, .f32⟩
  | .hbm, ⟨2, _⟩ => ⟨S8208x256, .f32⟩
  | .hbm, ⟨3, _⟩ => ⟨S_, .i32⟩
  | .hbm, ⟨4, _⟩ => ⟨S_, .f32⟩
  | .hbm, ⟨5, _⟩ => ⟨S8448x1024, .f32⟩
  | .hbm, ⟨6, _⟩ => ⟨S8448x4x4x64, .f32⟩
  | .hbm, ⟨7, _⟩ => ⟨S8208x4x64, .f32⟩
  | .hbm, ⟨8, _⟩ => ⟨S8208x4x64, .f32⟩
  | .hbm, ⟨9, _⟩ => ⟨S4x8208x8448x4, .f32⟩
  | .hbm, ⟨10, _⟩ => ⟨S4x4x8448x8208, .f32⟩
  | .hbm, ⟨11, _⟩ => ⟨S_, .f32⟩
  | .hbm, ⟨12, _⟩ => ⟨S4x4x8448, .f32⟩
  | .hbm, ⟨13, _⟩ => ⟨S_, .f32⟩
  | .hbm, ⟨14, _⟩ => ⟨S4x4x8448, .f32⟩
  | .hbm, ⟨15, _⟩ => ⟨S4x4x8448, .f32⟩
  | .hbm, ⟨16, _⟩ => ⟨S4x4x8448x1, .f32⟩
  | .hbm, ⟨17, _⟩ => ⟨S4x4x8448x8208, .f32⟩
  | .hbm, ⟨18, _⟩ => ⟨S4x4x8448x8208, .f32⟩
  | .hbm, ⟨19, _⟩ => ⟨S4x4x8448x8208, .f32⟩
  | .hbm, ⟨20, _⟩ => ⟨S_, .f32⟩
  | .hbm, ⟨21, _⟩ => ⟨S4x4x8448, .f32⟩
  | .hbm, ⟨22, _⟩ => ⟨S4x4x8448x1, .f32⟩
  | .hbm, ⟨23, _⟩ => ⟨S4x4x8448x8208, .f32⟩
  | .hbm, ⟨24, _⟩ => ⟨S4x4x8448x8208, .f32⟩
  | .hbm, ⟨25, _⟩ => ⟨S4x64x4x8448, .f32⟩
  | .hbm, ⟨26, _⟩ => ⟨S8448x4x4x64, .f32⟩
  | .hbm, ⟨27, _⟩ => ⟨S8448x1024, .f32⟩
  | .hbm, ⟨28, _⟩ => ⟨S4x4x8448x8208, .f32⟩
  | .hbm, ⟨29, _⟩ => ⟨S_, .f32⟩
  | .hbm, ⟨30, _⟩ => ⟨S4x4x8448, .f32⟩
  | .hbm, ⟨31, _⟩ => ⟨S4x4x8448, .f32⟩
  | .hbm, ⟨32, _⟩ => ⟨S8448x4x4, .f32⟩
  | .hbm, ⟨33, _⟩ => ⟨S_, .i32⟩
  | .hbm, ⟨34, _⟩ => ⟨S_, .f32⟩
  | .hbm, ⟨35, _⟩ => ⟨S8448x4x128, .f32⟩
  | .hbm, ⟨36, _⟩ => ⟨S8448x1024, .bf16⟩
  | .hbm, ⟨37, _⟩ => ⟨S8448x512, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_3 : Ref sig .tc := ⟨.hbm, 33, rfl⟩
abbrev main_call1_v0 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Proj.lean ====
abbrev S8448x1024 : Shape := ⟨2, ![8448, 1024]⟩
abbrev S1024 : Shape := ⟨1, ![1024]⟩
abbrev S1024x4096 : Shape := ⟨2, ![1024, 4096]⟩
abbrev S1x1024 : Shape := ⟨2, ![1, 1024]⟩
abbrev S1024x4x1024 : Shape := ⟨3, ![1024, 4, 1024]⟩
abbrev S4x1024x1024 : Shape := ⟨3, ![4, 1024, 1024]⟩
abbrev S8448x512 : Shape := ⟨2, ![8448, 512]⟩
abbrev S8448x1536 : Shape := ⟨2, ![8448, 1536]⟩
abbrev S8448x2048 : Shape := ⟨2, ![8448, 2048]⟩
abbrev S384x1024 : Shape := ⟨2, ![384, 1024]⟩
abbrev S384x512 : Shape := ⟨2, ![384, 512]⟩
abbrev S384x1536 : Shape := ⟨2, ![384, 1536]⟩
abbrev S384x2048 : Shape := ⟨2, ![384, 2048]⟩
abbrev S384 : Shape := ⟨1, ![384]⟩
abbrev S384x1 : Shape := ⟨2, ![384, 1]⟩
abbrev S1x1024x1024 : Shape := ⟨3, ![1, 1024, 1024]⟩
abbrev S1024x1024 : Shape := ⟨2, ![1024, 1024]⟩

abbrev nBuf : Space → Nat
  | .hbm => 11
  | .vmem => 12
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S1024x4096, .f32⟩
  | .hbm, ⟨3, _⟩ => ⟨S1x1024, .f32⟩
  | .hbm, ⟨4, _⟩ => ⟨S1024x4x1024, .f32⟩
  | .hbm, ⟨5, _⟩ => ⟨S4x1024x1024, .f32⟩
  | .hbm, ⟨6, _⟩ => ⟨S4x1024x1024, .bf16⟩
  | .hbm, ⟨7, _⟩ => ⟨S8448x512, .f32⟩
  | .hbm, ⟨8, _⟩ => ⟨S8448x1536, .f32⟩
  | .hbm, ⟨9, _⟩ => ⟨S8448x2048, .f32⟩
  | .hbm, ⟨10, _⟩ => ⟨S8448x1024, .bf16⟩
  | .local _ .vmem, ⟨0, _⟩ => ⟨S384x1024, .f32⟩
  | .local _ .vmem, ⟨1, _⟩ => ⟨S384x1024, .f32⟩
  | .local _ .vmem, ⟨2, _⟩ => ⟨S1x1024, .f32⟩
  | .local _ .vmem, ⟨3, _⟩ => ⟨S4x1024x1024, .bf16⟩
  | .local _ .vmem, ⟨4, _⟩ => ⟨S384x512, .f32⟩
  | .local _ .vmem, ⟨5, _⟩ => ⟨S384x512, .f32⟩
  | .local _ .vmem, ⟨6, _⟩ => ⟨S384x1536, .f32⟩
  | .local _ .vmem, ⟨7, _⟩ => ⟨S384x1536, .f32⟩
  | .local _ .vmem, ⟨8, _⟩ => ⟨S384x2048, .f32⟩
  | .local _ .vmem, ⟨9, _⟩ => ⟨S384x2048, .f32⟩
  | .local _ .vmem, ⟨10, _⟩ => ⟨S384x1024, .bf16⟩
  | .local _ .vmem, ⟨11, _⟩ => ⟨S384x1024, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ProjRefIdeal.lean ====
abbrev S8448x1024 : Shape := ⟨2, ![8448, 1024]⟩
abbrev S1024 : Shape := ⟨1, ![1024]⟩
abbrev S1024x4096 : Shape := ⟨2, ![1024, 4096]⟩
abbrev S_ : Shape := ⟨0, ![]⟩
abbrev S8448 : Shape := ⟨1, ![8448]⟩
abbrev S8448x1 : Shape := ⟨2, ![8448, 1]⟩
abbrev S1x1024 : Shape := ⟨2, ![1, 1024]⟩
abbrev S8448x4096 : Shape := ⟨2, ![8448, 4096]⟩
abbrev S8448x512 : Shape := ⟨2, ![8448, 512]⟩
abbrev S8448x1536 : Shape := ⟨2, ![8448, 1536]⟩
abbrev S8448x2048 : Shape := ⟨2, ![8448, 2048]⟩

abbrev nBuf : Space → Nat
  | .hbm => 24
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S1024x4096, .f32⟩
  | .hbm, ⟨3, _⟩ => ⟨S8448x1024, .f32⟩
  | .hbm, ⟨4, _⟩ => ⟨S_, .f32⟩
  | .hbm, ⟨5, _⟩ => ⟨S8448, .f32⟩
  | .hbm, ⟨6, _⟩ => ⟨S8448x1, .f32⟩
  | .hbm, ⟨7, _⟩ => ⟨S_, .f32⟩
  | .hbm, ⟨8, _⟩ => ⟨S8448x1, .f32⟩
  | .hbm, ⟨9, _⟩ => ⟨S8448x1, .f32⟩
  | .hbm, ⟨10, _⟩ => ⟨S_, .f32⟩
  | .hbm, ⟨11, _⟩ => ⟨S8448x1, .f32⟩
  | .hbm, ⟨12, _⟩ => ⟨S8448x1, .f32⟩
  | .hbm, ⟨13, _⟩ => ⟨S8448x1, .f32⟩
  | .hbm, ⟨14, _⟩ => ⟨S8448x1024, .f32⟩
  | .hbm, ⟨15, _⟩ => ⟨S8448x1024, .f32⟩
  | .hbm, ⟨16, _⟩ => ⟨S1x1024, .f32⟩
  | .hbm, ⟨17, _⟩ => ⟨S8448x1024, .f32⟩
  | .hbm, ⟨18, _⟩ => ⟨S8448x1024, .f32⟩
  | .hbm, ⟨19, _⟩ => ⟨S8448x4096, .f32⟩
  | .hbm, ⟨20, _⟩ => ⟨S8448x512, .f32⟩
  | .hbm, ⟨21, _⟩ => ⟨S8448x1536, .f32⟩
  | .hbm, ⟨22, _⟩ => ⟨S8448x2048, .f32⟩
  | .hbm, ⟨23, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Mix.lean ====
abbrev S8448x512 : Shape := ⟨2, ![8448, 512]⟩
abbrev S8448x1024 : Shape := ⟨2, ![8448, 1024]⟩
abbrev S8448x2048 : Shape := ⟨2, ![8448, 2048]⟩
abbrev S512x1024 : Shape := ⟨2, ![512, 1024]⟩
abbrev S1024x1024 : Shape := ⟨2, ![1024, 1024]⟩
abbrev S512x4x256 : Shape := ⟨3, ![512, 4, 256]⟩
abbrev S4x512x256 : Shape := ⟨3, ![4, 512, 256]⟩
abbrev S384x512 : Shape := ⟨2, ![384, 512]⟩
abbrev S384x1024 : Shape := ⟨2, ![384, 1024]⟩
abbrev S384x2048 : Shape := ⟨2, ![384, 2048]⟩
abbrev S1x512x256 : Shape := ⟨3, ![1, 512, 256]⟩
abbrev S512x256 : Shape := ⟨2, ![512, 256]⟩
abbrev S384x256 : Shape := ⟨2, ![384, 256]⟩

abbrev nBuf : Space → Nat
  | .hbm => 14
  | .vmem => 15
  | .smem => 0
  | _ => 0

abbrev bufTy : (tb : Table) → Fin (tcTables nBuf tb) → BufTy
  | .hbm, ⟨0, _⟩ => ⟨S8448x512, .bf16⟩
  | .hbm, ⟨1, _⟩ => ⟨S8448x1024, .bf16⟩
  | .hbm, ⟨2, _⟩ => ⟨S8448x2048, .f32⟩
  | .hbm, ⟨3, _⟩ => ⟨S8448x1024, .f32⟩
  | .hbm, ⟨4, _⟩ => ⟨S512x1024, .f32⟩
  | .hbm, ⟨5, _⟩ => ⟨S1024x1024, .f32⟩
  | .hbm, ⟨6, _⟩ => ⟨S1024x1024, .f32⟩
  | .hbm, ⟨7, _⟩ => ⟨S512x4x256, .f32⟩
  | .hbm, ⟨8, _⟩ => ⟨S4x512x256, .f32⟩
  | .hbm, ⟨9, _⟩ => ⟨S4x512x256, .bf16⟩
  | .hbm, ⟨10, _⟩ => ⟨S1024x1024, .bf16⟩
  | .hbm, ⟨11, _⟩ => ⟨S1024x1024, .bf16⟩
  | .hbm, ⟨12, _⟩ => ⟨S8448x1024, .f32⟩
  | .hbm, ⟨13, _⟩ => ⟨S8448x1024, .bf16⟩
  | .local _ .vmem, ⟨0, _⟩ => ⟨S384x512, .bf16⟩
  | .local _ .vmem, ⟨1, _⟩ => ⟨S384x512, .bf16⟩
  | .local _ .vmem, ⟨2, _⟩ => ⟨S384x1024, .bf16⟩
  | .local _ .vmem, ⟨3, _⟩ => ⟨S384x1024, .bf16⟩
  | .local _ .vmem, ⟨4, _⟩ => ⟨S384x2048, .f32⟩
  | .local _ .vmem, ⟨5, _⟩ => ⟨S384x2048, .f32⟩
  | .local _ .vmem, ⟨6, _⟩ => ⟨S384x1024, .f32⟩
  | .local _ .vmem, ⟨7, _⟩ => ⟨S384x1024, .f32⟩
  | .local _ .vmem, ⟨8, _⟩ => ⟨S4x512x256, .bf16⟩
  | .local _ .vmem, ⟨9, _⟩ => ⟨S1024x1024, .bf16⟩
  | .local _ .vmem, ⟨10, _⟩ => ⟨S1024x1024, .bf16⟩
  | .local _ .vmem, ⟨11, _⟩ => ⟨S384x1024, .f32⟩
  | .local _ .vmem, ⟨12, _⟩ => ⟨S384x1024, .f32⟩
  | .local _ .vmem, ⟨13, _⟩ => ⟨S384x1024, .bf16⟩
  | .local _ .vmem, ⟨14, _⟩ => ⟨S384x1024, .bf16⟩
  | _, _ => ⟨S8448x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S384x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S384x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MixRefIdeal.lean ====
abbrev S8448x512 : Shape := ⟨2, ![8448, 512]⟩
abbrev S8448x1024 : Shape := ⟨2, ![8448, 1024]⟩
abbrev S8448x2048 : Shape := ⟨2, ![8448, 2048]⟩
abbrev S512x1024 : Shape := ⟨2, ![512, 1024]⟩
abbrev S1024x1024 : Shape := ⟨2, ![1024, 1024]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S8448x512, .bf16⟩
  | .hbm, ⟨1, _⟩ => ⟨S8448x1024, .bf16⟩
  | .hbm, ⟨2, _⟩ => ⟨S8448x2048, .f32⟩
  | .hbm, ⟨3, _⟩ => ⟨S8448x1024, .f32⟩
  | .hbm, ⟨4, _⟩ => ⟨S512x1024, .f32⟩
  | .hbm, ⟨5, _⟩ => ⟨S1024x1024, .f32⟩
  | .hbm, ⟨6, _⟩ => ⟨S1024x1024, .f32⟩
  | .hbm, ⟨7, _⟩ => ⟨S8448x1024, .f32⟩
  | .hbm, ⟨8, _⟩ => ⟨S8448x1024, .f32⟩
  | .hbm, ⟨9, _⟩ => ⟨S8448x1024, .f32⟩
  | .hbm, ⟨10, _⟩ => ⟨S8448x1024, .f32⟩
  | .hbm, ⟨11, _⟩ => ⟨S_, .f32⟩
  | .hbm, ⟨12, _⟩ => ⟨S8448x1024, .f32⟩
  | .hbm, ⟨13, _⟩ => ⟨S8448x1024, .f32⟩
  | .hbm, ⟨14, _⟩ => ⟨S_, .f32⟩
  | .hbm, ⟨15, _⟩ => ⟨S8448x1024, .f32⟩
  | .hbm, ⟨16, _⟩ => ⟨S8448x1024, .f32⟩
  | .hbm, ⟨17, _⟩ => ⟨S8448x512, .f32⟩
  | .hbm, ⟨18, _⟩ => ⟨S8448x1024, .f32⟩
  | .hbm, ⟨19, _⟩ => ⟨S8448x1024, .f32⟩
  | .hbm, ⟨20, _⟩ => ⟨S8448x1024, .f32⟩
  | .hbm, ⟨21, _⟩ => ⟨S8448x1024, .f32⟩
  | .hbm, ⟨22, _⟩ => ⟨S_, .f32⟩
  | .hbm, ⟨23, _⟩ => ⟨S8448x1024, .f32⟩
  | .hbm, ⟨24, _⟩ => ⟨S8448x1024, .f32⟩
  | .hbm, ⟨25, _⟩ => ⟨S_, .f32⟩
  | .hbm, ⟨26, _⟩ => ⟨S8448x1024, .f32⟩
  | .hbm, ⟨27, _⟩ => ⟨S8448x1024, .f32⟩
  | .hbm, ⟨28, _⟩ => ⟨S8448x1024, .f32⟩
  | .hbm, ⟨29, _⟩ => ⟨S8448x1024, .f32⟩
  | .hbm, ⟨30, _⟩ => ⟨S8448x1024, .f32⟩
  | .hbm, ⟨31, _⟩ => ⟨S8448x1024, .f32⟩
  | .hbm, ⟨32, _⟩ => ⟨S8448x1024, .f32⟩
  | .hbm, ⟨33, _⟩ => ⟨S8448x1024, .f32⟩
  | .hbm, ⟨34, _⟩ => ⟨S8448x1024, .bf16⟩
  | _, _ => ⟨S8448x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== Up.lean ====
abbrev S8448x1024 : Shape := ⟨2, ![8448, 1024]⟩
abbrev S1024 : Shape := ⟨1, ![1024]⟩
abbrev S1024x4096 : Shape := ⟨2, ![1024, 4096]⟩
abbrev S1x1024 : Shape := ⟨2, ![1, 1024]⟩
abbrev S1024x4x1024 : Shape := ⟨3, ![1024, 4, 1024]⟩
abbrev S4x1024x1024 : Shape := ⟨3, ![4, 1024, 1024]⟩
abbrev S8448x4096 : Shape := ⟨2, ![8448, 4096]⟩
abbrev S384x1024 : Shape := ⟨2, ![384, 1024]⟩
abbrev S384x4096 : Shape := ⟨2, ![384, 4096]⟩
abbrev S384 : Shape := ⟨1, ![384]⟩
abbrev S384x1 : Shape := ⟨2, ![384, 1]⟩
abbrev S1x1024x1024 : Shape := ⟨3, ![1, 1024, 1024]⟩
abbrev S1024x1024 : Shape := ⟨2, ![1024, 1024]⟩

abbrev nBuf : Space → Nat
  | .hbm => 9
  | .vmem => 8
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S1024x4096, .f32⟩
  | .hbm, ⟨3, _⟩ => ⟨S1x1024, .f32⟩
  | .hbm, ⟨4, _⟩ => ⟨S1024x4x1024, .f32⟩
  | .hbm, ⟨5, _⟩ => ⟨S4x1024x1024, .f32⟩
  | .hbm, ⟨6, _⟩ => ⟨S4x1024x1024, .bf16⟩
  | .hbm, ⟨7, _⟩ => ⟨S8448x4096, .bf16⟩
  | .hbm, ⟨8, _⟩ => ⟨S8448x1024, .bf16⟩
  | .local _ .vmem, ⟨0, _⟩ => ⟨S384x1024, .f32⟩
  | .local _ .vmem, ⟨1, _⟩ => ⟨S384x1024, .f32⟩
  | .local _ .vmem, ⟨2, _⟩ => ⟨S1x1024, .f32⟩
  | .local _ .vmem, ⟨3, _⟩ => ⟨S4x1024x1024, .bf16⟩
  | .local _ .vmem, ⟨4, _⟩ => ⟨S384x4096, .bf16⟩
  | .local _ .vmem, ⟨5, _⟩ => ⟨S384x4096, .bf16⟩
  | .local _ .vmem, ⟨6, _⟩ => ⟨S384x1024, .bf16⟩
  | .local _ .vmem, ⟨7, _⟩ => ⟨S384x1024, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== UpRefIdeal.lean ====
abbrev S8448x1024 : Shape := ⟨2, ![8448, 1024]⟩
abbrev S1024 : Shape := ⟨1, ![1024]⟩
abbrev S1024x4096 : Shape := ⟨2, ![1024, 4096]⟩
abbrev S_ : Shape := ⟨0, ![]⟩
abbrev S8448 : Shape := ⟨1, ![8448]⟩
abbrev S8448x1 : Shape := ⟨2, ![8448, 1]⟩
abbrev S1x1024 : Shape := ⟨2, ![1, 1024]⟩
abbrev S8448x4096 : Shape := ⟨2, ![8448, 4096]⟩

abbrev nBuf : Space → Nat
  | .hbm => 25
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S1024x4096, .f32⟩
  | .hbm, ⟨3, _⟩ => ⟨S8448x1024, .f32⟩
  | .hbm, ⟨4, _⟩ => ⟨S_, .f32⟩
  | .hbm, ⟨5, _⟩ => ⟨S8448, .f32⟩
  | .hbm, ⟨6, _⟩ => ⟨S8448x1, .f32⟩
  | .hbm, ⟨7, _⟩ => ⟨S_, .f32⟩
  | .hbm, ⟨8, _⟩ => ⟨S8448x1, .f32⟩
  | .hbm, ⟨9, _⟩ => ⟨S8448x1, .f32⟩
  | .hbm, ⟨10, _⟩ => ⟨S_, .f32⟩
  | .hbm, ⟨11, _⟩ => ⟨S8448x1, .f32⟩
  | .hbm, ⟨12, _⟩ => ⟨S8448x1, .f32⟩
  | .hbm, ⟨13, _⟩ => ⟨S8448x1, .f32⟩
  | .hbm, ⟨14, _⟩ => ⟨S8448x1024, .f32⟩
  | .hbm, ⟨15, _⟩ => ⟨S8448x1024, .f32⟩
  | .hbm, ⟨16, _⟩ => ⟨S1x1024, .f32⟩
  | .hbm, ⟨17, _⟩ => ⟨S8448x1024, .f32⟩
  | .hbm, ⟨18, _⟩ => ⟨S8448x1024, .f32⟩
  | .hbm, ⟨19, _⟩ => ⟨S8448x4096, .f32⟩
  | .hbm, ⟨20, _⟩ => ⟨S_, .f32⟩
  | .hbm, ⟨21, _⟩ => ⟨S8448x4096, .f32⟩
  | .hbm, ⟨22, _⟩ => ⟨S8448x4096, .f32⟩
  | .hbm, ⟨23, _⟩ => ⟨S8448x4096, .bf16⟩
  | .hbm, ⟨24, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_cst : Ref sig .tc := ⟨.hbm, 20, rfl⟩
abbrev main_call0_v0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Proof.DwWide.lean ====
/- The gradient of a 1024 by 4096 weight: the kernel's sum over row blocks is the product over all rows. -/
module

public import proofs.«01_k».proof.Defs
public import proofs.«01_k».proof.Proof.Gen.DwWideIdeal.Value
public import proofs.«01_k».proof.Proof.Gen.DwWideRefIdeal.Run
public import proofs.«01_k».proof.Proof.Gen.DwWideIdeal
public import proofs.«01_k».proof.Proof.Gen.DwWideRefIdeal
public import Idealize.ShloMosaic.Lib.Pipeline.ValueKit
public import Idealize.ShloMosaic.Lib.Pointwise
public import Idealize.ShloMosaic.Lib.WritesUnit
public import Idealize.ShloMosaic.Lib.Pipeline.ReadBack

@[expose] public section

set_option maxRecDepth 16384

noncomputable section

namespace Cert.DwWideIdeal.Grad

open Cert.DwWideIdeal Cert.DwWideIdeal.Gen Idealize.ShloMosaic Idealize.ShloMosaic.TcCoe Idealize.SL.Sem
open Idealize.ShloMosaic.Pipeline

/-- Which block each operand shows at the grid point `t`. -/
theorem idx : ∀ t : Fin cfg0.N, win0_0.index t = ![t.val % 11, 0] ∧ win0_1.index t = ![t.val % 11, t.val / 11]
    ∧ win0_2.index t = ![t.val / 11, 0, 0] :=
  (by decide +kernel : ∀ t : Fin grid0.N, _)

/-- A block of the result is written back after the last block of rows. -/
theorem flushes : ∀ t : Fin cfg0.N, (cfg0.win 2).flush t = true → t.val % 11 = 11 - 1 :=
  (by decide +kernel : ∀ t : Fin grid0.N, _)

variable (m : (ℓ : Loc nD τ sig) → Buf (Elt Ideal) ℓ) (c : Dev nD)

/-- What one block of rows contributes. -/
def part (t : Fin cfg0.N) (j : S1x1024x1024.Idx) : EReal :=
  ∑ k : Fin 768, (show FVec Ideal S768x1024 .bf16 from iblk m c 0 t) (ix2 k (j 1))
    * (show FVec Ideal S768x1024 .bf16 from iblk m c 1 t) (ix2 k (j 2))

theorem start (t : Fin cfg0.N) (h : t.val % 11 = 0) (j : S1x1024x1024.Idx) :
    outsAt0 m c t.val t.isLt j = 0 + part m c t j := by
  rw [outsAt0_A m c t h (by omega)]
  frame_out
  pointwise [k0_pay1, k0_pay2, part]

theorem next (t : Fin cfg0.N) (h : ¬t.val % 11 = 0) (j : S1x1024x1024.Idx) :
    outsAt0 m c t.val t.isLt j
      = outsAt0 m c (t.val - 1) (Nat.lt_of_le_of_lt (Nat.sub_le _ _) t.isLt) j + part m c t j := by
  rw [outsAt0_B m c t h (by omega)]
  frame_out
  pointwise [k0_pay1, k0_pay3, part]

/-- The product over all rows, one shard of columns after another. -/
def total (a : FVec Ideal S8448x1024 .bf16) (b : FVec Ideal S8448x4096 .bf16) : FVec Ideal S4x1024x1024 .f32 :=
  fun i => ∑ n : Fin 8448, a (ix2 n (i 1)) * b (ix2 n ⟨(i 0).val * 1024 + (i 2).val, by
    have h0 : (i 0).val < 4 := (i 0).isLt
    have h2 : (i 2).val < 1024 := (i 2).isLt
    omega⟩)

theorem array : (dats m 0 c).arrAt 2 cfg0.N
    = total (m ((c : Thread nD τ).loc main_arg0)) (m ((c : Thread nD τ).loc main_arg1)) := by
  refine (dats m 0 c).arrAt_eq_of_covers 2 _ (by decide +kernel) fun t hf y => ?_
  blk_simp
  rw [after0_2, eq_sum_fin_of_reset_step_apply_of_flush (fun n h => outsAt0 m c n h) 11 (fun _ => 0) (part m c)
    (start m c) (next m c) t (flushes t hf) _, zero_add]
  refine Fin.sum_mul_add_congr fun s k hl => ?_
  blk_point [part, iblk, V, idx t, idx ⟨_, run_point_lt_of_flush t (flushes t hf) s⟩]

/-- Both programs end with the product over all rows. -/
theorem equation : Cert.algebraic_DwWideIdeal_DwWideRefIdeal (hDwWideIdeal := Cert.DwWideIdeal.Gen.facts)
    (hDwWideRefIdeal := Cert.DwWideRefIdeal.Gen.facts) := by
  intro m g m' g' hpre hargs
  refine ⟨fun c => total (m (c.tc.loc main_arg0)) (m (c.tc.loc main_arg1)),
    (θ_run _ _ _).mono (fun r h c => ⟨(h c).1.trans (array m c), (h c).2⟩) (Value.run_blocks m g), ?_⟩
  refine (θ_run _ _ _).mono (fun r h c => ⟨(h c).1.trans ?_, (h c).2⟩) (Cert.DwWideRefIdeal.Value.run m' g')
  rw [(hargs c).1, (hargs c).2]
  funext i
  pointwise [total]
  exact Finset.sum_congr rfl fun n _ => mul_comm _ _

theorem frame : Cert.quiescent_DwWideRefIdeal (hDwWideRefIdeal := Cert.DwWideRefIdeal.Gen.facts) := fun m g _ =>
  (θ_run _ _ _).mono (fun r h => ⟨fun c => (h c).2, sem_eq_zero_of_no_sems (by decide) r.2⟩)
    (Cert.DwWideRefIdeal.Value.run m g)

end Cert.DwWideIdeal.Grad

end
-- ==== Proof.DwSquare.lean ====
/- The gradient of a 4096 by 1024 weight, from the squared activations: the kernel's sum over row blocks is the product over all rows. -/
module

public import proofs.«01_k».proof.Defs
public import proofs.«01_k».proof.Proof.Gen.DwSquareIdeal.Value
public import proofs.«01_k».proof.Proof.Gen.DwSquareRefIdeal.Run
public import proofs.«01_k».proof.Proof.Gen.DwSquareIdeal
public import proofs.«01_k».proof.Proof.Gen.DwSquareRefIdeal
public import Idealize.ShloMosaic.Lib.Pipeline.ValueKit
public import Idealize.ShloMosaic.Lib.Pointwise
public import Idealize.ShloMosaic.Lib.WritesUnit
public import Idealize.ShloMosaic.Lib.Pipeline.ReadBack

@[expose] public section

set_option maxRecDepth 16384

noncomputable section

namespace Cert.DwSquareIdeal.Grad

open Cert.DwSquareIdeal Cert.DwSquareIdeal.Gen Idealize.ShloMosaic Idealize.ShloMosaic.TcCoe Idealize.SL.Sem
open Idealize.ShloMosaic.Pipeline

/-- Which block each operand shows at the grid point `t`. -/
theorem idx : ∀ t : Fin cfg0.N, win0_0.index t = ![t.val % 11, 0] ∧ win0_1.index t = ![t.val % 11, t.val / 11]
    ∧ win0_2.index t = ![0, 0, t.val / 11] :=
  (by decide +kernel : ∀ t : Fin grid0.N, _)

/-- A block of the result is written back after the last block of rows. -/
theorem flushes : ∀ t : Fin cfg0.N, (cfg0.win 2).flush t = true → t.val % 11 = 11 - 1 :=
  (by decide +kernel : ∀ t : Fin grid0.N, _)

variable (m : (ℓ : Loc nD τ sig) → Buf (Elt Ideal) ℓ) (c : Dev nD)

/-- What one block of rows contributes. -/
def part (t : Fin cfg0.N) (j : S1x4096x512.Idx) : EReal :=
  ∑ k : Fin 768, (show FVec Ideal S768x4096 .bf16 from iblk m c 0 t) (ix2 k (j 1)) * (show FVec Ideal S768x4096 .bf16 from iblk m c 0 t) (ix2 k (j 1))
    * (show FVec Ideal S768x512 .bf16 from iblk m c 1 t) (ix2 k (j 2))

theorem start (t : Fin cfg0.N) (h : t.val % 11 = 0) (j : S1x4096x512.Idx) :
    outsAt0 m c t.val t.isLt j = 0 + part m c t j := by
  rw [outsAt0_A m c t h (by omega)]
  frame_out
  pointwise [k0_pay1, k0_pay2, part]

theorem next (t : Fin cfg0.N) (h : ¬t.val % 11 = 0) (j : S1x4096x512.Idx) :
    outsAt0 m c t.val t.isLt j
      = outsAt0 m c (t.val - 1) (Nat.lt_of_le_of_lt (Nat.sub_le _ _) t.isLt) j + part m c t j := by
  rw [outsAt0_B m c t h (by omega)]
  frame_out
  pointwise [k0_pay1, k0_pay3, part]

/-- The product over all rows, as an array of one shard. -/
def total (a : FVec Ideal S8448x4096 .bf16) (b : FVec Ideal S8448x1024 .bf16) : FVec Ideal S1x4096x1024 .f32 :=
  fun i => ∑ n : Fin 8448, a (ix2 n (i 1)) * a (ix2 n (i 1)) * b (ix2 n (i 2))

theorem array : (dats m 0 c).arrAt 2 cfg0.N
    = total (m ((c : Thread nD τ).loc main_arg0)) (m ((c : Thread nD τ).loc main_arg1)) := by
  refine (dats m 0 c).arrAt_eq_of_covers 2 _ (by decide +kernel) fun t hf y => ?_
  blk_simp
  rw [after0_2, eq_sum_fin_of_reset_step_apply_of_flush (fun n h => outsAt0 m c n h) 11 (fun _ => 0) (part m c)
    (start m c) (next m c) t (flushes t hf) _, zero_add]
  refine Fin.sum_mul_add_congr fun s k hl => ?_
  blk_point [part, iblk, V, idx t, idx ⟨_, run_point_lt_of_flush t (flushes t hf) s⟩]

/-- Both programs end with the product over all rows. -/
theorem equation : Cert.algebraic_DwSquareIdeal_DwSquareRefIdeal (hDwSquareIdeal := Cert.DwSquareIdeal.Gen.facts)
    (hDwSquareRefIdeal := Cert.DwSquareRefIdeal.Gen.facts) := by
  intro m g m' g' hpre hargs
  refine ⟨fun c => total (m (c.tc.loc main_arg0)) (m (c.tc.loc main_arg1)),
    (θ_run _ _ _).mono (fun r h c => ⟨(h c).1.trans (array m c), (h c).2⟩) (Value.run_blocks m g), ?_⟩
  refine (θ_run _ _ _).mono (fun r h c => ⟨(h c).1.trans ?_, (h c).2⟩) (Cert.DwSquareRefIdeal.Value.run m' g')
  rw [(hargs c).1, (hargs c).2]
  funext i
  pointwise [total]
  exact Finset.sum_congr rfl fun n _ => mul_comm _ _

theorem frame : Cert.quiescent_DwSquareRefIdeal (hDwSquareRefIdeal := Cert.DwSquareRefIdeal.Gen.facts) := fun m g _ =>
  (θ_run _ _ _).mono (fun r h => ⟨fun c => (h c).2, sem_eq_zero_of_no_sems (by decide) r.2⟩)
    (Cert.DwSquareRefIdeal.Value.run m g)

end Cert.DwSquareIdeal.Grad

end
-- ==== Proof.DwFlat.lean ====
/- The gradient of a 1024 by 1024 weight: the kernel's sum over row blocks is the product over all rows. -/
module

public import proofs.«01_k».proof.Defs
public import proofs.«01_k».proof.Proof.Gen.DwFlatIdeal.Value
public import proofs.«01_k».proof.Proof.Gen.DwFlatRefIdeal.Run
public import proofs.«01_k».proof.Proof.Gen.DwFlatIdeal
public import proofs.«01_k».proof.Proof.Gen.DwFlatRefIdeal
public import Idealize.ShloMosaic.Lib.Pipeline.ValueKit
public import Idealize.ShloMosaic.Lib.Pointwise
public import Idealize.ShloMosaic.Lib.WritesUnit
public import Idealize.ShloMosaic.Lib.Pipeline.ReadBack

@[expose] public section

set_option maxRecDepth 16384

noncomputable section

namespace Cert.DwFlatIdeal.Grad

open Cert.DwFlatIdeal Cert.DwFlatIdeal.Gen Idealize.ShloMosaic Idealize.ShloMosaic.TcCoe Idealize.SL.Sem
open Idealize.ShloMosaic.Pipeline

/-- Which block each operand shows at the grid point `t`. -/
theorem idx : ∀ t : Fin cfg0.N, win0_0.index t = ![t.val % 11, 0] ∧ win0_1.index t = ![t.val % 11, 0]
    ∧ win0_2.index t = ![0, 0, 0] :=
  (by decide +kernel : ∀ t : Fin grid0.N, _)

/-- A block of the result is written back after the last block of rows. -/
theorem flushes : ∀ t : Fin cfg0.N, (cfg0.win 2).flush t = true → t.val % 11 = 11 - 1 :=
  (by decide +kernel : ∀ t : Fin grid0.N, _)

variable (m : (ℓ : Loc nD τ sig) → Buf (Elt Ideal) ℓ) (c : Dev nD)

/-- What one block of rows contributes. -/
def part (t : Fin cfg0.N) (j : S1x1024x1024.Idx) : EReal :=
  ∑ k : Fin 768, (show FVec Ideal S768x1024 .bf16 from iblk m c 0 t) (ix2 k (j 1))
    * (show FVec Ideal S768x1024 .bf16 from iblk m c 1 t) (ix2 k (j 2))

theorem start (t : Fin cfg0.N) (h : t.val % 11 = 0) (j : S1x1024x1024.Idx) :
    outsAt0 m c t.val t.isLt j = 0 + part m c t j := by
  rw [outsAt0_A m c t h (by have h11 : t.val < 11 := t.isLt; omega)]
  frame_out
  pointwise [k0_pay1, k0_pay2, part]

theorem next (t : Fin cfg0.N) (h : ¬t.val % 11 = 0) (j : S1x1024x1024.Idx) :
    outsAt0 m c t.val t.isLt j
      = outsAt0 m c (t.val - 1) (Nat.lt_of_le_of_lt (Nat.sub_le _ _) t.isLt) j + part m c t j := by
  rw [outsAt0_B m c t h (by omega)]
  frame_out
  pointwise [k0_pay1, k0_pay3, part]

/-- The product over all rows, as an array of one shard. -/
def total (a : FVec Ideal S8448x1024 .bf16) (b : FVec Ideal S8448x1024 .bf16) : FVec Ideal S1x1024x1024 .f32 :=
  fun i => ∑ n : Fin 8448, a (ix2 n (i 1)) * b (ix2 n (i 2))

theorem array : (dats m 0 c).arrAt 2 cfg0.N
    = total (m ((c : Thread nD τ).loc main_arg0)) (m ((c : Thread nD τ).loc main_arg1)) := by
  refine (dats m 0 c).arrAt_eq_of_covers 2 _ (by decide +kernel) fun t hf y => ?_
  blk_simp
  rw [after0_2, eq_sum_fin_of_reset_step_apply_of_flush (fun n h => outsAt0 m c n h) 11 (fun _ => 0) (part m c)
    (start m c) (next m c) t (flushes t hf) _, zero_add]
  refine Fin.sum_mul_add_congr fun s k hl => ?_
  blk_point [part, iblk, V, idx t, idx ⟨_, run_point_lt_of_flush t (flushes t hf) s⟩]

/-- Both programs end with the product over all rows. -/
theorem equation : Cert.algebraic_DwFlatIdeal_DwFlatRefIdeal (hDwFlatIdeal := Cert.DwFlatIdeal.Gen.facts)
    (hDwFlatRefIdeal := Cert.DwFlatRefIdeal.Gen.facts) := by
  intro m g m' g' hpre hargs
  refine ⟨fun c => total (m (c.tc.loc main_arg0)) (m (c.tc.loc main_arg1)),
    (θ_run _ _ _).mono (fun r h c => ⟨(h c).1.trans (array m c), (h c).2⟩) (Value.run_blocks m g), ?_⟩
  refine (θ_run _ _ _).mono (fun r h c => ⟨(h c).1.trans ?_, (h c).2⟩) (Cert.DwFlatRefIdeal.Value.run m' g')
  rw [(hargs c).1, (hargs c).2]
  funext i
  pointwise [total]
  exact Finset.sum_congr rfl fun n _ => mul_comm _ _

theorem frame : Cert.quiescent_DwFlatRefIdeal (hDwFlatRefIdeal := Cert.DwFlatRefIdeal.Gen.facts) := fun m g _ =>
  (θ_run _ _ _).mono (fun r h => ⟨fun c => (h c).2, sem_eq_zero_of_no_sems (by decide) r.2⟩)
    (Cert.DwFlatRefIdeal.Value.run m g)

end Cert.DwFlatIdeal.Grad

end
-- ==== Proof.DwSsm.lean ====
/- The gradient of a 512 by 1024 weight: the kernel's sum over row blocks is the product over all rows. -/
module

public import proofs.«01_k».proof.Defs
public import proofs.«01_k».proof.Proof.Gen.DwSsmIdeal.Value
public import proofs.«01_k».proof.Proof.Gen.DwSsmRefIdeal.Run
public import proofs.«01_k».proof.Proof.Gen.DwSsmIdeal
public import proofs.«01_k».proof.Proof.Gen.DwSsmRefIdeal
public import Idealize.ShloMosaic.Lib.Pipeline.ValueKit
public import Idealize.ShloMosaic.Lib.Pointwise
public import Idealize.ShloMosaic.Lib.WritesUnit
public import Idealize.ShloMosaic.Lib.Pipeline.ReadBack

@[expose] public section

set_option maxRecDepth 16384

noncomputable section

namespace Cert.DwSsmIdeal.Grad

open Cert.DwSsmIdeal Cert.DwSsmIdeal.Gen Idealize.ShloMosaic Idealize.ShloMosaic.TcCoe Idealize.SL.Sem
open Idealize.ShloMosaic.Pipeline

/-- Which block each operand shows at the grid point `t`. -/
theorem idx : ∀ t : Fin cfg0.N, win0_0.index t = ![t.val % 11, 0] ∧ win0_1.index t = ![t.val % 11, t.val / 11]
    ∧ win0_2.index t = ![t.val / 11, 0, 0] :=
  (by decide +kernel : ∀ t : Fin grid0.N, _)

/-- A block of the result is written back after the last block of rows. -/
theorem flushes : ∀ t : Fin cfg0.N, (cfg0.win 2).flush t = true → t.val % 11 = 11 - 1 :=
  (by decide +kernel : ∀ t : Fin grid0.N, _)

variable (m : (ℓ : Loc nD τ sig) → Buf (Elt Ideal) ℓ) (c : Dev nD)

/-- What one block of rows contributes. -/
def part (t : Fin cfg0.N) (j : S1x512x256.Idx) : EReal :=
  ∑ k : Fin 768, (show FVec Ideal S768x512 .bf16 from iblk m c 0 t) (ix2 k (j 1))
    * (show FVec Ideal S768x256 .bf16 from iblk m c 1 t) (ix2 k (j 2))

theorem start (t : Fin cfg0.N) (h : t.val % 11 = 0) (j : S1x512x256.Idx) :
    outsAt0 m c t.val t.isLt j = 0 + part m c t j := by
  rw [outsAt0_A m c t h (by omega)]
  frame_out
  pointwise [k0_pay1, k0_pay2, part]

theorem next (t : Fin cfg0.N) (h : ¬t.val % 11 = 0) (j : S1x512x256.Idx) :
    outsAt0 m c t.val t.isLt j
      = outsAt0 m c (t.val - 1) (Nat.lt_of_le_of_lt (Nat.sub_le _ _) t.isLt) j + part m c t j := by
  rw [outsAt0_B m c t h (by omega)]
  frame_out
  pointwise [k0_pay1, k0_pay3, part]

/-- The product over all rows, one shard of columns after another. -/
def total (a : FVec Ideal S8448x512 .bf16) (b : FVec Ideal S8448x1024 .bf16) : FVec Ideal S4x512x256 .f32 :=
  fun i => ∑ n : Fin 8448, a (ix2 n (i 1)) * b (ix2 n ⟨(i 0).val * 256 + (i 2).val, by
    have h0 : (i 0).val < 4 := (i 0).isLt
    have h2 : (i 2).val < 256 := (i 2).isLt
    omega⟩)

theorem array : (dats m 0 c).arrAt 2 cfg0.N
    = total (m ((c : Thread nD τ).loc main_arg0)) (m ((c : Thread nD τ).loc main_arg1)) := by
  refine (dats m 0 c).arrAt_eq_of_covers 2 _ (by decide +kernel) fun t hf y => ?_
  blk_simp
  rw [after0_2, eq_sum_fin_of_reset_step_apply_of_flush (fun n h => outsAt0 m c n h) 11 (fun _ => 0) (part m c)
    (start m c) (next m c) t (flushes t hf) _, zero_add]
  refine Fin.sum_mul_add_congr fun s k hl => ?_
  blk_point [part, iblk, V, idx t, idx ⟨_, run_point_lt_of_flush t (flushes t hf) s⟩]

/-- Both programs end with the product over all rows. -/
theorem equation : Cert.algebraic_DwSsmIdeal_DwSsmRefIdeal (hDwSsmIdeal := Cert.DwSsmIdeal.Gen.facts)
    (hDwSsmRefIdeal := Cert.DwSsmRefIdeal.Gen.facts) := by
  intro m g m' g' hpre hargs
  refine ⟨fun c => total (m (c.tc.loc main_arg0)) (m (c.tc.loc main_arg1)),
    (θ_run _ _ _).mono (fun r h c => ⟨(h c).1.trans (array m c), (h c).2⟩) (Value.run_blocks m g), ?_⟩
  refine (θ_run _ _ _).mono (fun r h c => ⟨(h c).1.trans ?_, (h c).2⟩) (Cert.DwSsmRefIdeal.Value.run m' g')
  rw [(hargs c).1, (hargs c).2]
  funext i
  pointwise [total]
  exact Finset.sum_congr rfl fun n _ => mul_comm _ _

theorem frame : Cert.quiescent_DwSsmRefIdeal (hDwSsmRefIdeal := Cert.DwSsmRefIdeal.Gen.facts) := fun m g _ =>
  (θ_run _ _ _).mono (fun r h => ⟨fun c => (h c).2, sem_eq_zero_of_no_sems (by decide) r.2⟩)
    (Cert.DwSsmRefIdeal.Value.run m g)

end Cert.DwSsmIdeal.Grad

end
-- ==== Proof.Norm.lean ====
/- The normalization by the root of the mean square, over the extended reals: its factor is a real
   number that is not negative, so sums and products of any extended reals may be rearranged with it. -/
module

public import Idealize.ShloMosaic.Lib.Pointwise

@[expose] public section

noncomputable section

namespace Cert.Norm

open Idealize.ShloMosaic

variable {ι : Type} [Fintype ι]

/-- The factor at a positive mean square, and its derivative's quotient. -/
theorem factor {y : EReal} (h : 0 < y) :
    ∃ ρ : ℝ, 0 ≤ ρ ∧ Ideal.rsqrt y = (ρ : EReal) ∧ Ideal.div (ρ : EReal) y = ((ρ * ρ * ρ : ℝ) : EReal) := by
  induction y with
  | bot => exact absurd h (by simp)
  | top => exact ⟨0, le_rfl, by simp, by simp [Ideal.div]⟩
  | coe r =>
    have hr : 0 < r := EReal.coe_pos.1 h
    have hs : 0 < Real.sqrt r := Real.sqrt_pos.2 hr
    refine ⟨(Real.sqrt r)⁻¹, inv_nonneg.2 hs.le, ?_, ?_⟩
    · rw [Ideal.rsqrt_coe, if_neg (not_lt.2 hr.le), if_neg hr.ne']
    · rw [Ideal.div_coe hr.ne', ← EReal.coe_mul]
      refine congrArg _ ?_
      rw [mul_assoc, ← mul_inv, Real.mul_self_sqrt hr.le, one_div]

/-- A real factor that is not negative moves out of a sum. -/
theorem sum_mul_real (f : ι → EReal) {ρ : ℝ} (h : 0 ≤ ρ) : ∑ k, f k * (ρ : EReal) = (∑ k, f k) * (ρ : EReal) := by
  classical
  induction (Finset.univ : Finset ι) using Finset.induction_on with
  | empty => simp
  | insert a s ha ih =>
    rw [Finset.sum_insert ha, Finset.sum_insert ha, ih,
      EReal.right_distrib_of_nonneg_of_ne_top (EReal.coe_nonneg.2 h) (EReal.coe_ne_top ρ)]

theorem sq_nonneg' (x : EReal) : 0 ≤ x * x := by
  rcases le_total 0 x with h | h
  · exact mul_nonneg h h
  · rw [← neg_mul_neg]
    exact mul_nonneg (EReal.neg_nonneg.2 h) (EReal.neg_nonneg.2 h)

/-- The mean square with a positive number added is positive. -/
theorem mean_pos (x : ι → EReal) {n e : ℝ} (hn : 0 < n) (he : 0 < e) :
    0 < Ideal.div (∑ k, x k * x k) (n : EReal) + (e : EReal) := by
  rw [Ideal.div_coe hn.ne']
  have h : (0 : EReal) ≤ (∑ k, x k * x k) * ((1 / n : ℝ) : EReal) :=
    mul_nonneg (Finset.sum_nonneg fun k _ => sq_nonneg' (x k)) (EReal.coe_nonneg.2 (by positivity))
  exact lt_of_lt_of_le (EReal.coe_pos.2 he) (le_add_of_nonneg_left h)

/-- Twice half a product. -/
theorem halves (w : EReal) {q : ℝ} (h : 0 ≤ q) :
    w * ((-q : ℝ) : EReal) + w * ((-q : ℝ) : EReal) = -(w * ((q + q : ℝ) : EReal)) := by
  rw [EReal.coe_add, EReal.coe_neg, mul_neg, ← neg_mul, ← neg_mul,
    EReal.left_distrib_of_nonneg (EReal.coe_nonneg.2 h) (EReal.coe_nonneg.2 h)]

/-- The gradient of the normalization, at entry `i`, with a branch `d` added: as the kernel computes it, and as the
    derivative of each of the two factors. -/
theorem backward (x g : ι → EReal) (d : EReal) {y : EReal} (hy : 0 < y) {n : ℝ} (hn : 0 < n) (i : ι) :
    d + Ideal.rsqrt y * (g i - x i * Ideal.rsqrt y * Ideal.div (∑ k, g k * (x k * Ideal.rsqrt y)) (n : EReal))
      = d + g i * Ideal.rsqrt y
          + x i * Ideal.div ((∑ k, x k * g k) * (((-1 / 2 : ℝ) : EReal) * Ideal.div (Ideal.rsqrt y) y)) (n : EReal)
          + Ideal.div ((∑ k, x k * g k) * (((-1 / 2 : ℝ) : EReal) * Ideal.div (Ideal.rsqrt y) y)) (n : EReal) * x i := by
  obtain ⟨ρ, h0, hr, hd⟩ := factor hy
  rw [hr, hd]
  have hs : ∑ k, g k * (x k * (ρ : EReal)) = (∑ k, x k * g k) * (ρ : EReal) := by
    rw [← sum_mul_real _ h0]
    exact Finset.sum_congr rfl fun k _ => by rw [← mul_assoc, mul_comm (g k)]
  rw [hs]
  generalize ∑ k, x k * g k = S
  have q0 : 0 ≤ ρ * ρ * ρ * (1 / n) / 2 := by positivity
  have hA : Ideal.div (S * (((-1 / 2 : ℝ) : EReal) * ((ρ * ρ * ρ : ℝ) : EReal))) (n : EReal)
      = S * ((-(ρ * ρ * ρ * (1 / n) / 2) : ℝ) : EReal) := by
    rw [Ideal.div_coe hn.ne', mul_assoc, ← EReal.coe_mul, ← EReal.coe_mul]
    exact congrArg (fun z : ℝ => S * (z : EReal)) (by ring)
  rw [hA, mul_comm (S * _) (x i), ← mul_assoc, add_assoc, halves _ q0, add_assoc, sub_eq_add_neg,
    EReal.left_distrib_of_nonneg_of_ne_top (EReal.coe_nonneg.2 h0) (EReal.coe_ne_top ρ), mul_comm (ρ : EReal) (g i)]
  refine congrArg (fun z => d + (g i * (ρ : EReal) + z)) ?_
  rw [mul_neg, Ideal.div_coe hn.ne']
  refine congrArg _ ?_
  have e : ((ρ * ρ * ρ * (1 / n) / 2 + ρ * ρ * ρ * (1 / n) / 2 : ℝ) : EReal)
      = (ρ : EReal) * (ρ : EReal) * (ρ : EReal) * ((1 / n : ℝ) : EReal) := by
    rw [← EReal.coe_mul, ← EReal.coe_mul, ← EReal.coe_mul]
    exact congrArg _ (by ring)
  rw [e]
  simp only [mul_comm, mul_left_comm, mul_assoc]

/-- The patterns of 1024, of minus one half, and of a small positive number. -/
theorem word_1024 : Ideal.ofBits .f32 0x44800000#32 = ((1024 : ℝ) : EReal) := by
  simp [Ideal.ofBits, Ideal.ieee]
  rw [← EReal.coe_mul]
  norm_num

theorem word_half : Ideal.ofBits .f32 0xBF000000#32 = ((-1 / 2 : ℝ) : EReal) := by
  simp [Ideal.ofBits, Ideal.ieee]
  rw [← EReal.coe_mul, ← EReal.coe_neg]
  norm_num

theorem word_small : ∃ e : ℝ, 0 < e ∧ Ideal.ofBits .f32 0x358637BD#32 = (e : EReal) := by
  refine ⟨_, ?_, by simp [Ideal.ofBits, Ideal.ieee]; rfl⟩
  norm_num

/-- The mean square of 1024 numbers, with the small number added, is positive. -/
theorem ms_pos (x : ι → EReal) :
    0 < Ideal.div (∑ k, x k * x k) (Ideal.ofBits .f32 0x44800000#32) + Ideal.ofBits .f32 0x358637BD#32 := by
  obtain ⟨e, he, hw⟩ := word_small
  rw [word_1024, hw]
  exact mean_pos x (by norm_num) he

end Cert.Norm

end
-- ==== Proof.Mlp.lean ====
/- The gradient of the MLP's norm and first product: the call's two results at an index. -/
module

public import proofs.«01_k».proof.Proof.Norm
public import proofs.«01_k».proof.Proof.Gen.MlpIdeal.Value
public import Idealize.ShloMosaic.Lib.Claim
public import Idealize.ShloMosaic.Lib.StableHlo.RunRead
public import Idealize.ShloMosaic.Lib.Pipeline.ValueKit
public import Idealize.ShloMosaic.Lib.Pointwise
public import Idealize.ShloMosaic.Lib.WritesUnit
public import Idealize.ShloMosaic.Lib.Pipeline.ReadBack

@[expose] public section

set_option maxRecDepth 16384

noncomputable section

namespace Cert.MlpIdeal.Grad

open Cert.MlpIdeal Cert.MlpIdeal.Gen Idealize.ShloMosaic Idealize.ShloMosaic.TcCoe Idealize.SL.Sem
open Idealize.ShloMosaic.Pipeline

/-- Which block each operand shows at the grid point `t`. -/
theorem idx : ∀ t : Fin cfg0.N, win0_0.index t = ![t.val, 0] ∧ win0_1.index t = ![t.val, 0]
    ∧ win0_2.index t = ![t.val, 0] ∧ win0_3.index t = ![0, 0] ∧ win0_4.index t = ![0, 0, 0] ∧ win0_5.index t = ![t.val, 0]
    ∧ win0_6.index t = ![0, 0] :=
  (by decide +kernel : ∀ t : Fin grid0.N, _)

/-- The cotangent of the normalized row, over the four shards of the weight. -/
def dy (z : FVec Ideal S8448x4096 .bf16) (w : FVec Ideal S1024x4096 .f32) (n : Fin 8448) (i : Fin 1024) : EReal :=
  ∑ s : Fin 4, ∑ k : Fin 1024, z (ix2 n ⟨s.val * 1024 + k.val, by omega⟩) * w (ix2 i ⟨s.val * 1024 + k.val, by omega⟩)

/-- The mean square of a row, with the small constant added. -/
def ms (x : FVec Ideal S8448x1024 .f32) (n : Fin 8448) : EReal :=
  Ideal.div (∑ k : Fin 1024, x (ix2 n k) * x (ix2 n k)) (Ideal.ofBits .f32 0x44800000#32) + Ideal.ofBits .f32 0x358637BD#32

section Payloads

variable (v1 v5 v10 v15 : FVec Ideal S384x1024 .bf16) (v2 v6 v11 v16 : FVec Ideal S1x1024x1024 .bf16)
variable (v19 v20 v46 : FVec Ideal S384x1024 .f32) (v22 v56 : FVec Ideal S1x1024 .f32) (v27 : FVec Ideal S384x1 .f32)

theorem pay6 (a : Fin 384) (b : Fin 1024) : k0_pay6 (F := Ideal) v1 v2 v5 v6 v10 v11 v15 v16 (ix2 a b)
    = (∑ k : Fin 1024, v1 (ix2 a k) * v2 (ix3 0 b k)) + (∑ k : Fin 1024, v5 (ix2 a k) * v6 (ix3 0 b k))
      + (∑ k : Fin 1024, v10 (ix2 a k) * v11 (ix3 0 b k)) + (∑ k : Fin 1024, v15 (ix2 a k) * v16 (ix3 0 b k)) := by
  pointwise [k0_pay6]

theorem pay8 (a : Fin 384) : k0_pay8 (F := Ideal) v20 (ix2 a (0 : Fin 1))
    = Ideal.div (∑ k : Fin 1024, v20 (ix2 a k) * v20 (ix2 a k)) (Ideal.ofBits .f32 0x44800000#32) := by
  pointwise [k0_pay8]

theorem pay3 (a : Fin 384) (b : Fin 1024) : k0_pay3 (F := Ideal) v19 v20 v22 v27 v46 (ix2 a b)
    = v46 (ix2 a b) + Ideal.rsqrt (v27 (ix2 a 0) + Ideal.ofBits .f32 0x358637BD#32)
        * (v19 (ix2 a b) * v22 (ix2 0 b)
          - v20 (ix2 a b) * Ideal.rsqrt (v27 (ix2 a 0) + Ideal.ofBits .f32 0x358637BD#32)
            * Ideal.div (∑ k : Fin 1024, v19 (ix2 a k) * v22 (ix2 0 k)
              * (v20 (ix2 a k) * Ideal.rsqrt (v27 (ix2 a 0) + Ideal.ofBits .f32 0x358637BD#32))) (Ideal.ofBits .f32 0x44800000#32)) := by
  pointwise [k0_pay3, k0_pay2, k0_pay1]

theorem pay4 (b : Fin 1024) : k0_pay4 (F := Ideal) v19 v20 v27 (ix2 (0 : Fin 1) b)
    = ∑ a : Fin 384, v19 (ix2 a b) * (v20 (ix2 a b) * Ideal.rsqrt (v27 (ix2 a 0) + Ideal.ofBits .f32 0x358637BD#32)) := by
  pointwise [k0_pay4, k0_pay2, k0_pay1]

theorem pay5 (b : Fin 1024) : k0_pay5 (F := Ideal) v19 v20 v27 v56 (ix2 (0 : Fin 1) b)
    = v56 (ix2 0 b) + ∑ a : Fin 384, v19 (ix2 a b) * (v20 (ix2 a b) * Ideal.rsqrt (v27 (ix2 a 0) + Ideal.ofBits .f32 0x358637BD#32)) := by
  pointwise [k0_pay5, k0_pay4, k0_pay2, k0_pay1]

theorem pay7 (b : Fin 1024) : k0_pay7 (F := Ideal) v22 (ix2 (0 : Fin 1) b) = v22 (ix2 0 b) := by
  pointwise [k0_pay7]

/-- The four products of a point, as one sum over the shards. -/
theorem shards (x : Vec Ideal S384x4096 .bf16) (w : Vec Ideal S4x1024x1024 .bf16) (a : Fin 384) (b : Fin 1024) :
    k0_pay6 (F := Ideal) (View.ld x (Rect.unit ![0, 0] ![384, 1024] inb_S384x4096_S384x1024_0_0))
      (View.ld w (Rect.unit ![0, 0, 0] ![1, 1024, 1024] inb_S4x1024x1024_S1x1024x1024_0_0_0))
      (View.ld x (Rect.unit ![0, 1024] ![384, 1024] inb_S384x4096_S384x1024_0_1024))
      (View.ld w (Rect.unit ![1, 0, 0] ![1, 1024, 1024] inb_S4x1024x1024_S1x1024x1024_1_0_0))
      (View.ld x (Rect.unit ![0, 2048] ![384, 1024] inb_S384x4096_S384x1024_0_2048))
      (View.ld w (Rect.unit ![2, 0, 0] ![1, 1024, 1024] inb_S4x1024x1024_S1x1024x1024_2_0_0))
      (View.ld x (Rect.unit ![0, 3072] ![384, 1024] inb_S384x4096_S384x1024_0_3072))
      (View.ld w (Rect.unit ![3, 0, 0] ![1, 1024, 1024] inb_S4x1024x1024_S1x1024x1024_3_0_0)) (ix2 a b)
    = ∑ s : Fin 4, ∑ k : Fin 1024, (x (ix2 a ⟨s.val * 1024 + k.val, by omega⟩) : EReal) * w (ix3 s b k) := by
  rw [pay6, Fin.sum_univ_four]
  pointwise

end Payloads

variable (m : (ℓ : Loc nD τ sig) → Buf (Elt Ideal) ℓ) (c : Dev nD)

/-- The weight's shards, entry by entry. -/
theorem weight_at (s : Fin 4) (a b : Fin 1024) :
    V m c main_v3 (ix3 s a b) = m ((c : Thread nD τ).loc main_arg4) (ix2 a ⟨s.val * 1024 + b.val, by omega⟩) := by
  entry_read
  pointwise

theorem gain_at (b : Fin 1024) : V m c main_v0 (ix2 (0 : Fin 1) b) = m ((c : Thread nD τ).loc main_arg3) (ix1 b) := by
  entry_read
  pointwise

theorem tlt (t : Fin cfg0.N) : t.val < 22 := t.isLt

/-- Row `a` of block `t`. -/
def row (t : Fin cfg0.N) (a : Fin 384) : Fin 8448 := ⟨t.val * 384 + a.val, by have := tlt t; omega⟩

/-- The operands. -/
abbrev Z : FVec Ideal S8448x4096 .bf16 := m ((c : Thread nD τ).loc main_arg0)
abbrev D : FVec Ideal S8448x1024 .f32 := m ((c : Thread nD τ).loc main_arg1)
abbrev X : FVec Ideal S8448x1024 .f32 := m ((c : Thread nD τ).loc main_arg2)
abbrev G : FVec Ideal S1024 .f32 := m ((c : Thread nD τ).loc main_arg3)
abbrev W : FVec Ideal S1024x4096 .f32 := m ((c : Thread nD τ).loc main_arg4)

theorem read0 (t : Fin cfg0.N) (a : Fin 384) (k : Fin 4096) : iblk m c 0 t (ix2 a k) = Z m c (ix2 (row t a) k) := by
  blk_point [iblk, V, idx t, row]
theorem read1 (t : Fin cfg0.N) (a : Fin 384) (b : Fin 1024) : iblk m c 1 t (ix2 a b) = D m c (ix2 (row t a) b) := by
  blk_point [iblk, V, idx t, row]
theorem read2 (t : Fin cfg0.N) (a : Fin 384) (b : Fin 1024) : iblk m c 2 t (ix2 a b) = X m c (ix2 (row t a) b) := by
  blk_point [iblk, V, idx t, row]
theorem read3 (t : Fin cfg0.N) (b : Fin 1024) : iblk m c 3 t (ix2 (0 : Fin 1) b) = G m c (ix1 b) := by
  refine Eq.trans ?_ (gain_at m c b)
  blk_point [iblk, idx t]
theorem read4 (t : Fin cfg0.N) (s : Fin 4) (a b : Fin 1024) :
    iblk m c 4 t (ix3 s a b) = W m c (ix2 a ⟨s.val * 1024 + b.val, by omega⟩) := by
  refine Eq.trans ?_ (weight_at m c s a b)
  blk_point [iblk, idx t]

/-- One entry of the first result. -/
def dx (n : Fin 8448) (b : Fin 1024) : EReal :=
  D m c (ix2 n b) + Ideal.rsqrt (ms (X m c) n) * (dy (Z m c) (W m c) n b * G m c (ix1 b)
    - X m c (ix2 n b) * Ideal.rsqrt (ms (X m c) n) * Ideal.div (∑ k : Fin 1024, dy (Z m c) (W m c) n k * G m c (ix1 k)
      * (X m c (ix2 n k) * Ideal.rsqrt (ms (X m c) n))) (Ideal.ofBits .f32 0x44800000#32))

theorem out_at (t : Fin cfg0.N) (a : Fin 384) (b : Fin 1024) :
    (outsAt0 m c t.val t.isLt).1 (ix2 a b) = dx m c (row t a) b := by
  by_cases h : t.val % 22 = 0
  · rw [outsAt0_A m c t h (by have := tlt t; omega)]
    frame_out
    rw [pay3]
    simp only [shards, pay7, pay8, read0, read1, read2, read3, read4]
    rfl
  · rw [outsAt0_B m c t h (by have := tlt t; omega)]
    frame_out
    rw [pay3]
    simp only [shards, pay7, pay8, read0, read1, read2, read3, read4]
    rfl

/-- What one block of rows adds to the second result. -/
def part (t : Fin cfg0.N) (j : S1x1024.Idx) : EReal :=
  ∑ a : Fin 384, dy (Z m c) (W m c) (row t a) (j 1)
    * (X m c (ix2 (row t a) (j 1)) * Ideal.rsqrt (ms (X m c) (row t a)))

theorem start (t : Fin cfg0.N) (h : t.val % 22 = 0) (j : S1x1024.Idx) :
    (outsAt0 m c t.val t.isLt).2 j = 0 + part m c t j := by
  obtain ⟨b, rfl⟩ : ∃ b : Fin 1024, j = ix2 (0 : Fin 1) b :=
    ⟨j 1, (eq_ix2 j).trans (congrArg (fun z => ix2 z _) (Subsingleton.elim _ _))⟩
  rw [outsAt0_A m c t h (by have := tlt t; omega), zero_add]
  frame_out
  rw [pay4]
  simp only [shards, pay8, read0, read2, read4]
  rfl

theorem next (t : Fin cfg0.N) (h : ¬t.val % 22 = 0) (j : S1x1024.Idx) :
    (outsAt0 m c t.val t.isLt).2 j
      = (outsAt0 m c (t.val - 1) (Nat.lt_of_le_of_lt (Nat.sub_le _ _) t.isLt)).2 j + part m c t j := by
  obtain ⟨b, rfl⟩ : ∃ b : Fin 1024, j = ix2 (0 : Fin 1) b :=
    ⟨j 1, (eq_ix2 j).trans (congrArg (fun z => ix2 z _) (Subsingleton.elim _ _))⟩
  rw [outsAt0_B m c t h (by have := tlt t; omega)]
  frame_out
  rw [pay5]
  simp only [shards, pay8, read0, read2, read4]
  rfl

theorem flushes : ∀ t : Fin cfg0.N, (cfg0.win 6).flush t = true → t.val % 22 = 22 - 1 :=
  (by decide +kernel : ∀ t : Fin grid0.N, _)

/-- One entry of the second result. -/
def dg (b : Fin 1024) : EReal :=
  ∑ n : Fin 8448, dy (Z m c) (W m c) n b * (X m c (ix2 n b) * Ideal.rsqrt (ms (X m c) n))

theorem array0 : (dats m 0 c).arrAt 5 cfg0.N = fun i : S8448x1024.Idx => dx m c (i 0) (i 1) := by
  refine (dats m 0 c).arrAt_eq_of_covers 5 _ (by decide +kernel) fun t hf y => ?_
  blk_simp
  obtain ⟨a, b, rfl⟩ : ∃ (a : Fin 384) (b : Fin 1024), y = ix2 a b := ⟨y 0, y 1, eq_ix2 y⟩
  rw [after0_5]
  refine (out_at m c t a b).trans ?_
  blk_point [idx t, row]

theorem array1 : (dats m 0 c).arrAt 6 cfg0.N = fun i : S1x1024.Idx => dg m c (i 1) := by
  refine (dats m 0 c).arrAt_eq_of_covers 6 _ (by decide +kernel) fun t hf y => ?_
  blk_simp
  rw [after0_6, eq_sum_fin_of_reset_step_apply_of_flush (fun n h => (outsAt0 m c n h).2) 22 (fun _ => 0) (part m c)
    (start m c) (next m c) t (flushes t hf) _, zero_add]
  have ht := tlt t
  refine Fin.sum_mul_add_congr fun s k hl => ?_
  have e : ∀ hh, row ⟨22 * (t.val / 22) + s.val, hh⟩ k = ⟨s.val * 384 + k.val, hl⟩ :=
    fun hh => Fin.ext (by simp only [row]; omega)
  rw [e]
  blk_point [idx t]

end Cert.MlpIdeal.Grad

end
-- ==== Proof.MlpEq.lean ====
/- The gradient of the MLP's norm and first product: both programs end with the same arrays. -/
module

public import proofs.«01_k».proof.Defs
public import proofs.«01_k».proof.Proof.Mlp
public import proofs.«01_k».proof.Proof.Gen.MlpRefIdeal.Run
public import proofs.«01_k».proof.Proof.Gen.MlpIdeal
public import proofs.«01_k».proof.Proof.Gen.MlpRefIdeal

@[expose] public section

set_option maxRecDepth 16384

noncomputable section

namespace Cert.MlpRefIdeal.Grad

open Cert.MlpRefIdeal Cert.MlpRefIdeal.Gen Cert.MlpRefIdeal.Value Idealize.ShloMosaic Idealize.ShloMosaic.TcCoe Idealize.SL.Sem

variable (m : (ℓ : Loc nD τ sig) → Buf (Elt Ideal) ℓ) (c : Dev nD)

/-- The cotangent of the normalized rows. -/
def prod (z : FVec Ideal S8448x4096 .bf16) (w : FVec Ideal S1024x4096 .f32) : FVec Ideal S8448x1024 .f32 :=
  Host.dotGeneral dot_S8448x4096_S1024x4096_S8448x1024_1_1_0_0_n_n none (extf .f32 z bitsLt_bf16_f32) w

theorem prod_at (z : FVec Ideal S8448x4096 .bf16) (w : FVec Ideal S1024x4096 .f32) (n : Fin 8448) (i : Fin 1024) :
    prod z w (ix2 n i) = Cert.MlpIdeal.Grad.dy z w n i := by
  pointwise [prod]
  exact Fin.sum_univ_tiles 4 1024 rfl _

theorem res0 (T : FVec Ideal S8448x1024 .f32) (hT : prod (m (c.tc.loc main_arg0)) (m (c.tc.loc main_arg4)) = T)
    (x d : FVec Ideal S8448x1024 .f32) (g : FVec Ideal S1024 .f32) (hx : m (c.tc.loc main_arg2) = x)
    (hd : m (c.tc.loc main_arg1) = d) (hg : m (c.tc.loc main_arg3) = g) (n : Fin 8448) (b : Fin 1024) :
    res_main_v39 m c (ix2 n b) = d (ix2 n b)
      + Ideal.rsqrt (Cert.MlpIdeal.Grad.ms x n) * (T (ix2 n b) * g (ix1 b)
        - x (ix2 n b) * Ideal.rsqrt (Cert.MlpIdeal.Grad.ms x n)
          * Ideal.div (∑ k : Fin 1024, T (ix2 n k) * g (ix1 k)
            * (x (ix2 n k) * Ideal.rsqrt (Cert.MlpIdeal.Grad.ms x n))) (Ideal.ofBits .f32 0x44800000#32)) := by
  unfold res_main_v39
  simp only [← prod.eq_1]
  simp only [hT, hx, hd, hg]
  pointwise
  have hp : 0 < Cert.MlpIdeal.Grad.ms x n := Cert.Norm.ms_pos _
  rw [Cert.Norm.word_1024]
  rw [Cert.Norm.backward (fun k => x (ix2 n k)) (fun k => T (ix2 n k) * g (ix1 k)) _ hp (by norm_num) b]
  simp only [Fin.sum_univ_one, Cert.Norm.word_half, Cert.MlpIdeal.Grad.ms, Cert.Norm.word_1024]

theorem res1 (x : FVec Ideal S8448x1024 .f32) (z : FVec Ideal S8448x4096 .bf16) (w : FVec Ideal S1024x4096 .f32) (b : Fin 1024) :
    (broadcastInDim S1x1024 ![1] bcast_S1024_S1x1024_1 (Host.reduceAdd (shapeCast S1x1024 (Host.reduceAdd (mulf (mulf x (broadcastInDim S8448x1024 ![0, 1] bcast_S8448x1_S8448x1024_0_1 (Host.rsqrt (addf (Host.divf (broadcastInDim S8448x1 ![0] bcast_S8448_S8448x1_0 (Host.reduceAdd (mulf x x) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x358637BD#32)))))) (prod z w)) (constant S_ .f32 0x00000000#32) reducesTo_S8448x1024_S1024_d0 h_S_) shapeCasts_S1024_S1x1024) (constant S_ .f32 0x00000000#32) reducesTo_S1x1024_S1024_d0 h_S_) : FVec Ideal S1x1024 .f32) (ix2 (0 : Fin 1) b)
    = ∑ n : Fin 8448, Cert.MlpIdeal.Grad.dy z w n b
      * (x (ix2 n b) * Ideal.rsqrt (Cert.MlpIdeal.Grad.ms x n)) := by
  pointwise
  simp only [Fin.sum_univ_one, prod_at]
  exact Finset.sum_congr rfl fun n _ => mul_comm _ _

end Cert.MlpRefIdeal.Grad

namespace Cert.MlpIdeal.Grad

open Cert.MlpIdeal Cert.MlpIdeal.Gen Idealize.ShloMosaic Idealize.ShloMosaic.TcCoe Idealize.SL.Sem

/-- Both programs end with the same arrays. -/
theorem equation : Cert.algebraic_MlpIdeal_MlpRefIdeal (hMlpIdeal := Cert.MlpIdeal.Gen.facts)
    (hMlpRefIdeal := Cert.MlpRefIdeal.Gen.facts) := by
  intro m g m' g' hpre hargs
  refine ⟨fun c => fun i : S8448x1024.Idx => dx m c (i 0) (i 1), fun c => fun i : S1x1024.Idx => dg m c (i 1),
    (θ_run _ _ _).mono (fun r h c => ⟨(h c).1.trans (array0 m c), (h c).2.1.trans (array1 m c), (h c).2.2⟩) (Value.run_blocks m g), ?_⟩
  refine (θ_run _ _ _).mono (fun r h c => ⟨(h c).1.trans ?_, (h c).2.1.trans ?_, (h c).2.2⟩) (Cert.MlpRefIdeal.Value.run m' g')
  · obtain ⟨a0, a1, a2, a3, a4⟩ := hargs c
    funext i
    obtain ⟨n, b, rfl⟩ : ∃ (n : Fin 8448) (b : Fin 1024), i = ix2 n b := ⟨i 0, i 1, eq_ix2 i⟩
    refine (Cert.MlpRefIdeal.Grad.res0 m' c _ rfl _ _ _ rfl rfl rfl n b).trans ?_
    rw [a0, a1, a2, a3, a4]
    simp only [Cert.MlpRefIdeal.Grad.prod_at]
    rfl
  · obtain ⟨a0, a1, a2, a3, a4⟩ := hargs c
    funext i
    obtain ⟨b, rfl⟩ : ∃ b : Fin 1024, i = ix2 (0 : Fin 1) b :=
      ⟨i 1, (eq_ix2 i).trans (congrArg (fun z => ix2 z _) (Subsingleton.elim _ _))⟩
    refine (Cert.MlpRefIdeal.Grad.res1 _ _ _ b).trans ?_
    rw [a0, a2, a4]
    rfl

theorem frame : Cert.quiescent_MlpRefIdeal (hMlpRefIdeal := Cert.MlpRefIdeal.Gen.facts) := fun m g _ =>
  (θ_run _ _ _).mono (fun r h => ⟨fun c => (h c).2.2, sem_eq_zero_of_no_sems (by decide) r.2⟩)
    (Cert.MlpRefIdeal.Value.run m g)

end Cert.MlpIdeal.Grad

end
-- ==== Proof.Row.lean ====
/- The normalization of one row of 1024 entries, as the forward calls compute it. -/
module

public import Idealize.ShloMosaic.Lib.Claim
public import Idealize.ShloMosaic.Lib.Pointwise

@[expose] public section

noncomputable section

namespace Cert.Row

open Idealize.ShloMosaic

/-- The mean square of a row, with the small constant added. -/
def stat (x : Fin 1024 → EReal) : EReal :=
  Ideal.div (∑ k, x k * x k) (Ideal.ofBits .f32 0x44800000#32) + Ideal.ofBits .f32 0x358637BD#32

/-- Entry `b` of the normalized row, scaled by the gain `g`. -/
def unit (x g : Fin 1024 → EReal) (b : Fin 1024) : EReal :=
  x b * Ideal.rsqrt (stat x) * g b

/-- The product of the normalized row with a column of a weight. -/
def dot (x g w : Fin 1024 → EReal) : EReal := ∑ k, unit x g k * w k

end Cert.Row

end
-- ==== Proof.InProj.lean ====
/- The gradient of the input projection and its norm: the call's three results at an index. -/
module

public import proofs.«01_k».proof.Proof.Norm
public import proofs.«01_k».proof.Proof.Row
public import proofs.«01_k».proof.Proof.Gen.InProjIdeal.Value
public import Idealize.ShloMosaic.Lib.Claim
public import Idealize.ShloMosaic.Lib.StableHlo.RunRead
public import Idealize.ShloMosaic.Lib.Pipeline.ValueKit
public import Idealize.ShloMosaic.Lib.Pointwise
public import Idealize.ShloMosaic.Lib.WritesUnit
public import Idealize.ShloMosaic.Lib.Pipeline.ReadBack

@[expose] public section

set_option maxRecDepth 16384

noncomputable section

namespace Cert.InProjIdeal.Grad

open Cert.InProjIdeal Cert.InProjIdeal.Gen Idealize.ShloMosaic Idealize.ShloMosaic.TcCoe Idealize.SL.Sem
open Idealize.ShloMosaic.Pipeline

/-- Which block each operand shows at the grid point `t`. -/
theorem idx : ∀ t : Fin cfg0.N, win0_0.index t = ![t.val, 0] ∧ win0_1.index t = ![t.val, 0]
    ∧ win0_2.index t = ![t.val, 0] ∧ win0_3.index t = ![0, 0] ∧ win0_4.index t = ![t.val, 0] ∧ win0_5.index t = ![t.val, 0]
    ∧ win0_6.index t = ![t.val, 0] ∧ win0_7.index t = ![t.val, 0] ∧ win0_8.index t = ![0, 0] ∧ win0_9.index t = ![0, 0, 0]
    ∧ win0_10.index t = ![t.val, 0] ∧ win0_11.index t = ![0, 0] ∧ win0_12.index t = ![t.val, 0] :=
  (by decide +kernel : ∀ t : Fin grid0.N, _)

section Payloads

variable (v1 v6 v8 : FVec Ideal S256x512 .f32) (v2 : FVec Ideal S1x512 .f32) (v11 : FVec Ideal S256x1536 .bf16)
variable (v12 : FVec Ideal S256x2048 .bf16) (v16 v20 : FVec Ideal S1x1024x512 .bf16) (v23 v39 v65 v63 : FVec Ideal S256x1024 .f32)
variable (v24 : FVec Ideal S256x1024 .bf16) (v25 v30 v34 : FVec Ideal S1x1024x1024 .bf16) (v40 v75 : FVec Ideal S1x1024 .f32)

theorem pay1 (a : Fin 256) (b : Fin 1024) : k0_pay1 (F := Ideal) v63 v65 (ix2 a b) = v65 (ix2 a b) + v63 (ix2 a b) := by
  pointwise [k0_pay1]

theorem pay2 (b : Fin 1024) : k0_pay2 (F := Ideal) v63 (ix2 (0 : Fin 1) b) = ∑ a : Fin 256, v63 (ix2 a b) := by
  pointwise [k0_pay2]

theorem pay3 (b : Fin 1024) : k0_pay3 (F := Ideal) v63 v75 (ix2 (0 : Fin 1) b) = v75 (ix2 0 b) + ∑ a : Fin 256, v63 (ix2 a b) := by
  pointwise [k0_pay3, k0_pay2]

theorem pay4 (a : Fin 256) (k : Fin 512) : k0_pay4 (F := Ideal) v1 v2 v6 v8 (ix2 a k)
    = v1 (ix2 a k) * v2 (ix2 0 k) + v6 (ix2 a k) + v8 (ix2 a k) := by
  pointwise [k0_pay4]

theorem pay5 (a : Fin 256) (b : Fin 1024) : k0_pay5 (F := Ideal) v1 v2 v6 v8 v11 v16 v20 (ix2 a b)
    = (∑ k : Fin 512, k0_pay4 (F := Ideal) v1 v2 v6 v8 (ix2 a k) * v16 (ix3 0 b k))
      + ∑ k : Fin 512, v11 (ix2 a ⟨k.val, by omega⟩) * v20 (ix3 0 b k) := by
  pointwise [k0_pay5]

theorem pay7 (a : Fin 256) (b : Fin 1024) : k0_pay7 (F := Ideal) v12 v23 v24 v25 v30 v34 (ix2 a b)
    = v23 (ix2 a b) + (∑ k : Fin 1024, v24 (ix2 a k) * v25 (ix3 0 b k))
      + ((∑ k : Fin 1024, v12 (ix2 a ⟨k.val, by omega⟩) * v30 (ix3 0 b k))
        + ∑ k : Fin 1024, v12 (ix2 a ⟨1024 + k.val, by omega⟩) * v34 (ix3 0 b k)) := by
  pointwise [k0_pay7]

theorem pay6 (a : Fin 256) (k : Fin 1024) : k0_pay6 (F := Ideal) v11 (ix2 a k) = v11 (ix2 a ⟨512 + k.val, by omega⟩) := by
  pointwise [k0_pay6]

theorem pay8 (a : Fin 256) : k0_pay8 (F := Ideal) v39 (ix2 a (0 : Fin 1)) = Ideal.rsqrt (Cert.Row.stat fun k => v39 (ix2 a k)) := by
  pointwise [k0_pay8]
  rfl

theorem pay10 (a : Fin 256) (b : Fin 1024) : k0_pay10 (F := Ideal) v12 v23 v24 v25 v30 v34 v39 v40 (ix2 a b)
    = k0_pay8 (F := Ideal) v39 (ix2 a (0 : Fin 1)) * (k0_pay7 (F := Ideal) v12 v23 v24 v25 v30 v34 (ix2 a b) * v40 (ix2 0 b)
        - v39 (ix2 a b) * k0_pay8 (F := Ideal) v39 (ix2 a (0 : Fin 1))
          * Ideal.div (∑ k : Fin 1024, k0_pay7 (F := Ideal) v12 v23 v24 v25 v30 v34 (ix2 a k) * v40 (ix2 0 k)
            * (v39 (ix2 a k) * k0_pay8 (F := Ideal) v39 (ix2 a (0 : Fin 1)))) (Ideal.ofBits .f32 0x44800000#32)) := by
  pointwise [k0_pay10, k0_pay9]

theorem pay11 (a : Fin 256) (b : Fin 1024) : k0_pay11 (F := Ideal) v12 v23 v24 v25 v30 v34 v39 (ix2 a b)
    = k0_pay7 (F := Ideal) v12 v23 v24 v25 v30 v34 (ix2 a b) * (v39 (ix2 a b) * k0_pay8 (F := Ideal) v39 (ix2 a (0 : Fin 1))) := by
  pointwise [k0_pay11, k0_pay9]

/-- The same with the two factors given. -/
theorem pay10' (a : Fin 256) (b : Fin 1024) (f : Fin 1024 → EReal)
    (hf : ∀ k, k0_pay7 (F := Ideal) v12 v23 v24 v25 v30 v34 (ix2 a k) = f k) (r : EReal)
    (hr : k0_pay8 (F := Ideal) v39 (ix2 a (0 : Fin 1)) = r) : k0_pay10 (F := Ideal) v12 v23 v24 v25 v30 v34 v39 v40 (ix2 a b)
    = r * (f b * v40 (ix2 0 b) - v39 (ix2 a b) * r
        * Ideal.div (∑ k : Fin 1024, f k * v40 (ix2 0 k) * (v39 (ix2 a k) * r)) (Ideal.ofBits .f32 0x44800000#32)) := by
  rw [pay10, hr]
  simp only [hf]

theorem pay11' (a : Fin 256) (b : Fin 1024) (f : EReal) (hf : k0_pay7 (F := Ideal) v12 v23 v24 v25 v30 v34 (ix2 a b) = f) (r : EReal)
    (hr : k0_pay8 (F := Ideal) v39 (ix2 a (0 : Fin 1)) = r) : k0_pay11 (F := Ideal) v12 v23 v24 v25 v30 v34 v39 (ix2 a b)
    = f * (v39 (ix2 a b) * r) := by
  rw [pay11, hr, hf]

end Payloads

/-- A sum over the 4096 columns, in the five pieces of the body. -/
theorem split (f : Fin 4096 → EReal) (f0 f1 : Fin 512 → EReal) (f2 f3 f4 : Fin 1024 → EReal)
    (h0 : ∀ k, f0 k = f ⟨k.val, by omega⟩) (h1 : ∀ k, f1 k = f ⟨512 + k.val, by omega⟩) (h2 : ∀ k, f2 k = f ⟨1024 + k.val, by omega⟩)
    (h3 : ∀ k, f3 k = f ⟨2048 + k.val, by omega⟩) (h4 : ∀ k, f4 k = f ⟨3072 + k.val, by omega⟩) :
    ((∑ k, f0 k) + ∑ k, f1 k) + (∑ k, f2 k) + ((∑ k, f3 k) + ∑ k, f4 k) = ∑ j, f j := by
  have e1 := Fin.sum_univ_add (a := 2048) (b := 2048) f
  have e2 := Fin.sum_univ_add (a := 1024) (b := 1024) fun i => f (Fin.castAdd 2048 i)
  have e3 := Fin.sum_univ_add (a := 512) (b := 512) fun i => f (Fin.castAdd 2048 (Fin.castAdd 1024 i))
  have e4 := Fin.sum_univ_add (a := 1024) (b := 1024) fun i => f (Fin.natAdd 2048 i)
  refine Eq.trans ?_ (e1.trans (congrArg₂ (· + ·) (e2.trans (congrArg (· + _) e3)) e4)).symm
  refine congrArg₂ (· + ·) (congrArg₂ (· + ·) (congrArg₂ (· + ·) ?_ ?_) ?_) (congrArg₂ (· + ·) ?_ ?_)
  · exact Finset.sum_congr rfl fun k _ => h0 k
  · exact Finset.sum_congr rfl fun k _ => h1 k
  · exact Finset.sum_congr rfl fun k _ => h2 k
  · exact Finset.sum_congr rfl fun k _ => h3 k
  · exact Finset.sum_congr rfl fun k _ => (h4 k).trans (congrArg f (Fin.ext (by simp [Fin.natAdd]; omega)))

variable (m : (ℓ : Loc nD τ sig) → Buf (Elt Ideal) ℓ) (c : Dev nD)

/-- The operands the host prepares, entry by entry. -/
theorem weight_at (s : Fin 4) (a b : Fin 1024) :
    V m c main_v4 (ix3 s a b) = m ((c : Thread nD τ).loc main_arg9) (ix2 a ⟨s.val * 1024 + b.val, by omega⟩) := by
  entry_read
  pointwise

theorem skip_at (b : Fin 512) : V m c main_v0 (ix2 (0 : Fin 1) b) = m ((c : Thread nD τ).loc main_arg3) (ix1 b) := by
  entry_read
  pointwise

theorem gain_at (b : Fin 1024) : V m c main_v1 (ix2 (0 : Fin 1) b) = m ((c : Thread nD τ).loc main_arg8) (ix1 b) := by
  entry_read
  pointwise

theorem tlt (t : Fin cfg0.N) : t.val < 33 := t.isLt

/-- Row `a` of block `t`. -/
def row (t : Fin cfg0.N) (a : Fin 256) : Fin 8448 := ⟨t.val * 256 + a.val, by have := tlt t; omega⟩

/-- The operands. -/
abbrev Y : FVec Ideal S8448x512 .f32 := m ((c : Thread nD τ).loc main_arg0)
abbrev A : FVec Ideal S8448x512 .f32 := m ((c : Thread nD τ).loc main_arg1)
abbrev B : FVec Ideal S8448x512 .f32 := m ((c : Thread nD τ).loc main_arg2)
abbrev S : FVec Ideal S512 .f32 := m ((c : Thread nD τ).loc main_arg3)
abbrev Q : FVec Ideal S8448x1536 .bf16 := m ((c : Thread nD τ).loc main_arg4)
abbrev T : FVec Ideal S8448x2048 .bf16 := m ((c : Thread nD τ).loc main_arg5)
abbrev D : FVec Ideal S8448x1024 .f32 := m ((c : Thread nD τ).loc main_arg6)
abbrev X : FVec Ideal S8448x1024 .f32 := m ((c : Thread nD τ).loc main_arg7)
abbrev G : FVec Ideal S1024 .f32 := m ((c : Thread nD τ).loc main_arg8)
abbrev W : FVec Ideal S1024x4096 .f32 := m ((c : Thread nD τ).loc main_arg9)

theorem read0 (t : Fin cfg0.N) (a : Fin 256) (k : Fin 512) : iblk m c 0 t (ix2 a k) = Y m c (ix2 (row t a) k) := by
  blk_point [iblk, V, idx t, row]
theorem read1 (t : Fin cfg0.N) (a : Fin 256) (k : Fin 512) : iblk m c 1 t (ix2 a k) = A m c (ix2 (row t a) k) := by
  blk_point [iblk, V, idx t, row]
theorem read2 (t : Fin cfg0.N) (a : Fin 256) (k : Fin 512) : iblk m c 2 t (ix2 a k) = B m c (ix2 (row t a) k) := by
  blk_point [iblk, V, idx t, row]
theorem read3 (t : Fin cfg0.N) (k : Fin 512) : iblk m c 3 t (ix2 (0 : Fin 1) k) = S m c (ix1 k) := by
  refine Eq.trans ?_ (skip_at m c k)
  blk_point [iblk, idx t]
theorem read4 (t : Fin cfg0.N) (a : Fin 256) (k : Fin 1536) : iblk m c 4 t (ix2 a k) = Q m c (ix2 (row t a) k) := by
  blk_point [iblk, V, idx t, row]
theorem read5 (t : Fin cfg0.N) (a : Fin 256) (k : Fin 2048) : iblk m c 5 t (ix2 a k) = T m c (ix2 (row t a) k) := by
  blk_point [iblk, V, idx t, row]
theorem read6 (t : Fin cfg0.N) (a : Fin 256) (k : Fin 1024) : iblk m c 6 t (ix2 a k) = D m c (ix2 (row t a) k) := by
  blk_point [iblk, V, idx t, row]
theorem read7 (t : Fin cfg0.N) (a : Fin 256) (k : Fin 1024) : iblk m c 7 t (ix2 a k) = X m c (ix2 (row t a) k) := by
  blk_point [iblk, V, idx t, row]
theorem read8 (t : Fin cfg0.N) (b : Fin 1024) : iblk m c 8 t (ix2 (0 : Fin 1) b) = G m c (ix1 b) := by
  refine Eq.trans ?_ (gain_at m c b)
  blk_point [iblk, idx t]
theorem read9 (t : Fin cfg0.N) (s : Fin 4) (a b : Fin 1024) :
    iblk m c 9 t (ix3 s a b) = W m c (ix2 a ⟨s.val * 1024 + b.val, by omega⟩) := by
  refine Eq.trans ?_ (weight_at m c s a b)
  blk_point [iblk, idx t]

/-- One entry of the third result: the cotangent of the projection, from its three parts. -/
def ladder (y a b : FVec Ideal S8448x512 .f32) (s : FVec Ideal S512 .f32) (q : FVec Ideal S8448x1536 .bf16)
    (t : FVec Ideal S8448x2048 .bf16) (n : Fin 8448) (j : Fin 4096) : EReal :=
  if h : j.val < 512 then a (ix2 n ⟨j.val, h⟩) + b (ix2 n ⟨j.val, h⟩) + y (ix2 n ⟨j.val, h⟩) * s (ix1 ⟨j.val, h⟩)
  else if h' : j.val - 512 < 1536 then q (ix2 n ⟨j.val - 512, h'⟩)
  else t (ix2 n ⟨j.val - 512 - 1536, by omega⟩)

def dp (n : Fin 8448) (j : Fin 4096) : EReal := ladder (Y m c) (A m c) (B m c) (S m c) (Q m c) (T m c) n j

theorem dp_u (n : Fin 8448) (k : Fin 512) (j : Fin 4096) (hj : j.val = k.val) :
    Y m c (ix2 n k) * S m c (ix1 k) + A m c (ix2 n k) + B m c (ix2 n k) = dp m c n j := by
  unfold dp ladder
  rw [dif_pos (by omega), add_assoc, add_comm]
  simp only [hj]

theorem dp_q (n : Fin 8448) (k : Fin 1536) (j : Fin 4096) (hj : j.val = 512 + k.val) : Q m c (ix2 n k) = dp m c n j := by
  unfold dp ladder
  rw [dif_neg (by omega), dif_pos (by omega)]
  exact congrArg _ (congrArg _ (Fin.ext (by simp; omega)))

theorem dp_t (n : Fin 8448) (k : Fin 2048) (j : Fin 4096) (hj : j.val = 2048 + k.val) : T m c (ix2 n k) = dp m c n j := by
  unfold dp ladder
  rw [dif_neg (by omega), dif_neg (by omega)]
  exact congrArg _ (congrArg _ (Fin.ext (by simp; omega)))

/-- One entry of the cotangent of the normalized rows. -/
def dh (n : Fin 8448) (i : Fin 1024) : EReal := ∑ j : Fin 4096, dp m c n j * W m c (ix2 i j)

theorem block_u (t : Fin cfg0.N) (a : Fin 256) (k : Fin 512) (j : Fin 4096) (hj : j.val = k.val) :
    k0_pay4 (F := Ideal) (iblk m c 0 t) (iblk m c 3 t) (iblk m c 1 t) (iblk m c 2 t) (ix2 a k) = dp m c (row t a) j := by
  rw [pay4, read0, read1, read2, read3]
  exact dp_u m c _ k j hj

/-- The five products of a block of rows are the product with the whole weight. -/
theorem dh_at (t : Fin cfg0.N) (a : Fin 256) (b : Fin 1024) :
    k0_pay7 (F := Ideal) (iblk m c 5 t)
        (k0_pay5 (iblk m c 0 t) (iblk m c 3 t) (iblk m c 1 t) (iblk m c 2 t) (iblk m c 4 t)
          (View.ld (iblk m c 9 t) (Rect.unit ![0, 0, 0] ![1, 1024, 512] inb_S4x1024x1024_S1x1024x512_0_0_0))
          (View.ld (iblk m c 9 t) (Rect.unit ![0, 0, 512] ![1, 1024, 512] inb_S4x1024x1024_S1x1024x512_0_0_512)))
        (k0_pay6 (iblk m c 4 t))
        (View.ld (iblk m c 9 t) (Rect.unit ![1, 0, 0] ![1, 1024, 1024] inb_S4x1024x1024_S1x1024x1024_1_0_0))
        (View.ld (iblk m c 9 t) (Rect.unit ![2, 0, 0] ![1, 1024, 1024] inb_S4x1024x1024_S1x1024x1024_2_0_0))
        (View.ld (iblk m c 9 t) (Rect.unit ![3, 0, 0] ![1, 1024, 1024] inb_S4x1024x1024_S1x1024x1024_3_0_0)) (ix2 a b)
      = dh m c (row t a) b := by
  rw [pay7, pay5]
  refine split (fun j => dp m c (row t a) j * W m c (ix2 b j)) _ _ _ _ _ (fun k => ?_) (fun k => ?_) (fun k => ?_) (fun k => ?_) fun k => ?_
  · refine congrArg₂ (· * ·) (block_u m c t a k _ rfl) ((?_ : _ = iblk m c 9 t (ix3 0 b ⟨k.val, by omega⟩)).trans
      ((read9 m c t 0 b _).trans (congrArg _ (congrArg _ (Fin.ext (by simp))))))
    pointwise
  · refine congrArg₂ (· * ·) ((read4 m c t a _).trans (dp_q m c _ _ _ rfl)) ((?_ : _ = iblk m c 9 t (ix3 0 b ⟨512 + k.val, by omega⟩)).trans
      ((read9 m c t 0 b _).trans (congrArg _ (congrArg _ (Fin.ext (by simp))))))
    pointwise
  · refine congrArg₂ (· * ·) ((pay6 _ a k).trans ((read4 m c t a _).trans (dp_q m c _ _ _ (by simp; omega))))
      ((?_ : _ = iblk m c 9 t (ix3 1 b k)).trans ((read9 m c t 1 b _).trans (congrArg _ (congrArg _ (Fin.ext (by simp))))))
    pointwise
  · refine congrArg₂ (· * ·) ((read5 m c t a _).trans (dp_t m c _ _ _ rfl))
      ((?_ : _ = iblk m c 9 t (ix3 2 b k)).trans ((read9 m c t 2 b _).trans (congrArg _ (congrArg _ (Fin.ext (by simp))))))
    pointwise
  · refine congrArg₂ (· * ·) ((read5 m c t a _).trans (dp_t m c _ _ _ (by simp; omega)))
      ((?_ : _ = iblk m c 9 t (ix3 3 b k)).trans ((read9 m c t 3 b _).trans (congrArg _ (congrArg _ (Fin.ext (by simp))))))
    pointwise

/-- The factor of the normalization of one row. -/
def rt (x : FVec Ideal S8448x1024 .f32) (n : Fin 8448) : EReal := Ideal.rsqrt (Cert.Row.stat fun k => x (ix2 n k))

theorem rt_at (t : Fin cfg0.N) (a : Fin 256) : k0_pay8 (F := Ideal) (iblk m c 7 t) (ix2 a (0 : Fin 1)) = rt (X m c) (row t a) := by
  rw [pay8]
  simp only [read7]
  rfl

/-- One entry of the first result. -/
def dx (n : Fin 8448) (b : Fin 1024) : EReal :=
  D m c (ix2 n b) + rt (X m c) n * (dh m c n b * G m c (ix1 b)
    - X m c (ix2 n b) * rt (X m c) n * Ideal.div (∑ k : Fin 1024, dh m c n k * G m c (ix1 k) * (X m c (ix2 n k) * rt (X m c) n))
        (Ideal.ofBits .f32 0x44800000#32))

theorem out_at (t : Fin cfg0.N) (a : Fin 256) (b : Fin 1024) :
    (outsAt0 m c t.val t.isLt).1 (ix2 a b) = dx m c (row t a) b := by
  by_cases h : t.val % 33 = 0
  · rw [outsAt0_A m c t h (by have := tlt t; omega)]
    frame_out
    rw [pay1, read6]
    refine congrArg (D m c (ix2 (row t a) b) + ·) ((pay10' _ _ _ _ _ _ _ _ a b _ (dh_at m c t a) _ (rt_at m c t a)).trans ?_)
    simp only [read7, read8]
  · rw [outsAt0_B m c t h (by have := tlt t; omega)]
    frame_out
    rw [pay1, read6]
    refine congrArg (D m c (ix2 (row t a) b) + ·) ((pay10' _ _ _ _ _ _ _ _ a b _ (dh_at m c t a) _ (rt_at m c t a)).trans ?_)
    simp only [read7, read8]

/-- What one block of rows adds to the second result. -/
def part (t : Fin cfg0.N) (j : S1x1024.Idx) : EReal :=
  ∑ a : Fin 256, dh m c (row t a) (j 1) * (X m c (ix2 (row t a) (j 1)) * rt (X m c) (row t a))

theorem start (t : Fin cfg0.N) (h : t.val % 33 = 0) (j : S1x1024.Idx) :
    (outsAt0 m c t.val t.isLt).2.1 j = 0 + part m c t j := by
  obtain ⟨b, rfl⟩ : ∃ b : Fin 1024, j = ix2 (0 : Fin 1) b :=
    ⟨j 1, (eq_ix2 j).trans (congrArg (fun z => ix2 z _) (Subsingleton.elim _ _))⟩
  rw [outsAt0_A m c t h (by have := tlt t; omega), zero_add]
  frame_out
  rw [pay2]
  exact Finset.sum_congr rfl fun a _ => (pay11' _ _ _ _ _ _ _ a b _ (dh_at m c t a b) _ (rt_at m c t a)).trans (by rw [read7]; rfl)

theorem next (t : Fin cfg0.N) (h : ¬t.val % 33 = 0) (j : S1x1024.Idx) :
    (outsAt0 m c t.val t.isLt).2.1 j
      = (outsAt0 m c (t.val - 1) (Nat.lt_of_le_of_lt (Nat.sub_le _ _) t.isLt)).2.1 j + part m c t j := by
  obtain ⟨b, rfl⟩ : ∃ b : Fin 1024, j = ix2 (0 : Fin 1) b :=
    ⟨j 1, (eq_ix2 j).trans (congrArg (fun z => ix2 z _) (Subsingleton.elim _ _))⟩
  rw [outsAt0_B m c t h (by have := tlt t; omega)]
  frame_out
  rw [pay3]
  exact congrArg _ (Finset.sum_congr rfl fun a _ =>
    (pay11' _ _ _ _ _ _ _ a b _ (dh_at m c t a b) _ (rt_at m c t a)).trans (by rw [read7]; rfl))

theorem flushes : ∀ t : Fin cfg0.N, (cfg0.win 11).flush t = true → t.val % 33 = 33 - 1 :=
  (by decide +kernel : ∀ t : Fin grid0.N, _)

/-- One entry of the second result. -/
def dg (b : Fin 1024) : EReal := ∑ n : Fin 8448, dh m c n b * (X m c (ix2 n b) * rt (X m c) n)

theorem array0 : (dats m 0 c).arrAt 10 cfg0.N = fun i : S8448x1024.Idx => dx m c (i 0) (i 1) := by
  refine (dats m 0 c).arrAt_eq_of_covers 10 _ (by decide +kernel) fun t hf y => ?_
  blk_simp
  obtain ⟨a, b, rfl⟩ : ∃ (a : Fin 256) (b : Fin 1024), y = ix2 a b := ⟨y 0, y 1, eq_ix2 y⟩
  rw [after0_10]
  refine (out_at m c t a b).trans ?_
  refine congrArg₂ (dx m c) (Fin.ext ?_) (Fin.ext ?_)
  · blk_point [idx t, row]
  · blk_point [idx t]

theorem array1 : (dats m 0 c).arrAt 11 cfg0.N = fun i : S1x1024.Idx => dg m c (i 1) := by
  refine (dats m 0 c).arrAt_eq_of_covers 11 _ (by decide +kernel) fun t hf y => ?_
  blk_simp
  rw [after0_11, eq_sum_fin_of_reset_step_apply_of_flush (fun n h => (outsAt0 m c n h).2.1) 33 (fun _ => 0) (part m c)
    (start m c) (next m c) t (flushes t hf) _, zero_add]
  have ht := tlt t
  refine Fin.sum_mul_add_congr fun s k hl => ?_
  have e : ∀ hh, row ⟨33 * (t.val / 33) + s.val, hh⟩ k = ⟨s.val * 256 + k.val, hl⟩ :=
    fun hh => Fin.ext (by simp only [row]; omega)
  rw [e]
  blk_point [idx t]

theorem cot_at (t : Fin cfg0.N) (a : Fin 256) (j : Fin 4096) : (outsAt0 m c t.val t.isLt).2.2 (ix2 a j) = dp m c (row t a) j := by
  have key : View.canon
      [⟨Rect.unit ![0, 2048] ![256, 2048] inb_S256x4096_S256x2048_0_2048, iblk m c 5 t⟩,
        ⟨Rect.unit ![0, 512] ![256, 1536] inb_S256x4096_S256x1536_0_512, iblk m c 4 t⟩,
        ⟨Rect.unit ![0, 0] ![256, 512] inb_S256x4096_S256x512_0_0,
          k0_pay4 (F := Ideal) (iblk m c 0 t) (iblk m c 3 t) (iblk m c 1 t) (iblk m c 2 t)⟩]
      (ix2 a j) = dp m c (row t a) j := by
    canon_tiles x h using (View.cover_of_tiledBy _ ![256, 512] (by sl_kernel_rfl) _)
    · obtain ⟨a', k, rfl⟩ : ∃ (a : Fin 256) (k : Fin 2048), x = ix2 a k := ⟨x 0, x 1, eq_ix2 x⟩
      obtain rfl : a = a' := Fin.ext h0
      exact (read5 m c t a k).trans (dp_t m c _ k j h1)
    · obtain ⟨a', k, rfl⟩ : ∃ (a : Fin 256) (k : Fin 1536), x = ix2 a k := ⟨x 0, x 1, eq_ix2 x⟩
      obtain rfl : a = a' := Fin.ext h0
      exact (read4 m c t a k).trans (dp_q m c _ k j h1)
    · obtain ⟨a', k, rfl⟩ : ∃ (a : Fin 256) (k : Fin 512), x = ix2 a k := ⟨x 0, x 1, eq_ix2 x⟩
      obtain rfl : a = a' := Fin.ext h0
      exact block_u m c t a k j h1
  by_cases h : t.val % 33 = 0
  · rw [outsAt0_A m c t h (by have := tlt t; omega)]
    frame_out
    exact key
  · rw [outsAt0_B m c t h (by have := tlt t; omega)]
    frame_out
    exact key

theorem array2 : (dats m 0 c).arrAt 12 cfg0.N = fun i : S8448x4096.Idx => dp m c (i 0) (i 1) := by
  refine (dats m 0 c).arrAt_eq_of_covers 12 _ (by decide +kernel) fun t hf y => ?_
  blk_simp
  obtain ⟨a, b, rfl⟩ : ∃ (a : Fin 256) (b : Fin 4096), y = ix2 a b := ⟨y 0, y 1, eq_ix2 y⟩
  rw [after0_12]
  refine (cot_at m c t a b).trans ?_
  refine congrArg₂ (dp m c) (Fin.ext ?_) (Fin.ext ?_)
  · blk_point [idx t, row]
  · blk_point [idx t]

end Cert.InProjIdeal.Grad

end
-- ==== Proof.InProjEq.lean ====
/- The gradient of the norm and the input projection: both programs end with the same arrays. -/
module

public import proofs.«01_k».proof.Defs
public import proofs.«01_k».proof.Proof.InProj
public import proofs.«01_k».proof.Proof.Gen.InProjRefIdeal.Run
public import proofs.«01_k».proof.Proof.Gen.InProjIdeal
public import proofs.«01_k».proof.Proof.Gen.InProjRefIdeal

@[expose] public section

set_option maxRecDepth 16384

noncomputable section

namespace Cert.InProjRefIdeal.Grad

open Cert.InProjRefIdeal Cert.InProjRefIdeal.Gen Cert.InProjRefIdeal.Value Idealize.ShloMosaic Idealize.ShloMosaic.TcCoe Idealize.SL.Sem

variable (m : (ℓ : Loc nD τ sig) → Buf (Elt Ideal) ℓ) (c : Dev nD)

/-- The cotangent of the projection, its three parts side by side. -/
def cat (y a b : FVec Ideal S8448x512 .f32) (s : FVec Ideal S512 .f32) (q : FVec Ideal S8448x1536 .bf16)
    (t : FVec Ideal S8448x2048 .bf16) : FVec Ideal S8448x4096 .f32 :=
  concatenate S8448x4096 1 [⟨S8448x512, ((addf (addf a b) (mulf y (broadcastInDim S8448x512 ![0, 1] bcast_S1x512_S8448x512_0_1 (broadcastInDim S1x512 ![1] bcast_S512_S1x512_1 s)))) : (⟨S8448x512, .f32⟩ : BufTy).Contents (Elt Ideal))⟩, ⟨S8448x1536, ((extf .f32 q bitsLt_bf16_f32) : (⟨S8448x1536, .f32⟩ : BufTy).Contents (Elt Ideal))⟩, ⟨S8448x2048, ((extf .f32 t bitsLt_bf16_f32) : (⟨S8448x2048, .f32⟩ : BufTy).Contents (Elt Ideal))⟩] concatenates_S8448x512_S8448x1536_S8448x2048_S8448x4096_d1

theorem cat_at (y a b : FVec Ideal S8448x512 .f32) (s : FVec Ideal S512 .f32) (q : FVec Ideal S8448x1536 .bf16)
    (t : FVec Ideal S8448x2048 .bf16) (n : Fin 8448) (j : Fin 4096) :
    cat y a b s q t (ix2 n j) = Cert.InProjIdeal.Grad.ladder y a b s q t n j := by
  pointwise [cat]
  rfl

/-- The cotangent of the normalized rows. -/
def prod (p : FVec Ideal S8448x4096 .f32) (w : FVec Ideal S1024x4096 .f32) : FVec Ideal S8448x1024 .f32 :=
  Host.dotGeneral dot_S8448x4096_S1024x4096_S8448x1024_1_1_0_0_n_n none p w

theorem prod_at (p : FVec Ideal S8448x4096 .f32) (w : FVec Ideal S1024x4096 .f32) (n : Fin 8448) (i : Fin 1024) :
    prod p w (ix2 n i) = ∑ j : Fin 4096, p (ix2 n j) * w (ix2 i j) := by
  pointwise [prod]

theorem res0 (y a b : FVec Ideal S8448x512 .f32) (s : FVec Ideal S512 .f32) (q : FVec Ideal S8448x1536 .bf16)
    (t : FVec Ideal S8448x2048 .bf16) (w : FVec Ideal S1024x4096 .f32) (h0 : m (c.tc.loc main_arg0) = y) (h1 : m (c.tc.loc main_arg1) = a)
    (h2 : m (c.tc.loc main_arg2) = b) (h3 : m (c.tc.loc main_arg3) = s) (h4 : m (c.tc.loc main_arg4) = q)
    (h5 : m (c.tc.loc main_arg5) = t) (h9 : m (c.tc.loc main_arg9) = w) (T : FVec Ideal S8448x1024 .f32)
    (hT : prod (concatenate S8448x4096 1 [⟨S8448x512, ((addf (addf a b) (mulf y (broadcastInDim S8448x512 ![0, 1] bcast_S1x512_S8448x512_0_1 (broadcastInDim S1x512 ![1] bcast_S512_S1x512_1 s)))) : (⟨S8448x512, .f32⟩ : BufTy).Contents (Elt Ideal))⟩, ⟨S8448x1536, ((extf .f32 q bitsLt_bf16_f32) : (⟨S8448x1536, .f32⟩ : BufTy).Contents (Elt Ideal))⟩, ⟨S8448x2048, ((extf .f32 t bitsLt_bf16_f32) : (⟨S8448x2048, .f32⟩ : BufTy).Contents (Elt Ideal))⟩] concatenates_S8448x512_S8448x1536_S8448x2048_S8448x4096_d1) w = T)
    (x d : FVec Ideal S8448x1024 .f32) (g : FVec Ideal S1024 .f32) (hx : m (c.tc.loc main_arg7) = x)
    (hd : m (c.tc.loc main_arg6) = d) (hg : m (c.tc.loc main_arg8) = g) (n : Fin 8448) (i : Fin 1024) :
    res_main_v52 m c (ix2 n i) = d (ix2 n i)
      + Cert.InProjIdeal.Grad.rt x n * (T (ix2 n i) * g (ix1 i)
        - x (ix2 n i) * Cert.InProjIdeal.Grad.rt x n
          * Ideal.div (∑ k : Fin 1024, T (ix2 n k) * g (ix1 k)
            * (x (ix2 n k) * Cert.InProjIdeal.Grad.rt x n)) (Ideal.ofBits .f32 0x44800000#32)) := by
  unfold res_main_v52
  subst h0 h1 h2 h3 h4 h5
  simp only [h9, hx, hd, hg]
  simp only [← prod.eq_1]
  rw [hT]
  pointwise
  have hp : 0 < Cert.Row.stat fun k => x (ix2 n k) := Cert.Norm.ms_pos _
  unfold Cert.InProjIdeal.Grad.rt
  rw [Cert.Norm.word_1024]
  rw [Cert.Norm.backward (fun k => x (ix2 n k)) (fun k => T (ix2 n k) * g (ix1 k)) _ hp (by norm_num) i]
  simp only [Fin.sum_univ_one, Cert.Norm.word_half, Cert.Row.stat, Cert.Norm.word_1024]

theorem res1 (x : FVec Ideal S8448x1024 .f32) (p : FVec Ideal S8448x4096 .f32) (w : FVec Ideal S1024x4096 .f32) (b : Fin 1024) :
    (broadcastInDim S1x1024 ![1] bcast_S1024_S1x1024_1 (Host.reduceAdd (shapeCast S1x1024 (Host.reduceAdd (mulf (mulf x (broadcastInDim S8448x1024 ![0, 1] bcast_S8448x1_S8448x1024_0_1 (Host.rsqrt (addf (Host.divf (broadcastInDim S8448x1 ![0] bcast_S8448_S8448x1_0 (Host.reduceAdd (mulf x x) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x358637BD#32)))))) (prod p w)) (constant S_ .f32 0x00000000#32) reducesTo_S8448x1024_S1024_d0 h_S_) shapeCasts_S1024_S1x1024) (constant S_ .f32 0x00000000#32) reducesTo_S1x1024_S1024_d0 h_S_) : FVec Ideal S1x1024 .f32) (ix2 (0 : Fin 1) b)
    = ∑ n : Fin 8448, prod p w (ix2 n b)
      * (x (ix2 n b) * Cert.InProjIdeal.Grad.rt x n) := by
  pointwise
  simp only [Fin.sum_univ_one]
  exact Finset.sum_congr rfl fun n _ => mul_comm _ _

end Cert.InProjRefIdeal.Grad

namespace Cert.InProjIdeal.Grad

open Cert.InProjIdeal Cert.InProjIdeal.Gen Idealize.ShloMosaic Idealize.ShloMosaic.TcCoe Idealize.SL.Sem

/-- Both programs end with the same arrays. -/
theorem equation : Cert.algebraic_InProjIdeal_InProjRefIdeal (hInProjIdeal := Cert.InProjIdeal.Gen.facts)
    (hInProjRefIdeal := Cert.InProjRefIdeal.Gen.facts) := by
  intro m g m' g' hpre hargs
  refine ⟨fun c => fun i : S8448x1024.Idx => dx m c (i 0) (i 1), fun c => fun i : S1x1024.Idx => dg m c (i 1),
    fun c => fun i : S8448x4096.Idx => dp m c (i 0) (i 1),
    (θ_run _ _ _).mono (fun r h c => ⟨(h c).1.trans (array0 m c), (h c).2.1.trans (array1 m c), (h c).2.2.1.trans (array2 m c),
      (h c).2.2.2⟩) (Value.run_blocks m g), ?_⟩
  refine (θ_run _ _ _).mono (fun r h c => ⟨(h c).1.trans ?_, (h c).2.1.trans ?_, (h c).2.2.1.trans ?_, (h c).2.2.2⟩)
    (Cert.InProjRefIdeal.Value.run m' g')
  all_goals obtain ⟨a0, a1, a2, a3, a4, a5, a6, a7, a8, a9⟩ := hargs c
  all_goals funext i
  · obtain ⟨n, b, rfl⟩ : ∃ (n : Fin 8448) (b : Fin 1024), i = ix2 n b := ⟨i 0, i 1, eq_ix2 i⟩
    refine (Cert.InProjRefIdeal.Grad.res0 m' c _ _ _ _ _ _ _ rfl rfl rfl rfl rfl rfl rfl
      (Cert.InProjRefIdeal.Grad.prod (Cert.InProjRefIdeal.Grad.cat (m' (c.tc.loc Cert.InProjRefIdeal.main_arg0)) (m' (c.tc.loc Cert.InProjRefIdeal.main_arg1)) (m' (c.tc.loc Cert.InProjRefIdeal.main_arg2)) (m' (c.tc.loc Cert.InProjRefIdeal.main_arg3)) (m' (c.tc.loc Cert.InProjRefIdeal.main_arg4)) (m' (c.tc.loc Cert.InProjRefIdeal.main_arg5)))
        (m' (c.tc.loc Cert.InProjRefIdeal.main_arg9))) rfl _ _ _ rfl rfl rfl n b).trans ?_
    rw [a0, a1, a2, a3, a4, a5, a6, a7, a8, a9]
    simp only [Cert.InProjRefIdeal.Grad.prod_at, Cert.InProjRefIdeal.Grad.cat_at]
    rfl
  · obtain ⟨b, rfl⟩ : ∃ b : Fin 1024, i = ix2 (0 : Fin 1) b :=
      ⟨i 1, (eq_ix2 i).trans (congrArg (fun z => ix2 z _) (Subsingleton.elim _ _))⟩
    refine (Cert.InProjRefIdeal.Grad.res1 _ (Cert.InProjRefIdeal.Grad.cat (m' (c.tc.loc Cert.InProjRefIdeal.main_arg0)) (m' (c.tc.loc Cert.InProjRefIdeal.main_arg1)) (m' (c.tc.loc Cert.InProjRefIdeal.main_arg2)) (m' (c.tc.loc Cert.InProjRefIdeal.main_arg3)) (m' (c.tc.loc Cert.InProjRefIdeal.main_arg4)) (m' (c.tc.loc Cert.InProjRefIdeal.main_arg5))) _ b).trans ?_
    rw [a0, a1, a2, a3, a4, a5, a7, a9]
    simp only [Cert.InProjRefIdeal.Grad.prod_at, Cert.InProjRefIdeal.Grad.cat_at]
    rfl
  · obtain ⟨n, j, rfl⟩ : ∃ (n : Fin 8448) (j : Fin 4096), i = ix2 n j := ⟨i 0, i 1, eq_ix2 i⟩
    refine (Cert.InProjRefIdeal.Grad.cat_at (m' (c.tc.loc Cert.InProjRefIdeal.main_arg0)) (m' (c.tc.loc Cert.InProjRefIdeal.main_arg1)) (m' (c.tc.loc Cert.InProjRefIdeal.main_arg2)) (m' (c.tc.loc Cert.InProjRefIdeal.main_arg3)) (m' (c.tc.loc Cert.InProjRefIdeal.main_arg4)) (m' (c.tc.loc Cert.InProjRefIdeal.main_arg5)) n j).trans ?_
    rw [a0, a1, a2, a3, a4, a5]
    rfl

theorem frame : Cert.quiescent_InProjRefIdeal (hInProjRefIdeal := Cert.InProjRefIdeal.Gen.facts) := fun m g _ =>
  (θ_run _ _ _).mono (fun r h => ⟨fun c => (h c).2.2.2, sem_eq_zero_of_no_sems (by decide) r.2⟩)
    (Cert.InProjRefIdeal.Value.run m g)

end Cert.InProjIdeal.Grad

end
-- ==== Proof.LossModel.lean ====
/- The loss of the step, and its gradients, one number at a time: the rows `x` before the last norm, the norm's gain
   `g`, the targets `t`. Rows 16 to 8207 have a target; the other rows count for nothing. -/
module

public import proofs.«01_k».proof.Proof.Norm
public import proofs.«01_k».proof.Proof.Row

@[expose] public section

noncomputable section

namespace Cert.LossModel

open Idealize.ShloMosaic

theorem word_inv : Ideal.ofBits .f32 0x3A800000#32 = ((1 / 1024 : ℝ) : EReal) := by
  simp [Ideal.ofBits, Ideal.ieee]
  rw [← EReal.coe_mul]
  norm_num

theorem word_half : Ideal.ofBits .f32 0x3F000000#32 = ((1 / 2 : ℝ) : EReal) := by
  simp [Ideal.ofBits, Ideal.ieee]
  rw [← EReal.coe_mul]
  norm_num

theorem word_one : Ideal.ofBits .f32 0x3F800000#32 = ((1 : ℝ) : EReal) := by
  simp [Ideal.ofBits, Ideal.ieee]
  rw [← EReal.coe_mul]
  norm_num

theorem word_two : Ideal.ofBits .f32 0x40000000#32 = ((2 : ℝ) : EReal) := by
  simp [Ideal.ofBits, Ideal.ieee]
  rw [← EReal.coe_mul]
  norm_num

variable (x : Fin 8448 → Fin 1024 → EReal) (g : Fin 1024 → EReal) (t : Fin 8192 → Fin 1024 → EReal)

/-- The norm's factor. -/
def root (n : Fin 8448) : EReal := Ideal.rsqrt (Cert.Row.stat (x n))

/-- The targets, with zeros on the rows without one. -/
def target (n : Fin 8448) (b : Fin 1024) : EReal :=
  if h : 16 ≤ n.val ∧ n.val < 8208 then t ⟨n.val - 16, by omega⟩ b else 0

/-- One on the rows with a target, zero on the others. -/
def live (n : Fin 8448) : EReal := if 16 ≤ n.val ∧ n.val < 8208 then 1 else 0

/-- The error, its share of the mean, and the gradients. -/
def err (n : Fin 8448) (b : Fin 1024) : EReal := (Cert.Row.unit (x n) g b - target t n b) * live n
def dy (n : Fin 8448) (b : Fin 1024) : EReal := err x g t n b * Ideal.ofBits .f32 0x3A800000#32
def dx (n : Fin 8448) (b : Fin 1024) : EReal :=
  root x n * (dy x g t n b * g b - x n b * root x n
    * Ideal.div (∑ k, dy x g t n k * g k * (x n k * root x n)) (Ideal.ofBits .f32 0x44800000#32))
def dg (b : Fin 1024) : EReal := ∑ n, dy x g t n b * (x n b * root x n)

/-- What one row adds to the loss, and the loss. -/
def share (n : Fin 8448) : EReal :=
  (∑ b, err x g t n b * err x g t n b) * (Ideal.ofBits .f32 0x3F000000#32 * Ideal.ofBits .f32 0x3A800000#32)
def loss : EReal := ∑ n, share x g t n

theorem err_live {n : Fin 8448} (h : 16 ≤ n.val ∧ n.val < 8208) (b : Fin 1024) :
    err x g t n b = Cert.Row.unit (x n) g b - t ⟨n.val - 16, by omega⟩ b := by
  rw [err, live, target, dif_pos h, if_pos h, mul_one]

theorem err_dead {n : Fin 8448} (h : ¬(16 ≤ n.val ∧ n.val < 8208)) (b : Fin 1024) : err x g t n b = 0 := by
  rw [err, live, if_neg h, mul_zero]

/-- The cotangent of the normalized row, as the derivative of half a square gives it. -/
theorem dy_live {n : Fin 8448} (h : 16 ≤ n.val ∧ n.val < 8208) (b : Fin 1024) :
    Ideal.div (Ideal.ofBits .f32 0x3F000000#32 * Ideal.ofBits .f32 0x3F800000#32) (Ideal.ofBits .f32 0x44800000#32)
      * (Ideal.ofBits .f32 0x40000000#32 * (Cert.Row.unit (x n) g b - t ⟨n.val - 16, by omega⟩ b)) = dy x g t n b := by
  rw [dy, err_live x g t h, word_half, word_one, word_two, word_inv, Cert.Norm.word_1024, Ideal.div_coe (by norm_num),
    ← EReal.coe_mul, ← EReal.coe_mul, ← mul_assoc, ← EReal.coe_mul, mul_comm]
  exact congrArg (fun z : ℝ => _ * (z : EReal)) (by norm_num)

theorem dy_dead {n : Fin 8448} (h : ¬(16 ≤ n.val ∧ n.val < 8208)) (b : Fin 1024) : dy x g t n b = 0 := by
  rw [dy, err_dead x g t h, zero_mul]

/-- The gradient of the norm, as the derivative of each of its two factors. -/
theorem dx_eq (n : Fin 8448) (b : Fin 1024) :
    dy x g t n b * g b * root x n
      + x n b * Ideal.div ((∑ k, x n k * (dy x g t n k * g k)) * (Ideal.ofBits .f32 0xBF000000#32
          * Ideal.div (root x n) (Cert.Row.stat (x n)))) (Ideal.ofBits .f32 0x44800000#32)
      + Ideal.div ((∑ k, x n k * (dy x g t n k * g k)) * (Ideal.ofBits .f32 0xBF000000#32
          * Ideal.div (root x n) (Cert.Row.stat (x n)))) (Ideal.ofBits .f32 0x44800000#32) * x n b
    = dx x g t n b := by
  have hp : 0 < Cert.Row.stat (x n) := Cert.Norm.ms_pos _
  have e := Cert.Norm.backward (x n) (fun k => dy x g t n k * g k) 0 hp (n := 1024) (by norm_num) b
  rw [zero_add, zero_add] at e
  unfold dx root
  rw [Cert.Norm.word_1024, Cert.Norm.word_half]
  exact e.symm

/-- The loss, as the sum over the tokens of the mean square of the error. -/
theorem loss_eq : Ideal.ofBits .f32 0x3F000000#32 * (∑ j : Fin 8192, Ideal.div
      (∑ b, (Cert.Row.unit (x ⟨16 + j.val, by omega⟩) g b - t j b) * (Cert.Row.unit (x ⟨16 + j.val, by omega⟩) g b - t j b))
      (Ideal.ofBits .f32 0x44800000#32)) = loss x g t := by
  unfold loss
  rw [← Fintype.sum_of_injective (fun j : Fin 8192 => (⟨16 + j.val, by omega⟩ : Fin 8448))
    (fun a b h => Fin.ext (by have := congrArg Fin.val h; simp only at this; omega))
    (fun j => share x g t ⟨16 + j.val, by omega⟩) (share x g t) (fun n hn => ?_) (fun j => rfl)]
  · rw [word_half, mul_comm, ← Cert.Norm.sum_mul_real _ (by norm_num)]
    refine Finset.sum_congr rfl fun j _ => ?_
    have hj : 16 ≤ 16 + j.val ∧ 16 + j.val < 8208 := by omega
    have hs : ∀ b, err x g t ⟨16 + j.val, by omega⟩ b = Cert.Row.unit (x ⟨16 + j.val, by omega⟩) g b - t j b := fun b => by
      rw [err_live x g t hj]
      exact congrArg (fun z => _ - t z b) (Fin.ext (by simp only; omega))
    simp only [share, hs]
    rw [Cert.Norm.word_1024, word_half, word_inv, Ideal.div_coe (by norm_num), mul_assoc, mul_comm ((1 / 1024 : ℝ) : EReal)]
  · have hd : ¬(16 ≤ n.val ∧ n.val < 8208) := fun h => hn ⟨⟨n.val - 16, by omega⟩, Fin.ext (by simp only; omega)⟩
    simp only [share, err_dead x g t hd, mul_zero, Finset.sum_const_zero, zero_mul]

/-- What a block of rows adds to the loss. -/
theorem block {ι : Type} [Fintype ι] (r : ι → Fin 8448) :
    Ideal.ofBits .f32 0x3F000000#32 * (∑ a, ∑ b, err x g t (r a) b * err x g t (r a) b) * Ideal.ofBits .f32 0x3A800000#32
      = ∑ a, share x g t (r a) := by
  unfold share
  rw [word_half, word_inv, ← EReal.coe_mul, Cert.Norm.sum_mul_real _ (by norm_num), mul_comm ((1 / 2 : ℝ) : EReal), mul_assoc,
    ← EReal.coe_mul]

/-- The positive part's factor of the derivative of its square. -/
theorem gate (s z : EReal) : s * (Ideal.ofBits .f32 0x40000000#32 * max z 0)
    = if 0 < z then s * (Ideal.ofBits .f32 0x40000000#32 * max z 0) else 0 := by
  by_cases h : 0 < z
  · rw [if_pos h]
  · rw [if_neg h, max_eq_right (not_lt.1 h), mul_zero, mul_zero]

end Cert.LossModel

end
-- ==== Proof.Loss.lean ====
/- The last product of the MLP with the loss and its gradients: what the call's blocks read of the arguments, and the
   body's values at an index. -/
module

public import proofs.«01_k».proof.Proof.LossModel
public import proofs.«01_k».proof.Proof.Gen.LossIdeal.Value
public import Idealize.ShloMosaic.Lib.Claim
public import Idealize.ShloMosaic.Lib.StableHlo.RunRead
public import Idealize.ShloMosaic.Lib.Pipeline.ValueKit
public import Idealize.ShloMosaic.Lib.Pointwise
public import Idealize.ShloMosaic.Lib.WritesUnit
public import Idealize.ShloMosaic.Lib.Pipeline.ReadBack

@[expose] public section

set_option maxRecDepth 16384

noncomputable section

namespace Cert.LossIdeal.Grad

open Cert.LossIdeal Cert.LossIdeal.Gen Idealize.ShloMosaic Idealize.ShloMosaic.TcCoe Idealize.SL.Sem
open Idealize.ShloMosaic.Pipeline

/-- Which block each operand shows at the grid point `t`. -/
theorem idx : ∀ t : Fin cfg0.N, win0_0.index t = ![t.val, 0] ∧ win0_1.index t = ![t.val, 0]
    ∧ win0_2.index t = ![0, 0] ∧ win0_3.index t = ![0, 0] ∧ win0_4.index t = ![t.val, 0] ∧ win0_5.index t = ![t.val, 0]
    ∧ win0_6.index t = ![0, 0] ∧ win0_7.index t = ![t.val, 0] ∧ win0_8.index t = ![0, 0] ∧ win0_9.index t = ![t.val, 0]
    ∧ win0_10.index t = ![t.val, 0] :=
  (by decide +kernel : ∀ t : Fin grid0.N, _)

section Payloads

variable (v1 : FVec Ideal S384x1024 .f32) (v2 : FVec Ideal S384x4096 .bf16) (v7 : FVec Ideal S4096x1024 .bf16)
variable (v11 v75 v94 : FVec Ideal S1x1024 .f32) (v25 v10 v31 v71 : FVec Ideal S384x1024 .f32) (v28 : FVec Ideal S384x1 .f32)
variable (v38 : FVec Ideal S1x1 .f32) (w94 : FVec Ideal S8x128 .f32)

theorem pay1 (b : Fin 1024) : k0_pay1 (F := Ideal) v75 v94 (ix2 (0 : Fin 1) b) = v94 (ix2 0 b) + v75 (ix2 0 b) := by
  pointwise [k0_pay1]

theorem pay2 (a : Fin 384) (b : Fin 1024) : k0_pay2 (F := Ideal) v71 (ix2 a b) = v71 (ix2 a b) := by
  pointwise [k0_pay2]

theorem pay3 (a : Fin 384) (j : Fin 4096) : k0_pay3 (F := Ideal) v71 v7 v2 (ix2 a j)
    = (∑ k : Fin 1024, v71 (ix2 a k) * v7 (ix2 j k)) * (Ideal.ofBits .f32 0x40000000#32 * v2 (ix2 a j)) := by
  pointwise [k0_pay3, k0_pay2]

theorem pay4 (a : Fin 384) (b : Fin 1024) : k0_pay4 (F := Ideal) v1 v2 v7 (ix2 a b)
    = v1 (ix2 a b) + ∑ k : Fin 4096, v2 (ix2 a k) * v2 (ix2 a k) * v7 (ix2 k b) := by
  pointwise [k0_pay4]

theorem pay5 (b : Fin 1024) : k0_pay5 (F := Ideal) v11 (ix2 (0 : Fin 1) b) = v11 (ix2 0 b) := by
  pointwise [k0_pay5]

theorem pay6 (a : Fin 384) (b : Fin 1024) : k0_pay6 (F := Ideal) v1 v2 v7 v11 v25 v28 (ix2 a b)
    = (Cert.Row.unit (fun k => k0_pay4 (F := Ideal) v1 v2 v7 (ix2 a k)) (fun k => v11 (ix2 0 k)) b - v25 (ix2 a b)) * v28 (ix2 a 0) := by
  unfold k0_pay6
  generalize k0_pay4 (F := Ideal) v1 v2 v7 = X
  pointwise [k0_pay5]
  rfl

theorem pay7 : k0_pay7 (F := Ideal) v1 v2 v7 v11 v25 v28 (ix2 (0 : Fin 1) (0 : Fin 1))
    = Ideal.ofBits .f32 0x3F000000#32 * ∑ a : Fin 384, ∑ b : Fin 1024,
        k0_pay6 (F := Ideal) v1 v2 v7 v11 v25 v28 (ix2 a b) * k0_pay6 (F := Ideal) v1 v2 v7 v11 v25 v28 (ix2 a b) := by
  unfold k0_pay7
  generalize k0_pay6 (F := Ideal) v1 v2 v7 v11 v25 v28 = X
  pointwise

theorem pay8 (i : Fin 8) (j : Fin 128) : k0_pay8 (F := Ideal) v38 (ix2 i j) = v38 (ix2 0 0) * Ideal.ofBits .f32 0x3A800000#32 := by
  pointwise [k0_pay8]

theorem pay9 (i : Fin 8) (j : Fin 128) : k0_pay9 (F := Ideal) v38 w94 (ix2 i j)
    = w94 (ix2 i j) + v38 (ix2 0 0) * Ideal.ofBits .f32 0x3A800000#32 := by
  rw [← pay8 v38 i j]
  pointwise [k0_pay9]

theorem pay11 (a : Fin 384) : k0_pay11 (F := Ideal) v10 (ix2 a (0 : Fin 1)) = Ideal.rsqrt (Cert.Row.stat (fun k => v10 (ix2 a k))) := by
  pointwise [k0_pay11]
  rfl

theorem pay13 (a : Fin 384) (b : Fin 1024) : k0_pay13 (F := Ideal) v10 v11 v31 (ix2 a b)
    = Ideal.rsqrt (Cert.Row.stat (fun k => v10 (ix2 a k)))
      * (v31 (ix2 a b) * Ideal.ofBits .f32 0x3A800000#32 * v11 (ix2 0 b)
        - v10 (ix2 a b) * Ideal.rsqrt (Cert.Row.stat (fun k => v10 (ix2 a k)))
          * Ideal.div (∑ k : Fin 1024, v31 (ix2 a k) * Ideal.ofBits .f32 0x3A800000#32 * v11 (ix2 0 k)
              * (v10 (ix2 a k) * Ideal.rsqrt (Cert.Row.stat (fun k => v10 (ix2 a k))))) (Ideal.ofBits .f32 0x44800000#32)) := by
  simp only [← pay11]
  pointwise [k0_pay13, k0_pay12, k0_pay10]

theorem pay14 (b : Fin 1024) : k0_pay14 (F := Ideal) v10 v31 (ix2 (0 : Fin 1) b)
    = ∑ a : Fin 384, v31 (ix2 a b) * Ideal.ofBits .f32 0x3A800000#32
        * (v10 (ix2 a b) * Ideal.rsqrt (Cert.Row.stat (fun k => v10 (ix2 a k)))) := by
  simp only [← pay11]
  pointwise [k0_pay14, k0_pay12, k0_pay10]

end Payloads

variable (m : (ℓ : Loc nD τ sig) → Buf (Elt Ideal) ℓ) (c : Dev nD)

/-- The operands. -/
abbrev H : FVec Ideal S8448x1024 .f32 := m ((c : Thread nD τ).loc main_arg0)
abbrev Z : FVec Ideal S8448x4096 .f32 := m ((c : Thread nD τ).loc main_arg1)
abbrev W : FVec Ideal S4096x1024 .f32 := m ((c : Thread nD τ).loc main_arg2)
abbrev G : FVec Ideal S1024 .f32 := m ((c : Thread nD τ).loc main_arg3)
abbrev T : FVec Ideal S8192x1024 .f32 := m ((c : Thread nD τ).loc main_arg4)

/-- The targets with rows of zeros before and after them. -/
def padded (x : FVec Ideal S8192x1024 .f32) : FVec Ideal S8448x1024 .f32 :=
  pad S8448x1024 ![16, 0] ![240, 0] ![0, 0] x (sitofp .f32 (constantI S_ 32 0#32)) pads_S8192x1024_S8448x1024_162400_000 h_S_

/-- One on the rows with a target, zero on the others. -/
def rows : FVec Ideal S8448x1 .f32 :=
  shapeCast _ (select (andi (cmpi .sge (iotaInDim S8448 32 0) (broadcastInDim S8448 ![] bcast_S_S8448 (constantI S_ 32 16#32)))
      (cmpi .slt (iotaInDim S8448 32 0) (broadcastInDim S8448 ![] bcast_S_S8448 (constantI S_ 32 8208#32))))
    (broadcastInDim S8448 ![] bcast_S_S8448 (constant (F := Ideal) S_ .f32 0x3F800000#32))
    (broadcastInDim S8448 ![] bcast_S_S8448 (constant (F := Ideal) S_ .f32 0x00000000#32))) shapeCasts_S8448_S8448x1

theorem read_t : V m c main_v3 = padded (T m c) := by entry_read; rfl
theorem read_m : V m c main_v11 = rows := by entry_read; rfl

/-- The positive parts, the weight and the gain as operands. -/
def acts (z : FVec Ideal S8448x4096 .f32) : FVec Ideal S8448x4096 .bf16 :=
  truncf .bf16 (maximumf z (broadcastInDim S8448x4096 ![] bcast_S_S8448x4096 (constant (F := Ideal) S_ .f32 0x00000000#32))) bitsLt_bf16_f32
def weight (w : FVec Ideal S4096x1024 .f32) : FVec Ideal S4096x1024 .bf16 := truncf .bf16 w bitsLt_bf16_f32
def gain (g : FVec Ideal S1024 .f32) : FVec Ideal S1x1024 .f32 := shapeCast _ g shapeCasts_S1024_S1x1024

theorem read_z : V m c main_v2 = acts (Z m c) := by entry_read; rfl
theorem read_w : V m c main_v12 = weight (W m c) := by entry_read; rfl
theorem read_g : V m c main_v13 = gain (G m c) := by entry_read; rfl

theorem acts_at (z : FVec Ideal S8448x4096 .f32) (n : Fin 8448) (k : Fin 4096) : acts z (ix2 n k) = max (z (ix2 n k)) 0 := by
  pointwise [acts]
theorem weight_at (w : FVec Ideal S4096x1024 .f32) (k : Fin 4096) (b : Fin 1024) : weight w (ix2 k b) = w (ix2 k b) := by
  pointwise [weight]
theorem gain_at (g : FVec Ideal S1024 .f32) (b : Fin 1024) : gain g (ix2 (0 : Fin 1) b) = g (ix1 b) := by
  pointwise [gain]

theorem word0 : (FloatOps.sitofp (F := Ideal) FTy.f32 (0#32) : EReal) = 0 := by
  show ((((0#32 : BitVec 32).toInt : ℤ) : ℝ) : EReal) = 0
  simp

theorem padded_at (x : FVec Ideal S8192x1024 .f32) (n : Fin 8448) (b : Fin 1024) :
    padded x (ix2 n b) = Cert.LossModel.target (fun j b => x (ix2 j b)) n b := by
  pointwise [padded]
  unfold Cert.LossModel.target
  by_cases h : 16 ≤ n.val ∧ n.val < 8208
  · rw [dif_pos h, dif_pos (show 16 ≤ n.val ∧ n.val - 16 < 8192 by omega)]
  · rw [dif_neg h, dif_neg (show ¬(16 ≤ n.val ∧ n.val - 16 < 8192) by omega), word0]

/-- A row's number against the first and the last row with a target. -/
theorem between {j : ℕ} (hj : j < 8448) (x y : EReal) :
    Scalar.select (IntOp.andi (IntOp.cmpi CmpIPredicate.sge (BitVec.ofNat 32 j) 16#32)
      (IntOp.cmpi CmpIPredicate.slt (BitVec.ofNat 32 j) 8208#32)) x y = if 16 ≤ j ∧ j < 8208 then x else y := by
  have e : (BitVec.ofNat 32 j).toInt = (j : ℤ) := by
    rw [BitVec.toInt_eq_toNat_of_lt (by simp only [BitVec.toNat_ofNat]; omega), BitVec.toNat_ofNat, Nat.mod_eq_of_lt (by omega)]
  have f : (8208#32 : BitVec 32).toInt = 8208 := by decide
  have f' : (16#32 : BitVec 32).toInt = 16 := by decide
  have g : (BitVec.ofNat 32 j).slt 8208#32 = decide (j < 8208) := by
    simp only [BitVec.slt, e, f]
    exact decide_eq_decide.2 (by omega)
  have g' : (16#32 : BitVec 32).sle (BitVec.ofNat 32 j) = decide (16 ≤ j) := by
    simp only [BitVec.sle, e, f']
    exact decide_eq_decide.2 (by omega)
  by_cases h : j < 8208 <;> by_cases h' : 16 ≤ j <;> simp [Scalar.select, IntOp.cmpi, IntOp.andi, h, h', g, g']

theorem rows_at (n : Fin 8448) : rows (ix2 n 0) = Cert.LossModel.live n := by
  pointwise [rows]
  exact between n.isLt 1 0

theorem tlt (t : Fin cfg0.N) : t.val < 22 := t.isLt

/-- Row `a` of block `t`. -/
def row (t : Fin cfg0.N) (a : Fin 384) : Fin 8448 := ⟨t.val * 384 + a.val, by have := tlt t; omega⟩

theorem read0 (t : Fin cfg0.N) (a : Fin 384) (b : Fin 1024) : iblk m c 0 t (ix2 a b) = H m c (ix2 (row t a) b) := by
  blk_point [iblk, V, idx t, row]
theorem read1 (t : Fin cfg0.N) (a : Fin 384) (k : Fin 4096) : iblk m c 1 t (ix2 a k) = max (Z m c (ix2 (row t a) k)) 0 := by
  refine Eq.trans ?_ ((congrFun (read_z m c) _).trans (acts_at _ _ _))
  blk_point [iblk, idx t, row]
theorem read2 (t : Fin cfg0.N) (k : Fin 4096) (b : Fin 1024) : iblk m c 2 t (ix2 k b) = W m c (ix2 k b) := by
  refine Eq.trans ?_ ((congrFun (read_w m c) _).trans (weight_at _ _ _))
  blk_point [iblk, idx t]
theorem read3 (t : Fin cfg0.N) (b : Fin 1024) : iblk m c 3 t (ix2 (0 : Fin 1) b) = G m c (ix1 b) := by
  refine Eq.trans ?_ ((congrFun (read_g m c) _).trans (gain_at _ b))
  blk_point [iblk, idx t]
theorem read4 (t : Fin cfg0.N) (a : Fin 384) (b : Fin 1024) :
    iblk m c 4 t (ix2 a b) = Cert.LossModel.target (fun j b => T m c (ix2 j b)) (row t a) b := by
  refine Eq.trans ?_ ((congrFun (read_t m c) _).trans (padded_at _ _ _))
  blk_point [iblk, idx t, row]
theorem read5 (t : Fin cfg0.N) (a : Fin 384) : iblk m c 5 t (ix2 a (0 : Fin 1)) = Cert.LossModel.live (row t a) := by
  refine Eq.trans ?_ ((congrFun (read_m m c) _).trans (rows_at _))
  blk_point [iblk, idx t, row]

end Cert.LossIdeal.Grad

end
-- ==== Proof.LossOut.lean ====
/- The last product of the MLP with the loss and its gradients: the call's five results at an index. -/
module

public import proofs.«01_k».proof.Proof.Loss

@[expose] public section

set_option maxRecDepth 16384

noncomputable section

namespace Cert.LossIdeal.Grad

open Cert.LossIdeal Cert.LossIdeal.Gen Idealize.ShloMosaic Idealize.ShloMosaic.TcCoe Idealize.SL.Sem
open Idealize.ShloMosaic.Pipeline

variable (m : (ℓ : Loc nD τ sig) → Buf (Elt Ideal) ℓ) (c : Dev nD)

/-- The rows before the last norm, the gain and the targets, as functions of two numbers. -/
def xf (n : Fin 8448) (b : Fin 1024) : EReal :=
  H m c (ix2 n b) + ∑ k : Fin 4096, max (Z m c (ix2 n k)) 0 * max (Z m c (ix2 n k)) 0 * W m c (ix2 k b)
abbrev gf (b : Fin 1024) : EReal := G m c (ix1 b)
abbrev tf (j : Fin 8192) (b : Fin 1024) : EReal := T m c (ix2 j b)

/-- One entry of each result. -/
def dx (n : Fin 8448) (b : Fin 1024) : EReal := Cert.LossModel.dx (xf m c) (gf m c) (tf m c) n b
def dz (n : Fin 8448) (j : Fin 4096) : EReal :=
  (∑ k : Fin 1024, dx m c n k * W m c (ix2 j k)) * (Ideal.ofBits .f32 0x40000000#32 * max (Z m c (ix2 n j)) 0)

theorem x_at (t : Fin cfg0.N) (a : Fin 384) (b : Fin 1024) :
    k0_pay4 (F := Ideal) (iblk m c 0 t) (iblk m c 1 t) (iblk m c 2 t) (ix2 a b) = xf m c (row t a) b := by
  refine (pay4 _ _ _ a b).trans ?_
  simp only [read0, read1, read2]
  rfl

theorem err_at (t : Fin cfg0.N) (a : Fin 384) (b : Fin 1024) :
    k0_pay6 (F := Ideal) (iblk m c 0 t) (iblk m c 1 t) (iblk m c 2 t) (iblk m c 3 t) (iblk m c 4 t) (iblk m c 5 t) (ix2 a b)
      = Cert.LossModel.err (xf m c) (gf m c) (tf m c) (row t a) b := by
  refine (pay6 _ _ _ _ _ _ a b).trans ?_
  simp only [x_at, read3, read4, read5]
  rfl

theorem dx_at (t : Fin cfg0.N) (a : Fin 384) (b : Fin 1024) :
    k0_pay13 (F := Ideal) (k0_pay4 (F := Ideal) (iblk m c 0 t) (iblk m c 1 t) (iblk m c 2 t)) (k0_pay5 (F := Ideal) (iblk m c 3 t))
      (k0_pay6 (F := Ideal) (iblk m c 0 t) (iblk m c 1 t) (iblk m c 2 t) (iblk m c 3 t) (iblk m c 4 t) (iblk m c 5 t)) (ix2 a b)
      = dx m c (row t a) b := by
  refine (pay13 _ _ _ a b).trans ?_
  simp only [x_at, err_at, pay5, read3]
  rfl

theorem dg_at (t : Fin cfg0.N) (b : Fin 1024) :
    k0_pay14 (F := Ideal) (k0_pay4 (F := Ideal) (iblk m c 0 t) (iblk m c 1 t) (iblk m c 2 t))
      (k0_pay6 (F := Ideal) (iblk m c 0 t) (iblk m c 1 t) (iblk m c 2 t) (iblk m c 3 t) (iblk m c 4 t) (iblk m c 5 t)) (ix2 (0 : Fin 1) b)
      = ∑ a : Fin 384, Cert.LossModel.dy (xf m c) (gf m c) (tf m c) (row t a) b
          * (xf m c (row t a) b * Cert.LossModel.root (xf m c) (row t a)) := by
  refine (pay14 _ _ b).trans ?_
  simp only [x_at, err_at]
  rfl

theorem loss_at (t : Fin cfg0.N) :
    k0_pay7 (F := Ideal) (iblk m c 0 t) (iblk m c 1 t) (iblk m c 2 t) (iblk m c 3 t) (iblk m c 4 t) (iblk m c 5 t) (ix2 (0 : Fin 1) (0 : Fin 1))
      * Ideal.ofBits .f32 0x3A800000#32 = ∑ a : Fin 384, Cert.LossModel.share (xf m c) (gf m c) (tf m c) (row t a) := by
  rw [pay7]
  simp only [err_at]
  exact Cert.LossModel.block _ _ _ (row t)

theorem dz_at (t : Fin cfg0.N) (a : Fin 384) (j : Fin 4096) :
    k0_pay3 (F := Ideal) (k0_pay13 (F := Ideal) (k0_pay4 (F := Ideal) (iblk m c 0 t) (iblk m c 1 t) (iblk m c 2 t)) (k0_pay5 (F := Ideal) (iblk m c 3 t))
      (k0_pay6 (F := Ideal) (iblk m c 0 t) (iblk m c 1 t) (iblk m c 2 t) (iblk m c 3 t) (iblk m c 4 t) (iblk m c 5 t))) (iblk m c 2 t) (iblk m c 1 t) (ix2 a j)
      = dz m c (row t a) j := by
  rw [pay3]
  simp only [dx_at, read1, read2]
  rfl

theorem out7 (t : Fin cfg0.N) (a : Fin 384) (b : Fin 1024) : (outsAt0 m c t.val t.isLt).2.1 (ix2 a b) = dx m c (row t a) b := by
  by_cases h : t.val % 22 = 0
  · rw [outsAt0_A m c t h (by have := tlt t; omega) h (by have := tlt t; omega)]
    frame_out
    exact dx_at m c t a b
  · rw [outsAt0_B m c t h (by have := tlt t; omega) h (by have := tlt t; omega)]
    frame_out
    exact dx_at m c t a b

theorem out10 (t : Fin cfg0.N) (a : Fin 384) (b : Fin 1024) : (outsAt0 m c t.val t.isLt).2.2.2.2 (ix2 a b) = dx m c (row t a) b := by
  by_cases h : t.val % 22 = 0
  · rw [outsAt0_A m c t h (by have := tlt t; omega) h (by have := tlt t; omega)]
    frame_out
    exact (pay2 _ a b).trans (dx_at m c t a b)
  · rw [outsAt0_B m c t h (by have := tlt t; omega) h (by have := tlt t; omega)]
    frame_out
    exact (pay2 _ a b).trans (dx_at m c t a b)

theorem out9 (t : Fin cfg0.N) (a : Fin 384) (j : Fin 4096) : (outsAt0 m c t.val t.isLt).2.2.2.1 (ix2 a j) = dz m c (row t a) j := by
  by_cases h : t.val % 22 = 0
  · rw [outsAt0_A m c t h (by have := tlt t; omega) h (by have := tlt t; omega)]
    frame_out
    exact dz_at m c t a j
  · rw [outsAt0_B m c t h (by have := tlt t; omega) h (by have := tlt t; omega)]
    frame_out
    exact dz_at m c t a j

/-- What one row adds to the gain's gradient. -/
def term (n : Fin 8448) (b : Fin 1024) : EReal :=
  Cert.LossModel.dy (xf m c) (gf m c) (tf m c) n b * (xf m c n b * Cert.LossModel.root (xf m c) n)

/-- What one block of rows adds to the loss and to the gain's gradient. -/
def part6 (t : Fin cfg0.N) (j : S8x128.Idx) : EReal := ∑ a : Fin 384, Cert.LossModel.share (xf m c) (gf m c) (tf m c) (row t a)
def part8 (t : Fin cfg0.N) (j : S1x1024.Idx) : EReal :=
  ∑ a : Fin 384, term m c (row t a) (j 1)

theorem start6 (t : Fin cfg0.N) (h : t.val % 22 = 0) (j : S8x128.Idx) : (outsAt0 m c t.val t.isLt).1 j = 0 + part6 m c t j := by
  obtain ⟨p, q, rfl⟩ : ∃ (p : Fin 8) (q : Fin 128), j = ix2 p q := ⟨j 0, j 1, eq_ix2 j⟩
  rw [outsAt0_A m c t h (by have := tlt t; omega) h (by have := tlt t; omega), zero_add]
  frame_out
  exact (pay8 _ p q).trans (loss_at m c t)

theorem next6 (t : Fin cfg0.N) (h : ¬t.val % 22 = 0) (j : S8x128.Idx) : (outsAt0 m c t.val t.isLt).1 j
      = (outsAt0 m c (t.val - 1) (Nat.lt_of_le_of_lt (Nat.sub_le _ _) t.isLt)).1 j + part6 m c t j := by
  obtain ⟨p, q, rfl⟩ : ∃ (p : Fin 8) (q : Fin 128), j = ix2 p q := ⟨j 0, j 1, eq_ix2 j⟩
  rw [outsAt0_B m c t h (by have := tlt t; omega) h (by have := tlt t; omega)]
  frame_out
  exact (pay9 _ _ p q).trans (congrArg (_ + ·) (loss_at m c t))

theorem start8 (t : Fin cfg0.N) (h : t.val % 22 = 0) (j : S1x1024.Idx) : (outsAt0 m c t.val t.isLt).2.2.1 j = 0 + part8 m c t j := by
  obtain ⟨b, rfl⟩ : ∃ b : Fin 1024, j = ix2 (0 : Fin 1) b :=
    ⟨j 1, (eq_ix2 j).trans (congrArg (fun z => ix2 z _) (Subsingleton.elim _ _))⟩
  rw [outsAt0_A m c t h (by have := tlt t; omega) h (by have := tlt t; omega), zero_add]
  frame_out
  exact dg_at m c t b

theorem next8 (t : Fin cfg0.N) (h : ¬t.val % 22 = 0) (j : S1x1024.Idx) : (outsAt0 m c t.val t.isLt).2.2.1 j
      = (outsAt0 m c (t.val - 1) (Nat.lt_of_le_of_lt (Nat.sub_le _ _) t.isLt)).2.2.1 j + part8 m c t j := by
  obtain ⟨b, rfl⟩ : ∃ b : Fin 1024, j = ix2 (0 : Fin 1) b :=
    ⟨j 1, (eq_ix2 j).trans (congrArg (fun z => ix2 z _) (Subsingleton.elim _ _))⟩
  rw [outsAt0_B m c t h (by have := tlt t; omega) h (by have := tlt t; omega)]
  frame_out
  exact (pay1 _ _ b).trans (congrArg (_ + ·) (dg_at m c t b))

theorem flushes6 : ∀ t : Fin cfg0.N, (cfg0.win 6).flush t = true → t.val % 22 = 22 - 1 :=
  (by decide +kernel : ∀ t : Fin grid0.N, _)
theorem flushes8 : ∀ t : Fin cfg0.N, (cfg0.win 8).flush t = true → t.val % 22 = 22 - 1 :=
  (by decide +kernel : ∀ t : Fin grid0.N, _)

theorem array6 : (dats m 0 c).arrAt 6 cfg0.N = fun i : S8x128.Idx => Cert.LossModel.loss (xf m c) (gf m c) (tf m c) := by
  refine (dats m 0 c).arrAt_eq_of_covers 6 _ (by decide +kernel) fun t hf y => ?_
  blk_simp
  rw [after0_6, eq_sum_fin_of_reset_step_apply_of_flush (fun n h => (outsAt0 m c n h).1) 22 (fun _ => 0) (part6 m c)
    (start6 m c) (next6 m c) t (flushes6 t hf) _, zero_add]
  have ht := tlt t
  refine Fin.sum_mul_add_congr fun s k hl => ?_
  exact congrArg _ (Fin.ext (by simp only [row]; omega))

theorem array7 : (dats m 0 c).arrAt 7 cfg0.N = fun i : S8448x1024.Idx => dx m c (i 0) (i 1) := by
  refine (dats m 0 c).arrAt_eq_of_covers 7 _ (by decide +kernel) fun t hf y => ?_
  blk_simp
  obtain ⟨a, b, rfl⟩ : ∃ (a : Fin 384) (b : Fin 1024), y = ix2 a b := ⟨y 0, y 1, eq_ix2 y⟩
  rw [after0_7]
  refine (out7 m c t a b).trans (congrArg₂ (dx m c) (Fin.ext ?_) (Fin.ext ?_))
  · blk_point [idx t, row]
  · blk_point [idx t, row]

theorem array8 : (dats m 0 c).arrAt 8 cfg0.N = fun i : S1x1024.Idx => Cert.LossModel.dg (xf m c) (gf m c) (tf m c) (i 1) := by
  refine (dats m 0 c).arrAt_eq_of_covers 8 _ (by decide +kernel) fun t hf y => ?_
  blk_simp
  rw [after0_8, eq_sum_fin_of_reset_step_apply_of_flush (fun n h => (outsAt0 m c n h).2.2.1) 22 (fun _ => 0) (part8 m c)
    (start8 m c) (next8 m c) t (flushes8 t hf) _, zero_add]
  have ht := tlt t
  refine Fin.sum_mul_add_congr fun s k hl => ?_
  refine congrArg₂ (term m c) (Fin.ext (by simp only [row]; omega)) (Fin.ext ?_)
  blk_point [idx t]

theorem array9 : (dats m 0 c).arrAt 9 cfg0.N = fun i : S8448x4096.Idx => dz m c (i 0) (i 1) := by
  refine (dats m 0 c).arrAt_eq_of_covers 9 _ (by decide +kernel) fun t hf y => ?_
  blk_simp
  obtain ⟨a, b, rfl⟩ : ∃ (a : Fin 384) (b : Fin 4096), y = ix2 a b := ⟨y 0, y 1, eq_ix2 y⟩
  rw [after0_9]
  refine (out9 m c t a b).trans (congrArg₂ (dz m c) (Fin.ext ?_) (Fin.ext ?_))
  · blk_point [idx t, row]
  · blk_point [idx t, row]

theorem array10 : (dats m 0 c).arrAt 10 cfg0.N = fun i : S8448x1024.Idx => dx m c (i 0) (i 1) := by
  refine (dats m 0 c).arrAt_eq_of_covers 10 _ (by decide +kernel) fun t hf y => ?_
  blk_simp
  obtain ⟨a, b, rfl⟩ : ∃ (a : Fin 384) (b : Fin 1024), y = ix2 a b := ⟨y 0, y 1, eq_ix2 y⟩
  rw [after0_10]
  refine (out10 m c t a b).trans (congrArg₂ (dx m c) (Fin.ext ?_) (Fin.ext ?_))
  · blk_point [idx t, row]
  · blk_point [idx t, row]

end Cert.LossIdeal.Grad

end
-- ==== Proof.LossRef.lean ====
/- The reference's loss and its gradients: its arrays, named, and their values at an index. -/
module

public import proofs.«01_k».proof.Proof.LossModel
public import proofs.«01_k».proof.Proof.Gen.LossRefIdeal.Run
public import Idealize.ShloMosaic.Lib.Claim
public import Idealize.ShloMosaic.Lib.StableHlo.RunRead
public import Idealize.ShloMosaic.Lib.Pointwise

@[expose] public section

set_option maxRecDepth 16384

noncomputable section

namespace Cert.LossRefIdeal.Grad

open Cert.LossRefIdeal Cert.LossRefIdeal.Gen Cert.LossRefIdeal.Value Idealize.ShloMosaic Idealize.ShloMosaic.TcCoe Idealize.SL.Sem

section Arrays

variable (h : FVec Ideal S8448x1024 .f32) (z : FVec Ideal S8448x4096 .f32) (w : FVec Ideal S4096x1024 .f32)
variable (g : FVec Ideal S1024 .f32) (t : FVec Ideal S8192x1024 .f32) (x p d : FVec Ideal S8448x1024 .f32)

/-- The positive part. -/
def relu : FVec Ideal S8448x4096 .f32 :=
  maximumf z (broadcastInDim S8448x4096 ![] bcast_S_S8448x4096 (constant (F := Ideal) S_ .f32 0x00000000#32))

/-- The rows before the norm. -/
def xs : FVec Ideal S8448x1024 .f32 :=
  addf h (Host.dotGeneral dot_S8448x4096_S4096x1024_S8448x1024_1_0_0_1_n_n none (mulf (relu z) (relu z)) w)

/-- The mean squares, and the normalized rows without the gain. -/
def stats : FVec Ideal S8448x1 .f32 :=
  addf (Host.divf (broadcastInDim S8448x1 ![0] bcast_S8448_S8448x1_0 (Host.reduceAdd (mulf x x) (constant (F := Ideal) S_ .f32 0x00000000#32) reducesTo_S8448x1024_S8448_d1 h_S_)) (broadcastInDim S8448x1 ![] bcast_S_S8448x1 (constant (F := Ideal) S_ .f32 0x44800000#32))) (broadcastInDim S8448x1 ![] bcast_S_S8448x1 (constant (F := Ideal) S_ .f32 0x358637BD#32))
def unit : FVec Ideal S8448x1024 .f32 :=
  mulf x (broadcastInDim S8448x1024 ![0, 1] bcast_S8448x1_S8448x1024_0_1 (Host.rsqrt (stats x)))

/-- The gain at every row. -/
def gains : FVec Ideal S8448x1024 .f32 :=
  broadcastInDim S8448x1024 ![0, 1] bcast_S1x1024_S8448x1024_0_1 (broadcastInDim S1x1024 ![1] bcast_S1024_S1x1024_1 g)

/-- The error of the rows with a target. -/
def diff : FVec Ideal S8192x1024 .f32 :=
  subf (extractStridedSlice S8192x1024 ![16, 0] (mulf (unit x) (gains g)) slices_S8448x1024_S8192x1024_16_0) t

/-- The loss. -/
def total : FVec Ideal S8x128 .f32 :=
  broadcastInDim S8x128 ![] bcast_S_S8x128 (mulf (constant (F := Ideal) S_ .f32 0x3F000000#32) (Host.reduceAdd (Host.divf (Host.reduceAdd (mulf (diff g t x) (diff g t x)) (constant (F := Ideal) S_ .f32 0x00000000#32) reducesTo_S8192x1024_S8192_d1 h_S_) (broadcastInDim S8192 ![] bcast_S_S8192 (constant (F := Ideal) S_ .f32 0x44800000#32))) (constant (F := Ideal) S_ .f32 0x00000000#32) reducesTo_S8192_S_d0 h_S_))

/-- The cotangent of the normalized rows. -/
def cotan : FVec Ideal S8448x1024 .f32 :=
  pad S8448x1024 ![16, 0] ![240, 0] ![0, 0] (mulf (broadcastInDim S8192x1024 ![0] bcast_S8192_S8192x1024_0 (Host.divf (broadcastInDim S8192 ![] bcast_S_S8192 (mulf (constant (F := Ideal) S_ .f32 0x3F000000#32) (constant (F := Ideal) S_ .f32 0x3F800000#32))) (broadcastInDim S8192 ![] bcast_S_S8192 (constant (F := Ideal) S_ .f32 0x44800000#32)))) (mulf (broadcastInDim S8192x1024 ![] bcast_S_S8192x1024 (constant (F := Ideal) S_ .f32 0x40000000#32)) (diff g t x))) (constant (F := Ideal) S_ .f32 0x00000000#32) pads_S8192x1024_S8448x1024_162400_000 h_S_

/-- The cotangent of the mean square, by the entry, from the cotangent `p` of the normalized rows. -/
def inner : FVec Ideal S8448x1024 .f32 :=
  broadcastInDim S8448x1024 ![0] bcast_S8448_S8448x1024_0 (Host.reduceAdd (Host.divf (mulf (shapeCast _ (Host.reduceAdd (mulf x (mulf p (gains g))) (constant (F := Ideal) S_ .f32 0x00000000#32) reducesTo_S8448x1024_S8448_d1 h_S_) shapeCasts_S8448_S8448x1) (mulf (broadcastInDim S8448x1 ![] bcast_S_S8448x1 (constant (F := Ideal) S_ .f32 0xBF000000#32)) (Host.divf (Host.rsqrt (stats x)) (stats x)))) (broadcastInDim S8448x1 ![] bcast_S_S8448x1 (constant (F := Ideal) S_ .f32 0x44800000#32))) (constant (F := Ideal) S_ .f32 0x00000000#32) reducesTo_S8448x1_S8448_d1 h_S_)

/-- The gradients of the rows, of the gain, and of the first product. -/
def dxs : FVec Ideal S8448x1024 .f32 :=
  addf (addf (mulf (mulf p (gains g)) (broadcastInDim S8448x1024 ![0, 1] bcast_S8448x1_S8448x1024_0_1 (Host.rsqrt (stats x)))) (mulf x (inner g x p))) (mulf (inner g x p) x)
def dgs : FVec Ideal S1x1024 .f32 :=
  broadcastInDim S1x1024 ![1] bcast_S1024_S1x1024_1 (Host.reduceAdd (shapeCast _ (Host.reduceAdd (mulf (unit x) p) (constant (F := Ideal) S_ .f32 0x00000000#32) reducesTo_S8448x1024_S1024_d0 h_S_) shapeCasts_S1024_S1x1024) (constant (F := Ideal) S_ .f32 0x00000000#32) reducesTo_S1x1024_S1024_d0 h_S_)
def dzs : FVec Ideal S8448x4096 .bf16 :=
  truncf .bf16 (select (cmpf .ogt z (broadcastInDim S8448x4096 ![] bcast_S_S8448x4096 (constant (F := Ideal) S_ .f32 0x00000000#32))) (mulf (Host.dotGeneral dot_S8448x1024_S4096x1024_S8448x4096_1_1_0_0_n_n none d w) (mulf (broadcastInDim S8448x4096 ![] bcast_S_S8448x4096 (constant (F := Ideal) S_ .f32 0x40000000#32)) (relu z))) (broadcastInDim S8448x4096 ![] bcast_S_S8448x4096 (constant (F := Ideal) S_ .f32 0x00000000#32))) bitsLt_bf16_f32
def short : FVec Ideal S8448x1024 .bf16 := truncf .bf16 d bitsLt_bf16_f32

/-! The arrays at an index. -/

theorem relu_at (n : Fin 8448) (k : Fin 4096) : relu z (ix2 n k) = max (z (ix2 n k)) 0 := by pointwise [relu]

theorem xs_at (n : Fin 8448) (b : Fin 1024) : xs h z w (ix2 n b)
    = h (ix2 n b) + ∑ k : Fin 4096, max (z (ix2 n k)) 0 * max (z (ix2 n k)) 0 * w (ix2 k b) := by
  simp only [← relu_at]
  pointwise [xs]

theorem stats_at (n : Fin 8448) : stats x (ix2 n 0) = Cert.Row.stat (fun k => x (ix2 n k)) := by
  pointwise [stats]
  rfl

theorem unit_at (n : Fin 8448) (b : Fin 1024) :
    unit x (ix2 n b) = x (ix2 n b) * Ideal.rsqrt (Cert.Row.stat (fun k => x (ix2 n k))) := by
  rw [← stats_at]
  pointwise [unit]

theorem gains_at (n : Fin 8448) (b : Fin 1024) : gains g (ix2 n b) = g (ix1 b) := by pointwise [gains]

theorem diff_at (j : Fin 8192) (b : Fin 1024) : diff g t x (ix2 j b)
    = Cert.Row.unit (fun k => x (ix2 ⟨16 + j.val, by omega⟩ k)) (fun k => g (ix1 k)) b - t (ix2 j b) := by
  unfold Cert.Row.unit
  rw [← unit_at]
  show _ = _ * g (ix1 b) - _
  rw [← gains_at g ⟨16 + j.val, by omega⟩ b]
  pointwise [diff]

/-- The operands, as functions of two numbers. -/
abbrev X (n : Fin 8448) (b : Fin 1024) : EReal := x (ix2 n b)
abbrev G (b : Fin 1024) : EReal := g (ix1 b)
abbrev T (j : Fin 8192) (b : Fin 1024) : EReal := t (ix2 j b)

theorem total_at (i : Fin 8) (j : Fin 128) : total g t x (ix2 i j) = Cert.LossModel.loss (X x) (G g) (T t) := by
  rw [← Cert.LossModel.loss_eq]
  unfold X T G
  simp only [← diff_at]
  pointwise [total]

theorem cotan_at (n : Fin 8448) (b : Fin 1024) : cotan g t x (ix2 n b) = Cert.LossModel.dy (X x) (G g) (T t) n b := by
  by_cases hn : 16 ≤ n.val ∧ n.val < 8208
  · rw [← Cert.LossModel.dy_live _ _ _ hn]
    have f : (⟨16 + (n.val - 16), by omega⟩ : Fin 8448) = n := Fin.ext (by simp only; omega)
    have e : diff g t x (ix2 ⟨n.val - 16, by omega⟩ b) = Cert.Row.unit (X x n) (G g) b - T t ⟨n.val - 16, by omega⟩ b :=
      (diff_at g t x ⟨n.val - 16, by omega⟩ b).trans (congrArg (fun q => Cert.Row.unit (X x q) (G g) b - _) f)
    rw [← e]
    pointwise [cotan]
    rw [dif_pos (show 16 ≤ n.val ∧ n.val - 16 < 8192 by omega)]
  · rw [Cert.LossModel.dy_dead _ _ _ hn]
    pointwise [cotan]
    rw [dif_neg (show ¬(16 ≤ n.val ∧ n.val - 16 < 8192) by omega)]

theorem inner_at (n : Fin 8448) (b : Fin 1024) : inner g x p (ix2 n b)
    = Ideal.div ((∑ k : Fin 1024, x (ix2 n k) * (p (ix2 n k) * g (ix1 k))) * (Ideal.ofBits .f32 0xBF000000#32
        * Ideal.div (Ideal.rsqrt (Cert.Row.stat (fun k => x (ix2 n k)))) (Cert.Row.stat (fun k => x (ix2 n k)))))
        (Ideal.ofBits .f32 0x44800000#32) := by
  simp only [← stats_at, ← gains_at g n]
  pointwise [inner]
  simp only [Fin.sum_univ_one]

theorem dxs_at (n : Fin 8448) (b : Fin 1024) (hp : ∀ k, p (ix2 n k) = Cert.LossModel.dy (X x) (G g) (T t) n k) :
    dxs g x p (ix2 n b) = Cert.LossModel.dx (X x) (G g) (T t) n b := by
  rw [← Cert.LossModel.dx_eq]
  have e := inner_at g x p n b
  simp only [hp] at e
  refine Eq.trans ?_ (congrArg (fun q => Cert.LossModel.dy (X x) (G g) (T t) n b * g (ix1 b) * Cert.LossModel.root (X x) n
    + x (ix2 n b) * q + q * x (ix2 n b)) e)
  rw [← hp b]
  unfold Cert.LossModel.root X
  rw [← stats_at, ← gains_at g n]
  pointwise [dxs]

theorem dgs_at (b : Fin 1024) (hp : ∀ n, p (ix2 n b) = Cert.LossModel.dy (X x) (G g) (T t) n b) :
    dgs x p (ix2 0 b) = Cert.LossModel.dg (X x) (G g) (T t) b := by
  unfold Cert.LossModel.dg Cert.LossModel.root X
  simp only [← unit_at]
  pointwise [dgs]
  simp only [Fin.sum_univ_one]
  exact Finset.sum_congr rfl fun n _ => by rw [hp n, mul_comm]

theorem dzs_at (n : Fin 8448) (j : Fin 4096) : dzs z w d (ix2 n j)
    = (∑ k : Fin 1024, d (ix2 n k) * w (ix2 j k)) * (Ideal.ofBits .f32 0x40000000#32 * max (z (ix2 n j)) 0) := by
  rw [Cert.LossModel.gate, ← relu_at]
  pointwise [dzs]

theorem short_at (n : Fin 8448) (b : Fin 1024) : short d (ix2 n b) = d (ix2 n b) := by pointwise [short]

end Arrays

variable (m : (ℓ : Loc nD τ sig) → Buf (Elt Ideal) ℓ) (c : Dev nD)

/-- The rows, their cotangent and their gradient, from the arguments. -/
abbrev rowsOf : FVec Ideal S8448x1024 .f32 :=
  xs (m ((c.tc : Thread nD τ).loc main_arg0)) (m ((c.tc : Thread nD τ).loc main_arg1)) (m ((c.tc : Thread nD τ).loc main_arg2))
abbrev ctOf : FVec Ideal S8448x1024 .f32 :=
  cotan (m ((c.tc : Thread nD τ).loc main_arg3)) (m ((c.tc : Thread nD τ).loc main_arg4)) (rowsOf m c)
abbrev dxOf : FVec Ideal S8448x1024 .f32 := dxs (m ((c.tc : Thread nD τ).loc main_arg3)) (rowsOf m c) (ctOf m c)

theorem res_loss : res_main_v66 m c = total (m ((c.tc : Thread nD τ).loc main_arg3)) (m ((c.tc : Thread nD τ).loc main_arg4)) (rowsOf m c) := rfl
theorem res_dx : res_main_v61 m c = dxOf m c := rfl
theorem res_dg : res_main_v67 m c = dgs (rowsOf m c) (ctOf m c) := rfl
theorem res_dz : res_main_v68 m c = dzs (m ((c.tc : Thread nD τ).loc main_arg1)) (m ((c.tc : Thread nD τ).loc main_arg2)) (dxOf m c) := rfl
theorem res_short : res_main_v69 m c = short (dxOf m c) := rfl

end Cert.LossRefIdeal.Grad

end
-- ==== Proof.LossEq.lean ====
/- The last product of the MLP with the loss and its gradients: both programs end with the same arrays. -/
module

public import proofs.«01_k».proof.Defs
public import proofs.«01_k».proof.Proof.LossOut
public import proofs.«01_k».proof.Proof.LossRef
public import proofs.«01_k».proof.Proof.Gen.LossIdeal
public import proofs.«01_k».proof.Proof.Gen.LossRefIdeal

@[expose] public section

set_option maxRecDepth 16384

noncomputable section

namespace Cert.LossIdeal.Grad

open Cert.LossIdeal Cert.LossIdeal.Gen Idealize.ShloMosaic Idealize.ShloMosaic.TcCoe Idealize.SL.Sem

/-- The reference's rows before the norm are the kernel's, entry by entry. -/
theorem rows_eq (m : (ℓ : Loc nD τ sig) → Buf (Elt Ideal) ℓ) (c : Dev nD) :
    Cert.LossRefIdeal.Grad.X (Cert.LossRefIdeal.Grad.xs (H m c) (Z m c) (W m c)) = xf m c :=
  funext fun n => funext fun b => Cert.LossRefIdeal.Grad.xs_at _ _ _ n b

/-- The reference's gradient of the rows is the kernel's. -/
theorem dxs_eq (m : (ℓ : Loc nD τ sig) → Buf (Elt Ideal) ℓ) (c : Dev nD) (n : Fin 8448) (b : Fin 1024) :
    Cert.LossRefIdeal.Grad.dxs (G m c) (Cert.LossRefIdeal.Grad.xs (H m c) (Z m c) (W m c))
      (Cert.LossRefIdeal.Grad.cotan (G m c) (T m c) (Cert.LossRefIdeal.Grad.xs (H m c) (Z m c) (W m c))) (ix2 n b) = dx m c n b := by
  refine (Cert.LossRefIdeal.Grad.dxs_at (G m c) (T m c) _ _ n b fun k => Cert.LossRefIdeal.Grad.cotan_at _ _ _ n k).trans ?_
  rw [rows_eq]
  rfl

/-- Both programs end with the same arrays. -/
theorem equation : Cert.algebraic_LossIdeal_LossRefIdeal (hLossIdeal := Cert.LossIdeal.Gen.facts)
    (hLossRefIdeal := Cert.LossRefIdeal.Gen.facts) := by
  intro m g m' g' hpre hargs
  refine ⟨fun c => fun i : S8x128.Idx => Cert.LossModel.loss (xf m c) (gf m c) (tf m c),
    fun c => fun i : S8448x1024.Idx => dx m c (i 0) (i 1),
    fun c => fun i : S1x1024.Idx => Cert.LossModel.dg (xf m c) (gf m c) (tf m c) (i 1),
    fun c => fun i : S8448x4096.Idx => dz m c (i 0) (i 1),
    fun c => fun i : S8448x1024.Idx => dx m c (i 0) (i 1),
    (θ_run _ _ _).mono (fun r h c => ⟨(h c).1.trans (array6 m c), (h c).2.1.trans (array7 m c), (h c).2.2.1.trans (array8 m c),
      (h c).2.2.2.1.trans (array9 m c), (h c).2.2.2.2.1.trans (array10 m c), (h c).2.2.2.2.2⟩) (Value.run_blocks m g), ?_⟩
  refine (θ_run _ _ _).mono (fun r h c => ⟨(h c).1.trans ?_, (h c).2.1.trans ?_, (h c).2.2.1.trans ?_, (h c).2.2.2.1.trans ?_,
    (h c).2.2.2.2.1.trans ?_, (h c).2.2.2.2.2⟩) (Cert.LossRefIdeal.Value.run m' g')
  · obtain ⟨a0, a1, a2, a3, a4⟩ := hargs c
    rw [Cert.LossRefIdeal.Grad.res_loss, Cert.LossRefIdeal.Grad.rowsOf, a0, a1, a2, a3, a4]
    funext i
    obtain ⟨p, q, rfl⟩ : ∃ (p : Fin 8) (q : Fin 128), i = ix2 p q := ⟨i 0, i 1, eq_ix2 i⟩
    refine (Cert.LossRefIdeal.Grad.total_at _ _ _ p q).trans ?_
    exact congrArg (fun x => Cert.LossModel.loss x (gf m c) (tf m c)) (rows_eq m c)
  · obtain ⟨a0, a1, a2, a3, a4⟩ := hargs c
    rw [Cert.LossRefIdeal.Grad.res_dx, Cert.LossRefIdeal.Grad.dxOf, Cert.LossRefIdeal.Grad.ctOf, Cert.LossRefIdeal.Grad.rowsOf, a0, a1, a2, a3, a4]
    funext i
    obtain ⟨n, b, rfl⟩ : ∃ (n : Fin 8448) (b : Fin 1024), i = ix2 n b := ⟨i 0, i 1, eq_ix2 i⟩
    exact dxs_eq m c n b
  · obtain ⟨a0, a1, a2, a3, a4⟩ := hargs c
    rw [Cert.LossRefIdeal.Grad.res_dg, Cert.LossRefIdeal.Grad.ctOf, Cert.LossRefIdeal.Grad.rowsOf, a0, a1, a2, a3, a4]
    funext i
    obtain ⟨b, rfl⟩ : ∃ b : Fin 1024, i = ix2 (0 : Fin 1) b :=
      ⟨i 1, (eq_ix2 i).trans (congrArg (fun z => ix2 z _) (Subsingleton.elim _ _))⟩
    refine (Cert.LossRefIdeal.Grad.dgs_at (G m c) (T m c) _ _ b fun n => Cert.LossRefIdeal.Grad.cotan_at _ _ _ n b).trans ?_
    exact congrArg (fun x => Cert.LossModel.dg x (gf m c) (tf m c) b) (rows_eq m c)
  · obtain ⟨a0, a1, a2, a3, a4⟩ := hargs c
    rw [Cert.LossRefIdeal.Grad.res_dz, Cert.LossRefIdeal.Grad.dxOf, Cert.LossRefIdeal.Grad.ctOf, Cert.LossRefIdeal.Grad.rowsOf, a0, a1, a2, a3, a4]
    funext i
    obtain ⟨n, j, rfl⟩ : ∃ (n : Fin 8448) (j : Fin 4096), i = ix2 n j := ⟨i 0, i 1, eq_ix2 i⟩
    refine (Cert.LossRefIdeal.Grad.dzs_at _ _ _ n j).trans ?_
    simp only [dxs_eq]
    rfl
  · obtain ⟨a0, a1, a2, a3, a4⟩ := hargs c
    rw [Cert.LossRefIdeal.Grad.res_short, Cert.LossRefIdeal.Grad.dxOf, Cert.LossRefIdeal.Grad.ctOf, Cert.LossRefIdeal.Grad.rowsOf, a0, a1, a2, a3, a4]
    funext i
    obtain ⟨n, b, rfl⟩ : ∃ (n : Fin 8448) (b : Fin 1024), i = ix2 n b := ⟨i 0, i 1, eq_ix2 i⟩
    exact (Cert.LossRefIdeal.Grad.short_at _ n b).trans (dxs_eq m c n b)

theorem frame : Cert.quiescent_LossRefIdeal (hLossRefIdeal := Cert.LossRefIdeal.Gen.facts) := fun m g _ =>
  (θ_run _ _ _).mono (fun r h => ⟨fun c => (h c).2.2.2.2.2, sem_eq_zero_of_no_sems (by decide) r.2⟩)
    (Cert.LossRefIdeal.Value.run m g)

end Cert.LossIdeal.Grad

end
-- ==== Proof.Reals.lean ====
/- Real numbers inside the extended reals: a finite sum, a maximum, an exponential, a logarithm and a
   quotient of reals is a real; and the identities of the softmax over the reals. -/
module

public import Idealize.ShloMosaic.Lib.Pointwise

@[expose] public section

noncomputable section

namespace Cert.Attn

open Idealize.ShloMosaic

variable {ι : Type} [Fintype ι]

/-- A sum of reals, read as extended reals, is the real sum. -/
theorem sum_coe (f : ι → ℝ) : ∑ k, ((f k : ℝ) : EReal) = ((∑ k, f k : ℝ) : EReal) := by
  classical
  induction (Finset.univ : Finset ι) using Finset.induction_on with
  | empty => simp
  | insert a s h ih => rw [Finset.sum_insert h, Finset.sum_insert h, ih, EReal.coe_add]

/-- The maximum of `-∞` and finitely many reals, at least one of them there, is a real. -/
theorem max_coe [Nonempty ι] (s : ι → ℝ) :
    ∃ M : ℝ, (Finset.univ : Finset ι).fold max (⊥ : EReal) (fun k => ((s k : ℝ) : EReal)) = (M : EReal) := by
  classical
  have key : ∀ u : Finset ι, u.fold max (⊥ : EReal) (fun k => ((s k : ℝ) : EReal)) = ⊥ ∧ u = ∅
      ∨ ∃ M : ℝ, u.fold max (⊥ : EReal) (fun k => ((s k : ℝ) : EReal)) = (M : EReal) := by
    intro u
    induction u using Finset.induction_on with
    | empty => exact Or.inl ⟨Finset.fold_empty, rfl⟩
    | insert a u h ih =>
      right
      rw [Finset.fold_insert h]
      rcases ih with ⟨e, -⟩ | ⟨M, e⟩
      · exact ⟨s a, by rw [e, max_eq_left bot_le]⟩
      · exact ⟨max (s a) M, by rw [e]; exact (EReal.coe_strictMono.monotone.map_max).symm⟩
  rcases key Finset.univ with ⟨-, h⟩ | h
  · exact absurd h Finset.univ_nonempty.ne_empty
  · exact h

/-- A quotient of reals by a real other than zero is the real quotient. -/
theorem div_real (x : ℝ) {y : ℝ} (h : y ≠ 0) : Ideal.div (x : EReal) (y : EReal) = ((x / y : ℝ) : EReal) := by
  rw [Ideal.div_coe h, ← EReal.coe_mul, mul_one_div]

/-- The logarithm of a positive real. -/
theorem log_real {x : ℝ} (h : 0 < x) : Ideal.log (x : EReal) = ((Real.log x : ℝ) : EReal) := by
  rw [Ideal.log_coe, if_neg (not_le.2 h)]

/-- The pattern of `-∞`. -/
theorem ofBits_bot : Ideal.ofBits .f32 0xFF800000#32 = ⊥ := by simp [Ideal.ofBits, Ideal.ieee]

/-- The largest entry of each row of an array of reals is a real. -/
theorem reduce_max_real {n0 n1 n2 n3 : ℕ} {t u : Shape} (x : FVec Ideal ⟨4, ![n0, n1, n2, n3]⟩ .f32)
    (init : FVec Ideal u .f32) (h : (⟨4, ![n0, n1, n2, n3]⟩ : Shape).ReducesTo [3] t) (hu : 0 < u.numel) (j : t.Idx)
    (h3 : 0 < n3) (hx : ∀ i, ∃ r : ℝ, x i = (r : EReal)) (hi : ∀ i, init i = ⊥) :
    ∃ M : ℝ, Host.reduce (FloatOps.maximumf : Ideal .f32 → Ideal .f32 → Ideal .f32) x init h hu j = (M : EReal) := by
  rw [Ideal.maximumf_eq_max, Host.reduce_eq_fold (max : EReal → EReal → EReal), h.fold_fiber_r4_a3, hi]
  choose r hr using hx
  haveI : Nonempty (Fin n3) := ⟨⟨0, h3⟩⟩
  simp only [hr]
  exact max_coe _

variable (s : ι → ℝ)

/-- The denominator of the softmax of `s`. -/
def den : ℝ := ∑ k, Real.exp (s k)

/-- The weights of the softmax of `s`. -/
def weight (k : ι) : ℝ := Real.exp (s k) / den s

theorem den_pos [Nonempty ι] : 0 < den s :=
  Finset.sum_pos (fun _ _ => Real.exp_pos _) Finset.univ_nonempty

/-- The denominator with every score lowered by `M`. -/
theorem den_shift (M : ℝ) : ∑ k, Real.exp (s k - M) = Real.exp (-M) * den s := by
  rw [den, Finset.mul_sum]
  exact Finset.sum_congr rfl fun k _ => by rw [sub_eq_neg_add, Real.exp_add]

theorem den_shift_pos [Nonempty ι] (M : ℝ) : 0 < ∑ k, Real.exp (s k - M) := by
  rw [den_shift]; exact mul_pos (Real.exp_pos _) (den_pos s)

/-- Lowering every score by one number does not change the softmax. -/
theorem weight_shift (M : ℝ) (k : ι) :
    Real.exp (s k - M) / ∑ k', Real.exp (s k' - M) = weight s k := by
  rw [den_shift, sub_eq_neg_add, Real.exp_add, weight, mul_div_mul_left _ _ (Real.exp_pos _).ne']

/-- The logarithm of the denominator, from the lowered scores. -/
theorem lse_shift [Nonempty ι] (M : ℝ) :
    M + Real.log (∑ k, Real.exp (s k - M)) = Real.log (den s) := by
  rw [den_shift, Real.log_mul (Real.exp_pos _).ne' (den_pos s).ne', Real.log_exp]; ring

/-- The unnormalised weight times the correction of its block is the weight. -/
theorem scale_weight [Nonempty ι] (m : ℝ) (k : ι) :
    Real.exp (s k - m) * Real.exp (m - Real.log (den s)) = weight s k := by
  rw [← Real.exp_add, sub_add_sub_cancel, Real.exp_sub, Real.exp_log (den_pos s), weight]

/-- The gradient of the softmax as the chain rule through the quotient writes it, against the usual form. -/
theorem grad_shift [Nonempty ι] (M : ℝ) (u : ι → ℝ) (k : ι) :
    (u k / (∑ k', Real.exp (s k' - M))
        + -(∑ k', u k' * (1 / ((∑ k'', Real.exp (s k'' - M)) * ∑ k'', Real.exp (s k'' - M))) * Real.exp (s k' - M)))
      * Real.exp (s k - M)
      = weight s k * (u k - ∑ k', weight s k' * u k') := by
  have hZ := (den_shift_pos s M).ne'
  have hw : ∀ k', weight s k' = Real.exp (s k' - M) / ∑ k'', Real.exp (s k'' - M) := fun k' => (weight_shift s M k').symm
  have e : ∑ k', u k' * (1 / ((∑ k'', Real.exp (s k'' - M)) * ∑ k'', Real.exp (s k'' - M))) * Real.exp (s k' - M)
      = (∑ k', weight s k' * u k') / ∑ k'', Real.exp (s k'' - M) := by
    rw [Finset.sum_div]
    refine Finset.sum_congr rfl fun k' _ => ?_
    rw [hw]; generalize (∑ k'', Real.exp (s k'' - M)) = Z at hZ ⊢
    field_simp
  rw [e, hw k]
  generalize (∑ k', weight s k' * u k') = D
  generalize (∑ k'', Real.exp (s k'' - M)) = Z at hZ ⊢
  field_simp
  ring

/-- The row term of the gradient: the cotangent against the output is the weighted sum of the gradients of the weights. -/
theorem delta_eq {δ : Type} [Fintype δ] (p : ι → ℝ) (v : ι → δ → ℝ) (c : δ → ℝ) :
    ∑ d, c d * ∑ k, p k * v k d = ∑ k, p k * ∑ d, c d * v k d := by
  simp only [Finset.mul_sum]
  rw [Finset.sum_comm]
  exact Finset.sum_congr rfl fun k _ => Finset.sum_congr rfl fun d _ => by ring

end Cert.Attn

end
-- ==== Proof.Online.lean ====
/- One row of the softmax taken block by block: the running maximum and the running sums, against the sums of the
   exponentials. Which real the running maximum is does not enter. -/
module

public import proofs.«01_k».proof.Proof.Reals

@[expose] public section

noncomputable section

namespace Cert.Soft

open Idealize.ShloMosaic Cert.Attn

/-- A score together with its exponential: a real score, or a masked one. -/
def Entry (s : EReal) (e : ℝ) : Prop := (∃ x : ℝ, s = (x : EReal) ∧ e = Real.exp x) ∨ (s = ⊥ ∧ e = 0)

variable {ι : Type} [Fintype ι]

/-- The largest of `-∞` and the scores is a real, as soon as one score is. -/
theorem max_real (s : ι → EReal) (e : ι → ℝ) (h : ∀ k, Entry (s k) (e k)) (hne : ∃ k, s k ≠ ⊥) :
    ∃ M : ℝ, (Finset.univ : Finset ι).fold max (⊥ : EReal) s = (M : EReal) := by
  have hb : ⊥ < (Finset.univ : Finset ι).fold max (⊥ : EReal) s := by
    obtain ⟨k, hk⟩ := hne
    exact (Finset.lt_fold_max _).2 (Or.inr ⟨k, Finset.mem_univ _, bot_lt_iff_ne_bot.2 hk⟩)
  have ht : (Finset.univ : Finset ι).fold max (⊥ : EReal) s < ⊤ := by
    refine (Finset.fold_max_lt _).2 ⟨bot_lt_top, fun k _ => ?_⟩
    rcases h k with ⟨x, hx, -⟩ | ⟨hx, -⟩
    · rw [hx]; exact EReal.coe_lt_top x
    · rw [hx]; exact bot_lt_top
  exact ⟨_, (EReal.coe_toReal ht.ne hb.ne').symm⟩

/-- An exponential lowered by `M`, against a real value. -/
theorem entry_term {s : EReal} {e : ℝ} (h : Entry s e) (M v : ℝ) :
    Ideal.exp (s - (M : EReal)) * (v : EReal) = ((Real.exp (-M) * (e * v) : ℝ) : EReal) := by
  rcases h with ⟨x, rfl, rfl⟩ | ⟨rfl, rfl⟩
  · rw [← EReal.coe_sub, Ideal.exp_coe, ← EReal.coe_mul, sub_eq_neg_add, Real.exp_add, mul_assoc]
  · rw [EReal.bot_sub, Ideal.exp_bot, zero_mul, zero_mul, mul_zero, EReal.coe_zero]

variable {γ : Type}

/-- What the two running rows hold once the blocks so far sum to `A`: a real, and `A` lowered by it. -/
def State (mr ar : γ → EReal) (A : γ → ℝ) : Prop :=
  ∃ M : ℝ, ∀ l, mr l = (M : EReal) ∧ ar l = ((Real.exp (-M) * A l : ℝ) : EReal)

/-- The same before a block, where there may have been none. -/
def Prior (mr ar : γ → EReal) (A : γ → ℝ) : Prop := (∀ l, mr l = ⊥ ∧ ar l = 0 ∧ A l = 0) ∨ State mr ar A

/-- One block. -/
theorem step {mr ar mr' ar' : γ → EReal} {A : γ → ℝ} (l0 : γ) (hp : Prior mr ar A) (s : ι → EReal) (e : ι → ℝ)
    (v : ι → γ → ℝ) (h : ∀ k, Entry (s k) (e k)) (hne : ∃ k, s k ≠ ⊥)
    (hm : ∀ l, mr' l = max (mr l) ((Finset.univ : Finset ι).fold max (⊥ : EReal) s))
    (ha : ∀ l, ar' l = ar l * Ideal.exp (mr l - mr' l) + ∑ k, Ideal.exp (s k - mr' l0) * (v k l : EReal)) :
    State mr' ar' (fun l => A l + ∑ k, e k * v k l) := by
  obtain ⟨B, hB⟩ := max_real s e h hne
  have key : ∀ M : ℝ, ∀ l, ∑ k, Ideal.exp (s k - (M : EReal)) * (v k l : EReal)
      = ((Real.exp (-M) * ∑ k, e k * v k l : ℝ) : EReal) := fun M l => by
    rw [Finset.mul_sum, ← sum_coe]
    exact Finset.sum_congr rfl fun k _ => entry_term (h k) M _
  rcases hp with hp | ⟨M, hp⟩
  · have hM : ∀ l, mr' l = (B : EReal) := fun l => by rw [hm, (hp l).1, hB, max_eq_right bot_le]
    refine ⟨B, fun l => ⟨hM l, ?_⟩⟩
    dsimp only
    rw [ha, (hp l).2.1, (hp l).2.2, zero_mul, zero_add, zero_add, hM]
    exact key B l
  · have hM : ∀ l, mr' l = ((max M B : ℝ) : EReal) := fun l => by
      rw [hm, (hp l).1, hB]; exact (EReal.coe_strictMono.monotone.map_max).symm
    refine ⟨max M B, fun l => ⟨hM l, ?_⟩⟩
    dsimp only
    rw [ha, (hp l).1, (hp l).2, hM, hM, key, ← EReal.coe_sub, Ideal.exp_coe, ← EReal.coe_mul, ← EReal.coe_add, mul_add]
    refine congrArg (fun x : ℝ => ((x + _ : ℝ) : EReal)) ?_
    rw [mul_right_comm, ← Real.exp_add]
    exact congrArg (fun x : ℝ => Real.exp x * A l) (by ring)

/-- The quotient of two running sums, and the logarithm put back over the running maximum. -/
theorem State.div {mr ar : γ → EReal} {A : γ → ℝ} (h : State mr ar A) (l l' : γ) (hl : A l' ≠ 0) :
    Ideal.div (ar l) (ar l') = ((A l / A l' : ℝ) : EReal) := by
  obtain ⟨M, h⟩ := h
  rw [(h l).2, (h l').2, div_real _ (mul_ne_zero (Real.exp_pos _).ne' hl), mul_div_mul_left _ _ (Real.exp_pos _).ne']

theorem State.log {mr ar : γ → EReal} {A : γ → ℝ} (h : State mr ar A) (l l' : γ) (hl : 0 < A l') :
    mr l + Ideal.log (ar l') = ((Real.log (A l') : ℝ) : EReal) := by
  obtain ⟨M, h⟩ := h
  rw [(h l).1, (h l').2, log_real (mul_pos (Real.exp_pos _) hl), Real.log_mul (Real.exp_pos _).ne' hl.ne', Real.log_exp,
    ← EReal.coe_add]
  exact congrArg (fun x : ℝ => (x : EReal)) (by ring)

end Cert.Soft

end
-- ==== Proof.Fwd.lean ====
/- The forward attention call: what one grid point does to the running maximum and the running sums of each head. -/
module

public import proofs.«01_k».proof.Defs
public import proofs.«01_k».proof.Proof.Online
public import proofs.«01_k».proof.Proof.Gen.FwdIdeal.Value
public import proofs.«01_k».proof.Proof.Gen.FwdIdeal
public import Idealize.ShloMosaic.Lib.Claim
public import Idealize.ShloMosaic.Lib.StableHlo.RunRead
public import Idealize.ShloMosaic.Lib.Pipeline.ValueKit
public import Idealize.ShloMosaic.Lib.Pointwise
public import Idealize.ShloMosaic.Lib.WritesUnit
public import Idealize.ShloMosaic.Lib.Pipeline.ReadBack

@[expose] public section

set_option maxRecDepth 16384

noncomputable section

namespace Cert.FwdIdeal.Soft

open Cert.FwdIdeal Cert.FwdIdeal.Gen Idealize.ShloMosaic Idealize.ShloMosaic.TcCoe Idealize.SL.Sem
open Idealize.ShloMosaic.Pipeline

/-- One head's plane of the running rows, and one head's columns of the queries. -/
def plane (X : FVec Ideal S4x384x128 .f32) (h : Fin 4) : FVec Ideal S1x384x128 .f32 := fun i => X (ix3 h (i 1) (i 2))
def cols (X : FVec Ideal S384x256 .bf16) (h : Fin 4) : FVec Ideal S384x64 .bf16 :=
  fun i => X (ix2 (i 0) ⟨h.val * 64 + (i 1).val, by have : (i 1).val < 64 := (i 1).isLt; omega⟩)
def bias (X : FVec Ideal S1x2816 .f32) : FVec Ideal S1x256 .f32 :=
  fun i => X (ix2 0 ⟨2560 + (i 1).val, by have : (i 1).val < 256 := (i 1).isLt; omega⟩)

section Payloads

variable (k : FVec Ideal S1x2816x64 .bf16) (q : FVec Ideal S384x64 .bf16) (s : FVec Ideal S384x2816 .f32)
  (kb : FVec Ideal S1x256 .f32) (mp ap : FVec Ideal S1x384x128 .f32) (v : FVec Ideal S1x2816x128 .bf16)
  (p : FVec Ideal S384x2816 .bf16) (f : FVec Ideal S384x128 .f32)

/-- The scores of one head against one block of keys; the last block's are masked. -/
theorem scores (a : Fin 384) (j : Fin 2816) :
    k0_pay13 (F := Ideal) k q (ix2 a j) = ∑ d : Fin 64, (q (ix2 a d) * k (ix3 0 j d) : EReal) := by
  pointwise [k0_pay13, k0_pay11]

theorem masked (a : Fin 384) (j : Fin 2816) :
    k0_pay60 (F := Ideal) s kb (ix2 a j)
      = if h : j.val < 2560 then s (ix2 a j) else s (ix2 a j) + kb (ix2 0 ⟨j.val - 2560, by omega⟩) := by
  pointwise [k0_pay60]
  by_cases h : j.val < 2560
  · simp only [dif_pos h]
  · simp only [dif_neg h]
    exact congrArg (fun i : Fin 2816 => s (ix2 a i) + _) (Fin.ext (by simp only; omega))

/-- The new running maximum. -/
theorem newmax (a : Fin 384) (l : Fin 128) :
    k0_pay24 (F := Ideal) s mp (ix2 a l)
      = max (mp (ix3 0 a l)) ((Finset.univ : Finset (Fin 2816)).fold max (⊥ : EReal) fun j => s (ix2 a j)) := by
  pointwise [k0_pay24, k0_pay23]
  rw [Cert.Attn.ofBits_bot]

theorem kept (a : Fin 384) (l : Fin 128) : k0_pay25 (F := Ideal) s mp (ix3 0 a l) = k0_pay24 (F := Ideal) s mp (ix2 a l) := by
  pointwise [k0_pay25]

theorem expo (a : Fin 384) (j : Fin 2816) :
    k0_pay26 (F := Ideal) s mp (ix2 a j) = Ideal.exp (s (ix2 a j) - k0_pay24 (F := Ideal) s mp (ix2 a 0)) := by
  pointwise [k0_pay26]

theorem scale (a : Fin 384) (l : Fin 128) :
    k0_pay28 (F := Ideal) s mp (ix2 a l) = Ideal.exp (mp (ix3 0 a l) - k0_pay24 (F := Ideal) s mp (ix2 a l)) := by
  pointwise [k0_pay28, k0_pay23]

theorem added (a : Fin 384) (l : Fin 128) :
    k0_pay5 (F := Ideal) (k0_pay12 v) p f ap (ix3 0 a l)
      = ap (ix3 0 a l) * f (ix2 a l) + ∑ j : Fin 2816, (p (ix2 a j) * v (ix3 0 j l) : EReal) := by
  pointwise [k0_pay5, k0_pay12]

end Payloads

end Cert.FwdIdeal.Soft

end
-- ==== Proof.FwdStep.lean ====
/- The forward attention call: what one grid point leaves in the running rows, head by head. -/
module

public import proofs.«01_k».proof.Proof.Fwd

@[expose] public section

set_option maxRecDepth 16384

noncomputable section

namespace Cert.FwdIdeal.Soft

open Cert.FwdIdeal Cert.FwdIdeal.Gen Idealize.ShloMosaic Idealize.ShloMosaic.TcCoe Idealize.SL.Sem
open Idealize.ShloMosaic.Pipeline

/-- A load of one head's plane, or of its columns, or of the masked end of the bias. -/
theorem ld_plane (X : Vec Ideal S4x384x128 .f32) (h : Fin 4) (inb) :
    View.ld X (Rect.unit ![h.val, 0, 0] ![1, 384, 128] inb) = plane X h := by
  funext i
  obtain ⟨z, a, l, rfl⟩ : ∃ (z : Fin 1) (a : Fin 384) (l : Fin 128), i = ix3 z a l := ⟨i 0, i 1, i 2, eq_ix3 i⟩
  pointwise [plane]

theorem ld_cols (X : Vec Ideal S384x256 .bf16) (h : Fin 4) (o : ℕ) (ho : o = h.val * 64) (inb) :
    View.ld X (Rect.unit ![0, o] ![384, 64] inb) = cols X h := by
  subst ho
  funext i
  obtain ⟨a, l, rfl⟩ : ∃ (a : Fin 384) (l : Fin 64), i = ix2 a l := ⟨i 0, i 1, eq_ix2 i⟩
  pointwise [cols]

theorem ld_bias (X : Vec Ideal S1x2816 .f32) (inb) :
    View.ld X (Rect.unit ![0, 2560] ![1, 256] inb) = bias X := by
  funext i
  obtain ⟨z, l, rfl⟩ : ∃ (z : Fin 1) (l : Fin 256), i = ix2 z l := ⟨i 0, i 1, eq_ix2 i⟩
  obtain rfl : z = 0 := Subsingleton.elim _ _
  pointwise [bias]

variable (m : (ℓ : Loc nD τ sig) → Buf (Elt Ideal) ℓ) (c : Dev nD)

theorem tlt (t : Fin cfg0.N) : t.val < 264 := t.isLt

/-- The scores at a grid point, without and with the mask. -/
abbrev sc (t : Fin cfg0.N) (h : Fin 4) : FVec Ideal S384x2816 .f32 := k0_pay13 (F := Ideal) (iblk m c 1 t) (cols (iblk m c 0 t) h)
abbrev scm (t : Fin cfg0.N) (h : Fin 4) : FVec Ideal S384x2816 .f32 := k0_pay60 (F := Ideal) (sc m c t h) (bias (iblk m c 3 t))

/-- The running rows after a point that saw the scores `s` over the planes `mp` and `ap`. -/
abbrev newM (s : FVec Ideal S384x2816 .f32) (mp : FVec Ideal S1x384x128 .f32) : FVec Ideal S1x384x128 .f32 := k0_pay25 (F := Ideal) s mp
abbrev newA (t : Fin cfg0.N) (s : FVec Ideal S384x2816 .f32) (mp ap : FVec Ideal S1x384x128 .f32) : FVec Ideal S1x384x128 .f32 :=
  k0_pay5 (F := Ideal) (k0_pay12 (iblk m c 2 t)) (k0_pay26 (F := Ideal) s mp) (k0_pay28 (F := Ideal) s mp) ap

/-- The point before. -/
abbrev before (t : Fin cfg0.N) := outsAt0 m c (t.val - 1) (Nat.lt_of_le_of_lt (Nat.sub_le _ _) t.isLt)

/-- The head a piece belongs to, and its place there. -/
theorem place {h : Fin 4} {a : Fin 384} {l : Fin 128} (n : Fin 4) (x : S1x384x128.Idx) (h0 : h.val = n.val + (x 0).val)
    (h1 : a.val = (x 1).val) (h2 : l.val = (x 2).val) : h = n ∧ x = ix3 0 a l := by
  have hz : (x 0).val = 0 := by have : (x 0).val < 1 := (x 0).isLt; omega
  refine ⟨Fin.ext (by omega), (eq_ix3 x).trans ?_⟩
  exact congr (congrArg₂ ix3 (Fin.ext hz) (Fin.ext h1.symm)) (Fin.ext h2.symm)

theorem mB (t : Fin cfg0.N) (ht : t.val % 3 = 1) (h : Fin 4) (a : Fin 384) (l : Fin 128) :
    (outsAt0 m c t.val t.isLt).2.2.2.2.1 (ix3 h a l) = newM (sc m c t h) (plane (before m c t).2.2.2.2.1 h) (ix3 0 a l) := by
  rw [outsAt0_B m c t (by omega) (by omega) (by omega) (by omega)]
  frame_out
  simp only [read_unread_whole]
  canon_tiles x hx
  · obtain ⟨rfl, rfl⟩ := place 3 x hx0 hx1 hx2
    exact congrFun (congrArg₂ newM (congrArg (k0_pay13 (F := Ideal) _) (ld_cols _ 3 _ rfl _)) (ld_plane _ 3 _)) _
  · obtain ⟨rfl, rfl⟩ := place 2 x hx0 hx1 hx2
    exact congrFun (congrArg₂ newM (congrArg (k0_pay13 (F := Ideal) _) (ld_cols _ 2 _ rfl _)) (ld_plane _ 2 _)) _
  · obtain ⟨rfl, rfl⟩ := place 1 x hx0 hx1 hx2
    exact congrFun (congrArg₂ newM (congrArg (k0_pay13 (F := Ideal) _) (ld_cols _ 1 _ rfl _)) (ld_plane _ 1 _)) _
  · obtain ⟨rfl, rfl⟩ := place 0 x ((hx0).trans (Nat.zero_add _).symm) hx1 hx2
    exact congrFun (congrArg₂ newM (congrArg (k0_pay13 (F := Ideal) _) (ld_cols _ 0 _ rfl _)) (ld_plane _ 0 _)) _

theorem aB (t : Fin cfg0.N) (ht : t.val % 3 = 1) (h : Fin 4) (a : Fin 384) (l : Fin 128) :
    (outsAt0 m c t.val t.isLt).2.2.2.2.2 (ix3 h a l) = newA m c t (sc m c t h) (plane (before m c t).2.2.2.2.1 h)
      (plane (before m c t).2.2.2.2.2 h) (ix3 0 a l) := by
  rw [outsAt0_B m c t (by omega) (by omega) (by omega) (by omega)]
  frame_out
  simp only [read_unread_whole]
  canon_tiles x hx
  · obtain ⟨rfl, rfl⟩ := place 3 x hx0 hx1 hx2
    exact congrFun (congr (congrArg₂ (newA m c t) (congrArg (k0_pay13 (F := Ideal) _) (ld_cols _ 3 _ rfl _)) (ld_plane _ 3 _)) (ld_plane _ 3 _)) _
  · obtain ⟨rfl, rfl⟩ := place 2 x hx0 hx1 hx2
    exact congrFun (congr (congrArg₂ (newA m c t) (congrArg (k0_pay13 (F := Ideal) _) (ld_cols _ 2 _ rfl _)) (ld_plane _ 2 _)) (ld_plane _ 2 _)) _
  · obtain ⟨rfl, rfl⟩ := place 1 x hx0 hx1 hx2
    exact congrFun (congr (congrArg₂ (newA m c t) (congrArg (k0_pay13 (F := Ideal) _) (ld_cols _ 1 _ rfl _)) (ld_plane _ 1 _)) (ld_plane _ 1 _)) _
  · obtain ⟨rfl, rfl⟩ := place 0 x ((hx0).trans (Nat.zero_add _).symm) hx1 hx2
    exact congrFun (congr (congrArg₂ (newA m c t) (congrArg (k0_pay13 (F := Ideal) _) (ld_cols _ 0 _ rfl _)) (ld_plane _ 0 _)) (ld_plane _ 0 _)) _

/-- Where a piece of one head lies, and the one place of its leading axis. -/
theorem emb_at (n : Fin 4) (x : S1x384x128.Idx) (inb) :
    (Rect.unit (s := S4x384x128) ![n.val, 0, 0] ![1, 384, 128] inb).emb x = ix3 n (x 1) (x 2) := by
  have hz : (x 0).val = 0 := by have : (x 0).val < 1 := (x 0).isLt; omega
  funext b
  refine Fin.ext ?_
  fin_cases b
  · show n.val + 1 * (x 0).val = n.val; omega
  · show 0 + 1 * (x 1).val = (x 1).val; omega
  · show 0 + 1 * (x 2).val = (x 2).val; omega

theorem eq3 (x : S1x384x128.Idx) : x = ix3 0 (x 1) (x 2) := (eq_ix3 x).trans (by
  have hz : x 0 = (0 : Fin 1) := Subsingleton.elim (α := Fin 1) _ _
  exact congrArg (fun z => ix3 z (x 1) (x 2)) hz)

/-- The four heads' planes over each other. -/
def stack (G : Fin 4 → FVec Ideal S1x384x128 .f32) : Vec Ideal S4x384x128 .f32 := fun y => G (y 0) (ix3 0 (y 1) (y 2))

/-- A piece that holds one head of `G`. -/
theorem piece (G : Fin 4 → FVec Ideal S1x384x128 .f32) (n : Fin 4) (P : FVec Ideal S1x384x128 .f32) (inb) (hP : P = G n)
    (x : S1x384x128.Idx) : P x = stack G
      ((Rect.unit (s := S4x384x128) ![n.val, 0, 0] ![1, 384, 128] inb).emb x) := by
  rw [emb_at, hP]
  show G n x = G n (ix3 0 (x 1) (x 2))
  exact congrArg (G n) (eq3 x)

theorem mA (t : Fin cfg0.N) (ht : t.val % 3 = 0) (h : Fin 4) (a : Fin 384) (l : Fin 128) :
    (outsAt0 m c t.val t.isLt).2.2.2.2.1 (ix3 h a l) = newM (sc m c t h) (plane (k0_pay1 (F := Ideal)) h) (ix3 0 a l) := by
  rw [outsAt0_A m c t (by omega) (by omega) (by omega) (by omega)]
  frame_open
  frame_out
  simp (disch := decide) only [↓ View.readCov_skip, ↓ View.readCov_cons_toLoadRect, ↓ View.readCov_fill]
  refine View.canon_append_of_piecesOf (stack (fun h => newM (sc m c t h) (plane (k0_pay1 (F := Ideal)) h))) [_] [_, _, _, _]
    ⟨?_, ?_, ?_, ?_, trivial⟩ _ ?_
  pick_goal 5
  · exact View.cover_of_tiledL _ ![1, 384, 128] rfl _
  · exact piece _ 3 _ inb_S4x384x128_S1x384x128_3_0_0 (congrArg₂ newM (congrArg (k0_pay13 (F := Ideal) _) (ld_cols _ 3 _ rfl _)) (ld_plane _ 3 _))
  · exact piece _ 2 _ inb_S4x384x128_S1x384x128_2_0_0 (congrArg₂ newM (congrArg (k0_pay13 (F := Ideal) _) (ld_cols _ 2 _ rfl _)) (ld_plane _ 2 _))
  · exact piece _ 1 _ inb_S4x384x128_S1x384x128_1_0_0 (congrArg₂ newM (congrArg (k0_pay13 (F := Ideal) _) (ld_cols _ 1 _ rfl _)) (ld_plane _ 1 _))
  · exact piece _ 0 _ inb_S4x384x128_S1x384x128_0_0_0 (congrArg₂ newM (congrArg (k0_pay13 (F := Ideal) _) (ld_cols _ 0 _ rfl _)) (ld_plane _ 0 _))

theorem aA (t : Fin cfg0.N) (ht : t.val % 3 = 0) (h : Fin 4) (a : Fin 384) (l : Fin 128) :
    (outsAt0 m c t.val t.isLt).2.2.2.2.2 (ix3 h a l) = newA m c t (sc m c t h) (plane (k0_pay1 (F := Ideal)) h) (plane (k0_pay2 (F := Ideal)) h) (ix3 0 a l) := by
  rw [outsAt0_A m c t (by omega) (by omega) (by omega) (by omega)]
  frame_open
  frame_out
  simp (disch := decide) only [↓ View.readCov_skip, ↓ View.readCov_cons_toLoadRect, ↓ View.readCov_fill]
  refine View.canon_append_of_piecesOf (stack (fun h => newA m c t (sc m c t h) (plane (k0_pay1 (F := Ideal)) h) (plane (k0_pay2 (F := Ideal)) h))) [_] [_, _, _, _]
    ⟨?_, ?_, ?_, ?_, trivial⟩ _ ?_
  pick_goal 5
  · exact View.cover_of_tiledL _ ![1, 384, 128] rfl _
  · exact piece _ 3 _ inb_S4x384x128_S1x384x128_3_0_0 (congr (congrArg₂ (newA m c t) (congrArg (k0_pay13 (F := Ideal) _) (ld_cols _ 3 _ rfl _)) (ld_plane _ 3 _)) (ld_plane _ 3 _))
  · exact piece _ 2 _ inb_S4x384x128_S1x384x128_2_0_0 (congr (congrArg₂ (newA m c t) (congrArg (k0_pay13 (F := Ideal) _) (ld_cols _ 2 _ rfl _)) (ld_plane _ 2 _)) (ld_plane _ 2 _))
  · exact piece _ 1 _ inb_S4x384x128_S1x384x128_1_0_0 (congr (congrArg₂ (newA m c t) (congrArg (k0_pay13 (F := Ideal) _) (ld_cols _ 1 _ rfl _)) (ld_plane _ 1 _)) (ld_plane _ 1 _))
  · exact piece _ 0 _ inb_S4x384x128_S1x384x128_0_0_0 (congr (congrArg₂ (newA m c t) (congrArg (k0_pay13 (F := Ideal) _) (ld_cols _ 0 _ rfl _)) (ld_plane _ 0 _)) (ld_plane _ 0 _))

end Cert.FwdIdeal.Soft

end
-- ==== Proof.FwdOut.lean ====
/- The forward attention call: the two results of a point, from the four heads' planes. -/
module

public import proofs.«01_k».proof.Proof.Fwd

@[expose] public section

set_option maxRecDepth 16384

noncomputable section

namespace Cert.FwdIdeal.Soft

open Cert.FwdIdeal Cert.FwdIdeal.Gen Idealize.ShloMosaic Idealize.ShloMosaic.TcCoe Idealize.SL.Sem
open Idealize.ShloMosaic.Pipeline

/-- One place of a plane, its lane written in two ways. -/
theorem lane (P : FVec Ideal S1x384x128 .f32) (a : Fin 384) {i j : ℕ} (hi : i < 128) (hj : j < 128) (h : i = j) :
    P (ix3 0 a ⟨i, hi⟩) = P (ix3 0 a ⟨j, hj⟩) := by subst h; rfl

/-- A lane's number compared with a word. -/
theorem pick {l n : ℕ} (hl : l < 128) (hn : n < 128) (x y : EReal) :
    Scalar.select (IntOp.cmpi CmpIPredicate.eq (BitVec.ofNat 32 l) (BitVec.ofNat 32 n)) x y = if l = n then x else y := by
  have e : BitVec.ofNat 32 l = BitVec.ofNat 32 n ↔ l = n := by
    constructor
    · intro h
      have := congrArg BitVec.toNat h
      simp only [BitVec.toNat_ofNat] at this
      omega
    · rintro rfl; rfl
  by_cases h : l = n
  · subst h; simp [Scalar.select, IntOp.cmpi]
  · have h' : (BitVec.ofNat 32 l == BitVec.ofNat 32 n) = false := beq_eq_false_iff_ne.mpr fun k => h (e.mp k)
    simp [Scalar.select, IntOp.cmpi, h, h']

/-- The rows handed on: each head's weighted values over its weights. -/
theorem outO (P0 P1 P2 P3 : FVec Ideal S1x384x128 .f32) (a : Fin 384) (h : Fin 4) (d : Fin 64) :
    k0_pay10 (F := Ideal) (k0_pay89 (F := Ideal) P0) (k0_pay92 (F := Ideal) P1) (k0_pay96 (F := Ideal) P2) P3
        (ix2 a ⟨h.val * 64 + d.val, by omega⟩)
      = Ideal.div ((![P0, P1, P2, P3] : Fin 4 → FVec Ideal S1x384x128 .f32) h (ix3 0 a ⟨d.val, by omega⟩))
          ((![P0, P1, P2, P3] : Fin 4 → FVec Ideal S1x384x128 .f32) h (ix3 0 a ⟨d.val + 64, by omega⟩)) := by
  fin_cases h
  all_goals
    pointwise [k0_pay10, k0_pay89, k0_pay92, k0_pay96, k0_pay7, k0_pay8, k0_pay87, k0_pay88, k0_pay90, k0_pay91, k0_pay94, k0_pay95]
  · exact congrArg₂ Ideal.div rfl (lane P0 a _ _ (by omega))
  · exact congrArg₂ Ideal.div rfl (lane P1 a _ _ (by omega))
  · rw [dif_neg (by omega), dif_neg (by omega), dif_pos (by omega)]
    exact congrArg₂ Ideal.div (lane P2 a _ _ (by omega)) (lane P2 a _ _ (by omega))
  · rw [dif_neg (by omega), dif_neg (by omega), dif_neg (by omega)]
    exact congrArg₂ Ideal.div (lane P3 a _ _ (by omega)) (lane P3 a _ _ (by omega))

/-- The logarithms handed on, one lane a head. -/
theorem outL (P0 P1 P2 P3 M0 M1 M2 M3 : FVec Ideal S1x384x128 .f32) (a : Fin 384) (l : Fin 128) :
    k0_pay9 (F := Ideal) (iota .tc S384x128 32 [1] iota_S384x128_d1_w32) (k0_pay93 (F := Ideal) P0 M0 P1 M1) (k0_pay95 (F := Ideal) P2)
        k0_pay97 (k0_pay98 (F := Ideal) M2) P3 M3 (ix2 a l)
      = if h : l.val < 4 then (![M0, M1, M2, M3] : Fin 4 → FVec Ideal S1x384x128 .f32) ⟨l.val, h⟩ (ix3 0 a l)
          + Ideal.log ((![P0, P1, P2, P3] : Fin 4 → FVec Ideal S1x384x128 .f32) ⟨l.val, h⟩ (ix3 0 a ⟨l.val + 64, by omega⟩)) else 0 := by
  pointwise [k0_pay9, k0_pay93, k0_pay95, k0_pay97, k0_pay98, k0_pay7, k0_pay8, k0_pay87, k0_pay88, k0_pay90, k0_pay91, k0_pay94]
  have hl : l.val < 128 := l.isLt
  refine (pick hl (by omega) _ _).trans ?_
  rw [pick (n := 2) hl (by omega), pick (n := 1) hl (by omega), pick (n := 0) hl (by omega)]
  by_cases h3 : l.val = 3
  · obtain rfl : l = 3 := Fin.ext h3
    rfl
  by_cases h2 : l.val = 2
  · obtain rfl : l = 2 := Fin.ext h2
    rfl
  by_cases h1 : l.val = 1
  · obtain rfl : l = 1 := Fin.ext h1
    rfl
  by_cases h0 : l.val = 0
  · obtain rfl : l = 0 := Fin.ext h0
    rfl
  rw [if_neg h3, if_neg h2, if_neg h1, if_neg h0, dif_neg (by omega)]

end Cert.FwdIdeal.Soft

end
-- ==== Proof.FwdLast.lean ====
/- The forward attention call: what the last point of a row hands on. -/
module

public import proofs.«01_k».proof.Proof.FwdStep
public import proofs.«01_k».proof.Proof.FwdOut

@[expose] public section

set_option maxRecDepth 16384

noncomputable section

namespace Cert.FwdIdeal.Soft

open Cert.FwdIdeal Cert.FwdIdeal.Gen Idealize.ShloMosaic Idealize.ShloMosaic.TcCoe Idealize.SL.Sem
open Idealize.ShloMosaic.Pipeline

variable (m : (ℓ : Loc nD τ sig) → Buf (Elt Ideal) ℓ) (c : Dev nD)

theorem four {α : Type} (f : Fin 4 → α) : ![f 0, f 1, f 2, f 3] = f := by
  funext i
  fin_cases i <;> rfl

/-- Head `h`'s planes after the last point of a row. -/
abbrev endA (t : Fin cfg0.N) (h : Fin 4) : FVec Ideal S1x384x128 .f32 :=
  newA m c t (scm m c t h) (plane (before m c t).2.2.2.2.1 h) (plane (before m c t).2.2.2.2.2 h)
abbrev endM (t : Fin cfg0.N) (h : Fin 4) : FVec Ideal S1x384x128 .f32 := newM (scm m c t h) (plane (before m c t).2.2.2.2.1 h)

/-- The loads one head's planes come from. -/
theorem toM (t : Fin cfg0.N) (h : Fin 4) (o : ℕ) (ho : o = h.val * 64) (i1 i2 i3) :
    newM (k0_pay60 (F := Ideal) (k0_pay13 (F := Ideal) (iblk m c 1 t) (View.ld (iblk m c 0 t : Vec Ideal S384x256 .bf16) (Rect.unit ![0, o] ![384, 64] i1)))
        (View.ld (iblk m c 3 t : Vec Ideal S1x2816 .f32) (Rect.unit ![0, 2560] ![1, 256] i2)))
      (View.ld (before m c t).2.2.2.2.1 (Rect.unit ![h.val, 0, 0] ![1, 384, 128] i3)) = endM m c t h :=
  congrArg₂ newM (congrArg₂ (k0_pay60 (F := Ideal)) (congrArg (k0_pay13 (F := Ideal) _) (ld_cols _ h _ ho _)) (ld_bias _ _)) (ld_plane _ h _)

theorem toA (t : Fin cfg0.N) (h : Fin 4) (o : ℕ) (ho : o = h.val * 64) (i1 i2 i3 i4) :
    newA m c t (k0_pay60 (F := Ideal) (k0_pay13 (F := Ideal) (iblk m c 1 t) (View.ld (iblk m c 0 t : Vec Ideal S384x256 .bf16) (Rect.unit ![0, o] ![384, 64] i1)))
        (View.ld (iblk m c 3 t : Vec Ideal S1x2816 .f32) (Rect.unit ![0, 2560] ![1, 256] i2)))
      (View.ld (before m c t).2.2.2.2.1 (Rect.unit ![h.val, 0, 0] ![1, 384, 128] i3))
      (View.ld (before m c t).2.2.2.2.2 (Rect.unit ![h.val, 0, 0] ![1, 384, 128] i4)) = endA m c t h :=
  congr (congrArg₂ (newA m c t) (congrArg₂ (k0_pay60 (F := Ideal)) (congrArg (k0_pay13 (F := Ideal) _) (ld_cols _ h _ ho _)) (ld_bias _ _))
    (ld_plane _ h _)) (ld_plane _ h _)

theorem oC (t : Fin cfg0.N) (ht : t.val % 3 = 2) (a : Fin 384) (h : Fin 4) (d : Fin 64) :
    (outsAt0 m c t.val t.isLt).1 (ix2 a ⟨h.val * 64 + d.val, by omega⟩)
      = Ideal.div (endA m c t h (ix3 0 a ⟨d.val, by omega⟩)) (endA m c t h (ix3 0 a ⟨d.val + 64, by omega⟩)) := by
  rw [outsAt0_C m c t (by omega) (by omega) (by omega) (by omega)]
  frame_open
  frame_out
  simp (disch := decide) only [↓ View.readCov_skip, ↓ View.readCov_cons_toLoadRect, ↓ View.readCov_fill]
  simp only [read_unread_whole]
  refine (congrFun (congr (congr (congrArg₂ (k0_pay10 (F := Ideal)) (congrArg (k0_pay89 (F := Ideal)) (toA m c t 0 _ rfl _ _ _ _))
    (congrArg (k0_pay92 (F := Ideal)) (toA m c t 1 _ rfl _ _ _ _)))
    (congrArg (k0_pay96 (F := Ideal)) (toA m c t 2 _ rfl _ _ _ _))) (toA m c t 3 _ rfl _ _ _ _)) _).trans
    ((outO (endA m c t 0) (endA m c t 1) (endA m c t 2) (endA m c t 3) a h d).trans ?_)
  fin_cases h <;> rfl

theorem lC (t : Fin cfg0.N) (ht : t.val % 3 = 2) (a : Fin 384) (l : Fin 128) :
    (outsAt0 m c t.val t.isLt).2.1 (ix2 a l) = if h : l.val < 4 then endM m c t ⟨l.val, h⟩ (ix3 0 a l)
      + Ideal.log (endA m c t ⟨l.val, h⟩ (ix3 0 a ⟨l.val + 64, by omega⟩)) else 0 := by
  rw [outsAt0_C m c t (by omega) (by omega) (by omega) (by omega)]
  frame_open
  frame_out
  simp (disch := decide) only [↓ View.readCov_skip, ↓ View.readCov_cons_toLoadRect, ↓ View.readCov_fill]
  simp only [read_unread_whole]
  refine (congrFun (congr (congr (congr (congrFun (congr (congrArg (k0_pay9 (F := Ideal) _)
    (congr (congr (congrArg₂ (k0_pay93 (F := Ideal)) (toA m c t 0 _ rfl _ _ _ _) (toM m c t 0 _ rfl _ _ _)) (toA m c t 1 _ rfl _ _ _ _)) (toM m c t 1 _ rfl _ _ _)))
    (congrArg (k0_pay95 (F := Ideal)) (toA m c t 2 _ rfl _ _ _ _))) _)
    (congrArg (k0_pay98 (F := Ideal)) (toM m c t 2 _ rfl _ _ _))) (toA m c t 3 _ rfl _ _ _ _)) (toM m c t 3 _ rfl _ _ _)) _).trans
    ((outL (endA m c t 0) (endA m c t 1) (endA m c t 2) (endA m c t 3) (endM m c t 0) (endM m c t 1) (endM m c t 2) (endM m c t 3)
      a l).trans ?_)
  rw [four (endM m c t), four (endA m c t)]

end Cert.FwdIdeal.Soft

end
-- ==== Proof.Model.lean ====
/- The gradient of the attention over the reals, one number at a time. -/
module

public import proofs.«01_k».proof.Proof.Reals

@[expose] public section

noncomputable section

namespace Cert.Attn

open Idealize.ShloMosaic

/-- The column of feature `d` of query head `r` of group `g`. -/
def col (g r : Fin 4) (d : Fin 64) : Fin 1024 := ⟨(g.val * 4 + r.val) * 64 + d.val, by omega⟩

/-- The column of feature `d` of the key head of group `g`. -/
def colk (g : Fin 4) (d : Fin 64) : Fin 256 := ⟨g.val * 64 + d.val, by omega⟩

variable (Q : Fin 8208 → Fin 1024 → ℝ) (K V : Fin 8208 → Fin 256 → ℝ) (C : Fin 8208 → Fin 1024 → ℝ)

/-- The score of token `n` against token `j`. -/
def score (g r : Fin 4) (n j : Fin 8208) : ℝ := ∑ d : Fin 64, Q n (col g r d) * K j (colk g d)

/-- The attention weight. -/
def wt (g r : Fin 4) (n j : Fin 8208) : ℝ := weight (score Q K g r n) j

/-- The cotangent of the attention weight. -/
def dw (g r : Fin 4) (n j : Fin 8208) : ℝ := ∑ d : Fin 64, C n (col g r d) * V j (colk g d)

/-- The row term: the weights against their cotangents. -/
def dl (g r : Fin 4) (n : Fin 8208) : ℝ := ∑ j, wt Q K g r n j * dw V C g r n j

/-- The cotangent of the score. -/
def ds (g r : Fin 4) (n j : Fin 8208) : ℝ := wt Q K g r n j * (dw V C g r n j - dl Q K V C g r n)

/-- The cotangent of the queries. -/
def gq (n : Fin 8208) (g r : Fin 4) (d : Fin 64) : ℝ := ∑ j, ds Q K V C g r n j * K j (colk g d)

/-- The cotangent of the keys. -/
def gk (g : Fin 4) (j : Fin 8208) (d : Fin 64) : ℝ := ∑ r : Fin 4, ∑ n, ds Q K V C g r n j * Q n (col g r d)

/-- The cotangent of the values. -/
def gv (g : Fin 4) (j : Fin 8208) (d : Fin 64) : ℝ := ∑ r : Fin 4, ∑ n, wt Q K g r n j * C n (col g r d)

end Cert.Attn

end
-- ==== Proof.FwdRow.lean ====
/- The forward attention call: the running rows over the three blocks of a row of tokens. -/
module

public import proofs.«01_k».proof.Proof.FwdLast
public import proofs.«01_k».proof.Proof.Online
public import proofs.«01_k».proof.Proof.Model

@[expose] public section

set_option maxRecDepth 16384

noncomputable section

namespace Cert.FwdIdeal.Soft

open Cert.FwdIdeal Cert.FwdIdeal.Gen Cert.Soft Idealize.ShloMosaic Idealize.ShloMosaic.TcCoe Idealize.SL.Sem
open Idealize.ShloMosaic.Pipeline

/-- One block carries the running rows on. -/
theorem advance (v : FVec Ideal S1x2816x128 .bf16) (s : FVec Ideal S384x2816 .f32) (mp ap : FVec Ideal S1x384x128 .f32) (a : Fin 384)
    {A : Fin 128 → ℝ} (e : Fin 2816 → ℝ) (w : Fin 2816 → Fin 128 → ℝ) (hs : ∀ j, Entry (s (ix2 a j)) (e j))
    (hne : ∃ j, s (ix2 a j) ≠ ⊥) (hv : ∀ j l, v (ix3 0 j l) = ((w j l : ℝ) : EReal))
    (hp : Prior (fun l : Fin 128 => mp (ix3 0 a l)) (fun l => ap (ix3 0 a l)) A) :
    State (fun l : Fin 128 => newM s mp (ix3 0 a l))
      (fun l => k0_pay5 (F := Ideal) (k0_pay12 v) (k0_pay26 (F := Ideal) s mp) (k0_pay28 (F := Ideal) s mp) ap (ix3 0 a l))
      (fun l => A l + ∑ j, e j * w j l) := by
  have hk : ∀ l : Fin 128, newM s mp (ix3 0 a l) = k0_pay24 (F := Ideal) s mp (ix2 a l) := fun l => kept s mp a l
  refine Cert.Soft.step (0 : Fin 128) hp (fun j => s (ix2 a j)) e w hs hne (fun l => ?_) fun l => ?_
  · exact (hk l).trans (newmax s mp a l)
  · refine (added ap v _ _ a l).trans ?_
    refine congrArg₂ (· + ·) (congrArg₂ (· * ·) rfl ((scale s mp a l).trans ?_)) (Finset.sum_congr rfl fun j _ => ?_)
    · rw [hk]
    · rw [expo, hv, hk]

end Cert.FwdIdeal.Soft

end
-- ==== Proof.FwdRead.lean ====
/- The forward attention call: what its blocks read of the arguments. -/
module

public import proofs.«01_k».proof.Proof.Fwd
public import proofs.«01_k».proof.Proof.Reals
public import Idealize.ShloMosaic.Lib.Claim

@[expose] public section

set_option maxRecDepth 16384

noncomputable section

namespace Cert.FwdIdeal.Soft

open Cert.FwdIdeal Cert.FwdIdeal.Gen Idealize.ShloMosaic Idealize.ShloMosaic.TcCoe Idealize.SL.Sem
open Idealize.ShloMosaic.Pipeline

variable (m : (ℓ : Loc nD τ sig) → Buf (Elt Ideal) ℓ) (c : Dev nD)

theorem idx : ∀ t : Fin cfg0.N, win0_0.index t = ![t.val / 3 % 22, t.val / 66] ∧ win0_1.index t = ![t.val / 66, t.val % 3, 0]
    ∧ win0_2.index t = ![t.val / 66, t.val % 3, 0] ∧ win0_3.index t = ![0, t.val % 3]
    ∧ win0_4.index t = ![t.val / 3 % 22, t.val / 66] ∧ win0_5.index t = ![t.val / 3 % 22, t.val / 66] :=
  (by decide +kernel : ∀ t : Fin grid0.N, _)

theorem word0 : (FloatOps.sitofp (F := Ideal) FTy.f32 (0#32) : EReal) = 0 := by
  show ((((0#32 : BitVec 32).toInt : ℤ) : ℝ) : EReal) = 0
  simp

/-- The queries as the call's operand. -/
def queries (x : FVec Ideal S8208x1024 .f32) : FVec Ideal S8448x1024 .bf16 :=
  truncf .bf16 (pad S8448x1024 ![0, 0] ![240, 0] ![0, 0] x (sitofp .f32 (constantI S_ 32 0#32)) pads_S8208x1024_S8448x1024_02400_000 h_S_) bitsLt_bf16_f32

/-- The keys, or the values, with heads first. -/
def headsFirst (x : FVec Ideal S8208x256 .f32) : FVec Ideal S4x8448x64 .bf16 :=
  truncf .bf16 (pad S4x8448x64 ![0, 0, 0] ![0, 240, 0] ![0, 0, 0] (transpose S4x8208x64 [1, 0, 2] (shapeCast _ x shapeCasts_S8208x256_S8208x4x64) transposes_S8208x4x64_S4x8208x64_1_0_2) (sitofp .f32 (constantI S_ 32 0#32)) pads_S4x8208x64_S4x8448x64_000_02400_000 h_S_) bitsLt_bf16_f32

/-- The values beside a block of ones. -/
def withOnes (x : FVec Ideal S8208x256 .f32) : FVec Ideal S4x8448x128 .bf16 :=
  concatenate S4x8448x128 2 [⟨S4x8448x64, headsFirst x⟩, ⟨S4x8448x64, (truncf .bf16 (broadcastInDim S4x8448x64 ![] bcast_S_S4x8448x64 (constant (F := Ideal) S_ .f32 0x3F800000#32)) bitsLt_bf16_f32 : FVec Ideal S4x8448x64 .bf16)⟩] concatenates_S4x8448x64_S4x8448x64_S4x8448x128_d2

/-- Nothing on the tokens, the mask on the padding. -/
def padMask : FVec Ideal S1x8448 .f32 :=
  shapeCast _ (select (cmpi .slt (iotaInDim S8448 32 0) (broadcastInDim S8448 ![] bcast_S_S8448 (constantI S_ 32 8208#32)))
    (broadcastInDim S8448 ![] bcast_S_S8448 (constant (F := Ideal) S_ .f32 0x00000000#32))
    (broadcastInDim S8448 ![] bcast_S_S8448 (constant (F := Ideal) S_ .f32 0xFF800000#32))) shapeCasts_S8448_S1x8448

theorem read_q : V m c main_v1 = queries (m ((c : Thread nD τ).loc main_arg0)) := by entry_read; rfl
theorem read_k : V m c main_v5 = headsFirst (m ((c : Thread nD τ).loc main_arg1)) := by entry_read; rfl
theorem read_v : V m c main_v12 = withOnes (m ((c : Thread nD τ).loc main_arg2)) := by entry_read; rfl
theorem read_b : V m c main_v17 = padMask := by entry_read; rfl

theorem queries_at (x : FVec Ideal S8208x1024 .f32) (n : Fin 8448) (k : Fin 1024) :
    queries x (ix2 n k) = if h : n.val < 8208 then x (ix2 ⟨n.val, h⟩ k) else 0 := by
  pointwise [queries]
  simp only [word0]

theorem headsFirst_at (x : FVec Ideal S8208x256 .f32) (g : Fin 4) (j : Fin 8448) (d : Fin 64) :
    headsFirst x (ix3 g j d) = if h : j.val < 8208 then x (ix2 ⟨j.val, h⟩ ⟨g.val * 64 + d.val, by omega⟩) else 0 := by
  pointwise [headsFirst]
  simp only [word0]

theorem withOnes_at (x : FVec Ideal S8208x256 .f32) (g : Fin 4) (j : Fin 8448) (l : Fin 128) :
    withOnes x (ix3 g j l) = if hl : l.val < 64 then headsFirst x (ix3 g j ⟨l.val, hl⟩) else 1 := by
  pointwise [withOnes]

/-- A key's number against the number of tokens. -/
theorem less {j : ℕ} (hj : j < 8448) (x y : EReal) :
    Scalar.select (IntOp.cmpi CmpIPredicate.slt (BitVec.ofNat 32 j) 8208#32) x y = if j < 8208 then x else y := by
  have e : (BitVec.ofNat 32 j).toInt = (j : ℤ) := by
    rw [BitVec.toInt_eq_toNat_of_lt (by simp only [BitVec.toNat_ofNat]; omega), BitVec.toNat_ofNat, Nat.mod_eq_of_lt (by omega)]
  have f : (8208#32 : BitVec 32).toInt = 8208 := by decide
  by_cases h : j < 8208
  · have g : (BitVec.ofNat 32 j).slt 8208#32 = true := by
      simp only [BitVec.slt, e, f, decide_eq_true_eq]; omega
    simp [Scalar.select, IntOp.cmpi, h, g]
  · have g : (BitVec.ofNat 32 j).slt 8208#32 = false := by
      simp only [BitVec.slt, e, f, decide_eq_false_iff_not]; omega
    simp [Scalar.select, IntOp.cmpi, h, g]

theorem padMask_at (j : Fin 8448) : padMask (ix2 0 j) = if j.val < 8208 then (0 : EReal) else ⊥ := by
  pointwise [padMask]
  rw [less j.isLt, Cert.Attn.ofBits_bot]

/-! The blocks at a point, of the operands. -/

theorem q_blk (t : Fin cfg0.N) (a : Fin 384) (k : Fin 256) :
    iblk m c 0 t (ix2 a k) = V m c main_v1 (ix2 ⟨t.val / 3 % 22 * 384 + a.val, by omega⟩ ⟨t.val / 66 * 256 + k.val, by have : t.val < 264 := t.isLt; omega⟩) := by
  blk_point [iblk, idx t]

theorem k_blk (t : Fin cfg0.N) (j : Fin 2816) (d : Fin 64) :
    iblk m c 1 t (ix3 0 j d) = V m c main_v5 (ix3 ⟨t.val / 66, by have : t.val < 264 := t.isLt; omega⟩ ⟨t.val % 3 * 2816 + j.val, by omega⟩ d) := by
  blk_point [iblk, idx t]

theorem v_blk (t : Fin cfg0.N) (j : Fin 2816) (l : Fin 128) :
    iblk m c 2 t (ix3 0 j l) = V m c main_v12 (ix3 ⟨t.val / 66, by have : t.val < 264 := t.isLt; omega⟩ ⟨t.val % 3 * 2816 + j.val, by omega⟩ l) := by
  blk_point [iblk, idx t]

theorem b_blk (t : Fin cfg0.N) (j : Fin 2816) :
    iblk m c 3 t (ix2 0 j) = V m c main_v17 (ix2 0 ⟨t.val % 3 * 2816 + j.val, by omega⟩) := by
  blk_point [iblk, idx t]

end Cert.FwdIdeal.Soft

end
-- ==== Proof.FwdModel.lean ====
/- The attention over the reals at the padded rows, one number at a time. -/
module

public import proofs.«01_k».proof.Proof.Model

@[expose] public section

noncomputable section

namespace Cert.Soft

open Idealize.ShloMosaic Cert.Attn

variable (Q : Fin 8208 → Fin 1024 → ℝ) (K V : Fin 8208 → Fin 256 → ℝ)

/-- The queries, with zeros on the padding. -/
def rowQ (n : Fin 8448) (c : Fin 1024) : ℝ := if h : n.val < 8208 then Q ⟨n.val, h⟩ c else 0

/-- The score of row `n` against token `j`. -/
def sim (g r : Fin 4) (n : Fin 8448) (j : Fin 8208) : ℝ := ∑ d : Fin 64, rowQ Q n (col g r d) * K j (colk g d)

/-- The values under the softmax of the scores. -/
def outR (g r : Fin 4) (n : Fin 8448) (d : Fin 64) : ℝ := ∑ j, weight (sim Q K g r n) j * V j (colk g d)

/-- The logarithm of the softmax's denominator. -/
def lseR (g r : Fin 4) (n : Fin 8448) : ℝ := Real.log (den (sim Q K g r n))

theorem rowQ_coe (x : Fin 8208 → Fin 1024 → EReal) (hx : ∀ n c, x n c = ((Q n c : ℝ) : EReal)) (n : Fin 8448) (c : Fin 1024) :
    (if h : n.val < 8208 then x ⟨n.val, h⟩ c else 0) = ((rowQ Q n c : ℝ) : EReal) := by
  unfold rowQ
  split
  · exact hx _ _
  · exact EReal.coe_zero.symm

end Cert.Soft

end
-- ==== Proof.FwdSum.lean ====
/- The forward attention call: the running rows over the three blocks of keys, and what they come to. -/
module

public import proofs.«01_k».proof.Proof.FwdRow
public import proofs.«01_k».proof.Proof.FwdRead
public import proofs.«01_k».proof.Proof.FwdModel

@[expose] public section

set_option maxRecDepth 16384

noncomputable section

namespace Cert.FwdIdeal.Soft

open Cert.FwdIdeal Cert.FwdIdeal.Gen Cert.Attn Cert.Soft Idealize.ShloMosaic Idealize.ShloMosaic.TcCoe Idealize.SL.Sem
open Idealize.ShloMosaic.Pipeline

variable (m : (ℓ : Loc nD τ sig) → Buf (Elt Ideal) ℓ) (c : Dev nD)

/-- The queries' operand. -/
abbrev operand : FVec Ideal S8448x1024 .bf16 := V m c main_v1

variable (Q : Fin 8208 → Fin 1024 → ℝ) (K V : Fin 8208 → Fin 256 → ℝ)

/-- The arguments hold these reals. -/
structure Holds : Prop where
  q : ∀ n i, (m ((c : Thread nD τ).loc main_arg0) : FVec Ideal S8208x1024 .f32) (ix2 n i) = ((Q n i : ℝ) : EReal)
  k : ∀ n i, (m ((c : Thread nD τ).loc main_arg1) : FVec Ideal S8208x256 .f32) (ix2 n i) = ((K n i : ℝ) : EReal)
  v : ∀ n i, (m ((c : Thread nD τ).loc main_arg2) : FVec Ideal S8208x256 .f32) (ix2 n i) = ((V n i : ℝ) : EReal)

/-- A key's, or a value's, entry with zeros on the padding. -/
def padded (X : Fin 8208 → Fin 256 → ℝ) (g : Fin 4) (j : ℕ) (d : Fin 64) : ℝ := if h : j < 8208 then X ⟨j, h⟩ (colk g d) else 0

/-- The exponential of a key's score, zero on the padding. -/
def part (g r : Fin 4) (n : Fin 8448) (j : ℕ) : ℝ := if h : j < 8208 then Real.exp (sim Q K g r n ⟨j, h⟩) else 0

/-- What a key's exponential is summed against: its values, and ones. -/
def against (g : Fin 4) (j : ℕ) (l : Fin 128) : ℝ := if hl : l.val < 64 then padded V g j ⟨l.val, hl⟩ else 1

/-- One block's share of the sums. -/
def share (g r : Fin 4) (n : Fin 8448) (b : ℕ) (l : Fin 128) : ℝ :=
  ∑ j : Fin 2816, part Q K g r n (b * 2816 + j.val) * against V g (b * 2816 + j.val) l

variable {m c Q K V} (H : Holds m c Q K V)
include H

section Blocks

variable (t : Fin cfg0.N) {g : Fin 4} (hg : g.val = t.val / 66)
include hg

theorem key_real (j : Fin 2816) (d : Fin 64) : iblk m c 1 t (ix3 0 j d) = ((padded K g (t.val % 3 * 2816 + j.val) d : ℝ) : EReal) := by
  have hl : t.val / 66 < 4 := by have : t.val < 264 := t.isLt; omega
  obtain rfl : g = ⟨t.val / 66, hl⟩ := Fin.ext hg
  refine (k_blk m c t j d).trans ((congrFun (read_k m c) _).trans ((headsFirst_at _ _ _ _).trans ?_))
  unfold padded
  split
  · exact H.k _ _
  · exact EReal.coe_zero.symm

theorem value_real (j : Fin 2816) (l : Fin 128) : iblk m c 2 t (ix3 0 j l) = ((against V g (t.val % 3 * 2816 + j.val) l : ℝ) : EReal) := by
  have hl : t.val / 66 < 4 := by have : t.val < 264 := t.isLt; omega
  obtain rfl : g = ⟨t.val / 66, hl⟩ := Fin.ext hg
  refine (v_blk m c t j l).trans ((congrFun (read_v m c) _).trans ((withOnes_at _ _ _ _).trans ?_))
  unfold against
  split
  · refine (headsFirst_at _ _ _ _).trans ?_
    unfold padded
    split
    · exact H.v _ _
    · exact EReal.coe_zero.symm
  · exact EReal.coe_one.symm

variable {n : Fin 8448} {a : Fin 384} (hn : n.val = t.val / 3 % 22 * 384 + a.val)
include hn

theorem query_real (r : Fin 4) (d : Fin 64) : cols (iblk m c 0 t) r (ix2 a d) = ((rowQ Q n (col g r d) : ℝ) : EReal) := by
  have e : (⟨t.val / 66 * 256 + (r.val * 64 + d.val), by have : t.val < 264 := t.isLt; omega⟩ : Fin 1024) = col g r d :=
    Fin.ext (by simp only [col]; omega)
  have e' : (⟨t.val / 3 % 22 * 384 + a.val, by omega⟩ : Fin 8448) = n := Fin.ext hn.symm
  refine (q_blk m c t a ⟨r.val * 64 + d.val, by omega⟩).trans ((congrArg₂ (fun x y => operand m c (ix2 x y)) e' e).trans ?_)
  exact (congrFun (read_q m c) _).trans ((queries_at _ _ _).trans (rowQ_coe Q _ H.q _ _))

theorem sc_real (r : Fin 4) (j : Fin 2816) :
    sc m c t r (ix2 a j) = ((∑ d, rowQ Q n (col g r d) * padded K g (t.val % 3 * 2816 + j.val) d : ℝ) : EReal) := by
  rw [← sum_coe]
  refine (scores _ _ a j).trans (Finset.sum_congr rfl fun d _ => ?_)
  rw [EReal.coe_mul]
  exact congrArg₂ (· * ·) (query_real H t hg hn r d) (key_real H t hg j d)

/-- A score of a token, whatever the block. -/
theorem sc_entry (r : Fin 4) (j : Fin 2816) (hj : t.val % 3 * 2816 + j.val < 8208) :
    Entry (sc m c t r (ix2 a j)) (part Q K g r n (t.val % 3 * 2816 + j.val)) := by
  refine Or.inl ⟨_, sc_real H t hg hn r j, ?_⟩
  rw [part, dif_pos hj, sim]
  exact congrArg Real.exp (Finset.sum_congr rfl fun d _ => by rw [padded, dif_pos hj])

/-- A score of the last block, masked. -/
theorem scm_entry (ht : t.val % 3 = 2) (r : Fin 4) (j : Fin 2816) :
    Entry (scm m c t r (ix2 a j)) (part Q K g r n (t.val % 3 * 2816 + j.val)) := by
  have e := masked (sc m c t r) (bias (iblk m c 3 t)) a j
  by_cases h : j.val < 2560
  · rw [dif_pos h] at e
    refine Eq.subst (motive := fun x => Entry x _) e.symm ?_
    exact sc_entry H t hg hn r j (by omega)
  · rw [dif_neg h] at e
    have b : bias (iblk m c 3 t) (ix2 0 ⟨j.val - 2560, by omega⟩) = if t.val % 3 * 2816 + j.val < 8208 then (0 : EReal) else ⊥ := by
      have e' : (⟨2560 + (j.val - 2560), by omega⟩ : Fin 2816) = j := Fin.ext (by simp only; omega)
      refine (congrArg (fun x => iblk m c 3 t (ix2 0 x)) e').trans ?_
      exact (b_blk m c t j).trans ((congrFun (read_b m c) _).trans (padMask_at _))
    rw [b] at e
    by_cases h' : t.val % 3 * 2816 + j.val < 8208
    · rw [if_pos h', add_zero] at e
      exact Eq.subst (motive := fun x => Entry x _) e.symm (sc_entry H t hg hn r j h')
    · rw [if_neg h', EReal.add_bot] at e
      exact Or.inr ⟨e, by rw [part, dif_neg h']⟩

/-- One block at a point, over planes that hold the sums so far. -/
theorem block (r : Fin 4) (s : FVec Ideal S384x2816 .f32) (hs : ∀ j, Entry (s (ix2 a j)) (part Q K g r n (t.val % 3 * 2816 + j.val)))
    (mp ap : FVec Ideal S1x384x128 .f32) {A : Fin 128 → ℝ} (hp : Prior (fun l : Fin 128 => mp (ix3 0 a l)) (fun l => ap (ix3 0 a l)) A) :
    State (fun l : Fin 128 => newM s mp (ix3 0 a l)) (fun l => newA m c t s mp ap (ix3 0 a l))
      (fun l => A l + share Q K V g r n (t.val % 3) l) := by
  refine advance (iblk m c 2 t) s mp ap a _ _ hs ⟨0, fun e => ?_⟩ (fun j l => value_real H t hg j l) hp
  have hj : t.val % 3 * 2816 + (0 : Fin 2816).val < 8208 := by have : (0 : Fin 2816).val = 0 := rfl; omega
  rcases hs 0 with ⟨x, hx, -⟩ | ⟨-, hx⟩
  · exact EReal.coe_ne_bot x (hx.symm.trans e)
  · rw [part, dif_pos hj] at hx
    exact (Real.exp_pos _).ne' hx

theorem stateA (ht : t.val % 3 = 0) (r : Fin 4) :
    State (fun l : Fin 128 => (outsAt0 m c t.val t.isLt).2.2.2.2.1 (ix3 r a l)) (fun l => (outsAt0 m c t.val t.isLt).2.2.2.2.2 (ix3 r a l))
      (fun l => 0 + share Q K V g r n 0 l) := by
  have e := block H t hg hn r (sc m c t r) (fun j => sc_entry H t hg hn r j (by omega)) (plane (k0_pay1 (F := Ideal)) r)
    (plane (k0_pay2 (F := Ideal)) r) (A := fun _ => 0)
    (Or.inl fun l => ⟨IdealRules.named_const.ideal_named_scalar _ _ _ _ rfl, Ideal.ofBits_zero .f32, rfl⟩)
  rw [ht] at e
  obtain ⟨M, e⟩ := e
  exact ⟨M, fun l => ⟨(mA m c t ht r a l).trans (e l).1, (aA m c t ht r a l).trans (e l).2⟩⟩

end Blocks

variable {g : Fin 4} {n : Fin 8448} {a : Fin 384}

theorem stateB (t : Fin cfg0.N) (hg : g.val = t.val / 66) (hn : n.val = t.val / 3 % 22 * 384 + a.val) (ht : t.val % 3 = 1) (r : Fin 4) :
    State (fun l : Fin 128 => (outsAt0 m c t.val t.isLt).2.2.2.2.1 (ix3 r a l)) (fun l => (outsAt0 m c t.val t.isLt).2.2.2.2.2 (ix3 r a l))
      (fun l => 0 + share Q K V g r n 0 l + share Q K V g r n 1 l) := by
  have p := stateA H ⟨t.val - 1, Nat.lt_of_le_of_lt (Nat.sub_le _ _) t.isLt⟩ (g := g) (n := n) (a := a)
    (by simp only; omega) (by simp only; omega) (by simp only; omega) r
  have e := block H t hg hn r (sc m c t r) (fun j => sc_entry H t hg hn r j (by omega)) (plane (before m c t).2.2.2.2.1 r)
    (plane (before m c t).2.2.2.2.2 r) (Or.inr p)
  rw [ht] at e
  obtain ⟨M, e⟩ := e
  exact ⟨M, fun l => ⟨(mB m c t ht r a l).trans (e l).1, (aB m c t ht r a l).trans (e l).2⟩⟩

theorem stateC (t : Fin cfg0.N) (hg : g.val = t.val / 66) (hn : n.val = t.val / 3 % 22 * 384 + a.val) (ht : t.val % 3 = 2) (r : Fin 4) :
    State (fun l : Fin 128 => endM m c t r (ix3 0 a l)) (fun l => endA m c t r (ix3 0 a l))
      (fun l => 0 + share Q K V g r n 0 l + share Q K V g r n 1 l + share Q K V g r n 2 l) := by
  have p := stateB H ⟨t.val - 1, Nat.lt_of_le_of_lt (Nat.sub_le _ _) t.isLt⟩ (g := g) (n := n) (a := a)
    (by simp only; omega) (by simp only; omega) (by simp only; omega) r
  have e := block H t hg hn r (scm m c t r) (fun j => scm_entry H t hg hn ht r j) (plane (before m c t).2.2.2.2.1 r)
    (plane (before m c t).2.2.2.2.2 r) (Or.inr p)
  rw [ht] at e
  exact e

omit H

/-- The three shares are the sum over the tokens. -/
theorem shares (r : Fin 4) (l : Fin 128) :
    0 + share Q K V g r n 0 l + share Q K V g r n 1 l + share Q K V g r n 2 l
      = ∑ j : Fin 8208, Real.exp (sim Q K g r n j) * against V g j.val l := by
  let f : ℕ → ℝ := fun j => part Q K g r n j * against V g j l
  have hs : ∀ b, share Q K V g r n b l = ∑ j ∈ Finset.range 2816, f (b * 2816 + j) := fun b =>
    (Finset.sum_range fun j => f (b * 2816 + j)).symm
  have ht : ∑ j : Fin 8208, Real.exp (sim Q K g r n j) * against V g j.val l = ∑ j ∈ Finset.range 8208, f j := by
    rw [Finset.sum_range]
    exact Finset.sum_congr rfl fun j _ => by simp only [f]; rw [part, dif_pos j.isLt]
  have hz : ∑ j ∈ Finset.range 240, f (8208 + j) = 0 :=
    Finset.sum_eq_zero fun j _ => by simp only [f]; rw [part, dif_neg (by omega), zero_mul]
  have e1 := Finset.sum_range_add f 8208 240
  have e2 := Finset.sum_range_add f (2816 + 2816) 2816
  have e3 := Finset.sum_range_add f 2816 2816
  rw [ht, hs, hs, hs, zero_add]
  simp only [zero_mul, one_mul, zero_add]
  linarith

theorem shares_one (r : Fin 4) (l : Fin 128) (hl : ¬l.val < 64) :
    0 + share Q K V g r n 0 l + share Q K V g r n 1 l + share Q K V g r n 2 l = den (sim Q K g r n) := by
  rw [shares, den]
  exact Finset.sum_congr rfl fun j _ => by rw [against, dif_neg hl, mul_one]

include H

/-- The rows handed on. -/
theorem out_at (t : Fin cfg0.N) (hg : g.val = t.val / 66) (hn : n.val = t.val / 3 % 22 * 384 + a.val) (ht : t.val % 3 = 2)
    (r : Fin 4) (d : Fin 64) :
    (outsAt0 m c t.val t.isLt).1 (ix2 a ⟨r.val * 64 + d.val, by omega⟩) = ((outR Q K V g r n d : ℝ) : EReal) := by
  have h1 := shares_one (Q := Q) (K := K) (V := V) (g := g) (n := n) r ⟨d.val + 64, by omega⟩ (by simp)
  refine (oC m c t ht a r d).trans (((stateC H t hg hn ht r).div ⟨d.val, by omega⟩ ⟨d.val + 64, by omega⟩ ?_).trans ?_)
  · rw [h1]
    exact (den_pos _).ne'
  · rw [h1, shares, outR, Finset.sum_div]
    refine congrArg (fun x : ℝ => (x : EReal)) (Finset.sum_congr rfl fun j _ => ?_)
    rw [against, dif_pos d.isLt, padded, dif_pos j.isLt, weight, div_mul_eq_mul_div]

/-- The logarithms of the denominators handed on. -/
theorem lse_at (t : Fin cfg0.N) (hg : g.val = t.val / 66) (hn : n.val = t.val / 3 % 22 * 384 + a.val) (ht : t.val % 3 = 2)
    (l : Fin 128) :
    (outsAt0 m c t.val t.isLt).2.1 (ix2 a l) = if h : l.val < 4 then ((lseR Q K g ⟨l.val, h⟩ n : ℝ) : EReal) else 0 := by
  refine (lC m c t ht a l).trans ?_
  by_cases h : l.val < 4
  · have h1 := shares_one (Q := Q) (K := K) (V := V) (g := g) (n := n) ⟨l.val, h⟩ ⟨l.val + 64, by omega⟩ (by simp)
    rw [dif_pos h, dif_pos h]
    refine ((stateC H t hg hn ht ⟨l.val, h⟩).log l ⟨l.val + 64, by omega⟩ ?_).trans ?_
    · rw [h1]
      exact den_pos _
    · rw [h1, lseR]
  · rw [dif_neg h, dif_neg h]

end Cert.FwdIdeal.Soft

end
-- ==== Proof.FwdRef.lean ====
/- What the forward attention's reference computes, read at an index, when its arguments are real. -/
module

public import proofs.«01_k».proof.Proof.FwdModel
public import proofs.«01_k».proof.Proof.Gen.FwdRefIdeal.Run
public import proofs.«01_k».proof.Proof.Gen.FwdRefIdeal

@[expose] public section

set_option maxRecDepth 16384

noncomputable section

namespace Cert.FwdRefIdeal.Soft

open Cert.FwdRefIdeal Cert.FwdRefIdeal.Gen Cert.Attn Cert.Soft Idealize.ShloMosaic Idealize.ShloMosaic.TcCoe Idealize.SL.Sem

variable (q : FVec Ideal S8208x1024 .f32) (k v : FVec Ideal S8208x256 .f32)

/-- The scores. -/
def sims : FVec Ideal S4x4x8448x8208 .f32 :=
  transpose S4x4x8448x8208 [0, 3, 2, 1] (Host.dotGeneral dot_S8208x4x64_S8448x4x4x64_S4x8208x8448x4_2_3_0_02_1_1 none (shapeCast _ k shapeCasts_S8208x256_S8208x4x64) (shapeCast _ (pad S8448x1024 ![0, 0] ![240, 0] ![0, 0] q (sitofp .f32 (constantI S_ 32 0#32)) pads_S8208x1024_S8448x1024_02400_000 h_S_) shapeCasts_S8448x1024_S8448x4x4x64)) transposes_S4x8208x8448x4_S4x4x8448x8208_0_3_2_1

variable (s e : FVec Ideal S4x4x8448x8208 .f32)

/-- The largest score of each row. -/
def top : FVec Ideal S4x4x8448 .f32 :=
  maximumf (broadcastInDim S4x4x8448 ![] bcast_S_S4x4x8448 (constant S_ .f32 0xFF800000#32)) (Host.reduce FloatOps.maximumf s (constant S_ .f32 0xFF800000#32) reducesTo_S4x4x8448x8208_S4x4x8448_d3 h_S_)

/-- The exponentials of the lowered scores. -/
def lowered : FVec Ideal S4x4x8448x8208 .f32 :=
  Host.exp (subf s (broadcastInDim S4x4x8448x8208 ![0, 1, 2, 3] bcast_S4x4x8448x1_S4x4x8448x8208_0_1_2_3 (broadcastInDim S4x4x8448x1 ![0, 1, 2] bcast_S4x4x8448_S4x4x8448x1_0_1_2 (top s))))

/-- The weights, from exponentials. -/
def normed : FVec Ideal S4x4x8448x8208 .f32 :=
  Host.divf e (broadcastInDim S4x4x8448x8208 ![0, 1, 2, 3] bcast_S4x4x8448x1_S4x4x8448x8208_0_1_2_3 (broadcastInDim S4x4x8448x1 ![0, 1, 2] bcast_S4x4x8448_S4x4x8448x1_0_1_2 (Host.reduceAdd e (constant S_ .f32 0x00000000#32) reducesTo_S4x4x8448x8208_S4x4x8448_d3 h_S_)))

/-- The rows handed on. -/
def refO : FVec Ideal S8448x1024 .bf16 :=
  truncf .bf16 (shapeCast _ (transpose S8448x4x4x64 [3, 0, 2, 1] (Host.dotGeneral dot_S8208x4x64_S4x4x8448x8208_S4x64x4x8448_0_3_2_12_1_0 none (shapeCast _ v shapeCasts_S8208x256_S8208x4x64) (normed (lowered (sims q k)))) transposes_S4x64x4x8448_S8448x4x4x64_3_0_2_1) shapeCasts_S8448x4x4x64_S8448x1024) bitsLt_bf16_f32

/-- The logarithms of the denominators. -/
def logs : FVec Ideal S4x4x8448 .f32 :=
  Host.log (Host.reduceAdd (Host.exp (sims q k)) (constant S_ .f32 0x00000000#32) reducesTo_S4x4x8448x8208_S4x4x8448_d3 h_S_)

/-- The logarithms of the denominators, beside zeros. -/
def refL : FVec Ideal S8448x512 .f32 :=
  shapeCast _ (pad S8448x4x128 ![0, 0, 0] ![0, 0, 124] ![0, 0, 0] (transpose S8448x4x4 [2, 0, 1] (logs q k) transposes_S4x4x8448_S8448x4x4_2_0_1) (sitofp .f32 (constantI S_ 32 0#32)) pads_S8448x4x4_S8448x4x128_000_000_01240 h_S_) shapeCasts_S8448x4x128_S8448x512

variable (Q : Fin 8208 → Fin 1024 → ℝ) (K V : Fin 8208 → Fin 256 → ℝ)

theorem zero_real : (FloatOps.sitofp (F := Ideal) FTy.f32 (0#32) : EReal) = 0 := by
  show ((((0#32 : BitVec 32).toInt : ℤ) : ℝ) : EReal) = 0
  simp

theorem sims_at (hq : ∀ n c, q (ix2 n c) = ((Q n c : ℝ) : EReal)) (hk : ∀ n c, k (ix2 n c) = ((K n c : ℝ) : EReal))
    (g r : Fin 4) (n : Fin 8448) (j : Fin 8208) : sims q k (ix4 g r n j) = ((sim Q K g r n j : ℝ) : EReal) := by
  pointwise [sims]
  rw [sim, ← sum_coe]
  refine Finset.sum_congr rfl fun d _ => ?_
  rw [hk, mul_comm, EReal.coe_mul, zero_real]
  refine congrArg₂ (· * ·) ?_ rfl
  by_cases h : n.val < 8208
  · rw [dif_pos ⟨h, by omega⟩, hq, rowQ, dif_pos h]
    exact congrArg (fun c => ((Q ⟨n.val, h⟩ c : ℝ) : EReal)) (Fin.ext (by simp only [col]; omega))
  · rw [dif_neg fun k => h k.1, rowQ, dif_neg h]
    exact EReal.coe_zero.symm

theorem top_real (hs : ∀ i, ∃ x : ℝ, s i = (x : EReal)) (j : S4x4x8448.Idx) : ∃ M : ℝ, top s j = (M : EReal) := by
  obtain ⟨M, hM⟩ := reduce_max_real s (constant S_ .f32 0xFF800000#32) reducesTo_S4x4x8448x8208_S4x4x8448_d3 h_S_ j
    (by norm_num) hs (fun _ => ofBits_bot)
  refine ⟨M, ?_⟩
  rw [top, maximumf_apply, hM]
  pointwise
  rw [ofBits_bot]
  exact max_eq_right bot_le

variable (S : Fin 4 → Fin 4 → Fin 8448 → Fin 8208 → ℝ) (hs : ∀ g r n j, s (ix4 g r n j) = ((S g r n j : ℝ) : EReal))
include hs

theorem lowered_at (g r : Fin 4) (n : Fin 8448) :
    ∃ M : ℝ, ∀ j, lowered s (ix4 g r n j) = ((Real.exp (S g r n j - M) : ℝ) : EReal) := by
  obtain ⟨M, hM⟩ := top_real s (fun i => ⟨S (i 0) (i 1) (i 2) (i 3), by rw [eq_ix4 i]; exact hs _ _ _ _⟩) (ix3 g r n)
  refine ⟨M, fun j => ?_⟩
  pointwise [lowered]
  rw [hs, hM, ← EReal.coe_sub, Ideal.exp_coe]

theorem normed_at (g r : Fin 4) (n : Fin 8448) (j : Fin 8208) :
    normed (lowered s) (ix4 g r n j) = ((weight (S g r n) j : ℝ) : EReal) := by
  obtain ⟨M, hM⟩ := lowered_at s S hs g r n
  pointwise [normed]
  simp only [hM]
  rw [sum_coe, div_real _ (den_shift_pos (S g r n) M).ne', weight_shift]

omit hs

theorem refO_at (hq : ∀ n c, q (ix2 n c) = ((Q n c : ℝ) : EReal)) (hk : ∀ n c, k (ix2 n c) = ((K n c : ℝ) : EReal))
    (hv : ∀ n c, v (ix2 n c) = ((V n c : ℝ) : EReal)) (n : Fin 8448) (c : Fin 1024) :
    refO q k v (ix2 n c)
      = ((outR Q K V ⟨c.val / 256, by omega⟩ ⟨c.val / 64 % 4, by omega⟩ n ⟨c.val % 64, by omega⟩ : ℝ) : EReal) := by
  pointwise [refO]
  rw [outR, ← sum_coe]
  exact Finset.sum_congr rfl fun j _ => by
    rw [normed_at _ _ (sims_at q k Q K hq hk), hv, EReal.coe_mul, mul_comm]
    rfl

theorem logs_at (hq : ∀ n c, q (ix2 n c) = ((Q n c : ℝ) : EReal)) (hk : ∀ n c, k (ix2 n c) = ((K n c : ℝ) : EReal))
    (g r : Fin 4) (n : Fin 8448) : logs q k (ix3 g r n) = ((lseR Q K g r n : ℝ) : EReal) := by
  pointwise [logs]
  simp only [sims_at q k Q K hq hk, Ideal.exp_coe]
  exact (congrArg Ideal.log (sum_coe _)).trans (log_real (den_pos _))

theorem refL_at (hq : ∀ n c, q (ix2 n c) = ((Q n c : ℝ) : EReal)) (hk : ∀ n c, k (ix2 n c) = ((K n c : ℝ) : EReal))
    (n : Fin 8448) (c : Fin 512) :
    refL q k (ix2 n c)
      = if h : c.val % 128 < 4 then ((lseR Q K ⟨c.val / 128, by omega⟩ ⟨c.val % 128, h⟩ n : ℝ) : EReal) else 0 := by
  pointwise [refL]
  by_cases h : c.val % 128 < 4
  · rw [dif_pos h, dif_pos ⟨by omega, h⟩]
    exact logs_at q k Q K hq hk _ _ n
  · exact (dif_neg fun k => h k.2).trans (zero_real.trans (by simp only [dif_neg h]))

/-- How the reference ends. -/
theorem ends (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v25) = refO (m ((c.tc : Thread nD τ).loc main_arg0)) (m ((c.tc : Thread nD τ).loc main_arg1)) (m ((c.tc : Thread nD τ).loc main_arg2))
      ∧ r.2.mem ((c.tc : Thread nD τ).loc main_v26) = refL (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.FwdRefIdeal.Value.run m ρ

end Cert.FwdRefIdeal.Soft

end
-- ==== Proof.Pre.lean ====
/- The precondition says that every argument is real. -/
module

public import proofs.«01_k».proof.Pre_finite
public import Idealize.ShloMosaic.Lib.Pointwise
public import Idealize.ShloMosaic.Lib.ReduceAll

@[expose] public section

set_option maxRecDepth 16384

noncomputable section

namespace Cert.Pre_finite

open Idealize.ShloMosaic

/-- The shape relations the precondition takes. -/
theorem facts : Facts where
  bcast_S_S8208x1024 := by decide
  reducesTo_S8208x1024_S_d0_1 := by decide
  h_S_ := by decide
  bcast_S_S8208x256 := by decide
  reducesTo_S8208x256_S_d0_1 := by decide

theorem inf_word : Ideal.ofBits .f32 0x7F800000#32 = ⊤ := by simp [Ideal.ofBits, Ideal.ieee]

/-- An extended real whose absolute value is below `∞` is a real. -/
theorem real_of_lt {x : EReal} (h : max x (-x) < ⊤) : ∃ r : ℝ, x = (r : EReal) := by
  induction x with
  | bot => simp at h
  | coe r => exact ⟨r, rfl⟩
  | top => simp at h

theorem real_of_cmp {x : EReal} (e : Ideal.cmp .olt (max x (-x)) (Ideal.ofBits .f32 0x7F800000#32) = 1#1) : ∃ r : ℝ, x = (r : EReal) := by
  rw [inf_word] at e
  refine real_of_lt ?_
  by_contra hn
  simp [Ideal.cmp, hn] at e

variable [Facts]

theorem wide (x : FVec Ideal S8208x1024 .f32)
    (h : Host.reduce IntOp.andi (cmpf .olt (Host.absf x) (broadcastInDim S8208x1024 ![] Facts.bcast_S_S8208x1024 (constant S_ .f32 0x7F800000#32))) (constantI S_ 1 1#1) Facts.reducesTo_S8208x1024_S_d0_1 Facts.h_S_ ix0 = 1#1)
    (i : S8208x1024.Idx) : ∃ r : ℝ, x i = (r : EReal) := by
  have e : Ideal.cmp .olt (max (x i) (-(x i))) (Ideal.ofBits .f32 0x7F800000#32) = 1#1 := Host.reduce_andi_all _ _ _ _ _ h i
  exact real_of_cmp e

theorem narrow (x : FVec Ideal S8208x256 .f32)
    (h : Host.reduce IntOp.andi (cmpf .olt (Host.absf x) (broadcastInDim S8208x256 ![] Facts.bcast_S_S8208x256 (constant S_ .f32 0x7F800000#32))) (constantI S_ 1 1#1) Facts.reducesTo_S8208x256_S_d0_1 Facts.h_S_ ix0 = 1#1)
    (i : S8208x256.Idx) : ∃ r : ℝ, x i = (r : EReal) := by
  have e : Ideal.cmp .olt (max (x i) (-(x i))) (Ideal.ofBits .f32 0x7F800000#32) = 1#1 := Host.reduce_andi_all _ _ _ _ _ h i
  exact real_of_cmp e

theorem both {a b : BitVec 1} (h : IntOp.andi a b = 1#1) : a = 1#1 ∧ b = 1#1 := by
  revert a b
  decide

/-- Where the precondition holds, every entry of every argument is a real. -/
theorem reals (q ct : FVec Ideal S8208x1024 .f32) (k v : FVec Ideal S8208x256 .f32) (h : fn (F := Ideal) q k v ct = fun _ => 1#1) :
    (∀ i, ∃ r : ℝ, q i = (r : EReal)) ∧ (∀ i, ∃ r : ℝ, k i = (r : EReal))
      ∧ (∀ i, ∃ r : ℝ, v i = (r : EReal)) ∧ ∀ i, ∃ r : ℝ, ct i = (r : EReal) := by
  have e := congrFun h ix0
  obtain ⟨e, hc⟩ := both e
  obtain ⟨e, hv⟩ := both e
  obtain ⟨hq, hk⟩ := both e
  exact ⟨wide q hq, narrow k hk, narrow v hv, wide ct hc⟩

end Cert.Pre_finite

end
-- ==== Proof.FwdPre.lean ====
/- The precondition of the forward attention call says that every argument is real. -/
module

public import proofs.«01_k».proof.Pre_finite_fwd
public import proofs.«01_k».proof.Proof.Pre

@[expose] public section

set_option maxRecDepth 16384

noncomputable section

namespace Cert.Pre_finite_fwd

open Idealize.ShloMosaic

/-- The shape relations the precondition takes. -/
theorem facts : Facts where
  bcast_S_S8208x1024 := by decide
  reducesTo_S8208x1024_S_d0_1 := by decide
  h_S_ := by decide
  bcast_S_S8208x256 := by decide
  reducesTo_S8208x256_S_d0_1 := by decide

variable [Facts]

/-- Where the precondition holds, every entry of every argument is a real. -/
theorem reals (q : FVec Ideal S8208x1024 .f32) (k v : FVec Ideal S8208x256 .f32) (h : fn (F := Ideal) q k v = fun _ => 1#1) :
    (∀ i, ∃ r : ℝ, q i = (r : EReal)) ∧ (∀ i, ∃ r : ℝ, k i = (r : EReal)) ∧ ∀ i, ∃ r : ℝ, v i = (r : EReal) := by
  haveI := Cert.Pre_finite.facts
  obtain ⟨e, hv⟩ := Cert.Pre_finite.both (congrFun h ix0)
  obtain ⟨hq, hk⟩ := Cert.Pre_finite.both e
  exact ⟨fun i => Cert.Pre_finite.real_of_cmp (Host.reduce_andi_all _ _ _ _ _ hq i),
    fun i => Cert.Pre_finite.real_of_cmp (Host.reduce_andi_all _ _ _ _ _ hk i),
    fun i => Cert.Pre_finite.real_of_cmp (Host.reduce_andi_all _ _ _ _ _ hv i)⟩

end Cert.Pre_finite_fwd

end
-- ==== Proof.FwdEq.lean ====
/- The forward attention call computes what its reference states. -/
module

public import proofs.«01_k».proof.Defs
public import proofs.«01_k».proof.Proof.FwdSum
public import proofs.«01_k».proof.Proof.FwdRef
public import proofs.«01_k».proof.Proof.FwdPre

@[expose] public section

set_option maxRecDepth 16384

noncomputable section

namespace Cert.FwdIdeal.Soft

open Cert.FwdIdeal Cert.FwdIdeal.Gen Cert.Attn Cert.Soft Idealize.ShloMosaic Idealize.ShloMosaic.TcCoe Idealize.SL.Sem
open Idealize.ShloMosaic.Pipeline

variable {m : (ℓ : Loc nD τ sig) → Buf (Elt Ideal) ℓ} {c : Dev nD}
variable {Q : Fin 8208 → Fin 1024 → ℝ} {K V : Fin 8208 → Fin 256 → ℝ}

/-- The first result, one column. -/
def outCol (Q : Fin 8208 → Fin 1024 → ℝ) (K V : Fin 8208 → Fin 256 → ℝ) (n : Fin 8448) (k : Fin 1024) : EReal :=
  ((outR Q K V ⟨k.val / 256, by omega⟩ ⟨k.val / 64 % 4, by omega⟩ n ⟨k.val % 64, by omega⟩ : ℝ) : EReal)

/-- The second result, one column. -/
def lseCol (Q : Fin 8208 → Fin 1024 → ℝ) (K : Fin 8208 → Fin 256 → ℝ) (n : Fin 8448) (k : Fin 512) : EReal :=
  if h : k.val % 128 < 4 then ((lseR Q K ⟨k.val / 128, by omega⟩ ⟨k.val % 128, h⟩ n : ℝ) : EReal) else 0

theorem outCol_of {g r : Fin 4} {d : Fin 64} {n : Fin 8448} (k : Fin 1024) (hk : k.val = g.val * 256 + r.val * 64 + d.val) :
    ((outR Q K V g r n d : ℝ) : EReal) = outCol Q K V n k := by
  have eg : g = ⟨k.val / 256, by omega⟩ := Fin.ext (by simp only; omega)
  have er : r = ⟨k.val / 64 % 4, by omega⟩ := Fin.ext (by simp only; omega)
  have ed : d = ⟨k.val % 64, by omega⟩ := Fin.ext (by simp only; omega)
  rw [outCol, ← eg, ← er, ← ed]

theorem lseCol_of {g : Fin 4} {l : Fin 128} {n : Fin 8448} (k : Fin 512) (hk : k.val = g.val * 128 + l.val) :
    (if h : l.val < 4 then ((lseR Q K g ⟨l.val, h⟩ n : ℝ) : EReal) else 0) = lseCol Q K n k := by
  have eg : g = ⟨k.val / 128, by omega⟩ := Fin.ext (by simp only; omega)
  have el : k.val % 128 = l.val := by omega
  unfold lseCol
  by_cases h : l.val < 4
  · rw [dif_pos h, dif_pos (el ▸ h), ← eg]
    exact congrArg (fun x => ((lseR Q K g x n : ℝ) : EReal)) (Fin.ext el.symm)
  · rw [dif_neg h, dif_neg (el ▸ h)]

variable (H : Holds m c Q K V)
include H

theorem array4 : (dats m 0 c).arrAt 4 cfg0.N = fun i : S8448x1024.Idx => outCol Q K V (i 0) (i 1) := by
  refine (dats m 0 c).arrAt_eq_of_covers 4 _ (by decide +kernel) fun t hf y => ?_
  have ht : t.val % 3 = 2 := (flush0_4 t).mp hf
  blk_simp
  rw [after0_4]
  obtain ⟨a, b, rfl⟩ : ∃ (a : Fin 384) (b : Fin 256), y = ix2 a b := ⟨y 0, y 1, eq_ix2 y⟩
  have hb : b = ⟨(b.val / 64) * 64 + b.val % 64, by omega⟩ := Fin.ext (by simp only; omega)
  have hl : t.val / 66 < 4 := by have : t.val < 264 := t.isLt; omega
  refine (congrArg (fun x => (outsAt0 m c t.val t.isLt).1 (ix2 a x)) hb).trans
    ((out_at H t (g := ⟨t.val / 66, hl⟩) (n := ⟨t.val / 3 % 22 * 384 + a.val, by omega⟩) rfl rfl ht ⟨b.val / 64, by omega⟩ ⟨b.val % 64, by omega⟩).trans
      ((outCol_of ⟨t.val / 66 * 256 + b.val, by omega⟩ (by simp only; omega)).trans ?_))
  refine congrArg₂ (outCol Q K V) (Fin.ext ?_) (Fin.ext ?_)
  · blk_point [idx t]
  · blk_point [idx t]

theorem array5 : (dats m 0 c).arrAt 5 cfg0.N = fun i : S8448x512.Idx => lseCol Q K (i 0) (i 1) := by
  refine (dats m 0 c).arrAt_eq_of_covers 5 _ (by decide +kernel) fun t hf y => ?_
  have ht : t.val % 3 = 2 := (flush0_5 t).mp hf
  blk_simp
  rw [after0_5]
  obtain ⟨a, l, rfl⟩ : ∃ (a : Fin 384) (l : Fin 128), y = ix2 a l := ⟨y 0, y 1, eq_ix2 y⟩
  have hl : t.val / 66 < 4 := by have : t.val < 264 := t.isLt; omega
  refine (lse_at H t (g := ⟨t.val / 66, hl⟩) (n := ⟨t.val / 3 % 22 * 384 + a.val, by omega⟩) rfl rfl ht l).trans
    ((lseCol_of ⟨t.val / 66 * 128 + l.val, by omega⟩ (by simp only)).trans ?_)
  refine congrArg₂ (lseCol Q K) (Fin.ext ?_) (Fin.ext ?_)
  · blk_point [idx t]
  · blk_point [idx t]

omit H

/-- Both programs end with the same arrays, from arguments that hold reals. -/
theorem equation : Cert.algebraic_FwdIdeal_FwdRefIdeal_pre_finite_fwd (hFwdIdeal := Cert.FwdIdeal.Gen.facts)
    (hFwdRefIdeal := Cert.FwdRefIdeal.Gen.facts) (hPre_finite_fwd := Cert.Pre_finite_fwd.facts) := by
  intro m g m' g' hpre hargs
  have hreal := fun c => @Cert.Pre_finite_fwd.reals Cert.Pre_finite_fwd.facts _ _ _ (hpre c)
  choose hq hk hv using hreal
  choose Q hQ using fun (c : Dev nD) (n : Fin 8208) (i : Fin 1024) => hq c (ix2 n i)
  choose K hK using fun (c : Dev nD) (n : Fin 8208) (i : Fin 256) => hk c (ix2 n i)
  choose V hV using fun (c : Dev nD) (n : Fin 8208) (i : Fin 256) => hv c (ix2 n i)
  have H : ∀ c, Holds m c (Q c) (K c) (V c) := fun c => ⟨hQ c, hK c, hV c⟩
  refine ⟨fun c => fun i : S8448x1024.Idx => outCol (Q c) (K c) (V c) (i 0) (i 1),
    fun c => fun i : S8448x512.Idx => lseCol (Q c) (K c) (i 0) (i 1),
    (θ_run _ _ _).mono (fun r h c => ⟨(h c).1.trans (array4 (H c)), (h c).2.1.trans (array5 (H c)), (h c).2.2.2.2⟩) (Value.run_blocks m g), ?_⟩
  refine (θ_run _ _ _).mono (fun r h c => ?_) (Cert.FwdRefIdeal.Soft.ends m' g')
  obtain ⟨a0, a1, a2⟩ := hargs c
  obtain ⟨h0, h1, hrest⟩ := h c
  rw [a0, a1, a2] at h0
  rw [a0, a1] at h1
  refine ⟨h0.trans ?_, h1.trans ?_, hrest⟩
  · funext i
    obtain ⟨n, j, rfl⟩ : ∃ (n : Fin 8448) (j : Fin 1024), i = ix2 n j := ⟨i 0, i 1, eq_ix2 i⟩
    exact Cert.FwdRefIdeal.Soft.refO_at _ _ _ (Q c) (K c) (V c) (hQ c) (hK c) (hV c) n j
  · funext i
    obtain ⟨n, j, rfl⟩ : ∃ (n : Fin 8448) (j : Fin 512), i = ix2 n j := ⟨i 0, i 1, eq_ix2 i⟩
    exact Cert.FwdRefIdeal.Soft.refL_at _ _ (Q c) (K c) (hQ c) (hK c) n j

theorem frame : Cert.quiescent_FwdRefIdeal (hFwdRefIdeal := Cert.FwdRefIdeal.Gen.facts) := fun m g _ =>
  (θ_run _ _ _).mono (fun r h => ⟨fun c => (h c).2.2, sem_eq_zero_of_no_sems (by decide) r.2⟩)
    (Cert.FwdRefIdeal.Soft.ends m g)

end Cert.FwdIdeal.Soft

end
-- ==== Proof.Proj.lean ====
/- The input projection: the norm and the product, cut in three. -/
module

public import proofs.«01_k».proof.Defs
public import proofs.«01_k».proof.Proof.Row
public import proofs.«01_k».proof.Proof.Gen.ProjIdeal.Value
public import proofs.«01_k».proof.Proof.Gen.ProjRefIdeal.Run
public import proofs.«01_k».proof.Proof.Gen.ProjIdeal
public import proofs.«01_k».proof.Proof.Gen.ProjRefIdeal
public import Idealize.ShloMosaic.Lib.Claim
public import Idealize.ShloMosaic.Lib.StableHlo.RunRead
public import Idealize.ShloMosaic.Lib.Pipeline.ValueKit
public import Idealize.ShloMosaic.Lib.Pointwise
public import Idealize.ShloMosaic.Lib.WritesUnit
public import Idealize.ShloMosaic.Lib.Pipeline.ReadBack

@[expose] public section

set_option maxRecDepth 16384

noncomputable section

namespace Cert.ProjIdeal.Lin

open Cert.ProjIdeal Cert.ProjIdeal.Gen Idealize.ShloMosaic Idealize.ShloMosaic.TcCoe Idealize.SL.Sem
open Idealize.ShloMosaic.Pipeline

/-- Which block each operand shows at the grid point `t`. -/
theorem idx : ∀ t : Fin cfg0.N, win0_0.index t = ![t.val, 0] ∧ win0_1.index t = ![0, 0]
    ∧ win0_2.index t = ![0, 0, 0] ∧ win0_3.index t = ![t.val, 0] ∧ win0_4.index t = ![t.val, 0]
    ∧ win0_5.index t = ![t.val, 0] ∧ win0_6.index t = ![t.val, 0] :=
  (by decide +kernel : ∀ t : Fin grid0.N, _)

section Payloads

variable (v0 : FVec Ideal S384x1024 .f32) (v1 : FVec Ideal S1x1024 .f32) (v15 : FVec Ideal S384x1024 .bf16)
variable (w : FVec Ideal S1x1024x1024 .bf16)

theorem pay3 (a : Fin 384) (b : Fin 1024) : k0_pay3 (F := Ideal) v0 v1 (ix2 a b)
    = Cert.Row.unit (fun k => v0 (ix2 a k)) (fun k => v1 (ix2 0 k)) b := by
  pointwise [k0_pay3]
  rfl

theorem pay1 (a : Fin 384) (b : Fin 1024) : k0_pay1 (F := Ideal) v15 w (ix2 a b)
    = ∑ k : Fin 1024, v15 (ix2 a k) * w (ix3 0 k b) := by
  pointwise [k0_pay1]

theorem pay2 (a : Fin 384) (b : Fin 1024) : k0_pay2 (F := Ideal) v15 w (ix2 a b)
    = ∑ k : Fin 1024, v15 (ix2 a k) * w (ix3 0 k b) := by
  pointwise [k0_pay2]

theorem pay4 (a : Fin 384) (b : Fin 1024) : k0_pay4 (F := Ideal) v0 v1 w (ix2 a b)
    = ∑ k : Fin 1024, k0_pay3 (F := Ideal) v0 v1 (ix2 a k) * w (ix3 0 k b) := by
  pointwise [k0_pay4]

theorem pay5 (a : Fin 384) (b : Fin 512) : k0_pay5 (F := Ideal) v0 v1 w (ix2 a b)
    = ∑ k : Fin 1024, k0_pay3 (F := Ideal) v0 v1 (ix2 a k) * w (ix3 0 k ⟨b.val, by omega⟩) := by
  refine Eq.trans ?_ (pay4 v0 v1 w a _)
  pointwise [k0_pay5]

theorem pay6 (a : Fin 384) (b : Fin 512) : k0_pay6 (F := Ideal) v0 v1 w (ix2 a b)
    = ∑ k : Fin 1024, k0_pay3 (F := Ideal) v0 v1 (ix2 a k) * w (ix3 0 k ⟨512 + b.val, by omega⟩) := by
  refine Eq.trans ?_ (pay4 v0 v1 w a _)
  pointwise [k0_pay6]

theorem pay7 (a : Fin 384) (b : Fin 1024) : k0_pay7 (F := Ideal) v0 v1 w (ix2 a b)
    = ∑ k : Fin 1024, k0_pay3 (F := Ideal) v0 v1 (ix2 a k) * w (ix3 0 k b) := by
  pointwise [k0_pay7]

end Payloads

variable (m : (ℓ : Loc nD τ sig) → Buf (Elt Ideal) ℓ) (c : Dev nD)

/-- The weight's shards, entry by entry. -/
theorem weight_at (s : Fin 4) (a b : Fin 1024) :
    V m c main_v3 (ix3 s a b) = m ((c : Thread nD τ).loc main_arg2) (ix2 a ⟨s.val * 1024 + b.val, by omega⟩) := by
  entry_read
  pointwise

theorem gain_at (b : Fin 1024) : V m c main_v0 (ix2 (0 : Fin 1) b) = m ((c : Thread nD τ).loc main_arg1) (ix1 b) := by
  entry_read
  pointwise

theorem tlt (t : Fin cfg0.N) : t.val < 22 := t.isLt

/-- Row `a` of block `t`. -/
def row (t : Fin cfg0.N) (a : Fin 384) : Fin 8448 := ⟨t.val * 384 + a.val, by have := tlt t; omega⟩

/-- The operands. -/
abbrev X : FVec Ideal S8448x1024 .f32 := m ((c : Thread nD τ).loc main_arg0)
abbrev G : FVec Ideal S1024 .f32 := m ((c : Thread nD τ).loc main_arg1)
abbrev W : FVec Ideal S1024x4096 .f32 := m ((c : Thread nD τ).loc main_arg2)

theorem read0 (t : Fin cfg0.N) (a : Fin 384) (b : Fin 1024) : iblk m c 0 t (ix2 a b) = X m c (ix2 (row t a) b) := by
  blk_point [iblk, V, idx t, row]
theorem read1 (t : Fin cfg0.N) (b : Fin 1024) : iblk m c 1 t (ix2 (0 : Fin 1) b) = G m c (ix1 b) := by
  refine Eq.trans ?_ (gain_at m c b)
  blk_point [iblk, idx t]
theorem read2 (t : Fin cfg0.N) (s : Fin 4) (a b : Fin 1024) :
    iblk m c 2 t (ix3 s a b) = W m c (ix2 a ⟨s.val * 1024 + b.val, by omega⟩) := by
  refine Eq.trans ?_ (weight_at m c s a b)
  blk_point [iblk, idx t]

/-- One entry of the normalized rows, and of the product. -/
def unit (n : Fin 8448) (b : Fin 1024) : EReal := Cert.Row.unit (fun k => X m c (ix2 n k)) (fun k => G m c (ix1 k)) b
def lin (n : Fin 8448) (j : Fin 4096) : EReal := ∑ k : Fin 1024, unit m c n k * W m c (ix2 k j)

/-- A column of the product, by its offset. -/
def col (o w : ℕ) (hw : o + w ≤ 4096) (j : Fin w) : Fin 4096 := ⟨o + j.val, by omega⟩

/-- A shard's product, as the kernel's body computes it. -/
theorem lin_at (t : Fin cfg0.N) (s : Fin 4) (a : Fin 384) (b : Fin 1024) (j : Fin 4096) (hj : j.val = s.val * 1024 + b.val)
    (x : Fin 1024 → EReal) (w : Fin 1024 → EReal) (hx : ∀ k, x k = unit m c (row t a) k)
    (hw : ∀ k, w k = iblk m c 2 t (ix3 s k b)) : ∑ k : Fin 1024, x k * w k = lin m c (row t a) j := by
  rw [show j = ⟨s.val * 1024 + b.val, by omega⟩ from Fin.ext hj]
  simp only [hx, hw, read2]
  rfl

theorem unit_at (t : Fin cfg0.N) (a : Fin 384) (b : Fin 1024) :
    k0_pay3 (F := Ideal) (iblk m c 0 t) (iblk m c 1 t) (ix2 a b) = unit m c (row t a) b := by
  rw [pay3]
  simp only [read0, read1]
  rfl

theorem array6 : (dats m 0 c).arrAt 6 cfg0.N = fun i : S8448x1024.Idx => unit m c (i 0) (i 1) := by
  refine (dats m 0 c).arrAt_eq_of_covers 6 _ (by decide +kernel) fun t hf y => ?_
  blk_simp
  rw [after0_6]
  unfold outsAt0
  obtain ⟨a, b, rfl⟩ : ∃ (a : Fin 384) (b : Fin 1024), y = ix2 a b := ⟨y 0, y 1, eq_ix2 y⟩
  frame_out
  refine (unit_at m c t a b).trans ?_
  blk_point [idx t, row]

theorem array3 : (dats m 0 c).arrAt 3 cfg0.N
    = fun i : S8448x512.Idx => lin m c (i 0) (col 0 512 (by omega) (i 1)) := by
  refine (dats m 0 c).arrAt_eq_of_covers 3 _ (by decide +kernel) fun t hf y => ?_
  blk_simp
  rw [after0_3]
  unfold outsAt0
  obtain ⟨a, b, rfl⟩ : ∃ (a : Fin 384) (b : Fin 512), y = ix2 a b := ⟨y 0, y 1, eq_ix2 y⟩
  frame_out
  refine Eq.trans ?_ (?_ : lin m c (row t a) (col 0 512 (by omega) b) = _)
  swap
  · blk_point [idx t, row, col]
  refine (pay5 _ _ _ a b).trans (lin_at m c t 0 a ⟨b.val, by omega⟩ _ (by simp [col]) _ _ (unit_at m c t a) fun k => ?_)
  pointwise

theorem array4 : (dats m 0 c).arrAt 4 cfg0.N
    = fun i : S8448x1536.Idx => lin m c (i 0) (col 512 1536 (by omega) (i 1)) := by
  refine (dats m 0 c).arrAt_eq_of_covers 4 _ (by decide +kernel) fun t hf y => ?_
  blk_simp
  rw [after0_4]
  unfold outsAt0
  obtain ⟨a, j, rfl⟩ : ∃ (a : Fin 384) (j : Fin 1536), y = ix2 a j := ⟨y 0, y 1, eq_ix2 y⟩
  frame_out
  refine Eq.trans ?_ (?_ : lin m c (row t a) (col 512 1536 (by omega) j) = _)
  swap
  · blk_point [idx t, row, col]
  canon_tiles x h using (View.cover_of_tiledBy _ ![384, 512] (by sl_kernel_rfl) _)
  · obtain ⟨a', b, rfl⟩ : ∃ (a : Fin 384) (b : Fin 1024), x = ix2 a b := ⟨x 0, x 1, eq_ix2 x⟩
    obtain rfl : a = a' := Fin.ext h0
    refine (pay7 _ _ _ a b).trans (lin_at m c t 1 a b _ (by have e : j.val = 512 + b.val := h1; simp only [col]; simp; omega) _ _ (unit_at m c t a) fun k => ?_)
    pointwise
  · obtain ⟨a', b, rfl⟩ : ∃ (a : Fin 384) (b : Fin 512), x = ix2 a b := ⟨x 0, x 1, eq_ix2 x⟩
    obtain rfl : a = a' := Fin.ext h0
    refine (pay6 _ _ _ a b).trans (lin_at m c t 0 a ⟨512 + b.val, by omega⟩ _ (by have e : j.val = b.val := h1; simp only [col]; simp; omega) _ _ (unit_at m c t a) fun k => ?_)
    pointwise

theorem array5 : (dats m 0 c).arrAt 5 cfg0.N
    = fun i : S8448x2048.Idx => lin m c (i 0) (col 2048 2048 (by omega) (i 1)) := by
  refine (dats m 0 c).arrAt_eq_of_covers 5 _ (by decide +kernel) fun t hf y => ?_
  blk_simp
  rw [after0_5]
  unfold outsAt0
  obtain ⟨a, j, rfl⟩ : ∃ (a : Fin 384) (j : Fin 2048), y = ix2 a j := ⟨y 0, y 1, eq_ix2 y⟩
  frame_out
  refine Eq.trans ?_ (?_ : lin m c (row t a) (col 2048 2048 (by omega) j) = _)
  swap
  · blk_point [idx t, row, col]
  canon_tiles x h
  all_goals
    obtain ⟨a', b, rfl⟩ : ∃ (a : Fin 384) (b : Fin 1024), x = ix2 a b := ⟨x 0, x 1, eq_ix2 x⟩
    obtain rfl : a = a' := Fin.ext h0
  · refine (pay2 _ _ a b).trans (lin_at m c t 3 a b _ (by have e : j.val = 1024 + b.val := h1; simp only [col]; simp; omega) _ _ (unit_at m c t a) fun k => ?_)
    pointwise
  · refine (pay1 _ _ a b).trans (lin_at m c t 2 a b _ (by have e : j.val = b.val := h1; simp only [col]; simp; omega) _ _ (unit_at m c t a) fun k => ?_)
    pointwise

/-- Both programs end with the same arrays. -/
theorem equation : Cert.algebraic_ProjIdeal_ProjRefIdeal (hProjIdeal := Cert.ProjIdeal.Gen.facts)
    (hProjRefIdeal := Cert.ProjRefIdeal.Gen.facts) := by
  intro m g m' g' hpre hargs
  refine ⟨fun c => fun i : S8448x512.Idx => lin m c (i 0) (col 0 512 (by omega) (i 1)),
    fun c => fun i : S8448x1536.Idx => lin m c (i 0) (col 512 1536 (by omega) (i 1)),
    fun c => fun i : S8448x2048.Idx => lin m c (i 0) (col 2048 2048 (by omega) (i 1)),
    fun c => fun i : S8448x1024.Idx => unit m c (i 0) (i 1),
    (θ_run _ _ _).mono (fun r h c => ⟨(h c).1.trans (array3 m c), (h c).2.1.trans (array4 m c), (h c).2.2.1.trans (array5 m c),
      (h c).2.2.2.1.trans (array6 m c), (h c).2.2.2.2⟩) (Value.run_blocks m g), ?_⟩
  refine (θ_run _ _ _).mono (fun r h c => ⟨(h c).1.trans ?_, (h c).2.1.trans ?_, (h c).2.2.1.trans ?_, (h c).2.2.2.1.trans ?_,
    (h c).2.2.2.2⟩) (Cert.ProjRefIdeal.Value.run m' g')
  all_goals
    obtain ⟨a0, a1, a2⟩ := hargs c
    funext i
  · obtain ⟨n, j, rfl⟩ : ∃ (n : Fin 8448) (j : Fin 512), i = ix2 n j := ⟨i 0, i 1, eq_ix2 i⟩
    rw [a0, a1, a2]
    pointwise [col]
    rfl
  · obtain ⟨n, j, rfl⟩ : ∃ (n : Fin 8448) (j : Fin 1536), i = ix2 n j := ⟨i 0, i 1, eq_ix2 i⟩
    rw [a0, a1, a2]
    pointwise [col]
    rfl
  · obtain ⟨n, j, rfl⟩ : ∃ (n : Fin 8448) (j : Fin 2048), i = ix2 n j := ⟨i 0, i 1, eq_ix2 i⟩
    rw [a0, a1, a2]
    pointwise [col]
    rfl
  · obtain ⟨n, j, rfl⟩ : ∃ (n : Fin 8448) (j : Fin 1024), i = ix2 n j := ⟨i 0, i 1, eq_ix2 i⟩
    rw [a0, a1]
    pointwise
    rfl

theorem frame : Cert.quiescent_ProjRefIdeal (hProjRefIdeal := Cert.ProjRefIdeal.Gen.facts) := fun m g _ =>
  (θ_run _ _ _).mono (fun r h => ⟨fun c => (h c).2.2.2.2, sem_eq_zero_of_no_sems (by decide) r.2⟩)
    (Cert.ProjRefIdeal.Value.run m g)

end Cert.ProjIdeal.Lin

end
-- ==== Proof.Mix.lean ====
/- The gated merge of the two mixers and the output projection. -/
module

public import proofs.«01_k».proof.Defs
public import proofs.«01_k».proof.Proof.Gen.MixIdeal.Value
public import proofs.«01_k».proof.Proof.Gen.MixRefIdeal.Run
public import proofs.«01_k».proof.Proof.Gen.MixIdeal
public import proofs.«01_k».proof.Proof.Gen.MixRefIdeal
public import Idealize.ShloMosaic.Lib.Claim
public import Idealize.ShloMosaic.Lib.StableHlo.RunRead
public import Idealize.ShloMosaic.Lib.Pipeline.ValueKit
public import Idealize.ShloMosaic.Lib.Pointwise
public import Idealize.ShloMosaic.Lib.WritesUnit
public import Idealize.ShloMosaic.Lib.Pipeline.ReadBack

@[expose] public section

set_option maxRecDepth 16384

noncomputable section

namespace Cert.MixIdeal.Gate

open Cert.MixIdeal Cert.MixIdeal.Gen Idealize.ShloMosaic Idealize.ShloMosaic.TcCoe Idealize.SL.Sem
open Idealize.ShloMosaic.Pipeline

/-- Which block each operand shows at the grid point `t`. -/
theorem idx : ∀ t : Fin cfg0.N, win0_0.index t = ![t.val, 0] ∧ win0_1.index t = ![t.val, 0]
    ∧ win0_2.index t = ![t.val, 0] ∧ win0_3.index t = ![t.val, 0] ∧ win0_4.index t = ![0, 0, 0] ∧ win0_5.index t = ![0, 0]
    ∧ win0_6.index t = ![0, 0] ∧ win0_7.index t = ![t.val, 0] ∧ win0_8.index t = ![t.val, 0] :=
  (by decide +kernel : ∀ t : Fin grid0.N, _)

/-- The logistic function, as the body computes it. -/
def gate (x : EReal) : EReal := Ideal.div 1 (1 + Ideal.exp (-x))

section Payloads

variable (v17 v26 v27 v39 : FVec Ideal S384x1024 .f32) (w : FVec Ideal S1024x1024 .bf16) (v14 : FVec Ideal S384x1024 .bf16)

theorem pay1 (a : Fin 384) (b : Fin 1024) : k0_pay1 (F := Ideal) v17 v26 v27 (Scalar.ofBits .f32 0x00000000#32) (ix2 a b)
    = v26 (ix2 a b) + gate (v27 (ix2 a b)) * v17 (ix2 a b) := by
  unfold gate
  simp only [← zero_sub (v27 (ix2 a b))]
  pointwise [k0_pay1]

theorem pay2 (a : Fin 384) (b : Fin 1024) : k0_pay2 (F := Ideal) v17 v26 v27 (Scalar.ofBits .f32 0x00000000#32) v39 w (ix2 a b)
    = v39 (ix2 a b) + ∑ k : Fin 1024, k0_pay1 (F := Ideal) v17 v26 v27 (Scalar.ofBits .f32 0x00000000#32) (ix2 a k) * w (ix2 k b) := by
  pointwise [k0_pay2]

theorem pay3 (a : Fin 384) (b : Fin 1024) : k0_pay3 (F := Ideal) v14 w (ix2 a b)
    = ∑ k : Fin 1024, v14 (ix2 a k) * w (ix2 k b) := by
  pointwise [k0_pay3]

/-- The state-space branch, gated: the four shards of its weight together. -/
theorem ssm (x : Vec Ideal S384x512 .bf16) (w : Vec Ideal S4x512x256 .bf16) (g : Vec Ideal S384x2048 .f32)
    (u : Fin 512 → Fin 1024 → EReal)
    (hu : ∀ (s : Fin 4) (k : Fin 512) (j : Fin 256), w (ix3 s k j) = u k ⟨s.val * 256 + j.val, by omega⟩)
    (a : Fin 384) (b : Fin 1024) :
    k0_pay4 (F := Ideal) (View.ld x r0_0) (View.ld w r0_1) (View.ld w r0_2) (View.ld w r0_3) (View.ld w r0_4) (View.ld g r0_7) (ix2 a b)
      = gate (g (ix2 a ⟨b.val, by omega⟩)) * ∑ k : Fin 512, (x (ix2 a k) : EReal) * u k b := by
  unfold gate
  simp only [← zero_sub (g _)]
  pointwise [k0_pay4]
  refine congrArg _ ?_
  split_ifs
  all_goals
    refine Finset.sum_congr rfl fun k _ => congrArg _ ((hu _ k _).trans (congrArg (u k) (Fin.ext ?_)))
    simp
    try omega

end Payloads

variable (m : (ℓ : Loc nD τ sig) → Buf (Elt Ideal) ℓ) (c : Dev nD)

/-- The operands the host prepares, entry by entry. -/
theorem shard_at (s : Fin 4) (k : Fin 512) (j : Fin 256) :
    V m c main_v2 (ix3 s k j) = m ((c : Thread nD τ).loc main_arg4) (ix2 k ⟨s.val * 256 + j.val, by omega⟩) := by
  entry_read
  pointwise

theorem attn_at (a b : Fin 1024) : V m c main_v3 (ix2 a b) = m ((c : Thread nD τ).loc main_arg5) (ix2 a b) := by
  entry_read
  pointwise

theorem out_at (a b : Fin 1024) : V m c main_v4 (ix2 a b) = m ((c : Thread nD τ).loc main_arg6) (ix2 a b) := by
  entry_read
  pointwise

theorem tlt (t : Fin cfg0.N) : t.val < 22 := t.isLt

/-- Row `a` of block `t`. -/
def row (t : Fin cfg0.N) (a : Fin 384) : Fin 8448 := ⟨t.val * 384 + a.val, by have := tlt t; omega⟩

/-- The operands. -/
abbrev Y : FVec Ideal S8448x512 .bf16 := m ((c : Thread nD τ).loc main_arg0)
abbrev O : FVec Ideal S8448x1024 .bf16 := m ((c : Thread nD τ).loc main_arg1)
abbrev G : FVec Ideal S8448x2048 .f32 := m ((c : Thread nD τ).loc main_arg2)
abbrev X : FVec Ideal S8448x1024 .f32 := m ((c : Thread nD τ).loc main_arg3)
abbrev Ws : FVec Ideal S512x1024 .f32 := m ((c : Thread nD τ).loc main_arg4)
abbrev Wa : FVec Ideal S1024x1024 .f32 := m ((c : Thread nD τ).loc main_arg5)
abbrev Wo : FVec Ideal S1024x1024 .f32 := m ((c : Thread nD τ).loc main_arg6)

theorem read0 (t : Fin cfg0.N) (a : Fin 384) (b : Fin 512) : iblk m c 0 t (ix2 a b) = Y m c (ix2 (row t a) b) := by
  blk_point [iblk, V, idx t, row]
theorem read1 (t : Fin cfg0.N) (a : Fin 384) (b : Fin 1024) : iblk m c 1 t (ix2 a b) = O m c (ix2 (row t a) b) := by
  blk_point [iblk, V, idx t, row]
theorem read2 (t : Fin cfg0.N) (a : Fin 384) (b : Fin 2048) : iblk m c 2 t (ix2 a b) = G m c (ix2 (row t a) b) := by
  blk_point [iblk, V, idx t, row]
theorem read3 (t : Fin cfg0.N) (a : Fin 384) (b : Fin 1024) : iblk m c 3 t (ix2 a b) = X m c (ix2 (row t a) b) := by
  blk_point [iblk, V, idx t, row]
theorem read4 (t : Fin cfg0.N) (s : Fin 4) (k : Fin 512) (j : Fin 256) :
    iblk m c 4 t (ix3 s k j) = Ws m c (ix2 k ⟨s.val * 256 + j.val, by omega⟩) := by
  refine Eq.trans ?_ (shard_at m c s k j)
  blk_point [iblk, idx t]
theorem read5 (t : Fin cfg0.N) (a b : Fin 1024) : iblk m c 5 t (ix2 a b) = Wa m c (ix2 a b) := by
  refine Eq.trans ?_ (attn_at m c a b)
  blk_point [iblk, idx t]
theorem read6 (t : Fin cfg0.N) (a b : Fin 1024) : iblk m c 6 t (ix2 a b) = Wo m c (ix2 a b) := by
  refine Eq.trans ?_ (out_at m c a b)
  blk_point [iblk, idx t]

/-- One entry of the second result, and of the first. -/
def merged (n : Fin 8448) (b : Fin 1024) : EReal :=
  gate (G m c (ix2 n ⟨b.val, by omega⟩)) * (∑ k : Fin 512, Y m c (ix2 n k) * Ws m c (ix2 k b))
    + gate (G m c (ix2 n ⟨1024 + b.val, by omega⟩)) * (∑ k : Fin 1024, O m c (ix2 n k) * Wa m c (ix2 k b))
def mixed (n : Fin 8448) (b : Fin 1024) : EReal := X m c (ix2 n b) + ∑ k : Fin 1024, merged m c n k * Wo m c (ix2 k b)

/-- The merged rows, as the body computes them. -/
theorem merged_at (t : Fin cfg0.N) (a : Fin 384) (b : Fin 1024) :
    k0_pay1 (F := Ideal) (k0_pay3 (View.ld (iblk m c 1 t) r0_5) (View.ld (iblk m c 5 t) r0_6))
      (k0_pay4 (View.ld (iblk m c 0 t) r0_0) (View.ld (iblk m c 4 t) r0_1) (View.ld (iblk m c 4 t) r0_2)
        (View.ld (iblk m c 4 t) r0_3) (View.ld (iblk m c 4 t) r0_4) (View.ld (iblk m c 2 t) r0_7))
      (View.ld (iblk m c 2 t) r0_8) (Scalar.ofBits .f32 0x00000000#32) (ix2 a b) = merged m c (row t a) b := by
  rw [pay1, pay3]
  refine congrArg₂ (· + ·) ((ssm (iblk m c 0 t) (iblk m c 4 t) (iblk m c 2 t) (fun k b => Ws m c (ix2 k b)) (read4 m c t) a b).trans ?_)
    (congrArg₂ (· * ·) (congrArg gate ?_) (Finset.sum_congr rfl fun k _ => congrArg₂ (· * ·) ?_ ?_))
  · rw [read2]
    simp only [read0]
  · refine Eq.trans ?_ (read2 m c t a _)
    pointwise
  · refine Eq.trans ?_ (read1 m c t a k)
    pointwise
  · refine Eq.trans ?_ (read5 m c t k b)
    pointwise

theorem array8 : (dats m 0 c).arrAt 8 cfg0.N = fun i : S8448x1024.Idx => merged m c (i 0) (i 1) := by
  refine (dats m 0 c).arrAt_eq_of_covers 8 _ (by decide +kernel) fun t hf y => ?_
  blk_simp
  rw [after0_8]
  unfold_out out0_8
  obtain ⟨a, b, rfl⟩ : ∃ (a : Fin 384) (b : Fin 1024), y = ix2 a b := ⟨y 0, y 1, eq_ix2 y⟩
  refine Eq.trans ?_ (?_ : merged m c (row t a) b = _)
  swap
  · blk_point [idx t, row]
  canon_tiles x h
  obtain ⟨a', b', rfl⟩ : ∃ (a : Fin 384) (b : Fin 1024), x = ix2 a b := ⟨x 0, x 1, eq_ix2 x⟩
  obtain rfl : a = a' := Fin.ext h0
  obtain rfl : b = b' := Fin.ext h1
  exact merged_at m c t a b

theorem array7 : (dats m 0 c).arrAt 7 cfg0.N = fun i : S8448x1024.Idx => mixed m c (i 0) (i 1) := by
  refine (dats m 0 c).arrAt_eq_of_covers 7 _ (by decide +kernel) fun t hf y => ?_
  blk_simp
  rw [after0_7]
  unfold_out out0_7
  obtain ⟨a, b, rfl⟩ : ∃ (a : Fin 384) (b : Fin 1024), y = ix2 a b := ⟨y 0, y 1, eq_ix2 y⟩
  refine Eq.trans ?_ (?_ : mixed m c (row t a) b = _)
  swap
  · blk_point [idx t, row]
  canon_tiles x h
  obtain ⟨a', b', rfl⟩ : ∃ (a : Fin 384) (b : Fin 1024), x = ix2 a b := ⟨x 0, x 1, eq_ix2 x⟩
  obtain rfl : a = a' := Fin.ext h0
  obtain rfl : b = b' := Fin.ext h1
  refine (pay2 _ _ _ _ _ a b).trans ?_
  refine congrArg₂ (· + ·) ?_ (Finset.sum_congr rfl fun k _ => congrArg₂ (· * ·) (merged_at m c t a k) ?_)
  · refine Eq.trans ?_ (read3 m c t a b)
    pointwise
  · refine Eq.trans ?_ (read6 m c t k b)
    pointwise

/-- Both programs end with the same arrays. -/
theorem equation : Cert.algebraic_MixIdeal_MixRefIdeal (hMixIdeal := Cert.MixIdeal.Gen.facts)
    (hMixRefIdeal := Cert.MixRefIdeal.Gen.facts) := by
  intro m g m' g' hpre hargs
  refine ⟨fun c => fun i : S8448x1024.Idx => mixed m c (i 0) (i 1), fun c => fun i : S8448x1024.Idx => merged m c (i 0) (i 1),
    (θ_run _ _ _).mono (fun r h c => ⟨(h c).1.trans (array7 m c), (h c).2.1.trans (array8 m c), (h c).2.2⟩) (Value.run_blocks m g), ?_⟩
  refine (θ_run _ _ _).mono (fun r h c => ⟨(h c).1.trans ?_, (h c).2.1.trans ?_, (h c).2.2⟩) (Cert.MixRefIdeal.Value.run m' g')
  all_goals
    obtain ⟨a0, a1, a2, a3, a4, a5, a6⟩ := hargs c
    funext i
    obtain ⟨n, b, rfl⟩ : ∃ (n : Fin 8448) (b : Fin 1024), i = ix2 n b := ⟨i 0, i 1, eq_ix2 i⟩
  · rw [a0, a1, a2, a3, a4, a5, a6]
    pointwise
    rfl
  · rw [a0, a1, a2, a4, a5]
    pointwise
    rfl

theorem frame : Cert.quiescent_MixRefIdeal (hMixRefIdeal := Cert.MixRefIdeal.Gen.facts) := fun m g _ =>
  (θ_run _ _ _).mono (fun r h => ⟨fun c => (h c).2.2, sem_eq_zero_of_no_sems (by decide) r.2⟩)
    (Cert.MixRefIdeal.Value.run m g)

end Cert.MixIdeal.Gate

end
-- ==== Proof.Up.lean ====
/- The first half of the MLP: the norm, the first product and the positive part. -/
module

public import proofs.«01_k».proof.Defs
public import proofs.«01_k».proof.Proof.Row
public import proofs.«01_k».proof.Proof.Gen.UpIdeal.Value
public import proofs.«01_k».proof.Proof.Gen.UpRefIdeal.Run
public import proofs.«01_k».proof.Proof.Gen.UpIdeal
public import proofs.«01_k».proof.Proof.Gen.UpRefIdeal
public import Idealize.ShloMosaic.Lib.Claim
public import Idealize.ShloMosaic.Lib.StableHlo.RunRead
public import Idealize.ShloMosaic.Lib.Pipeline.ValueKit
public import Idealize.ShloMosaic.Lib.Pointwise
public import Idealize.ShloMosaic.Lib.WritesUnit
public import Idealize.ShloMosaic.Lib.Pipeline.ReadBack

@[expose] public section

set_option maxRecDepth 16384

noncomputable section

namespace Cert.UpIdeal.Act

open Cert.UpIdeal Cert.UpIdeal.Gen Idealize.ShloMosaic Idealize.ShloMosaic.TcCoe Idealize.SL.Sem
open Idealize.ShloMosaic.Pipeline

/-- Which block each operand shows at the grid point `t`. -/
theorem idx : ∀ t : Fin cfg0.N, win0_0.index t = ![t.val, 0] ∧ win0_1.index t = ![0, 0]
    ∧ win0_2.index t = ![0, 0, 0] ∧ win0_3.index t = ![t.val, 0] ∧ win0_4.index t = ![t.val, 0] :=
  (by decide +kernel : ∀ t : Fin grid0.N, _)

section Payloads

variable (v0 : FVec Ideal S384x1024 .f32) (v1 : FVec Ideal S1x1024 .f32) (v15 : FVec Ideal S384x1024 .bf16)
variable (w : FVec Ideal S1x1024x1024 .bf16)

theorem pay3 (a : Fin 384) (b : Fin 1024) : k0_pay3 (F := Ideal) v0 v1 (ix2 a b)
    = Cert.Row.unit (fun k => v0 (ix2 a k)) (fun k => v1 (ix2 0 k)) b := by
  pointwise [k0_pay3]
  rfl

theorem pay1 (a : Fin 384) (b : Fin 1024) : k0_pay1 (F := Ideal) v15 w (ix2 a b)
    = max (∑ k : Fin 1024, v15 (ix2 a k) * w (ix3 0 k b)) 0 := by
  pointwise [k0_pay1]

theorem pay2 (a : Fin 384) (b : Fin 1024) : k0_pay2 (F := Ideal) v15 w (ix2 a b)
    = max (∑ k : Fin 1024, v15 (ix2 a k) * w (ix3 0 k b)) 0 := by
  pointwise [k0_pay2]

theorem pay4 (a : Fin 384) (b : Fin 1024) : k0_pay4 (F := Ideal) v0 v1 w (ix2 a b)
    = max (∑ k : Fin 1024, Cert.Row.unit (fun k => v0 (ix2 a k)) (fun k => v1 (ix2 0 k)) k * w (ix3 0 k b)) 0 := by
  simp only [← pay3]
  pointwise [k0_pay4]

theorem pay5 (a : Fin 384) (b : Fin 1024) : k0_pay5 (F := Ideal) v0 v1 w (ix2 a b)
    = max (∑ k : Fin 1024, Cert.Row.unit (fun k => v0 (ix2 a k)) (fun k => v1 (ix2 0 k)) k * w (ix3 0 k b)) 0 := by
  simp only [← pay3]
  pointwise [k0_pay5]

end Payloads

variable (m : (ℓ : Loc nD τ sig) → Buf (Elt Ideal) ℓ) (c : Dev nD)

/-- The weight's shards, entry by entry. -/
theorem weight_at (s : Fin 4) (a b : Fin 1024) :
    V m c main_v3 (ix3 s a b) = m ((c : Thread nD τ).loc main_arg2) (ix2 a ⟨s.val * 1024 + b.val, by omega⟩) := by
  entry_read
  pointwise

theorem gain_at (b : Fin 1024) : V m c main_v0 (ix2 (0 : Fin 1) b) = m ((c : Thread nD τ).loc main_arg1) (ix1 b) := by
  entry_read
  pointwise

theorem tlt (t : Fin cfg0.N) : t.val < 22 := t.isLt

/-- Row `a` of block `t`. -/
def row (t : Fin cfg0.N) (a : Fin 384) : Fin 8448 := ⟨t.val * 384 + a.val, by have := tlt t; omega⟩

/-- The operands. -/
abbrev X : FVec Ideal S8448x1024 .f32 := m ((c : Thread nD τ).loc main_arg0)
abbrev G : FVec Ideal S1024 .f32 := m ((c : Thread nD τ).loc main_arg1)
abbrev W : FVec Ideal S1024x4096 .f32 := m ((c : Thread nD τ).loc main_arg2)

theorem read0 (t : Fin cfg0.N) (a : Fin 384) (b : Fin 1024) : iblk m c 0 t (ix2 a b) = X m c (ix2 (row t a) b) := by
  blk_point [iblk, V, idx t, row]
theorem read1 (t : Fin cfg0.N) (b : Fin 1024) : iblk m c 1 t (ix2 (0 : Fin 1) b) = G m c (ix1 b) := by
  refine Eq.trans ?_ (gain_at m c b)
  blk_point [iblk, idx t]
theorem read2 (t : Fin cfg0.N) (s : Fin 4) (a b : Fin 1024) :
    iblk m c 2 t (ix3 s a b) = W m c (ix2 a ⟨s.val * 1024 + b.val, by omega⟩) := by
  refine Eq.trans ?_ (weight_at m c s a b)
  blk_point [iblk, idx t]

/-- One entry of the second result, and of the first. -/
def unit (n : Fin 8448) (b : Fin 1024) : EReal := Cert.Row.unit (fun k => X m c (ix2 n k)) (fun k => G m c (ix1 k)) b
def act (n : Fin 8448) (j : Fin 4096) : EReal := max (∑ k : Fin 1024, unit m c n k * W m c (ix2 k j)) 0

/-- The second result's block, from the operands' blocks. -/
theorem unit_at (t : Fin cfg0.N) (a : Fin 384) (b : Fin 1024) :
    k0_pay3 (F := Ideal) (View.ld (iblk m c 0 t) r0_0) (View.ld (iblk m c 1 t) r0_1) (ix2 a b) = unit m c (row t a) b := by
  refine (pay3 _ _ a b).trans ?_
  unfold unit
  congr 1 <;> funext k
  · pointwise [r0_0]
    exact read0 m c t a k
  · pointwise [r0_1]
    exact read1 m c t k

theorem array1 : (dats m 0 c).arrAt 4 cfg0.N = fun i : S8448x1024.Idx => unit m c (i 0) (i 1) := by
  refine (dats m 0 c).arrAt_eq_of_covers 4 _ (by decide +kernel) fun t hf y => ?_
  blk_simp
  rw [after0_4]
  unfold_out out0_4
  obtain ⟨a, b, rfl⟩ : ∃ (a : Fin 384) (b : Fin 1024), y = ix2 a b := ⟨y 0, y 1, eq_ix2 y⟩
  refine Eq.trans ?_ (?_ : unit m c (row t a) b = _)
  swap
  · blk_point [idx t, row]
  canon_tiles x h
  obtain ⟨a', b', rfl⟩ : ∃ (a : Fin 384) (b : Fin 1024), x = ix2 a b := ⟨x 0, x 1, eq_ix2 x⟩
  obtain rfl : a = a' := Fin.ext h0
  obtain rfl : b = b' := Fin.ext h1
  exact unit_at m c t a b

/-- A shard's product, as the kernel's body computes it. -/
theorem act_at (t : Fin cfg0.N) (s : Fin 4) (a : Fin 384) (b : Fin 1024) (j : Fin 4096) (hj : j.val = s.val * 1024 + b.val)
    (x : Fin 1024 → EReal) (w : Fin 1024 → EReal) (hx : ∀ k, x k = unit m c (row t a) k)
    (hw : ∀ k, w k = iblk m c 2 t (ix3 s k b)) : max (∑ k : Fin 1024, x k * w k) 0 = act m c (row t a) j := by
  rw [show j = ⟨s.val * 1024 + b.val, by omega⟩ from Fin.ext hj]
  simp only [hx, hw, read2]
  rfl

theorem array0 : (dats m 0 c).arrAt 3 cfg0.N = fun i : S8448x4096.Idx => act m c (i 0) (i 1) := by
  refine (dats m 0 c).arrAt_eq_of_covers 3 _ (by decide +kernel) fun t hf y => ?_
  blk_simp
  rw [after0_3]
  unfold_out out0_3
  obtain ⟨a, j, rfl⟩ : ∃ (a : Fin 384) (j : Fin 4096), y = ix2 a j := ⟨y 0, y 1, eq_ix2 y⟩
  refine Eq.trans ?_ (?_ : act m c (row t a) j = _)
  swap
  · blk_point [idx t, row]
  canon_tiles x h
  all_goals
    obtain ⟨a', b, rfl⟩ : ∃ (a : Fin 384) (b : Fin 1024), x = ix2 a b := ⟨x 0, x 1, eq_ix2 x⟩
    obtain rfl : a = a' := Fin.ext h0
  · refine (pay2 _ _ a b).trans (act_at m c t 3 a b j h1 _ _ (unit_at m c t a) fun k => ?_)
    pointwise [r0_8]
  · refine (pay1 _ _ a b).trans (act_at m c t 2 a b j h1 _ _ (unit_at m c t a) fun k => ?_)
    pointwise [r0_6]
  · refine (pay5 _ _ _ a b).trans (act_at m c t 1 a b j h1 _ _ (fun k => ?_) fun k => ?_)
    · exact (pay3 _ _ a k).symm.trans (unit_at m c t a k)
    · pointwise [r0_4]
  · refine (pay4 _ _ _ a b).trans (act_at m c t 0 a b j (h1.trans (by simp)) _ _ (fun k => ?_) fun k => ?_)
    · exact (pay3 _ _ a k).symm.trans (unit_at m c t a k)
    · pointwise [r0_2]

/-- Both programs end with the same arrays. -/
theorem equation : Cert.algebraic_UpIdeal_UpRefIdeal (hUpIdeal := Cert.UpIdeal.Gen.facts)
    (hUpRefIdeal := Cert.UpRefIdeal.Gen.facts) := by
  intro m g m' g' hpre hargs
  refine ⟨fun c => fun i : S8448x4096.Idx => act m c (i 0) (i 1), fun c => fun i : S8448x1024.Idx => unit m c (i 0) (i 1),
    (θ_run _ _ _).mono (fun r h c => ⟨(h c).1.trans (array0 m c), (h c).2.1.trans (array1 m c), (h c).2.2⟩) (Value.run_blocks m g), ?_⟩
  refine (θ_run _ _ _).mono (fun r h c => ⟨(h c).1.trans ?_, (h c).2.1.trans ?_, (h c).2.2⟩) (Cert.UpRefIdeal.Value.run m' g')
  · obtain ⟨a0, a1, a2⟩ := hargs c
    funext i
    obtain ⟨n, j, rfl⟩ : ∃ (n : Fin 8448) (j : Fin 4096), i = ix2 n j := ⟨i 0, i 1, eq_ix2 i⟩
    rw [a0, a1, a2]
    pointwise
    rfl
  · obtain ⟨a0, a1, a2⟩ := hargs c
    funext i
    obtain ⟨n, b, rfl⟩ : ∃ (n : Fin 8448) (b : Fin 1024), i = ix2 n b := ⟨i 0, i 1, eq_ix2 i⟩
    rw [a0, a1]
    pointwise
    rfl

theorem frame : Cert.quiescent_UpRefIdeal (hUpRefIdeal := Cert.UpRefIdeal.Gen.facts) := fun m g _ =>
  (θ_run _ _ _).mono (fun r h => ⟨fun c => (h c).2.2, sem_eq_zero_of_no_sems (by decide) r.2⟩)
    (Cert.UpRefIdeal.Value.run m g)

end Cert.UpIdeal.Act

end
-- ==== Proof.Block.lean ====
/- What one grid point adds to the running sums, in terms of the blocks it is given. -/
module

public import proofs.«01_k».proof.Proof.Model
public import proofs.«01_k».proof.Proof.Gen.KernelIdeal.Frame
public import Idealize.ShloMosaic.Lib.Pipeline.ValueKit
public import Idealize.ShloMosaic.Lib.Pointwise
public import Idealize.ShloMosaic.Lib.WritesUnit
public import Idealize.ShloMosaic.Lib.Pipeline.ReadBack

@[expose] public section

set_option maxRecDepth 16384

noncomputable section

namespace Cert.KernelIdeal.Attn

open Cert.KernelIdeal Cert.KernelIdeal.Gen Cert.Attn Idealize.ShloMosaic Idealize.ShloMosaic.TcCoe Idealize.SL.Sem
open Idealize.ShloMosaic.Pipeline (Dat)

/-- The column of feature `d` of head `h` in a block of four heads. -/
def colq (h : Fin 4) (d : Fin 64) : Fin 256 := ⟨h.val * 64 + d.val, by omega⟩

/-- The lane that holds head `h`'s entry of a row statistic. -/
def lane (h : Fin 4) : Fin 128 := ⟨h.val, by omega⟩

/-- The lane of the padded value block that holds feature `d`. -/
def lanev (d : Fin 64) : Fin 128 := ⟨d.val, by omega⟩

theorem colq_zero (d : Fin 64) : colq 0 d = ⟨d.val, by omega⟩ := Fin.ext (by simp [colq])
theorem colq_one (d : Fin 64) : colq 1 d = ⟨64 + d.val, by omega⟩ := Fin.ext (by simp [colq])
theorem colq_two (d : Fin 64) : colq 2 d = ⟨128 + d.val, by omega⟩ := Fin.ext (by simp [colq])
theorem colq_three (d : Fin 64) : colq 3 d = ⟨192 + d.val, by omega⟩ := Fin.ext (by simp [colq])

variable (q : FVec Ideal S256x256 .bf16) (k : FVec Ideal S1x2816x64 .bf16) (v : FVec Ideal S1x2816x128 .bf16)
  (pt : FVec Ideal S4x256x2816 .bf16) (mb : FVec Ideal S1x256x128 .f32) (dO : FVec Ideal S256x256 .bf16)
  (ls dl : FVec Ideal S256x128 .f32)

/-- The factor that turns a stored weight of head `h`, row `x`, into the normalised one. -/
def fac (h : Fin 4) (x : Fin 256) : EReal := Ideal.exp (mb (ix3 0 x (lane h)) - ls (ix2 x (lane h)))

/-- The scaled row cotangent of the attention's result. -/
def dos (h : Fin 4) (x : Fin 256) (d : Fin 64) : EReal := dO (ix2 x (colq h d)) * fac mb ls h x

/-- The stored weight times the scaled cotangent of the weight less the row term. -/
def dss (h : Fin 4) (x : Fin 256) (b : Fin 2816) : EReal :=
  pt (ix3 h x b) * ((∑ d : Fin 64, dos mb dO ls h x d * v (ix3 0 b (lanev d))) - dl (ix2 x (lane h)) * fac mb ls h x)

/-- What the point adds to the cotangent of value row `b`. -/
def addV (b : Fin 2816) (d : Fin 64) : EReal := ∑ h : Fin 4, ∑ x : Fin 256, pt (ix3 h x b) * dos mb dO ls h x d

/-- What the point adds to the cotangent of key row `b`. -/
def addK (b : Fin 2816) (d : Fin 64) : EReal :=
  ∑ h : Fin 4, ∑ x : Fin 256, dss v pt mb dO ls dl h x b * q (ix2 x (colq h d))

/-- What the point adds to the cotangent of query row `x` of its block. -/
def addQ (x : Fin 256) (h : Fin 4) (d : Fin 64) : EReal :=
  ∑ b : Fin 2816, dss v pt mb dO ls dl h x b * k (ix3 0 b d)

/-- Where the grid point `t` stands on the axis of query blocks. -/
theorem coords_two : ∀ t : Fin cfg0.N, (grid0.coords t 2).val = t.val % 33 :=
  (by decide +kernel : ∀ t : Fin grid0.N, (grid0.coords t 2).val = t.val % 33)

end Cert.KernelIdeal.Attn

end
-- ==== Proof.Operands.lean ====
/- The eight operands of the call, as the host prepares them from the arguments. -/
module

public import proofs.«01_k».proof.Proof.Block
public import Idealize.ShloMosaic.Lib.Claim

@[expose] public section

set_option maxRecDepth 16384

noncomputable section

namespace Cert.KernelIdeal.Attn

open Cert.KernelIdeal Cert.KernelIdeal.Gen Cert.Attn Idealize.ShloMosaic Idealize.ShloMosaic.TcCoe Idealize.SL.Sem
open Idealize.ShloMosaic.Pipeline (Dat)

variable (q ct : FVec Ideal S8208x1024 .f32) (k v : FVec Ideal S8208x256 .f32)

/-- The scores. -/
def scores : FVec Ideal S4x4x8208x8208 .f32 :=
  transpose S4x4x8208x8208 [0, 3, 2, 1] (Host.dotGeneral dot_S8208x4x64_S8208x4x4x64_S4x8208x8208x4_2_3_0_02_1_1 none (shapeCast _ k shapeCasts_S8208x256_S8208x4x64) (shapeCast _ q shapeCasts_S8208x1024_S8208x4x4x64)) transposes_S4x8208x8208x4_S4x4x8208x8208_0_3_2_1

/-- A row statistic, repeated along its row. -/
def spread (x : FVec Ideal S4x4x8208 .f32) : FVec Ideal S4x4x8208x8208 .f32 :=
  broadcastInDim S4x4x8208x8208 ![0, 1, 2, 3] bcast_S4x4x8208x1_S4x4x8208x8208_0_1_2_3 (broadcastInDim S4x4x8208x1 ![0, 1, 2] bcast_S4x4x8208_S4x4x8208x1_0_1_2 x)

/-- The largest score of each row over all keys. -/
def max2 (s : FVec Ideal S4x4x8208x8208 .f32) : FVec Ideal S4x4x8208 .f32 :=
  Host.reduce FloatOps.maximumf s (constant S_ .f32 0xFF800000#32) reducesTo_S4x4x8208x8208_S4x4x8208_d3 h_S_

/-- The largest score of each row over the first block of keys. -/
def max0 (s : FVec Ideal S4x4x8208x8208 .f32) : FVec Ideal S4x4x8208 .f32 :=
  Host.reduce FloatOps.maximumf (extractStridedSlice S4x4x8208x2816 ![0, 0, 0, 0] s slices_S4x4x8208x8208_S4x4x8208x2816_0_0_0_0) (constant S_ .f32 0xFF800000#32) reducesTo_S4x4x8208x2816_S4x4x8208_d3 h_S_

/-- The largest score of each row over the first two blocks of keys. -/
def max1 (s : FVec Ideal S4x4x8208x8208 .f32) : FVec Ideal S4x4x8208 .f32 :=
  Host.reduce FloatOps.maximumf (extractStridedSlice S4x4x8208x5632 ![0, 0, 0, 0] s slices_S4x4x8208x8208_S4x4x8208x5632_0_0_0_0) (constant S_ .f32 0xFF800000#32) reducesTo_S4x4x8208x5632_S4x4x8208_d3 h_S_

/-- The exponentials of the scores, lowered by a row statistic. -/
def expo (s : FVec Ideal S4x4x8208x8208 .f32) (x : FVec Ideal S4x4x8208 .f32) : FVec Ideal S4x4x8208x8208 .f32 :=
  Host.exp (subf s (spread x))

/-- The sum of each row. -/
def rowSum (e : FVec Ideal S4x4x8208x8208 .f32) : FVec Ideal S4x4x8208 .f32 :=
  Host.reduceAdd e (constant S_ .f32 0x00000000#32) reducesTo_S4x4x8208x8208_S4x4x8208_d3 h_S_

/-- The statistic that the softmax lowers its scores by. -/
def soft (s : FVec Ideal S4x4x8208x8208 .f32) : FVec Ideal S4x4x8208 .f32 :=
  maximumf (broadcastInDim S4x4x8208 ![] bcast_S_S4x4x8208 (constant S_ .f32 0xFF800000#32)) (max2 s)

/-- The softmax of the scores. -/
def weights (s : FVec Ideal S4x4x8208x8208 .f32) : FVec Ideal S4x4x8208x8208 .f32 :=
  Host.divf (expo s (soft s)) (spread (rowSum (expo s (soft s))))

/-- The row term: the cotangents against the attention's result. -/
def delta (p : FVec Ideal S4x4x8208x8208 .f32) : FVec Ideal S8208x4x4 .f32 :=
  Host.reduceAdd (mulf (shapeCast _ ct shapeCasts_S8208x1024_S8208x4x4x64) (transpose S8208x4x4x64 [3, 0, 2, 1] (Host.dotGeneral dot_S8208x4x64_S4x4x8208x8208_S4x64x4x8208_0_3_2_12_1_0 none (shapeCast _ v shapeCasts_S8208x256_S8208x4x64) p) transposes_S4x64x4x8208_S8208x4x4x64_3_0_2_1)) (constant S_ .f32 0x00000000#32) reducesTo_S8208x4x4x64_S8208x4x4_d3 h_S_

/-- The log of each row's denominator. -/
def lse (s : FVec Ideal S4x4x8208x8208 .f32) : FVec Ideal S4x4x8208 .f32 :=
  addf (max2 s) (Host.log (rowSum (expo s (max2 s))))

/-- The scores of the first block of keys, lowered by a row statistic and exponentiated. -/
def block0 (s : FVec Ideal S4x4x8208x8208 .f32) (x : FVec Ideal S4x4x8208 .f32) : FVec Ideal S4x4x8208x2816 .f32 :=
  Host.exp (subf (extractStridedSlice S4x4x8208x2816 ![0, 0, 0, 0] s slices_S4x4x8208x8208_S4x4x8208x2816_0_0_0_0) (broadcastInDim S4x4x8208x2816 ![0, 1, 2, 3] bcast_S4x4x8208x1_S4x4x8208x2816_0_1_2_3 (broadcastInDim S4x4x8208x1 ![0, 1, 2] bcast_S4x4x8208_S4x4x8208x1_0_1_2 x)))

/-- The same for the second block of keys. -/
def block1 (s : FVec Ideal S4x4x8208x8208 .f32) (x : FVec Ideal S4x4x8208 .f32) : FVec Ideal S4x4x8208x2816 .f32 :=
  Host.exp (subf (extractStridedSlice S4x4x8208x2816 ![0, 0, 0, 2816] s slices_S4x4x8208x8208_S4x4x8208x2816_0_0_0_2816) (broadcastInDim S4x4x8208x2816 ![0, 1, 2, 3] bcast_S4x4x8208x1_S4x4x8208x2816_0_1_2_3 (broadcastInDim S4x4x8208x1 ![0, 1, 2] bcast_S4x4x8208_S4x4x8208x1_0_1_2 x)))

/-- The same for the last block of keys. -/
def block2 (s : FVec Ideal S4x4x8208x8208 .f32) (x : FVec Ideal S4x4x8208 .f32) : FVec Ideal S4x4x8208x2576 .f32 :=
  Host.exp (subf (extractStridedSlice S4x4x8208x2576 ![0, 0, 0, 5632] s slices_S4x4x8208x8208_S4x4x8208x2576_0_0_0_5632) (broadcastInDim S4x4x8208x2576 ![0, 1, 2, 3] bcast_S4x4x8208x1_S4x4x8208x2576_0_1_2_3 (broadcastInDim S4x4x8208x1 ![0, 1, 2] bcast_S4x4x8208_S4x4x8208x1_0_1_2 x)))

/-- The three blocks side by side. -/
def beside (a b : FVec Ideal S4x4x8208x2816 .f32) (d : FVec Ideal S4x4x8208x2576 .f32) : FVec Ideal S4x4x8208x8208 .f32 :=
  concatenate S4x4x8208x8208 3 [⟨S4x4x8208x2816, a⟩, ⟨S4x4x8208x2816, b⟩, ⟨S4x4x8208x2576, d⟩]
    concatenates_S4x4x8208x2816_S4x4x8208x2816_S4x4x8208x2576_S4x4x8208x8208_d3

/-- The unnormalised weights, each block of keys lowered by the maximum so far. -/
def stored (s : FVec Ideal S4x4x8208x8208 .f32) : FVec Ideal S4x4x8208x8208 .f32 :=
  beside (block0 s (max0 s)) (block1 s (max1 s)) (block2 s (max2 s))

/-- The stored weights as the call's operand. -/
def opP (p : FVec Ideal S4x4x8208x8208 .f32) : FVec Ideal S16x8448x8448 .bf16 :=
  truncf .bf16 (pad S16x8448x8448 ![0, 0, 0] ![0, 240, 240] ![0, 0, 0] (shapeCast _ p shapeCasts_S4x4x8208x8208_S16x8208x8208) (sitofp .f32 (constantI S_ 32 0#32)) pads_S16x8208x8208_S16x8448x8448_000_02400_02400 h_S_) bitsLt_bf16_f32

/-- A row statistic laid out as lanes of 128 per group. -/
def lanes (x : FVec Ideal S8208x4x4 .f32) : FVec Ideal S8448x512 .f32 :=
  shapeCast _ (pad S8448x4x128 ![0, 0, 0] ![240, 0, 124] ![0, 0, 0] x (sitofp .f32 (constantI S_ 32 0#32)) pads_S8208x4x4_S8448x4x128_02400_000_01240 h_S_) shapeCasts_S8448x4x128_S8448x512

/-- Tokens first. -/
def tokens (x : FVec Ideal S4x4x8208 .f32) : FVec Ideal S8208x4x4 .f32 :=
  transpose S8208x4x4 [2, 0, 1] x transposes_S4x4x8208_S8208x4x4_2_0_1

/-- Three row statistics as one operand, one per block of keys. -/
def opMs (a b d : FVec Ideal S4x4x8208 .f32) : FVec Ideal S3x8448x512 .f32 :=
  concatenate S3x8448x512 0
    [⟨S1x8448x512, broadcastInDim S1x8448x512 ![1, 2] bcast_S8448x512_S1x8448x512_1_2 (lanes (tokens a))⟩,
     ⟨S1x8448x512, broadcastInDim S1x8448x512 ![1, 2] bcast_S8448x512_S1x8448x512_1_2 (lanes (tokens b))⟩,
     ⟨S1x8448x512, broadcastInDim S1x8448x512 ![1, 2] bcast_S8448x512_S1x8448x512_1_2 (lanes (tokens d))⟩]
    concatenates_S1x8448x512_S1x8448x512_S1x8448x512_S3x8448x512_d0

/-- The three running maxima as the call's operand. -/
def opM (s : FVec Ideal S4x4x8208x8208 .f32) : FVec Ideal S3x8448x512 .f32 := opMs (max0 s) (max1 s) (max2 s)

/-- Rows with padding: the queries and the cotangents as operands. -/
def opQ (x : FVec Ideal S8208x1024 .f32) : FVec Ideal S8448x1024 .bf16 :=
  truncf .bf16 (pad S8448x1024 ![0, 0] ![240, 0] ![0, 0] x (sitofp .f32 (constantI S_ 32 0#32)) pads_S8208x1024_S8448x1024_02400_000 h_S_) bitsLt_bf16_f32

/-- Heads first, with padding: the keys as an operand. -/
def opK (x : FVec Ideal S8208x256 .f32) : FVec Ideal S4x8448x64 .bf16 :=
  truncf .bf16 (pad S4x8448x64 ![0, 0, 0] ![0, 240, 0] ![0, 0, 0] (transpose S4x8208x64 [1, 0, 2] (shapeCast _ x shapeCasts_S8208x256_S8208x4x64) transposes_S8208x4x64_S4x8208x64_1_0_2) (sitofp .f32 (constantI S_ 32 0#32)) pads_S4x8208x64_S4x8448x64_000_02400_000 h_S_) bitsLt_bf16_f32

/-- The values as an operand: beside them, ones. -/
def opV (x : FVec Ideal S8208x256 .f32) : FVec Ideal S4x8448x128 .bf16 :=
  concatenate S4x8448x128 2 [⟨S4x8448x64, opK x⟩, ⟨S4x8448x64, (truncf .bf16 (broadcastInDim S4x8448x64 ![] bcast_S_S4x8448x64 (constant (F := Ideal) S_ .f32 0x3F800000#32)) bitsLt_bf16_f32 : FVec Ideal S4x8448x64 .bf16)⟩] concatenates_S4x8448x64_S4x8448x64_S4x8448x128_d2

variable (m : (ℓ : Loc nD τ sig) → Buf (Elt Ideal) ℓ) (c : Dev nD)

/-- The scores of the program's arguments. -/
abbrev S0 : FVec Ideal S4x4x8208x8208 .f32 := scores (m ((c : Thread nD τ).loc main_arg0)) (m ((c : Thread nD τ).loc main_arg1))

theorem entry_q : V m c main_v71 = opQ (m ((c : Thread nD τ).loc main_arg0)) := by entry_read; rfl
theorem entry_do : V m c main_v73 = opQ (m ((c : Thread nD τ).loc main_arg3)) := by entry_read; rfl
theorem entry_k : V m c main_v76 = opK (m ((c : Thread nD τ).loc main_arg1)) := by entry_read; rfl
theorem entry_v : V m c main_v82 = opV (m ((c : Thread nD τ).loc main_arg2)) := by entry_read; rfl

end Cert.KernelIdeal.Attn

end
-- ==== Proof.ReadStats.lean ====
/- What the first part of the host code leaves of the row statistics. -/
module

public import proofs.«01_k».proof.Proof.Operands
public import Idealize.ShloMosaic.Lib.Claim
public import Idealize.ShloMosaic.Lib.StableHlo.RunRead

@[expose] public section

set_option maxRecDepth 16384

noncomputable section

namespace Cert.KernelIdeal.Attn

open Cert.KernelIdeal Cert.KernelIdeal.Gen Cert.Attn Idealize.ShloMosaic Idealize.ShloMosaic.TcCoe Idealize.SL.Sem

variable (m : (ℓ : Loc nD τ sig) → Buf (Elt Ideal) ℓ) (c : Dev nD)

theorem w22 : StableHlo.after hostOps0 (fun b => m (c, b)) (Proc.devRef .tc main_v22) = max0 (S0 m c) := by
  simp only [hostOps0]
  after_results_simp
  rfl

theorem w24 : StableHlo.after hostOps0 (fun b => m (c, b)) (Proc.devRef .tc main_v24) = max1 (S0 m c) := by
  simp only [hostOps0]
  after_results_simp
  rfl

theorem w25 : StableHlo.after hostOps0 (fun b => m (c, b)) (Proc.devRef .tc main_v25) = max2 (S0 m c) := by
  simp only [hostOps0]
  after_results_simp
  rfl

theorem w32 : StableHlo.after hostOps0 (fun b => m (c, b)) (Proc.devRef .tc main_v32) = lse (S0 m c) := by
  simp only [hostOps0]
  after_results_simp
  rfl

theorem w20 : StableHlo.after hostOps0 (fun b => m (c, b)) (Proc.devRef .tc main_v20) = delta (m ((c : Thread nD τ).loc main_arg3)) (m ((c : Thread nD τ).loc main_arg2)) (weights (S0 m c)) := by
  simp only [hostOps0]
  after_results_simp
  rfl

end Cert.KernelIdeal.Attn

end
-- ==== Proof.ReadBlocks.lean ====
/- What the first part of the host code leaves of the stored weights. -/
module

public import proofs.«01_k».proof.Proof.Operands
public import Idealize.ShloMosaic.Lib.Claim
public import Idealize.ShloMosaic.Lib.StableHlo.RunRead

@[expose] public section

set_option maxRecDepth 16384

noncomputable section

namespace Cert.KernelIdeal.Attn

open Cert.KernelIdeal Cert.KernelIdeal.Gen Cert.Attn Idealize.ShloMosaic Idealize.ShloMosaic.TcCoe Idealize.SL.Sem

variable (m : (ℓ : Loc nD τ sig) → Buf (Elt Ideal) ℓ) (c : Dev nD)

/-- The host's operations up to the stored weights' three blocks. -/
abbrev hostPre : List (HloOp τ sig (Elt Ideal)) := List.take 56 hostOps0

theorem take37 : StableHlo.after hostPre (fun b => m (c, b)) (Proc.devRef .tc main_v37) = block0 (S0 m c) (max0 (S0 m c)) := by
  simp only [hostPre, hostOps0, List.take_succ_cons, List.take_zero]
  after_results_simp
  rfl

theorem take42 : StableHlo.after hostPre (fun b => m (c, b)) (Proc.devRef .tc main_v42) = block1 (S0 m c) (max1 (S0 m c)) := by
  simp only [hostPre, hostOps0, List.take_succ_cons, List.take_zero]
  after_results_simp
  rfl

theorem take47 : StableHlo.after hostPre (fun b => m (c, b)) (Proc.devRef .tc main_v47) = block2 (S0 m c) (max2 (S0 m c)) := by
  simp only [hostPre, hostOps0, List.take_succ_cons, List.take_zero]
  after_results_simp
  rfl

theorem after_two (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => exact ih _

theorem drop49 (σ : Valuation τ sig (Elt Ideal)) (x y : FVec Ideal S4x4x8208x2816 .f32) (z : FVec Ideal S4x4x8208x2576 .f32)
    (hx : σ (Proc.devRef .tc main_v37) = x) (hy : σ (Proc.devRef .tc main_v42) = y) (hz : σ (Proc.devRef .tc main_v47) = z) :
    StableHlo.after (List.drop 56 hostOps0) σ (Proc.devRef .tc main_v49) = shapeCast S16x8208x8208 (beside x y z) shapeCasts_S4x4x8208x8208_S16x8208x8208 := by
  subst hx hy hz
  after_reads_simp
  rfl

theorem dropc (σ : Valuation τ sig (Elt Ideal)) : StableHlo.after (List.drop 56 hostOps0) σ (Proc.devRef .tc main_c) = constantI S_ 32 0#32 := by
  after_reads_simp

theorem w49 : StableHlo.after hostOps0 (fun b => m (c, b)) (Proc.devRef .tc main_v49) = shapeCast S16x8208x8208 (stored (S0 m c)) shapeCasts_S4x4x8208x8208_S16x8208x8208 := by
  rw [← List.take_append_drop 56 hostOps0, after_two]
  unfold stored
  exact drop49 _ _ _ _ (take37 m c) (take42 m c) (take47 m c)

theorem wc : StableHlo.after hostOps0 (fun b => m (c, b)) (Proc.devRef .tc main_c) = constantI S_ 32 0#32 := by
  rw [← List.take_append_drop 56 hostOps0, after_two, dropc]

end Cert.KernelIdeal.Attn

end
-- ==== Proof.ReadRows.lean ====
/- What the rest of the host code makes of what the first part leaves. -/
module

public import proofs.«01_k».proof.Proof.Operands
public import Idealize.ShloMosaic.Lib.Claim
public import Idealize.ShloMosaic.Lib.StableHlo.RunRead

@[expose] public section

set_option maxRecDepth 16384

noncomputable section

namespace Cert.KernelIdeal.Attn

open Cert.KernelIdeal Cert.KernelIdeal.Gen Cert.Attn Idealize.ShloMosaic Idealize.ShloMosaic.TcCoe Idealize.SL.Sem

variable (m : (ℓ : Loc nD τ sig) → Buf (Elt Ideal) ℓ) (c : Dev nD)

/-- The host's operations on the laid out arrays. -/
abbrev hostPost : List (HloOp τ sig (Elt Ideal)) := List.flatten [hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20]

/-- Those up to the three rows of statistics. -/
abbrev hostRows : List (HloOp τ sig (Elt Ideal)) := hostOps0_1 ++ hostOps0_2 ++ hostOps0_3 ++ hostOps0_4 ++ hostOps0_5 ++ hostOps0_6 ++ hostOps0_7 ++ hostOps0_8 ++ hostOps0_9 ++ List.take 4 hostOps0_10

/-- And those from there on. -/
abbrev hostRest : List (HloOp τ sig (Elt Ideal)) := List.drop 4 hostOps0_10 ++ hostOps0_11 ++ hostOps0_12 ++ hostOps0_13 ++ hostOps0_14 ++ hostOps0_15 ++ hostOps0_16 ++ hostOps0_17 ++ hostOps0_18 ++ hostOps0_19 ++ hostOps0_20

variable (σ : Valuation τ sig (Elt Ideal))

theorem t51 (x : FVec Ideal S16x8208x8208 .f32) (z : IVec S_ 32) (hx : σ (Proc.devRef .tc main_v49) = x) (hz : σ (Proc.devRef .tc main_c) = z) :
    StableHlo.after hostPost σ (Proc.devRef .tc main_v51) = (truncf .bf16 (pad S16x8448x8448 ![0, 0, 0] ![0, 240, 240] ![0, 0, 0] x (sitofp .f32 z) pads_S16x8208x8208_S16x8448x8448_000_02400_02400 h_S_) bitsLt_bf16_f32 : FVec Ideal S16x8448x8448 .bf16) := by
  subst hx hz
  rfl

theorem t54 : StableHlo.after hostPost σ (Proc.devRef .tc main_v54) = lanes (tokens (σ (Proc.devRef .tc main_v32))) := rfl

theorem t69 : StableHlo.after hostPost σ (Proc.devRef .tc main_v69) = lanes (σ (Proc.devRef .tc main_v20)) := rfl

theorem r64 : StableHlo.after hostRows σ (Proc.devRef .tc main_v64) = broadcastInDim S1x8448x512 ![1, 2] bcast_S8448x512_S1x8448x512_1_2 (lanes (tokens (σ (Proc.devRef .tc main_v22)))) := by
  after_reads_simp
  rfl

theorem r65 : StableHlo.after hostRows σ (Proc.devRef .tc main_v65) = broadcastInDim S1x8448x512 ![1, 2] bcast_S8448x512_S1x8448x512_1_2 (lanes (tokens (σ (Proc.devRef .tc main_v24)))) := by
  after_reads_simp
  rfl

theorem r66 : StableHlo.after hostRows σ (Proc.devRef .tc main_v66) = broadcastInDim S1x8448x512 ![1, 2] bcast_S8448x512_S1x8448x512_1_2 (lanes (tokens (σ (Proc.devRef .tc main_v25)))) := by
  after_reads_simp
  rfl

theorem r67 : StableHlo.after hostRest σ (Proc.devRef .tc main_v67) = concatenate S3x8448x512 0 [⟨S1x8448x512, (σ (Proc.devRef .tc main_v64) : FVec Ideal S1x8448x512 .f32)⟩, ⟨S1x8448x512, (σ (Proc.devRef .tc main_v65) : FVec Ideal S1x8448x512 .f32)⟩, ⟨S1x8448x512, (σ (Proc.devRef .tc main_v66) : FVec Ideal S1x8448x512 .f32)⟩] concatenates_S1x8448x512_S1x8448x512_S1x8448x512_S3x8448x512_d0 := by
  after_reads_simp
  rfl

end Cert.KernelIdeal.Attn

end
-- ==== Proof.Entries.lean ====
/- The operands whose preparation is long, as arrays. -/
module

public import proofs.«01_k».proof.Proof.ReadStats
public import proofs.«01_k».proof.Proof.ReadBlocks
public import proofs.«01_k».proof.Proof.ReadRows
public import Idealize.ShloMosaic.Lib.Claim
public import Idealize.ShloMosaic.Lib.StableHlo.RunRead

@[expose] public section

set_option maxRecDepth 16384

noncomputable section

namespace Cert.KernelIdeal.Attn

open Cert.KernelIdeal Cert.KernelIdeal.Gen Cert.Attn Idealize.ShloMosaic Idealize.ShloMosaic.TcCoe Idealize.SL.Sem

variable (m : (ℓ : Loc nD τ sig) → Buf (Elt Ideal) ℓ) (c : Dev nD)

theorem v_split (b) : V m c b = StableHlo.after hostPost (StableHlo.after hostOps0 (fun b => m (c, b))) (Proc.devRef .tc b) := by
  rw [← after_two]
  rfl

theorem entry_p : V m c main_v51 = opP (stored (S0 m c)) := by
  rw [v_split]
  exact t51 _ _ _ (w49 m c) (wc m c)

theorem entry_l : V m c main_v54 = lanes (tokens (lse (S0 m c))) := by
  rw [v_split, t54, w32]

theorem entry_d : V m c main_v69 = lanes (delta (m ((c : Thread nD τ).loc main_arg3)) (m ((c : Thread nD τ).loc main_arg2)) (weights (S0 m c))) := by
  rw [v_split, t69, w20]

theorem post_split : (hostPost : List (HloOp τ sig (Elt Ideal))) = hostRows ++ hostRest := rfl

theorem entry_m : V m c main_v67 = opM (S0 m c) := by
  rw [v_split, post_split, after_two, r67, r64, r65, r66, w22, w24, w25]
  rfl

end Cert.KernelIdeal.Attn

end
-- ==== Proof.Host.lean ====
/- The eight operands of the call, entry by entry, as real numbers. -/
module

public import proofs.«01_k».proof.Proof.Operands

@[expose] public section

set_option maxRecDepth 16384

noncomputable section

namespace Cert.KernelIdeal.Attn

open Cert.KernelIdeal Cert.KernelIdeal.Gen Cert.Attn Idealize.ShloMosaic Idealize.ShloMosaic.TcCoe Idealize.SL.Sem

/-- The column of group `g`, head `h` among the lanes of a row statistic. -/
def laneg (g h : Fin 4) : Fin 512 := ⟨g.val * 128 + h.val, by omega⟩

/-- The row of group `g`, head `h` among the sixteen heads. -/
def head (g h : Fin 4) : Fin 16 := ⟨g.val * 4 + h.val, by omega⟩

/-- The column of feature `d`, head `h`, group `g`, among the columns of all heads. -/
def colg (g h : Fin 4) (d : Fin 64) : Fin 1024 := ⟨g.val * 256 + h.val * 64 + d.val, by omega⟩

theorem zero_word : (FloatOps.sitofp (F := Ideal) FTy.f32 (0#32) : EReal) = 0 := by
  show ((((0#32 : BitVec 32).toInt : ℤ) : ℝ) : EReal) = 0
  simp

section Layout

theorem opQ_at (x : FVec Ideal S8208x1024 .f32) (n : Fin 8448) (g h : Fin 4) (d : Fin 64) :
    opQ x (ix2 n (colg g h d)) = if hn : n.val < 8208 then x (ix2 ⟨n.val, hn⟩ (col g h d)) else 0 := by
  pointwise [opQ]
  by_cases hn : n.val < 8208
  · simp only [dif_pos hn]
    exact congrArg (fun c => x (ix2 _ c)) (Fin.ext (by simp only [col, colg]; omega))
  · simp only [dif_neg hn, zero_word]

theorem opK_at (x : FVec Ideal S8208x256 .f32) (g : Fin 4) (j : Fin 8448) (d : Fin 64) :
    opK x (ix3 g j d) = if hj : j.val < 8208 then x (ix2 ⟨j.val, hj⟩ (colk g d)) else 0 := by
  pointwise [opK]
  by_cases hj : j.val < 8208
  · simp only [dif_pos hj]
    rfl
  · simp only [dif_neg hj, zero_word]

theorem opV_at (x : FVec Ideal S8208x256 .f32) (g : Fin 4) (j : Fin 8448) (d : Fin 64) :
    opV x (ix3 g j (lanev d)) = if hj : j.val < 8208 then x (ix2 ⟨j.val, hj⟩ (colk g d)) else 0 := by
  rw [← opK_at]
  have : (lanev d).val < 64 := d.isLt
  pointwise [opV]
  rw [dif_pos this]
  rfl

theorem opP_at (p : FVec Ideal S4x4x8208x8208 .f32) (g h : Fin 4) (n j : Fin 8448) :
    opP p (ix3 (head g h) n j) = if hh : n.val < 8208 ∧ j.val < 8208 then p (ix4 g h ⟨n.val, hh.1⟩ ⟨j.val, hh.2⟩) else 0 := by
  pointwise [opP]
  by_cases hn : n.val < 8208
  · by_cases hj : j.val < 8208
    · simp only [dif_pos hn, dif_pos hj, dif_pos (And.intro hn hj)]
      refine congrArg p ?_
      refine congrArg₂ (fun a b => ix4 a b _ _) (Fin.ext ?_) (Fin.ext ?_)
      · simp only [head]; omega
      · simp only [head]; omega
    · simp [hn, hj, zero_word]
  · simp [hn, zero_word]

theorem lanes_at (x : FVec Ideal S8208x4x4 .f32) (n : Fin 8448) (g h : Fin 4) :
    lanes x (ix2 n (laneg g h)) = if hn : n.val < 8208 then x (ix3 ⟨n.val, hn⟩ g h) else 0 := by
  pointwise [lanes]
  have e1 : (laneg g h).val / 128 = g.val := by simp only [laneg]; omega
  have e2 : (laneg g h).val % 128 = h.val := by simp only [laneg]; omega
  by_cases hn : n.val < 8208
  · have hc : n.val < 8208 ∧ (laneg g h).val / 128 < 4 ∧ (laneg g h).val % 128 < 4 := ⟨hn, by omega, by omega⟩
    rw [dif_pos hc, dif_pos hn]
    exact congrArg₂ (fun a b => x (ix3 _ a b)) (Fin.ext e1) (Fin.ext e2)
  · rw [dif_neg (fun hc => hn hc.1), dif_neg hn, zero_word]

theorem tokens_at (x : FVec Ideal S4x4x8208 .f32) (n : Fin 8208) (g h : Fin 4) : tokens x (ix3 n g h) = x (ix3 g h n) := by
  pointwise [tokens]

/-- The running maximum after block `t` of the keys. -/
def mx (s : FVec Ideal S4x4x8208x8208 .f32) (t : Fin 3) : FVec Ideal S4x4x8208 .f32 :=
  if t = 0 then max0 s else if t = 1 then max1 s else max2 s

theorem mx_zero (s : FVec Ideal S4x4x8208x8208 .f32) : mx s 0 = max0 s := rfl
theorem mx_one (s : FVec Ideal S4x4x8208x8208 .f32) : mx s 1 = max1 s := rfl
theorem mx_two (s : FVec Ideal S4x4x8208x8208 .f32) : mx s 2 = max2 s := rfl

theorem opMs_zero (a b d : FVec Ideal S4x4x8208 .f32) (n : Fin 8448) (l : Fin 512) :
    opMs a b d (ix3 (0 : Fin 3) n l) = lanes (tokens a) (ix2 n l) := by pointwise [opMs]
theorem opMs_one (a b d : FVec Ideal S4x4x8208 .f32) (n : Fin 8448) (l : Fin 512) :
    opMs a b d (ix3 (1 : Fin 3) n l) = lanes (tokens b) (ix2 n l) := by pointwise [opMs]
theorem opMs_two (a b d : FVec Ideal S4x4x8208 .f32) (n : Fin 8448) (l : Fin 512) :
    opMs a b d (ix3 (2 : Fin 3) n l) = lanes (tokens d) (ix2 n l) := by pointwise [opMs]

theorem three (p : Fin 3 → Prop) (h0 : p 0) (h1 : p 1) (h2 : p 2) (t : Fin 3) : p t := by
  fin_cases t
  · exact h0
  · exact h1
  · exact h2

theorem opM_at (s : FVec Ideal S4x4x8208x8208 .f32) (n : Fin 8448) (g h : Fin 4) (t : Fin 3) :
    opM s (ix3 t n (laneg g h)) = if hn : n.val < 8208 then mx s t (ix3 g h ⟨n.val, hn⟩) else 0 := by
  have e : ∀ x : FVec Ideal S4x4x8208 .f32, lanes (tokens x) (ix2 n (laneg g h)) = if hn : n.val < 8208 then x (ix3 g h ⟨n.val, hn⟩) else 0 := by
    intro x
    rw [lanes_at]
    simp only [tokens_at]
  revert t
  refine three _ ?_ ?_ ?_
  · rw [opM, opMs_zero, e, mx_zero]
  · rw [opM, opMs_one, e, mx_one]
  · rw [opM, opMs_two, e, mx_two]

end Layout

variable (q ct : FVec Ideal S8208x1024 .f32) (k v : FVec Ideal S8208x256 .f32)
variable (Q C : Fin 8208 → Fin 1024 → ℝ) (K V : Fin 8208 → Fin 256 → ℝ)

theorem scores_at (hq : ∀ n c, q (ix2 n c) = ((Q n c : ℝ) : EReal)) (hk : ∀ n c, k (ix2 n c) = ((K n c : ℝ) : EReal))
    (g r : Fin 4) (n j : Fin 8208) : scores q k (ix4 g r n j) = ((score Q K g r n j : ℝ) : EReal) := by
  pointwise [scores]
  rw [score, ← sum_coe]
  exact Finset.sum_congr rfl fun d _ => by
    rw [hk, hq, mul_comm, ← EReal.coe_mul]
    exact congrArg (fun c => ((Q n c * K j _ : ℝ) : EReal)) (Fin.ext (by simp only [col]; omega))

section Scores

variable (s : FVec Ideal S4x4x8208x8208 .f32) (S : Fin 4 → Fin 4 → Fin 8208 → Fin 8208 → ℝ)

theorem entries_real (hs : ∀ g r n j, s (ix4 g r n j) = ((S g r n j : ℝ) : EReal)) (i : S4x4x8208x8208.Idx) :
    ∃ r : ℝ, s i = (r : EReal) := ⟨S (i 0) (i 1) (i 2) (i 3), by rw [eq_ix4 i]; exact hs _ _ _ _⟩

/-- The running maxima are reals. -/
theorem maxes_real (hs : ∀ g r n j, s (ix4 g r n j) = ((S g r n j : ℝ) : EReal)) :
    ∃ M : Fin 3 → Fin 4 → Fin 4 → Fin 8208 → ℝ, ∀ t g r n, mx s t (ix3 g r n) = ((M t g r n : ℝ) : EReal) := by
  have h : ∀ t g r n, ∃ M : ℝ, mx s t (ix3 g r n) = (M : EReal) := by
    refine three _ ?_ ?_ ?_
    · intro g r n
      rw [mx_zero]
      exact reduce_max_real _ _ reducesTo_S4x4x8208x2816_S4x4x8208_d3 h_S_ _ (by norm_num)
        (fun i => entries_real s S hs _) (fun _ => ofBits_bot)
    · intro g r n
      rw [mx_one]
      exact reduce_max_real _ _ reducesTo_S4x4x8208x5632_S4x4x8208_d3 h_S_ _ (by norm_num)
        (fun i => entries_real s S hs _) (fun _ => ofBits_bot)
    · intro g r n
      rw [mx_two]
      exact reduce_max_real _ _ reducesTo_S4x4x8208x8208_S4x4x8208_d3 h_S_ _ (by norm_num)
        (entries_real s S hs) (fun _ => ofBits_bot)
  choose M hM using h
  exact ⟨M, hM⟩

variable (hs : ∀ g r n j, s (ix4 g r n j) = ((S g r n j : ℝ) : EReal))
  (M : Fin 3 → Fin 4 → Fin 4 → Fin 8208 → ℝ)
  (hM : ∀ t g r n, mx s t (ix3 g r n) = ((M t g r n : ℝ) : EReal))
include hs hM

theorem soft_at (g r : Fin 4) (n : Fin 8208) : soft s (ix3 g r n) = ((M 2 g r n : ℝ) : EReal) := by
  rw [soft, maximumf_apply, show max2 s (ix3 g r n) = ((M 2 g r n : ℝ) : EReal) from mx_two s ▸ hM 2 g r n]
  pointwise
  rw [ofBits_bot]
  exact max_eq_right bot_le

theorem weights_at (g r : Fin 4) (n j : Fin 8208) : weights s (ix4 g r n j) = ((weight (S g r n) j : ℝ) : EReal) := by
  have e := soft_at s S hs M hM g r n
  pointwise [weights, rowSum, expo, spread]
  simp only [e, hs, ← EReal.coe_sub, Ideal.exp_coe]
  rw [sum_coe, div_real _ (den_shift_pos (S g r n) _).ne', weight_shift]

omit hM in
theorem log_at (x : FVec Ideal S4x4x8208 .f32) (g r : Fin 4) (n : Fin 8208) (X : ℝ) (hx : x (ix3 g r n) = (X : EReal)) :
    addf x (Host.log (rowSum (expo s x))) (ix3 g r n) = ((Real.log (den (S g r n)) : ℝ) : EReal) := by
  pointwise [rowSum, expo, spread]
  simp only [hx, hs, ← EReal.coe_sub, Ideal.exp_coe]
  rw [sum_coe, log_real (den_shift_pos (S g r n) _), ← EReal.coe_add, lse_shift]

theorem lse_at (g r : Fin 4) (n : Fin 8208) : lse s (ix3 g r n) = ((Real.log (den (S g r n)) : ℝ) : EReal) := by
  unfold lse
  exact log_at s S hs _ g r n _ (mx_two s ▸ hM 2 g r n)

omit hM in
theorem block0_at (x : FVec Ideal S4x4x8208 .f32) (g r : Fin 4) (n : Fin 8208) (b : Fin 2816) (X : ℝ) (hx : x (ix3 g r n) = (X : EReal)) :
    block0 s x (ix4 g r n b) = ((Real.exp (S g r n ⟨b.val, by omega⟩ - X) : ℝ) : EReal) := by
  pointwise [block0]
  rw [hx, hs, ← EReal.coe_sub, Ideal.exp_coe]

omit hM in
theorem block1_at (x : FVec Ideal S4x4x8208 .f32) (g r : Fin 4) (n : Fin 8208) (b : Fin 2816) (X : ℝ) (hx : x (ix3 g r n) = (X : EReal)) :
    block1 s x (ix4 g r n b) = ((Real.exp (S g r n ⟨2816 + b.val, by omega⟩ - X) : ℝ) : EReal) := by
  pointwise [block1]
  rw [hx, hs, ← EReal.coe_sub, Ideal.exp_coe]

omit hM in
theorem block2_at (x : FVec Ideal S4x4x8208 .f32) (g r : Fin 4) (n : Fin 8208) (b : Fin 2576) (X : ℝ) (hx : x (ix3 g r n) = (X : EReal)) :
    block2 s x (ix4 g r n b) = ((Real.exp (S g r n ⟨5632 + b.val, by omega⟩ - X) : ℝ) : EReal) := by
  pointwise [block2]
  rw [hx, hs, ← EReal.coe_sub, Ideal.exp_coe]

omit hs hM in
theorem beside_at (x y : FVec Ideal S4x4x8208x2816 .f32) (z : FVec Ideal S4x4x8208x2576 .f32) (g r : Fin 4) (n j : Fin 8208) :
    beside x y z (ix4 g r n j) = if h0 : j.val < 2816 then x (ix4 g r n ⟨j.val, h0⟩)
      else if h1 : j.val < 5632 then y (ix4 g r n ⟨j.val - 2816, by omega⟩) else z (ix4 g r n ⟨j.val - 5632, by omega⟩) := by
  pointwise [beside]
  by_cases h0 : j.val < 2816
  · rw [dif_pos h0, dif_pos h0]
  · rw [dif_neg h0, dif_neg h0]
    by_cases h1 : j.val < 5632
    · rw [dif_pos h1, dif_pos (by omega)]
    · rw [dif_neg h1, dif_neg (by omega)]
      exact congrArg (fun i => z (ix4 g r n i)) (Fin.ext (by show j.val - 2816 - 2816 = j.val - 5632; omega))

theorem stored_at (g r : Fin 4) (n j : Fin 8208) :
    stored s (ix4 g r n j) = ((Real.exp (S g r n j - M ⟨j.val / 2816, by omega⟩ g r n) : ℝ) : EReal) := by
  rw [stored, beside_at]
  by_cases h0 : j.val < 2816
  · rw [dif_pos h0, block0_at s S hs _ g r n _ _ (mx_zero s ▸ hM 0 g r n)]
    exact congrArg (fun t => ((Real.exp (S g r n j - M t g r n) : ℝ) : EReal)) (Fin.ext (by show 0 = j.val / 2816; omega))
  · rw [dif_neg h0]
    by_cases h1 : j.val < 5632
    · rw [dif_pos h1, block1_at s S hs _ g r n _ _ (mx_one s ▸ hM 1 g r n)]
      exact congrArg₂ (fun i t => ((Real.exp (S g r n i - M t g r n) : ℝ) : EReal)) (Fin.ext (by show 2816 + (j.val - 2816) = j.val; omega))
        (Fin.ext (by show 1 = j.val / 2816; omega))
    · rw [dif_neg h1, block2_at s S hs _ g r n _ _ (mx_two s ▸ hM 2 g r n)]
      exact congrArg₂ (fun i t => ((Real.exp (S g r n i - M t g r n) : ℝ) : EReal)) (Fin.ext (by show 5632 + (j.val - 5632) = j.val; omega))
        (Fin.ext (by show 2 = j.val / 2816; omega))

end Scores

theorem delta_at (p : FVec Ideal S4x4x8208x8208 .f32) (P : Fin 4 → Fin 4 → Fin 8208 → Fin 8208 → ℝ)
    (hp : ∀ g r n j, p (ix4 g r n j) = ((P g r n j : ℝ) : EReal))
    (hv : ∀ n c, v (ix2 n c) = ((V n c : ℝ) : EReal)) (hc : ∀ n c, ct (ix2 n c) = ((C n c : ℝ) : EReal))
    (n : Fin 8208) (g r : Fin 4) :
    delta ct v p (ix3 n g r) = ((∑ j, P g r n j * dw V C g r n j : ℝ) : EReal) := by
  pointwise [delta]
  simp only [dw]
  rw [← delta_eq, ← sum_coe]
  exact Finset.sum_congr rfl fun d _ => by
    rw [hc, EReal.coe_mul, ← sum_coe]
    refine congrArg₂ (fun a b => ((C n a : ℝ) : EReal) * b) (Fin.ext (by simp only [col]; omega)) ?_
    exact Finset.sum_congr rfl fun j _ => by
      rw [hv, hp, mul_comm, ← EReal.coe_mul]
      rfl

end Cert.KernelIdeal.Attn

end
-- ==== Proof.Blocks.lean ====
/- The blocks a grid point is given, as entries of the operands. -/
module

public import proofs.«01_k».proof.Proof.Block

@[expose] public section

set_option maxRecDepth 16384

noncomputable section

namespace Cert.KernelIdeal.Attn

open Cert.KernelIdeal Cert.KernelIdeal.Gen Cert.Attn Idealize.ShloMosaic Idealize.ShloMosaic.TcCoe Idealize.SL.Sem
open Idealize.ShloMosaic.Pipeline (Dat)

/-- Which block each window names at the grid point `t`. -/
theorem idx : ∀ t : Fin cfg0.N,
    win0_0.index t = ![t.val % 33, t.val / 99] ∧ win0_1.index t = ![t.val / 99, t.val / 33 % 3, 0]
    ∧ win0_2.index t = ![t.val / 99, t.val / 33 % 3, 0] ∧ win0_3.index t = ![t.val / 99, t.val % 33, t.val / 33 % 3]
    ∧ win0_4.index t = ![t.val / 33 % 3, t.val % 33, t.val / 99] ∧ win0_5.index t = ![t.val % 33, t.val / 99]
    ∧ win0_6.index t = ![t.val % 33, t.val / 99] ∧ win0_7.index t = ![t.val % 33, t.val / 99] :=
  (by decide +kernel : ∀ t : Fin grid0.N, _)

/-- The group, the block of keys and the block of queries of a grid point. -/
def gOf (t : Fin cfg0.N) : Fin 4 := ⟨t.val / 99, by have : t.val < 396 := t.isLt; omega⟩
def jOf (t : Fin cfg0.N) : Fin 3 := ⟨t.val / 33 % 3, by omega⟩
def iOf (t : Fin cfg0.N) : Fin 33 := ⟨t.val % 33, by omega⟩

/-- Row `x` of the block `i` of queries, and row `b` of the block `j` of keys. -/
def row (i : Fin 33) (x : Fin 256) : Fin 8448 := ⟨i.val * 256 + x.val, by omega⟩
def key (j : Fin 3) (b : Fin 2816) : Fin 8448 := ⟨j.val * 2816 + b.val, by omega⟩

variable (m : (ℓ : Loc nD τ sig) → Buf (Elt Ideal) ℓ) (c : Dev nD) (t : Fin cfg0.N)

theorem read0 (x y : Fin 256) : iblk m c 0 t (ix2 x y) = V m c main_v71 (ix2 (row (iOf t) x) ⟨(gOf t).val * 256 + y.val, by omega⟩) := by
  blk_point [iblk, idx t, row, iOf, gOf]

theorem read1 (z : Fin 1) (b : Fin 2816) (d : Fin 64) : iblk m c 1 t (ix3 z b d) = V m c main_v76 (ix3 (gOf t) (key (jOf t) b) d) := by
  blk_point [iblk, idx t, key, jOf, gOf]

theorem read2 (z : Fin 1) (b : Fin 2816) (d : Fin 128) : iblk m c 2 t (ix3 z b d) = V m c main_v82 (ix3 (gOf t) (key (jOf t) b) d) := by
  blk_point [iblk, idx t, key, jOf, gOf]

theorem read3 (h : Fin 4) (x : Fin 256) (b : Fin 2816) : iblk m c 3 t (ix3 h x b) = V m c main_v51 (ix3 ⟨(gOf t).val * 4 + h.val, by omega⟩ (row (iOf t) x) (key (jOf t) b)) := by
  blk_point [iblk, idx t, key, row, iOf, jOf, gOf]

theorem read4 (z : Fin 1) (x : Fin 256) (l : Fin 128) : iblk m c 4 t (ix3 z x l) = V m c main_v67 (ix3 (jOf t) (row (iOf t) x) ⟨(gOf t).val * 128 + l.val, by omega⟩) := by
  blk_point [iblk, idx t, row, iOf, jOf, gOf]

theorem read5 (x y : Fin 256) : iblk m c 5 t (ix2 x y) = V m c main_v73 (ix2 (row (iOf t) x) ⟨(gOf t).val * 256 + y.val, by omega⟩) := by
  blk_point [iblk, idx t, row, iOf, gOf]

theorem read6 (x : Fin 256) (l : Fin 128) : iblk m c 6 t (ix2 x l) = V m c main_v54 (ix2 (row (iOf t) x) ⟨(gOf t).val * 128 + l.val, by omega⟩) := by
  blk_point [iblk, idx t, row, iOf, gOf]

theorem read7 (x : Fin 256) (l : Fin 128) : iblk m c 7 t (ix2 x l) = V m c main_v69 (ix2 (row (iOf t) x) ⟨(gOf t).val * 128 + l.val, by omega⟩) := by
  blk_point [iblk, idx t, row, iOf, gOf]

end Cert.KernelIdeal.Attn

end
-- ==== Proof.Point.lean ====
/- What one grid point adds to the running sums, as real numbers. -/
module

public import proofs.«01_k».proof.Proof.Entries
public import proofs.«01_k».proof.Proof.Host
public import proofs.«01_k».proof.Proof.Blocks

@[expose] public section

set_option maxRecDepth 16384

noncomputable section

namespace Cert.KernelIdeal.Attn

open Cert.KernelIdeal Cert.KernelIdeal.Gen Cert.Attn Idealize.ShloMosaic Idealize.ShloMosaic.TcCoe Idealize.SL.Sem

/-- A common factor of a contraction. -/
theorem factor (f : ℝ) (a b : Fin 64 → ℝ) : ∑ d, a d * f * b d = f * ∑ d, a d * b d := by
  rw [Finset.mul_sum]
  exact Finset.sum_congr rfl fun d _ => by ring

/-- An entry of a block of stored weights. -/
def entryP (pt : FVec Ideal S4x256x2816 .bf16) (h : Fin 4) (x : Fin 256) (b : Fin 2816) : EReal := pt (ix3 h x b)

section Terms

variable (Q C : Fin 8208 → Fin 1024 → ℝ) (K V : Fin 8208 → Fin 256 → ℝ) (g h : Fin 4) (n j : Fin 8448)

/-- The term of token `n` in the cotangent of value row `j`; zero on the padding. -/
def termV (d : Fin 64) : EReal :=
  if hh : n.val < 8208 ∧ j.val < 8208 then ((wt Q K g h ⟨n.val, hh.1⟩ ⟨j.val, hh.2⟩ * C ⟨n.val, hh.1⟩ (col g h d) : ℝ) : EReal) else 0

/-- The cotangent of the score; zero on the padding. -/
def termS : EReal :=
  if hh : n.val < 8208 ∧ j.val < 8208 then ((ds Q K V C g h ⟨n.val, hh.1⟩ ⟨j.val, hh.2⟩ : ℝ) : EReal) else 0

/-- The term of token `n` in the cotangent of key row `j`. -/
def termK (d : Fin 64) : EReal :=
  if hh : n.val < 8208 ∧ j.val < 8208 then ((ds Q K V C g h ⟨n.val, hh.1⟩ ⟨j.val, hh.2⟩ * Q ⟨n.val, hh.1⟩ (col g h d) : ℝ) : EReal) else 0

/-- The term of key `j` in the cotangent of query row `n`. -/
def termQ (d : Fin 64) : EReal :=
  if hh : n.val < 8208 ∧ j.val < 8208 then ((ds Q K V C g h ⟨n.val, hh.1⟩ ⟨j.val, hh.2⟩ * K ⟨j.val, hh.2⟩ (colk g d) : ℝ) : EReal) else 0

end Terms

variable (m : (ℓ : Loc nD τ sig) → Buf (Elt Ideal) ℓ) (c : Dev nD) (t : Fin cfg0.N)
variable (Q C : Fin 8208 → Fin 1024 → ℝ) (K V : Fin 8208 → Fin 256 → ℝ)

/-- The program's four arguments hold these reals. -/
structure Holds : Prop where
  q : ∀ n i, (m ((c : Thread nD τ).loc main_arg0) : FVec Ideal S8208x1024 .f32) (ix2 n i) = ((Q n i : ℝ) : EReal)
  k : ∀ n i, (m ((c : Thread nD τ).loc main_arg1) : FVec Ideal S8208x256 .f32) (ix2 n i) = ((K n i : ℝ) : EReal)
  v : ∀ n i, (m ((c : Thread nD τ).loc main_arg2) : FVec Ideal S8208x256 .f32) (ix2 n i) = ((V n i : ℝ) : EReal)
  ct : ∀ n i, (m ((c : Thread nD τ).loc main_arg3) : FVec Ideal S8208x1024 .f32) (ix2 n i) = ((C n i : ℝ) : EReal)

variable (H : Holds m c Q C K V)
include H

theorem q_at (x : Fin 256) (h : Fin 4) (d : Fin 64) : iblk m c 0 t (ix2 x (colq h d))
    = if hn : (row (iOf t) x).val < 8208 then ((Q ⟨_, hn⟩ (col (gOf t) h d) : ℝ) : EReal) else 0 := by
  rw [read0, entry_q]
  have e : (⟨(gOf t).val * 256 + (colq h d).val, by omega⟩ : Fin 1024) = colg (gOf t) h d := Fin.ext (by simp only [colq, colg]; omega)
  rw [e, opQ_at]
  simp only [H.q]

theorem do_at (x : Fin 256) (h : Fin 4) (d : Fin 64) : iblk m c 5 t (ix2 x (colq h d))
    = if hn : (row (iOf t) x).val < 8208 then ((C ⟨_, hn⟩ (col (gOf t) h d) : ℝ) : EReal) else 0 := by
  rw [read5, entry_do]
  have e : (⟨(gOf t).val * 256 + (colq h d).val, by omega⟩ : Fin 1024) = colg (gOf t) h d := Fin.ext (by simp only [colq, colg]; omega)
  rw [e, opQ_at]
  simp only [H.ct]

theorem k_at (z : Fin 1) (b : Fin 2816) (d : Fin 64) : iblk m c 1 t (ix3 z b d)
    = if hj : (key (jOf t) b).val < 8208 then ((K ⟨_, hj⟩ (colk (gOf t) d) : ℝ) : EReal) else 0 := by
  rw [read1, entry_k, opK_at]
  simp only [H.k]

theorem v_at (z : Fin 1) (b : Fin 2816) (d : Fin 64) : iblk m c 2 t (ix3 z b (lanev d))
    = if hj : (key (jOf t) b).val < 8208 then ((V ⟨_, hj⟩ (colk (gOf t) d) : ℝ) : EReal) else 0 := by
  rw [read2, entry_v, opV_at]
  simp only [H.v]

theorem s0_at (g r : Fin 4) (n j : Fin 8208) : S0 m c (ix4 g r n j) = ((score Q K g r n j : ℝ) : EReal) :=
  scores_at _ _ Q K H.q H.k g r n j

variable (M : Fin 3 → Fin 4 → Fin 4 → Fin 8208 → ℝ)
  (hM : ∀ t g r n, mx (S0 m c) t (ix3 g r n) = ((M t g r n : ℝ) : EReal))
include hM

theorem pt_at (h : Fin 4) (x : Fin 256) (b : Fin 2816) : iblk m c 3 t (ix3 h x b)
    = if hh : (row (iOf t) x).val < 8208 ∧ (key (jOf t) b).val < 8208 then
      ((Real.exp (score Q K (gOf t) h ⟨_, hh.1⟩ ⟨_, hh.2⟩ - M (jOf t) (gOf t) h ⟨_, hh.1⟩) : ℝ) : EReal) else 0 := by
  rw [read3, entry_p]
  have e : (⟨(gOf t).val * 4 + h.val, by omega⟩ : Fin 16) = head (gOf t) h := rfl
  rw [e, opP_at]
  by_cases hh : (row (iOf t) x).val < 8208 ∧ (key (jOf t) b).val < 8208
  · rw [dif_pos hh, dif_pos hh, stored_at (S0 m c) (score Q K) (s0_at m c Q C K V H) M hM]
    exact congrArg (fun j => ((Real.exp (score Q K (gOf t) h ⟨_, hh.1⟩ ⟨_, hh.2⟩ - M j (gOf t) h ⟨_, hh.1⟩) : ℝ) : EReal))
      (Fin.ext (by simp only [key]; omega))
  · rw [dif_neg hh, dif_neg hh]

theorem fac_at (h : Fin 4) (x : Fin 256) (hn : (row (iOf t) x).val < 8208) :
    fac (iblk m c 4 t) (iblk m c 6 t) h x
      = ((Real.exp (M (jOf t) (gOf t) h ⟨_, hn⟩ - Real.log (den (score Q K (gOf t) h ⟨_, hn⟩))) : ℝ) : EReal) := by
  have e : (⟨(gOf t).val * 128 + (lane h).val, by simp only [lane]; omega⟩ : Fin 512) = laneg (gOf t) h := rfl
  rw [fac, read4, read6, entry_m, entry_l, e, opM_at, lanes_at, dif_pos hn, dif_pos hn, hM, tokens_at,
    lse_at (S0 m c) (score Q K) (s0_at m c Q C K V H) M hM, ← EReal.coe_sub, Ideal.exp_coe]

theorem dl_at (h : Fin 4) (x : Fin 256) (hn : (row (iOf t) x).val < 8208) :
    iblk m c 7 t (ix2 x (lane h)) = ((dl Q K V C (gOf t) h ⟨_, hn⟩ : ℝ) : EReal) := by
  have e : (⟨(gOf t).val * 128 + (lane h).val, by simp only [lane]; omega⟩ : Fin 512) = laneg (gOf t) h := rfl
  rw [read7, entry_d, e, lanes_at, dif_pos hn]
  exact delta_at _ _ C V _ _ (weights_at (S0 m c) (score Q K) (s0_at m c Q C K V H) M hM) H.v H.ct _ _ _

theorem dos_at (h : Fin 4) (x : Fin 256) (d : Fin 64) (hn : (row (iOf t) x).val < 8208) :
    dos (iblk m c 4 t) (iblk m c 5 t) (iblk m c 6 t) h x d
      = ((C ⟨_, hn⟩ (col (gOf t) h d) * Real.exp (M (jOf t) (gOf t) h ⟨_, hn⟩ - Real.log (den (score Q K (gOf t) h ⟨_, hn⟩))) : ℝ) : EReal) := by
  rw [dos, fac_at m c t Q C K V H M hM h x hn, do_at m c t Q C K V H, dif_pos hn, ← EReal.coe_mul]

theorem termV_at (h : Fin 4) (x : Fin 256) (b : Fin 2816) (d : Fin 64) :
    entryP (iblk m c 3 t) h x b * dos (iblk m c 4 t) (iblk m c 5 t) (iblk m c 6 t) h x d
      = termV Q C K (gOf t) h (row (iOf t) x) (key (jOf t) b) d := by
  rw [entryP, pt_at m c t Q C K V H M hM, termV]
  by_cases hh : (row (iOf t) x).val < 8208 ∧ (key (jOf t) b).val < 8208
  · haveI : Nonempty (Fin 8208) := ⟨0⟩
    rw [dif_pos hh, dif_pos hh, dos_at m c t Q C K V H M hM h x d hh.1, ← EReal.coe_mul, wt,
      ← scale_weight _ (M (jOf t) (gOf t) h ⟨_, hh.1⟩)]
    exact congrArg _ (by ring)
  · rw [dif_neg hh, dif_neg hh, zero_mul]

theorem termS_at (h : Fin 4) (x : Fin 256) (b : Fin 2816) :
    dss (iblk m c 2 t) (iblk m c 3 t) (iblk m c 4 t) (iblk m c 5 t) (iblk m c 6 t) (iblk m c 7 t) h x b
      = termS Q C K V (gOf t) h (row (iOf t) x) (key (jOf t) b) := by
  rw [dss, pt_at m c t Q C K V H M hM, termS]
  by_cases hh : (row (iOf t) x).val < 8208 ∧ (key (jOf t) b).val < 8208
  · haveI : Nonempty (Fin 8208) := ⟨0⟩
    rw [dif_pos hh, dif_pos hh, dl_at m c t Q C K V H M hM h x hh.1, fac_at m c t Q C K V H M hM h x hh.1]
    simp only [dos_at m c t Q C K V H M hM h x _ hh.1, v_at m c t Q C K V H, dif_pos hh.2, ← EReal.coe_mul]
    rw [sum_coe, ← EReal.coe_sub, ← EReal.coe_mul, ds, wt, ← scale_weight _ (M (jOf t) (gOf t) h ⟨_, hh.1⟩), dw]
    refine congrArg _ ?_
    rw [factor]
    ring
  · rw [dif_neg hh, dif_neg hh, zero_mul]

theorem addV_at (b : Fin 2816) (d : Fin 64) :
    addV (iblk m c 3 t) (iblk m c 4 t) (iblk m c 5 t) (iblk m c 6 t) b d
      = ∑ h : Fin 4, ∑ x : Fin 256, termV Q C K (gOf t) h (row (iOf t) x) (key (jOf t) b) d := by
  exact Finset.sum_congr rfl fun h _ => Finset.sum_congr rfl fun x _ => termV_at m c t Q C K V H M hM h x b d

theorem addK_at (b : Fin 2816) (d : Fin 64) :
    addK (iblk m c 0 t) (iblk m c 2 t) (iblk m c 3 t) (iblk m c 4 t) (iblk m c 5 t) (iblk m c 6 t) (iblk m c 7 t) b d
      = ∑ h : Fin 4, ∑ x : Fin 256, termK Q C K V (gOf t) h (row (iOf t) x) (key (jOf t) b) d := by
  simp only [addK, termS_at m c t Q C K V H M hM, q_at m c t Q C K V H]
  refine Finset.sum_congr rfl fun h _ => Finset.sum_congr rfl fun x _ => ?_
  rw [termS, termK]
  by_cases hh : (row (iOf t) x).val < 8208 ∧ (key (jOf t) b).val < 8208
  · rw [dif_pos hh, dif_pos hh, dif_pos hh.1, ← EReal.coe_mul]
  · rw [dif_neg hh, dif_neg hh, zero_mul]

theorem addQ_at (x : Fin 256) (h : Fin 4) (d : Fin 64) :
    addQ (iblk m c 1 t) (iblk m c 2 t) (iblk m c 3 t) (iblk m c 4 t) (iblk m c 5 t) (iblk m c 6 t) (iblk m c 7 t) x h d
      = ∑ b : Fin 2816, termQ Q C K V (gOf t) h (row (iOf t) x) (key (jOf t) b) d := by
  simp only [addQ, termS_at m c t Q C K V H M hM, k_at m c t Q C K V H]
  refine Finset.sum_congr rfl fun b _ => ?_
  rw [termS, termQ]
  by_cases hh : (row (iOf t) x).val < 8208 ∧ (key (jOf t) b).val < 8208
  · rw [dif_pos hh, dif_pos hh, dif_pos hh.2, ← EReal.coe_mul]
  · rw [dif_neg hh, dif_neg hh, zero_mul]

end Cert.KernelIdeal.Attn

end
-- ==== Proof.Sums.lean ====
/- Sums over the blocks of rows and keys, with their padding, against sums over the tokens. -/
module

public import proofs.«01_k».proof.Proof.Point

@[expose] public section

noncomputable section

namespace Cert.KernelIdeal.Attn

open Cert.KernelIdeal Cert.KernelIdeal.Gen Cert.Attn Idealize.ShloMosaic

/-- A sum that is zero on the padding is the sum over the tokens. -/
theorem sum_pad (f : Fin 8448 → EReal) (F : Fin 8208 → ℝ) (hf : ∀ n : Fin 8208, f ⟨n.val, by omega⟩ = ((F n : ℝ) : EReal))
    (h0 : ∀ n : Fin 8448, ¬n.val < 8208 → f n = 0) : ∑ n, f n = ((∑ n, F n : ℝ) : EReal) := by
  rw [Fin.sum_univ_two_halves 8208 240 rfl f, ← sum_coe, Finset.sum_congr rfl fun n _ => hf n,
    Finset.sum_eq_zero (s := (Finset.univ : Finset (Fin 240))) fun n _ => h0 _ (by simp), add_zero]

theorem sum_rows (f : Fin 8448 → EReal) : ∑ i : Fin 33, ∑ x : Fin 256, f (row i x) = ∑ n, f n :=
  (Fin.sum_univ_tiles 33 256 rfl f).symm

theorem sum_keys (f : Fin 8448 → EReal) : ∑ i : Fin 3, ∑ x : Fin 2816, f (key i x) = ∑ n, f n :=
  (Fin.sum_univ_tiles 3 2816 rfl f).symm

variable (Q C : Fin 8208 → Fin 1024 → ℝ) (K V : Fin 8208 → Fin 256 → ℝ) (g : Fin 4)

theorem sum_termV (j : Fin 8448) (d : Fin 64) :
    ∑ i : Fin 33, ∑ h : Fin 4, ∑ x : Fin 256, termV Q C K g h (row i x) j d
      = if hj : j.val < 8208 then ((gv Q K C g ⟨j.val, hj⟩ d : ℝ) : EReal) else 0 := by
  rw [Finset.sum_comm]
  refine (Finset.sum_congr rfl fun h _ => sum_rows fun n => termV Q C K g h n j d).trans ?_
  by_cases hj : j.val < 8208
  · rw [dif_pos hj, gv, ← sum_coe]
    exact Finset.sum_congr rfl fun h _ => sum_pad _ _ (fun n => by rw [termV, dif_pos ⟨n.isLt, hj⟩])
      (fun n hn => by rw [termV, dif_neg fun hh => hn hh.1])
  · rw [dif_neg hj]
    exact Finset.sum_eq_zero fun h _ => Finset.sum_eq_zero fun n _ => by rw [termV, dif_neg fun hh => hj hh.2]

theorem sum_termK (j : Fin 8448) (d : Fin 64) :
    ∑ i : Fin 33, ∑ h : Fin 4, ∑ x : Fin 256, termK Q C K V g h (row i x) j d
      = if hj : j.val < 8208 then ((gk Q K V C g ⟨j.val, hj⟩ d : ℝ) : EReal) else 0 := by
  rw [Finset.sum_comm]
  refine (Finset.sum_congr rfl fun h _ => sum_rows fun n => termK Q C K V g h n j d).trans ?_
  by_cases hj : j.val < 8208
  · rw [dif_pos hj, gk, ← sum_coe]
    exact Finset.sum_congr rfl fun h _ => sum_pad _ _ (fun n => by rw [termK, dif_pos ⟨n.isLt, hj⟩])
      (fun n hn => by rw [termK, dif_neg fun hh => hn hh.1])
  · rw [dif_neg hj]
    exact Finset.sum_eq_zero fun h _ => Finset.sum_eq_zero fun n _ => by rw [termK, dif_neg fun hh => hj hh.2]

theorem sum_termQ (n : Fin 8448) (h : Fin 4) (d : Fin 64) :
    ∑ i : Fin 3, ∑ b : Fin 2816, termQ Q C K V g h n (key i b) d
      = if hn : n.val < 8208 then ((gq Q K V C ⟨n.val, hn⟩ g h d : ℝ) : EReal) else 0 := by
  rw [sum_keys fun j => termQ Q C K V g h n j d]
  by_cases hn : n.val < 8208
  · rw [dif_pos hn, gq]
    exact sum_pad _ _ (fun j => by rw [termQ, dif_pos ⟨hn, j.isLt⟩]) (fun j hj => by rw [termQ, dif_neg fun hh => hj hh.2])
  · rw [dif_neg hn]
    exact Finset.sum_eq_zero fun j _ => by rw [termQ, dif_neg fun hh => hn hh.1]

end Cert.KernelIdeal.Attn

end
-- ==== Proof.Dv.lean ====
/- The running sum of the values' cotangent, point by point. -/
module

public import proofs.«01_k».proof.Proof.Block

@[expose] public section

set_option maxRecDepth 16384

noncomputable section

namespace Cert.KernelIdeal.Attn

open Cert.KernelIdeal Cert.KernelIdeal.Gen Cert.Attn Idealize.ShloMosaic Idealize.ShloMosaic.TcCoe Idealize.SL.Sem
open Idealize.ShloMosaic.Pipeline (Dat)

variable (m : (ℓ : Loc nD τ sig) → Buf (Elt Ideal) ℓ)

set_option maxHeartbeats 1600000 in
/-- A point that does not start a run adds to the sum of the point before. -/
theorem dv_next (c : Dev nD) (t : Fin cfg0.N) (h1 : ¬t.val % 33 = 0) (b : Fin 2816) (d : Fin 64) :
    (outsAt0 m c t.val t.isLt).2.2.2.2 (ix2 b d)
      = (outsAt0 m c (t.val - 1) (Nat.lt_of_le_of_lt (Nat.sub_le _ _) t.isLt)).2.2.2.2 (ix2 b d)
        + addV (iblk m c 3 t) (iblk m c 4 t) (iblk m c 5 t) (iblk m c 6 t) b d := by
  have h0 : ¬t.val % 99 = 0 := by omega
  simp only [addV, Fin.sum_univ_four, dos, fac, colq_zero, colq_one, colq_two, colq_three, ← add_assoc]
  by_cases h2 : t.val % 33 = 32
  · rw [outsAt0_C m c t h0 h1 h2]
    frame_out
    pointwise [k0_pay11, k0_pay13, k0_pay14, k0_pay15, k0_pay16, k0_pay17, k0_pay18, k0_pay27, k0_pay28, k0_pay31, k0_pay32]
    rw [read_unread_whole]
    rfl
  · rw [outsAt0_B m c t h0 h1 h2]
    frame_out
    pointwise [k0_pay11, k0_pay13, k0_pay14, k0_pay15, k0_pay16, k0_pay17, k0_pay18, k0_pay27, k0_pay28, k0_pay31, k0_pay32]
    rw [read_unread_whole]
    rfl

set_option maxHeartbeats 1600000 in
/-- A point that starts a run adds to zero. -/
theorem dv_start (c : Dev nD) (t : Fin cfg0.N) (h1 : t.val % 33 = 0) (b : Fin 2816) (d : Fin 64) :
    (outsAt0 m c t.val t.isLt).2.2.2.2 (ix2 b d)
      = 0 + addV (iblk m c 3 t) (iblk m c 4 t) (iblk m c 5 t) (iblk m c 6 t) b d := by
  have h2 : ¬t.val % 33 = 32 := by omega
  simp only [addV, Fin.sum_univ_four, dos, fac, colq_zero, colq_one, colq_two, colq_three, ← add_assoc]
  by_cases h0 : t.val % 99 = 0
  · rw [outsAt0_A m c t h0 h1 h2]
    frame_out
    pointwise [k0_pay8, k0_pay11, k0_pay13, k0_pay14, k0_pay15, k0_pay16, k0_pay17, k0_pay18, k0_pay27, k0_pay28, k0_pay31, k0_pay32]
    rfl
  · rw [outsAt0_D m c t h0 h1 h2]
    frame_out
    pointwise [k0_pay8, k0_pay11, k0_pay13, k0_pay14, k0_pay15, k0_pay16, k0_pay17, k0_pay18, k0_pay27, k0_pay28, k0_pay31, k0_pay32]
    rfl

set_option maxHeartbeats 1600000 in
/-- The last point of a run copies the sum out. -/
theorem dv_out (c : Dev nD) (t : Fin cfg0.N) (h2 : t.val % 33 = 32) (z : Fin 1) (b : Fin 2816) (d : Fin 64) :
    (outsAt0 m c t.val t.isLt).2.2.1 (ix3 z b d) = (outsAt0 m c t.val t.isLt).2.2.2.2 (ix2 b d) := by
  have h0 : ¬t.val % 99 = 0 := by omega
  have h1 : ¬t.val % 33 = 0 := by omega
  rw [outsAt0_C m c t h0 h1 h2]
  frame_out
  pointwise [k0_pay5]

end Cert.KernelIdeal.Attn

end
-- ==== Proof.Dk.lean ====
/- The running sum of the keys' cotangent, point by point. -/
module

public import proofs.«01_k».proof.Proof.Block

@[expose] public section

set_option maxRecDepth 16384

noncomputable section

namespace Cert.KernelIdeal.Attn

open Cert.KernelIdeal Cert.KernelIdeal.Gen Cert.Attn Idealize.ShloMosaic Idealize.ShloMosaic.TcCoe Idealize.SL.Sem
open Idealize.ShloMosaic.Pipeline (Dat)

variable (m : (ℓ : Loc nD τ sig) → Buf (Elt Ideal) ℓ)

set_option maxHeartbeats 1600000 in
/-- A point that does not start a run adds to the sum of the point before. -/
theorem dk_next (c : Dev nD) (t : Fin cfg0.N) (h1 : ¬t.val % 33 = 0) (b : Fin 2816) (d : Fin 64) :
    (outsAt0 m c t.val t.isLt).2.2.2.1 (ix2 b d)
      = (outsAt0 m c (t.val - 1) (Nat.lt_of_le_of_lt (Nat.sub_le _ _) t.isLt)).2.2.2.1 (ix2 b d)
        + addK (iblk m c 0 t) (iblk m c 2 t) (iblk m c 3 t) (iblk m c 4 t) (iblk m c 5 t) (iblk m c 6 t) (iblk m c 7 t) b d := by
  have h0 : ¬t.val % 99 = 0 := by omega
  simp only [addK, dss, Fin.sum_univ_four, dos, fac, colq_zero, colq_one, colq_two, colq_three, ← add_assoc]
  by_cases h2 : t.val % 33 = 32
  · rw [outsAt0_C m c t h0 h1 h2]
    frame_out
    pointwise [k0_pay1, k0_pay2, k0_pay10, k0_pay11, k0_pay12, k0_pay13, k0_pay14, k0_pay15, k0_pay16, k0_pay19, k0_pay20, k0_pay21, k0_pay22, k0_pay23, k0_pay25, k0_pay27, k0_pay28, k0_pay29, k0_pay30, k0_pay33, k0_pay34, k0_pay35]
    rw [read_unread_whole]
    rfl
  · rw [outsAt0_B m c t h0 h1 h2]
    frame_out
    pointwise [k0_pay1, k0_pay2, k0_pay10, k0_pay11, k0_pay12, k0_pay13, k0_pay14, k0_pay15, k0_pay16, k0_pay19, k0_pay20, k0_pay21, k0_pay22, k0_pay23, k0_pay25, k0_pay27, k0_pay28, k0_pay29, k0_pay30, k0_pay33, k0_pay34, k0_pay35]
    rw [read_unread_whole]
    rfl

set_option maxHeartbeats 1600000 in
/-- A point that starts a run adds to zero. -/
theorem dk_start (c : Dev nD) (t : Fin cfg0.N) (h1 : t.val % 33 = 0) (b : Fin 2816) (d : Fin 64) :
    (outsAt0 m c t.val t.isLt).2.2.2.1 (ix2 b d)
      = 0 + addK (iblk m c 0 t) (iblk m c 2 t) (iblk m c 3 t) (iblk m c 4 t) (iblk m c 5 t) (iblk m c 6 t) (iblk m c 7 t) b d := by
  have h2 : ¬t.val % 33 = 32 := by omega
  simp only [addK, dss, Fin.sum_univ_four, dos, fac, colq_zero, colq_one, colq_two, colq_three, ← add_assoc]
  by_cases h0 : t.val % 99 = 0
  · rw [outsAt0_A m c t h0 h1 h2]
    frame_out
    pointwise [k0_pay7, k0_pay1, k0_pay2, k0_pay10, k0_pay11, k0_pay12, k0_pay13, k0_pay14, k0_pay15, k0_pay16, k0_pay19, k0_pay20, k0_pay21, k0_pay22, k0_pay23, k0_pay25, k0_pay27, k0_pay28, k0_pay29, k0_pay30, k0_pay33, k0_pay34, k0_pay35]
    rfl
  · rw [outsAt0_D m c t h0 h1 h2]
    frame_out
    pointwise [k0_pay7, k0_pay1, k0_pay2, k0_pay10, k0_pay11, k0_pay12, k0_pay13, k0_pay14, k0_pay15, k0_pay16, k0_pay19, k0_pay20, k0_pay21, k0_pay22, k0_pay23, k0_pay25, k0_pay27, k0_pay28, k0_pay29, k0_pay30, k0_pay33, k0_pay34, k0_pay35]
    rfl

set_option maxHeartbeats 1600000 in
/-- The last point of a run copies the sum out. -/
theorem dk_out (c : Dev nD) (t : Fin cfg0.N) (h2 : t.val % 33 = 32) (z : Fin 1) (b : Fin 2816) (d : Fin 64) :
    (outsAt0 m c t.val t.isLt).2.1 (ix3 z b d) = (outsAt0 m c t.val t.isLt).2.2.2.1 (ix2 b d) := by
  have h0 : ¬t.val % 99 = 0 := by omega
  have h1 : ¬t.val % 33 = 0 := by omega
  rw [outsAt0_C m c t h0 h1 h2]
  frame_out
  pointwise [k0_pay4]

end Cert.KernelIdeal.Attn

end
-- ==== Proof.Dq.lean ====
/- The running sum of the queries' cotangent, point by point. -/
module

public import proofs.«01_k».proof.Proof.Block

@[expose] public section

set_option maxRecDepth 16384

noncomputable section

namespace Cert.KernelIdeal.Attn

open Cert.KernelIdeal Cert.KernelIdeal.Gen Cert.Attn Idealize.ShloMosaic Idealize.ShloMosaic.TcCoe Idealize.SL.Sem
open Idealize.ShloMosaic.Pipeline (Dat)

variable (m : (ℓ : Loc nD τ sig) → Buf (Elt Ideal) ℓ)

theorem canon_hit {s : Shape} {e : EltTy} {Val : EltTy → Type} [∀ e, Nonempty (Val e)] {off size : Fin s.rank → ℕ}
    (inb : ∀ a, off a + size a ≤ s.size a) (w : (Rect.unit off size inb).shape.Idx → Val e) (L : List (View.Piece Val s e))
    (y : s.Idx) (x : (Rect.unit off size inb).shape.Idx) (hx : ∀ a, (y a).val = off a + (x a).val) :
    View.canon ((⟨Rect.unit off size inb, w⟩ : View.Piece Val s e) :: L) y = w x := by
  have hy : (Rect.unit off size inb).emb x = y := funext fun a => Fin.ext (by
    show off a + 1 * (x a).val = (y a).val
    rw [hx a, Nat.one_mul])
  rw [← hy]
  exact View.canon_cons_emb _ w L x

theorem canon_miss {s : Shape} {e : EltTy} {Val : EltTy → Type} [∀ e, Nonempty (Val e)] {off size : Fin s.rank → ℕ}
    (inb : ∀ a, off a + size a ≤ s.size a) (w : (Rect.unit off size inb).shape.Idx → Val e) (L : List (View.Piece Val s e))
    (y : s.Idx) (a : Fin s.rank) (ha : (y a).val < off a ∨ off a + size a ≤ (y a).val) :
    View.canon ((⟨Rect.unit off size inb, w⟩ : View.Piece Val s e) :: L) y = View.canon L y := by
  refine View.canon_cons_of_not_mem _ L ?_
  rw [Rect.mem_set_unit]
  intro hall
  have := hall a
  omega

/-- The block of rows a point stores: what was there plus what the point adds. -/
theorem rows_at (k : FVec Ideal S1x2816x64 .bf16) (v : FVec Ideal S1x2816x128 .bf16)
    (pt : FVec Ideal S4x256x2816 .bf16) (mb : FVec Ideal S1x256x128 .f32) (dO : FVec Ideal S256x256 .bf16)
    (ls dl : FVec Ideal S256x128 .f32) (o : FVec Ideal S256x256 .f32) (x : Fin 256) (h : Fin 4) (d : Fin 64) :
    k0_pay3 (k0_pay9 k)
      (k0_pay24 (k0_pay9 k)
        (k0_pay19 (k0_pay10 v) (k0_pay12 mb ls dl)
          (k0_pay13 mb ls (View.ld (Val := Elt Ideal) (e' := .bf16) dO (Rect.unit ![0, 0] S256x64.size inb_S256x256_S256x64_0_0)))
          (View.ld (Val := Elt Ideal) (e' := .bf16) pt (Rect.unit ![0, 0, 0] S1x256x2816.size inb_S4x256x2816_S1x256x2816_0_0_0))))
      (k0_pay26 (k0_pay9 k)
        (k0_pay20 (View.ld (Val := Elt Ideal) (e' := .bf16) pt (Rect.unit ![1, 0, 0] S1x256x2816.size inb_S4x256x2816_S1x256x2816_1_0_0)))
        (k0_pay21 (k0_pay10 v) (k0_pay12 mb ls dl)
          (k0_pay14 (View.ld (Val := Elt Ideal) (e' := .bf16) dO (Rect.unit ![0, 64] S256x64.size inb_S256x256_S256x64_0_64)))
          (k0_pay15 mb ls)))
      (k0_pay33 (k0_pay12 mb ls dl)
        (k0_pay29 (k0_pay10 v) (k0_pay11 mb ls)
          (View.ld (Val := Elt Ideal) (e' := .bf16) dO (Rect.unit ![0, 128] S256x64.size inb_S256x256_S256x64_0_128)))
        (View.ld (Val := Elt Ideal) (e' := .bf16) pt (Rect.unit ![2, 0, 0] S1x256x2816.size inb_S4x256x2816_S1x256x2816_2_0_0)))
      (k0_pay34 (k0_pay12 mb ls dl)
        (k0_pay30 (k0_pay10 v) (k0_pay11 mb ls)
          (View.ld (Val := Elt Ideal) (e' := .bf16) dO (Rect.unit ![0, 192] S256x64.size inb_S256x256_S256x64_0_192)))
        (View.ld (Val := Elt Ideal) (e' := .bf16) pt (Rect.unit ![3, 0, 0] S1x256x2816.size inb_S4x256x2816_S1x256x2816_3_0_0)))
      o (ix2 x (colq h d)) = o (ix2 x (colq h d)) + addQ k v pt mb dO ls dl x h d := by
  simp only [addQ, dss, dos, fac]
  match h with
  | 0 =>
    simp only [colq_zero]
    pointwise [k0_pay3, k0_pay9, k0_pay10, k0_pay11, k0_pay12, k0_pay13, k0_pay14, k0_pay15, k0_pay16, k0_pay19, k0_pay20, k0_pay21, k0_pay22, k0_pay24, k0_pay26, k0_pay27, k0_pay28, k0_pay29, k0_pay30, k0_pay33, k0_pay34]
    rfl
  | 1 =>
    simp only [colq_one]
    pointwise [k0_pay3, k0_pay9, k0_pay10, k0_pay11, k0_pay12, k0_pay13, k0_pay14, k0_pay15, k0_pay16, k0_pay19, k0_pay20, k0_pay21, k0_pay22, k0_pay24, k0_pay26, k0_pay27, k0_pay28, k0_pay29, k0_pay30, k0_pay33, k0_pay34]
    rfl
  | 2 =>
    simp only [colq_two]
    pointwise [k0_pay3, k0_pay9, k0_pay10, k0_pay11, k0_pay12, k0_pay13, k0_pay14, k0_pay15, k0_pay16, k0_pay19, k0_pay20, k0_pay21, k0_pay22, k0_pay24, k0_pay26, k0_pay27, k0_pay28, k0_pay29, k0_pay30, k0_pay33, k0_pay34]
    have hd := d.isLt
    rw [dif_neg (by omega), dif_neg (by omega), dif_pos (by omega)]
    have e : ∀ p, (⟨128 + d.val - 64 - 64, p⟩ : Fin 64) = d := fun p => Fin.ext (by show 128 + d.val - 64 - 64 = d.val; omega)
    simp only [e]
    rfl
  | 3 =>
    simp only [colq_three]
    pointwise [k0_pay3, k0_pay9, k0_pay10, k0_pay11, k0_pay12, k0_pay13, k0_pay14, k0_pay15, k0_pay16, k0_pay19, k0_pay20, k0_pay21, k0_pay22, k0_pay24, k0_pay26, k0_pay27, k0_pay28, k0_pay29, k0_pay30, k0_pay33, k0_pay34]
    have hd := d.isLt
    rw [dif_neg (by omega), dif_neg (by omega), dif_neg (by omega)]
    have e : ∀ p, (⟨192 + d.val - 64 - 64 - 64, p⟩ : Fin 64) = d := fun p => Fin.ext (by show 192 + d.val - 64 - 64 - 64 = d.val; omega)
    simp only [e]
    rfl

/-- What point `t` adds to row `n`: nothing off its block of rows. -/
def stepQ (c : Dev nD) (t : Fin cfg0.N) (n : Fin 8448) (h : Fin 4) (d : Fin 64) : EReal :=
  if n.val / 256 = t.val % 33 then
    addQ (iblk m c 1 t) (iblk m c 2 t) (iblk m c 3 t) (iblk m c 4 t) (iblk m c 5 t) (iblk m c 6 t) (iblk m c 7 t)
      ⟨n.val % 256, Nat.mod_lt _ (by norm_num)⟩ h d
  else 0

/-- The rows a point stores start at its place on the axis of query blocks. -/
theorem off_rows (t : Fin cfg0.N) : k0_off1 (grid0.coords t) = ![256 * (t.val % 33), 0] := by
  rw [k0_off1_eq, coords_two]

set_option maxHeartbeats 1600000 in
/-- A point that does not start a group adds to its own block of rows of what the point before left. -/
theorem dq_next (c : Dev nD) (t : Fin cfg0.N) (h0 : ¬t.val % 99 = 0) (n : Fin 8448) (h : Fin 4) (d : Fin 64) :
    (outsAt0 m c t.val t.isLt).1 (ix2 n (colq h d))
      = (outsAt0 m c (t.val - 1) (Nat.lt_of_le_of_lt (Nat.sub_le _ _) t.isLt)).1 (ix2 n (colq h d)) + stepQ m c t n h d := by
  rw [stepQ]
  by_cases h1 : t.val % 33 = 0
  · have h2 : ¬t.val % 33 = 32 := by omega
    rw [outsAt0_D m c t h0 h1 h2]
    frame_out
    split
    · rename_i hn
      refine (View.read_writes_cons_rows_of_mem (d := ![8448, 256]) _ _ _ _ [] (ix2 n (colq h d)) (ix2 (⟨n.val % 256, Nat.mod_lt _ (by norm_num)⟩ : Fin 256) (colq h d)) (off_rows t) ?_ rfl).trans ?_
      · show n.val = 256 * (t.val % 33) + n.val % 256
        omega
      refine (rows_at _ _ _ _ _ _ _ _ _ h d).trans ?_
      congr 1
      refine View.ld_unit_apply_of _ _ _ _ _ (ix2 n (colq h d)) ?_
      intro a
      match a with
      | 0 => show n.val = k0_off1 (grid0.coords t) 0 + n.val % 256
             have e0 : k0_off1 (grid0.coords t) 0 = 256 * (t.val % 33) := congrFun (off_rows t) 0
             omega
      | 1 => show (colq h d).val = k0_off1 (grid0.coords t) 1 + (colq h d).val
             have e1 : k0_off1 (grid0.coords t) 1 = 0 := congrFun (off_rows t) 1
             omega
    · rename_i hn
      refine (View.read_writes_cons_rows_of_not_mem (d := ![8448, 256]) (W := 256) _ _ _ _ [] (ix2 n (colq h d)) (off_rows t) rfl ?_).trans ?_
      · show n.val < 256 * (t.val % 33) ∨ 256 * (t.val % 33) + 256 ≤ n.val
        omega
      rw [add_zero]
      exact congrFun (Memref.IsWhole.read_unread _ _) _
  by_cases h2 : t.val % 33 = 32
  · rw [outsAt0_C m c t h0 h1 h2]
    frame_out
    split
    · rename_i hn
      refine (View.read_writes_cons_rows_of_mem (d := ![8448, 256]) _ _ _ _ [] (ix2 n (colq h d)) (ix2 (⟨n.val % 256, Nat.mod_lt _ (by norm_num)⟩ : Fin 256) (colq h d)) (off_rows t) ?_ rfl).trans ?_
      · show n.val = 256 * (t.val % 33) + n.val % 256
        omega
      refine (rows_at _ _ _ _ _ _ _ _ _ h d).trans ?_
      congr 1
      refine View.ld_unit_apply_of _ _ _ _ _ (ix2 n (colq h d)) ?_
      intro a
      match a with
      | 0 => show n.val = k0_off1 (grid0.coords t) 0 + n.val % 256
             have e0 : k0_off1 (grid0.coords t) 0 = 256 * (t.val % 33) := congrFun (off_rows t) 0
             omega
      | 1 => show (colq h d).val = k0_off1 (grid0.coords t) 1 + (colq h d).val
             have e1 : k0_off1 (grid0.coords t) 1 = 0 := congrFun (off_rows t) 1
             omega
    · rename_i hn
      refine (View.read_writes_cons_rows_of_not_mem (d := ![8448, 256]) (W := 256) _ _ _ _ [] (ix2 n (colq h d)) (off_rows t) rfl ?_).trans ?_
      · show n.val < 256 * (t.val % 33) ∨ 256 * (t.val % 33) + 256 ≤ n.val
        omega
      rw [add_zero]
      exact congrFun (Memref.IsWhole.read_unread _ _) _
  · rw [outsAt0_B m c t h0 h1 h2]
    frame_out
    split
    · rename_i hn
      refine (View.read_writes_cons_rows_of_mem (d := ![8448, 256]) _ _ _ _ [] (ix2 n (colq h d)) (ix2 (⟨n.val % 256, Nat.mod_lt _ (by norm_num)⟩ : Fin 256) (colq h d)) (off_rows t) ?_ rfl).trans ?_
      · show n.val = 256 * (t.val % 33) + n.val % 256
        omega
      refine (rows_at _ _ _ _ _ _ _ _ _ h d).trans ?_
      congr 1
      refine View.ld_unit_apply_of _ _ _ _ _ (ix2 n (colq h d)) ?_
      intro a
      match a with
      | 0 => show n.val = k0_off1 (grid0.coords t) 0 + n.val % 256
             have e0 : k0_off1 (grid0.coords t) 0 = 256 * (t.val % 33) := congrFun (off_rows t) 0
             omega
      | 1 => show (colq h d).val = k0_off1 (grid0.coords t) 1 + (colq h d).val
             have e1 : k0_off1 (grid0.coords t) 1 = 0 := congrFun (off_rows t) 1
             omega
    · rename_i hn
      refine (View.read_writes_cons_rows_of_not_mem (d := ![8448, 256]) (W := 256) _ _ _ _ [] (ix2 n (colq h d)) (off_rows t) rfl ?_).trans ?_
      · show n.val < 256 * (t.val % 33) ∨ 256 * (t.val % 33) + 256 ≤ n.val
        omega
      rw [add_zero]
      exact congrFun (Memref.IsWhole.read_unread _ _) _

set_option maxHeartbeats 1600000 in
/-- A point that starts a group adds to zero. -/
theorem dq_start (c : Dev nD) (t : Fin cfg0.N) (h0 : t.val % 99 = 0) (n : Fin 8448) (h : Fin 4) (d : Fin 64) :
    (outsAt0 m c t.val t.isLt).1 (ix2 n (colq h d)) = 0 + stepQ m c t n h d := by
  have h1 : t.val % 33 = 0 := by omega
  have h2 : ¬t.val % 33 = 32 := by omega
  rw [stepQ, outsAt0_A m c t h0 h1 h2]
  frame_out
  split
  · rename_i hn
    refine (canon_hit _ _ _ (ix2 n (colq h d)) (ix2 (⟨n.val % 256, Nat.mod_lt _ (by norm_num)⟩ : Fin 256) (colq h d)) ?_).trans ?_
    · intro a
      match a with
      | 0 => show n.val = k0_off1 (grid0.coords t) 0 + n.val % 256
             have e0 : k0_off1 (grid0.coords t) 0 = 256 * (t.val % 33) := congrFun (off_rows t) 0
             omega
      | 1 => show (colq h d).val = k0_off1 (grid0.coords t) 1 + (colq h d).val
             have e1 : k0_off1 (grid0.coords t) 1 = 0 := congrFun (off_rows t) 1
             omega
    refine (rows_at _ _ _ _ _ _ _ _ _ h d).trans ?_
    congr 1
    refine (View.ld_unit_apply_of _ _ _ _ _ (ix2 n (colq h d)) ?_).trans ?_
    · intro a
      match a with
      | 0 => show n.val = k0_off1 (grid0.coords t) 0 + n.val % 256
             have e0 : k0_off1 (grid0.coords t) 0 = 256 * (t.val % 33) := congrFun (off_rows t) 0
             omega
      | 1 => show (colq h d).val = k0_off1 (grid0.coords t) 1 + (colq h d).val
             have e1 : k0_off1 (grid0.coords t) 1 = 0 := congrFun (off_rows t) 1
             omega
    · pointwise [k0_pay6]
  · rename_i hn
    refine (canon_miss _ _ _ (ix2 n (colq h d)) 0 ?_).trans ?_
    · show n.val < k0_off1 (grid0.coords t) 0 ∨ k0_off1 (grid0.coords t) 0 + 256 ≤ n.val
      have e0 : k0_off1 (grid0.coords t) 0 = 256 * (t.val % 33) := congrFun (off_rows t) 0
      omega
    rw [add_zero]
    refine (canon_hit _ _ _ (ix2 n (colq h d)) (ix2 n (colq h d)) ?_).trans ?_
    · intro a
      match a with
      | 0 => show n.val = 0 + n.val
             omega
      | 1 => show (colq h d).val = 0 + (colq h d).val
             omega
    · pointwise [k0_pay6]

end Cert.KernelIdeal.Attn

end
-- ==== Proof.Array.lean ====
/- What the call's three results hold after all grid points: the model's gradients. -/
module

public import proofs.«01_k».proof.Proof.Sums
public import proofs.«01_k».proof.Proof.Dv
public import proofs.«01_k».proof.Proof.Dk
public import proofs.«01_k».proof.Proof.Dq
public import proofs.«01_k».proof.Proof.Gen.KernelIdeal.Value

@[expose] public section

set_option maxRecDepth 16384

noncomputable section

namespace Cert.KernelIdeal.Attn

open Cert.KernelIdeal Cert.KernelIdeal.Gen Cert.Attn Idealize.ShloMosaic Idealize.ShloMosaic.TcCoe Idealize.SL.Sem
open Idealize.ShloMosaic.Pipeline

variable (m : (ℓ : Loc nD τ sig) → Buf (Elt Ideal) ℓ) (c : Dev nD) (t : Fin cfg0.N)
variable (Q C : Fin 8208 → Fin 1024 → ℝ) (K V : Fin 8208 → Fin 256 → ℝ)
variable (H : Holds m c Q C K V)
variable (M : Fin 3 → Fin 4 → Fin 4 → Fin 8208 → ℝ)
  (hM : ∀ t g r n, mx (S0 m c) t (ix3 g r n) = ((M t g r n : ℝ) : EReal))
include H hM

/-- The running sum of the values' cotangent, after the last block of queries. -/
theorem dv_sum (h2 : t.val % 33 = 32) (b : Fin 2816) (d : Fin 64) :
    (outsAt0 m c t.val t.isLt).2.2.2.2 (ix2 b d)
      = if hj : (key (jOf t) b).val < 8208 then ((gv Q K C (gOf t) ⟨_, hj⟩ d : ℝ) : EReal) else 0 := by
  have e := eq_sum_fin_of_reset_step_apply_of_flush (M := EReal) (N := cfg0.N)
    (fun n hn (i : Fin 2816 × Fin 64) => (outsAt0 m c n hn).2.2.2.2 (ix2 i.1 i.2)) 33 (fun _ => 0)
    (fun t i => addV (iblk m c 3 t) (iblk m c 4 t) (iblk m c 5 t) (iblk m c 6 t) i.1 i.2)
    (fun t h i => dv_start m c t h i.1 i.2) (fun t h i => dv_next m c t h i.1 i.2) t h2 (b, d)
  refine e.trans ?_
  rw [zero_add, ← sum_termV]
  refine Finset.sum_congr rfl fun s _ => ?_
  rw [addV_at m c _ Q C K V H M hM]
  have ht : t.val < 396 := t.isLt
  have eg : ∀ hh, gOf ⟨33 * (t.val / 33) + s.val, hh⟩ = gOf t := fun hh => Fin.ext (by simp only [gOf]; omega)
  have ej : ∀ hh, jOf ⟨33 * (t.val / 33) + s.val, hh⟩ = jOf t := fun hh => Fin.ext (by simp only [jOf]; omega)
  have ei : ∀ hh, iOf ⟨33 * (t.val / 33) + s.val, hh⟩ = s := fun hh => Fin.ext (by simp only [iOf]; omega)
  rw [eg, ej, ei]

/-- The running sum of the keys' cotangent, after the last block of queries. -/
theorem dk_sum (h2 : t.val % 33 = 32) (b : Fin 2816) (d : Fin 64) :
    (outsAt0 m c t.val t.isLt).2.2.2.1 (ix2 b d)
      = if hj : (key (jOf t) b).val < 8208 then ((gk Q K V C (gOf t) ⟨_, hj⟩ d : ℝ) : EReal) else 0 := by
  have e := eq_sum_fin_of_reset_step_apply_of_flush (M := EReal) (N := cfg0.N)
    (fun n hn (i : Fin 2816 × Fin 64) => (outsAt0 m c n hn).2.2.2.1 (ix2 i.1 i.2)) 33 (fun _ => 0)
    (fun t i => addK (iblk m c 0 t) (iblk m c 2 t) (iblk m c 3 t) (iblk m c 4 t) (iblk m c 5 t) (iblk m c 6 t) (iblk m c 7 t) i.1 i.2)
    (fun t h i => dk_start m c t h i.1 i.2) (fun t h i => dk_next m c t h i.1 i.2) t h2 (b, d)
  refine e.trans ?_
  rw [zero_add, ← sum_termK]
  refine Finset.sum_congr rfl fun s _ => ?_
  rw [addK_at m c _ Q C K V H M hM]
  have ht : t.val < 396 := t.isLt
  have eg : ∀ hh, gOf ⟨33 * (t.val / 33) + s.val, hh⟩ = gOf t := fun hh => Fin.ext (by simp only [gOf]; omega)
  have ej : ∀ hh, jOf ⟨33 * (t.val / 33) + s.val, hh⟩ = jOf t := fun hh => Fin.ext (by simp only [jOf]; omega)
  have ei : ∀ hh, iOf ⟨33 * (t.val / 33) + s.val, hh⟩ = s := fun hh => Fin.ext (by simp only [iOf]; omega)
  rw [eg, ej, ei]

/-- The running sum of the queries' cotangent, after the last block of keys. -/
theorem dq_sum (h2 : t.val % 99 = 98) (n : Fin 8448) (h : Fin 4) (d : Fin 64) :
    (outsAt0 m c t.val t.isLt).1 (ix2 n (colq h d))
      = if hn : n.val < 8208 then ((gq Q K V C ⟨_, hn⟩ (gOf t) h d : ℝ) : EReal) else 0 := by
  have e := eq_sum_fin_of_reset_step_apply_of_flush (M := EReal) (N := cfg0.N)
    (fun p hp (i : Fin 8448 × Fin 4 × Fin 64) => (outsAt0 m c p hp).1 (ix2 i.1 (colq i.2.1 i.2.2))) 99 (fun _ => 0)
    (fun t i => stepQ m c t i.1 i.2.1 i.2.2)
    (fun t h i => dq_start m c t h i.1 i.2.1 i.2.2) (fun t h i => dq_next m c t h i.1 i.2.1 i.2.2) t h2 (n, h, d)
  refine e.trans ?_
  have ht : t.val < 396 := t.isLt
  rw [zero_add, ← sum_termQ, Fin.sum_univ_tiles 3 33 rfl]
  refine Finset.sum_congr rfl fun j _ => ?_
  rw [Finset.sum_eq_single (⟨n.val / 256, by omega⟩ : Fin 33)]
  · have hi : ∀ hh, n.val / 256 = (⟨99 * (t.val / 99) + (j.val * 33 + n.val / 256), hh⟩ : Fin cfg0.N).val % 33 := fun hh => by
      show n.val / 256 = (99 * (t.val / 99) + (j.val * 33 + n.val / 256)) % 33
      omega
    have hh0 : 99 * (t.val / 99) + (j.val * 33 + n.val / 256) < cfg0.N := by show _ < 396; omega
    simp only [stepQ]
    rw [if_pos (hi hh0), addQ_at m c _ Q C K V H M hM]
    have eg : ∀ hh, gOf ⟨99 * (t.val / 99) + (j.val * 33 + n.val / 256), hh⟩ = gOf t := fun hh => Fin.ext (by simp only [gOf]; omega)
    have ej : ∀ hh, jOf ⟨99 * (t.val / 99) + (j.val * 33 + n.val / 256), hh⟩ = j := fun hh => Fin.ext (by simp only [jOf]; omega)
    have er : ∀ hh h', row (iOf ⟨99 * (t.val / 99) + (j.val * 33 + n.val / 256), hh⟩) ⟨n.val % 256, h'⟩ = n :=
      fun hh h' => Fin.ext (by simp only [row, iOf]; omega)
    rw [eg, ej, er]
  · intro i _ hi
    simp only [stepQ]
    refine if_neg fun hc => hi (Fin.ext ?_)
    have hc' : n.val / 256 = (99 * (t.val / 99) + (j.val * 33 + i.val)) % 33 := hc
    show i.val = n.val / 256
    omega
  · intro hh; exact absurd (Finset.mem_univ _) hh

/-- The queries' gradient. -/
theorem out_q (n : Fin 8448) (i : Fin 1024) :
    Value.G8 m c (ix2 n i) = if hn : n.val < 8208 then
      ((gq Q K V C ⟨n.val, hn⟩ ⟨i.val / 256, by omega⟩ ⟨i.val / 64 % 4, by omega⟩ ⟨i.val % 64, by omega⟩ : ℝ) : EReal) else 0 := by
  have hp : Value.pt8Of (ix2 n i) = 99 * (i.val / 256) + 98 := by
    show 99 * (4 * (n.val / 8448 - 0) + 1 * (i.val / 256 - 0)) + 98 = _
    omega
  have hlt : Value.pt8Of (ix2 n i) < cfg0.N := by rw [hp]; show _ < 396; omega
  have hl : Value.loc8Of (ix2 n i) = ix2 n (colq ⟨i.val / 64 % 4, by omega⟩ ⟨i.val % 64, by omega⟩) := by
    funext a
    match a with
    | 0 => exact Fin.ext (by show n.val % 8448 = n.val; omega)
    | 1 => exact Fin.ext (by show i.val % 256 = i.val / 64 % 4 * 64 + i.val % 64; omega)
  unfold Value.G8
  rw [dif_pos hlt, ← Value.outsAt0_sweep m c _ hlt, hl]
  have hg : gOf ⟨Value.pt8Of (ix2 n i), hlt⟩ = ⟨i.val / 256, by omega⟩ := Fin.ext (by simp only [gOf]; omega)
  rw [← hg]
  exact dq_sum m c ⟨Value.pt8Of (ix2 n i), hlt⟩ Q C K V H M hM (by simp only [hp]; omega) n _ _

/-- The keys' gradient. -/
theorem out_k (g : Fin 4) (j : Fin 8448) (d : Fin 64) :
    Value.G9 m c (ix3 g j d) = if hj : j.val < 8208 then ((gk Q K V C g ⟨j.val, hj⟩ d : ℝ) : EReal) else 0 := by
  have hp : Value.pt9Of (ix3 g j d) = 33 * (3 * g.val + j.val / 2816) + 32 := by
    show 33 * (3 * (g.val / 1 - 0) + 1 * (j.val / 2816 - 0) + 1 * (d.val / 64 - 0)) + 32 = _
    omega
  have hlt : Value.pt9Of (ix3 g j d) < cfg0.N := by rw [hp]; show _ < 396; omega
  have hl : Value.loc9Of (ix3 g j d) = ix3 (0 : Fin 1) (⟨j.val % 2816, by omega⟩ : Fin 2816) d := by
    funext a
    match a with
    | 0 => exact Fin.ext (by show g.val % 1 = 0; omega)
    | 1 => exact Fin.ext (by show j.val % 2816 = j.val % 2816; rfl)
    | 2 => exact Fin.ext (by show d.val % 64 = d.val; omega)
  unfold Value.G9
  rw [dif_pos hlt, ← Value.outsAt0_sweep m c _ hlt, hl]
  have hm : (⟨Value.pt9Of (ix3 g j d), hlt⟩ : Fin cfg0.N).val % 33 = 32 := by simp only [hp]; omega
  have hg : gOf ⟨Value.pt9Of (ix3 g j d), hlt⟩ = g := Fin.ext (by simp only [gOf]; omega)
  have hk : key (jOf ⟨Value.pt9Of (ix3 g j d), hlt⟩) ⟨j.val % 2816, by omega⟩ = j := Fin.ext (by simp only [key, jOf]; omega)
  have e := (dk_out m c ⟨Value.pt9Of (ix3 g j d), hlt⟩ hm 0 ⟨j.val % 2816, by omega⟩ d).trans
    (dk_sum m c ⟨Value.pt9Of (ix3 g j d), hlt⟩ Q C K V H M hM hm ⟨j.val % 2816, by omega⟩ d)
  rw [hg, hk] at e
  exact e

/-- The values' gradient. -/
theorem out_v (g : Fin 4) (j : Fin 8448) (d : Fin 64) :
    Value.G10 m c (ix3 g j d) = if hj : j.val < 8208 then ((gv Q K C g ⟨j.val, hj⟩ d : ℝ) : EReal) else 0 := by
  have hp : Value.pt10Of (ix3 g j d) = 33 * (3 * g.val + j.val / 2816) + 32 := by
    show 33 * (3 * (g.val / 1 - 0) + 1 * (j.val / 2816 - 0) + 1 * (d.val / 64 - 0)) + 32 = _
    omega
  have hlt : Value.pt10Of (ix3 g j d) < cfg0.N := by rw [hp]; show _ < 396; omega
  have hl : Value.loc10Of (ix3 g j d) = ix3 (0 : Fin 1) (⟨j.val % 2816, by omega⟩ : Fin 2816) d := by
    funext a
    match a with
    | 0 => exact Fin.ext (by show g.val % 1 = 0; omega)
    | 1 => exact Fin.ext (by show j.val % 2816 = j.val % 2816; rfl)
    | 2 => exact Fin.ext (by show d.val % 64 = d.val; omega)
  unfold Value.G10
  rw [dif_pos hlt, ← Value.outsAt0_sweep m c _ hlt, hl]
  have hm : (⟨Value.pt10Of (ix3 g j d), hlt⟩ : Fin cfg0.N).val % 33 = 32 := by simp only [hp]; omega
  have hg : gOf ⟨Value.pt10Of (ix3 g j d), hlt⟩ = g := Fin.ext (by simp only [gOf]; omega)
  have hk : key (jOf ⟨Value.pt10Of (ix3 g j d), hlt⟩) ⟨j.val % 2816, by omega⟩ = j := Fin.ext (by simp only [key, jOf]; omega)
  have e := (dv_out m c ⟨Value.pt10Of (ix3 g j d), hlt⟩ hm 0 ⟨j.val % 2816, by omega⟩ d).trans
    (dv_sum m c ⟨Value.pt10Of (ix3 g j d), hlt⟩ Q C K V H M hM hm ⟨j.val % 2816, by omega⟩ d)
  rw [hg, hk] at e
  exact e

end Cert.KernelIdeal.Attn

end
-- ==== Proof.Ref.lean ====
/- What the reference computes, read at an index, when its arguments are real. -/
module

public import proofs.«01_k».proof.Proof.Model
public import proofs.«01_k».proof.Proof.Gen.ReferenceIdeal.Run

@[expose] public section

set_option maxRecDepth 16384

noncomputable section

namespace Cert.ReferenceIdeal.Attn

open Cert.ReferenceIdeal Cert.ReferenceIdeal.Gen Cert.Attn Idealize.ShloMosaic Idealize.ShloMosaic.TcCoe Idealize.SL.Sem

variable (q ct : FVec Ideal S8208x1024 .f32) (k v : FVec Ideal S8208x256 .f32)

/-- The scores. -/
def scores : FVec Ideal S4x4x8208x8208 .f32 :=
  transpose S4x4x8208x8208 [0, 3, 2, 1] (Host.dotGeneral dot_S8208x4x64_S8208x4x4x64_S4x8208x8208x4_2_3_0_02_1_1 none (shapeCast _ k shapeCasts_S8208x256_S8208x4x64) (shapeCast _ q shapeCasts_S8208x1024_S8208x4x4x64)) transposes_S4x8208x8208x4_S4x4x8208x8208_0_3_2_1

/-- The largest score of each row. -/
def rowMax (s : FVec Ideal S4x4x8208x8208 .f32) : FVec Ideal S4x4x8208 .f32 :=
  maximumf (broadcastInDim S4x4x8208 ![] bcast_S_S4x4x8208 (constant S_ .f32 0xFF800000#32)) (Host.reduce FloatOps.maximumf s (constant S_ .f32 0xFF800000#32) reducesTo_S4x4x8208x8208_S4x4x8208_d3 h_S_)

/-- The exponentials of the lowered scores. -/
def expo (s : FVec Ideal S4x4x8208x8208 .f32) : FVec Ideal S4x4x8208x8208 .f32 :=
  Host.exp (subf s (broadcastInDim S4x4x8208x8208 ![0, 1, 2, 3] bcast_S4x4x8208x1_S4x4x8208x8208_0_1_2_3 (broadcastInDim S4x4x8208x1 ![0, 1, 2] bcast_S4x4x8208_S4x4x8208x1_0_1_2 (rowMax s))))

/-- The denominators. -/
def denom (e : FVec Ideal S4x4x8208x8208 .f32) : FVec Ideal S4x4x8208x1 .f32 :=
  broadcastInDim S4x4x8208x1 ![0, 1, 2] bcast_S4x4x8208_S4x4x8208x1_0_1_2 (Host.reduceAdd e (constant S_ .f32 0x00000000#32) reducesTo_S4x4x8208x8208_S4x4x8208_d3 h_S_)

/-- The cotangents with heads first. -/
def cot : FVec Ideal S4x64x4x8208 .f32 :=
  transpose S4x64x4x8208 [1, 3, 2, 0] (shapeCast _ ct shapeCasts_S8208x1024_S8208x4x4x64) transposes_S8208x4x4x64_S4x64x4x8208_1_3_2_0

/-- The cotangents of the weights. -/
def dwArr : FVec Ideal S4x4x8208x8208 .f32 :=
  Host.dotGeneral dot_S4x64x4x8208_S8208x4x64_S4x4x8208x8208_1_2_23_0_0_1 none (cot ct) (shapeCast _ v shapeCasts_S8208x256_S8208x4x64)

/-- The cotangents of the scores. -/
def dsArr (u e : FVec Ideal S4x4x8208x8208 .f32) : FVec Ideal S4x8208x8208x4 .f32 :=
  transpose S4x8208x8208x4 [0, 3, 2, 1] (mulf (addf (Host.divf u (broadcastInDim S4x4x8208x8208 ![0, 1, 2, 3] bcast_S4x4x8208x1_S4x4x8208x8208_0_1_2_3 (denom e))) (broadcastInDim S4x4x8208x8208 ![0, 1, 2] bcast_S4x4x8208_S4x4x8208x8208_0_1_2 (Host.reduceAdd (Host.negf (shapeCast _ (Host.reduceAdd (mulf (mulf u (broadcastInDim S4x4x8208x8208 ![0, 1, 2, 3] bcast_S4x4x8208x1_S4x4x8208x8208_0_1_2_3 (Host.divf (broadcastInDim S4x4x8208x1 ![] bcast_S_S4x4x8208x1 (constant S_ .f32 0x3F800000#32)) (mulf (denom e) (denom e))))) e) (constant S_ .f32 0x00000000#32) reducesTo_S4x4x8208x8208_S4x4x8208_d3 h_S_) shapeCasts_S4x4x8208_S4x4x8208x1)) (constant S_ .f32 0x00000000#32) reducesTo_S4x4x8208x1_S4x4x8208_d3 h_S_))) e) transposes_S4x4x8208x8208_S4x8208x8208x4_0_3_2_1

/-- The gradient of the queries. -/
def refQ : FVec Ideal S8448x1024 .f32 :=
  pad S8448x1024 ![0, 0] ![240, 0] ![0, 0] (shapeCast _ (transpose S8208x4x4x64 [1, 0, 2, 3] (Host.dotGeneral dot_S4x8208x8208x4_S8208x4x64_S4x8208x4x64_1_0_23_2_0_1 none (dsArr (dwArr ct v) (expo (scores q k))) (shapeCast _ k shapeCasts_S8208x256_S8208x4x64)) transposes_S4x8208x4x64_S8208x4x4x64_1_0_2_3) shapeCasts_S8208x4x4x64_S8208x1024) (sitofp .f32 (constantI S_ 32 0#32)) pads_S8208x1024_S8448x1024_02400_000 h_S_

/-- The gradient of the keys. -/
def refK : FVec Ideal S4x8448x64 .f32 :=
  pad S4x8448x64 ![0, 0, 0] ![0, 240, 0] ![0, 0, 0] (transpose S4x8208x64 [1, 0, 2] (shapeCast _ (shapeCast _ (transpose S8208x4x64 [1, 0, 2] (Host.dotGeneral dot_S4x8208x8208x4_S8208x4x4x64_S4x8208x64_23_02_1_3_0_1 none (dsArr (dwArr ct v) (expo (scores q k))) (shapeCast _ q shapeCasts_S8208x1024_S8208x4x4x64)) transposes_S4x8208x64_S8208x4x64_1_0_2) shapeCasts_S8208x4x64_S8208x256) shapeCasts_S8208x256_S8208x4x64) transposes_S8208x4x64_S4x8208x64_1_0_2) (sitofp .f32 (constantI S_ 32 0#32)) pads_S4x8208x64_S4x8448x64_000_02400_000 h_S_

/-- The weights. -/
def wtArr (e : FVec Ideal S4x4x8208x8208 .f32) : FVec Ideal S4x4x8208x8208 .f32 :=
  Host.divf e (broadcastInDim S4x4x8208x8208 ![0, 1, 2, 3] bcast_S4x4x8208x1_S4x4x8208x8208_0_1_2_3 (denom e))

/-- The gradient of the values. -/
def refV (q ct : FVec Ideal S8208x1024 .f32) (k : FVec Ideal S8208x256 .f32) : FVec Ideal S4x8448x64 .f32 :=
  pad S4x8448x64 ![0, 0, 0] ![0, 240, 0] ![0, 0, 0] (transpose S4x8208x64 [1, 0, 2] (shapeCast _ (shapeCast _ (transpose S8208x4x64 [2, 0, 1] (Host.dotGeneral dot_S4x64x4x8208_S4x4x8208x8208_S4x64x8208_23_12_1_3_0_0 none (cot ct) (wtArr (expo (scores q k)))) transposes_S4x64x8208_S8208x4x64_2_0_1) shapeCasts_S8208x4x64_S8208x256) shapeCasts_S8208x256_S8208x4x64) transposes_S8208x4x64_S4x8208x64_1_0_2) (sitofp .f32 (constantI S_ 32 0#32)) pads_S4x8208x64_S4x8448x64_000_02400_000 h_S_

variable (Q C : Fin 8208 → Fin 1024 → ℝ) (K V : Fin 8208 → Fin 256 → ℝ)

theorem scores_at (hq : ∀ n c, q (ix2 n c) = ((Q n c : ℝ) : EReal)) (hk : ∀ n c, k (ix2 n c) = ((K n c : ℝ) : EReal))
    (g r : Fin 4) (n j : Fin 8208) : scores q k (ix4 g r n j) = ((score Q K g r n j : ℝ) : EReal) := by
  pointwise [scores]
  rw [score, ← sum_coe]
  exact Finset.sum_congr rfl fun d _ => by
    rw [hk, hq, mul_comm, ← EReal.coe_mul]
    exact congrArg (fun c => ((Q n c * K j _ : ℝ) : EReal)) (Fin.ext (by simp only [col]; omega))

theorem dwArr_at (hv : ∀ n c, v (ix2 n c) = ((V n c : ℝ) : EReal)) (hc : ∀ n c, ct (ix2 n c) = ((C n c : ℝ) : EReal))
    (g r : Fin 4) (n j : Fin 8208) : dwArr ct v (ix4 g r n j) = ((dw V C g r n j : ℝ) : EReal) := by
  pointwise [dwArr, cot]
  rw [dw, ← sum_coe]
  exact Finset.sum_congr rfl fun d _ => by
    rw [hc, hv, ← EReal.coe_mul]
    exact congrArg (fun c => ((C n c * V j _ : ℝ) : EReal)) (Fin.ext (by simp only [col]; omega))

theorem rowMax_real (s : FVec Ideal S4x4x8208x8208 .f32) (hs : ∀ i, ∃ r : ℝ, s i = (r : EReal)) (j : S4x4x8208.Idx) :
    ∃ M : ℝ, rowMax s j = (M : EReal) := by
  obtain ⟨M, hM⟩ := reduce_max_real s (constant S_ .f32 0xFF800000#32) reducesTo_S4x4x8208x8208_S4x4x8208_d3 h_S_ j
    (by norm_num) hs (fun _ => ofBits_bot)
  refine ⟨M, ?_⟩
  rw [rowMax, maximumf_apply, hM]
  pointwise
  rw [ofBits_bot]
  exact max_eq_right bot_le

/-- The exponentials are those of the scores lowered by one real per row. -/
theorem expo_at (s : FVec Ideal S4x4x8208x8208 .f32) (S : Fin 4 → Fin 4 → Fin 8208 → Fin 8208 → ℝ)
    (hs : ∀ g r n j, s (ix4 g r n j) = ((S g r n j : ℝ) : EReal)) (g r : Fin 4) (n : Fin 8208) :
    ∃ M : ℝ, ∀ j, expo s (ix4 g r n j) = ((Real.exp (S g r n j - M) : ℝ) : EReal) := by
  obtain ⟨M, hM⟩ := rowMax_real s (fun i => ⟨S (i 0) (i 1) (i 2) (i 3), by rw [eq_ix4 i]; exact hs _ _ _ _⟩) (ix3 g r n)
  refine ⟨M, fun j => ?_⟩
  pointwise [expo]
  rw [hs, hM, ← EReal.coe_sub, Ideal.exp_coe]

theorem wtArr_at (s : FVec Ideal S4x4x8208x8208 .f32) (S : Fin 4 → Fin 4 → Fin 8208 → Fin 8208 → ℝ)
    (hs : ∀ g r n j, s (ix4 g r n j) = ((S g r n j : ℝ) : EReal)) (g r : Fin 4) (n j : Fin 8208) :
    wtArr (expo s) (ix4 g r n j) = ((weight (S g r n) j : ℝ) : EReal) := by
  obtain ⟨M, hM⟩ := expo_at s S hs g r n
  pointwise [wtArr, denom]
  simp only [hM]
  rw [sum_coe, div_real _ (den_shift_pos (S g r n) M).ne', weight_shift]

theorem dsArr_at (u s : FVec Ideal S4x4x8208x8208 .f32) (U S : Fin 4 → Fin 4 → Fin 8208 → Fin 8208 → ℝ)
    (hu : ∀ g r n j, u (ix4 g r n j) = ((U g r n j : ℝ) : EReal))
    (hs : ∀ g r n j, s (ix4 g r n j) = ((S g r n j : ℝ) : EReal)) (g r : Fin 4) (n j : Fin 8208) :
    dsArr u (expo s) (ix4 g j n r)
      = ((weight (S g r n) j * (U g r n j - ∑ j', weight (S g r n) j' * U g r n j') : ℝ) : EReal) := by
  obtain ⟨M, hM⟩ := expo_at s S hs g r n
  have hZ := (den_shift_pos (S g r n) M).ne'
  pointwise [dsArr, denom]
  simp only [hM, hu]
  rw [← grad_shift (S g r n) M (U g r n) j, sum_coe, ← EReal.coe_mul, ← EReal.coe_one, div_real _ hZ,
    div_real _ (mul_ne_zero hZ hZ)]
  simp only [← EReal.coe_mul, sum_coe, ← EReal.coe_neg, ← EReal.coe_add]
  rw [Fin.sum_univ_one]

theorem zero_word : (FloatOps.sitofp (F := Ideal) FTy.f32 (0#32) : EReal) = 0 := by
  show ((((0#32 : BitVec 32).toInt : ℤ) : ℝ) : EReal) = 0
  simp

/-- The reference's gradient of the queries: the model's on the tokens, zero on the padding. -/
theorem refQ_at (hq : ∀ n c, q (ix2 n c) = ((Q n c : ℝ) : EReal)) (hk : ∀ n c, k (ix2 n c) = ((K n c : ℝ) : EReal))
    (hv : ∀ n c, v (ix2 n c) = ((V n c : ℝ) : EReal)) (hc : ∀ n c, ct (ix2 n c) = ((C n c : ℝ) : EReal))
    (n : Fin 8448) (c : Fin 1024) :
    refQ q ct k v (ix2 n c) = if h : n.val < 8208 then
      ((gq Q K V C ⟨n.val, h⟩ ⟨c.val / 256, by omega⟩ ⟨c.val / 64 % 4, by omega⟩ ⟨c.val % 64, by omega⟩ : ℝ) : EReal) else 0 := by
  pointwise [refQ]
  by_cases h : n.val < 8208
  · simp only [dif_pos h]
    rw [gq, ← sum_coe]
    exact Finset.sum_congr rfl fun j _ => by
      rw [dsArr_at _ _ _ _ (dwArr_at ct v C V hv hc) (scores_at q k Q K hq hk), hk, ← EReal.coe_mul]
      rfl
  · simp only [dif_neg h, zero_word]

/-- The reference's gradient of the keys. -/
theorem refK_at (hq : ∀ n c, q (ix2 n c) = ((Q n c : ℝ) : EReal)) (hk : ∀ n c, k (ix2 n c) = ((K n c : ℝ) : EReal))
    (hv : ∀ n c, v (ix2 n c) = ((V n c : ℝ) : EReal)) (hc : ∀ n c, ct (ix2 n c) = ((C n c : ℝ) : EReal))
    (g : Fin 4) (j : Fin 8448) (d : Fin 64) :
    refK q ct k v (ix3 g j d) = if h : j.val < 8208 then ((gk Q K V C g ⟨j.val, h⟩ d : ℝ) : EReal) else 0 := by
  pointwise [refK]
  by_cases h : j.val < 8208
  · simp only [dif_pos h]
    rw [gk, Finset.sum_comm]
    simp only [← sum_coe]
    exact Finset.sum_congr rfl fun r _ => Finset.sum_congr rfl fun n _ => by
      rw [dsArr_at _ _ _ _ (dwArr_at ct v C V hv hc) (scores_at q k Q K hq hk), hq, EReal.coe_mul]
      exact congrArg (fun c => _ * ((Q n c : ℝ) : EReal)) (Fin.ext (by simp only [col]; omega))
  · simp only [dif_neg h, zero_word]

/-- The reference's gradient of the values. -/
theorem refV_at (hq : ∀ n c, q (ix2 n c) = ((Q n c : ℝ) : EReal)) (hk : ∀ n c, k (ix2 n c) = ((K n c : ℝ) : EReal))
    (hc : ∀ n c, ct (ix2 n c) = ((C n c : ℝ) : EReal)) (g : Fin 4) (j : Fin 8448) (d : Fin 64) :
    refV q ct k (ix3 g j d) = if h : j.val < 8208 then ((gv Q K C g ⟨j.val, h⟩ d : ℝ) : EReal) else 0 := by
  pointwise [refV, cot]
  by_cases h : j.val < 8208
  · simp only [dif_pos h]
    rw [gv]
    simp only [← sum_coe]
    exact Finset.sum_congr rfl fun r _ => Finset.sum_congr rfl fun n _ => by
      rw [wtArr_at _ _ (scores_at q k Q K hq hk), hc, EReal.coe_mul, mul_comm]
      exact congrArg (fun c => _ * ((C n c : ℝ) : EReal)) (Fin.ext (by simp only [col]; omega))
  · simp only [dif_neg h, zero_word]

variable (m : (ℓ : Loc nD τ sig) → Buf (Elt Ideal) ℓ) (c : Dev nD)

theorem res0 : Value.res_out0 m c = refQ (m ((c.tc : Thread nD τ).loc main_arg0)) (m ((c.tc : Thread nD τ).loc main_arg3)) (m ((c.tc : Thread nD τ).loc main_arg1)) (m ((c.tc : Thread nD τ).loc main_arg2)) := rfl

theorem res1 : Value.res_out1 m c = refK (m ((c.tc : Thread nD τ).loc main_arg0)) (m ((c.tc : Thread nD τ).loc main_arg3)) (m ((c.tc : Thread nD τ).loc main_arg1)) (m ((c.tc : Thread nD τ).loc main_arg2)) := rfl

end Cert.ReferenceIdeal.Attn

end
-- ==== Proof.Equation.lean ====
/- Both programs end with the model's gradients. -/
module

public import proofs.«01_k».proof.Defs
public import proofs.«01_k».proof.Proof.Array
public import proofs.«01_k».proof.Proof.Ref
public import proofs.«01_k».proof.Proof.Pre
public import proofs.«01_k».proof.Proof.Gen.KernelIdeal
public import proofs.«01_k».proof.Proof.Gen.ReferenceIdeal

@[expose] public section

set_option maxRecDepth 16384

noncomputable section

namespace Cert.Equation

open Idealize.ShloMosaic Idealize.ShloMosaic.TcCoe Idealize.SL.Sem

/-- The three results of the call, from arguments that hold reals, are the reference's. -/
theorem results (m : (ℓ : Loc Cert.KernelIdeal.nD Cert.KernelIdeal.τ Cert.KernelIdeal.sig) → Buf (Elt Ideal) ℓ) (c : Dev Cert.KernelIdeal.nD)
    (q ct : FVec Ideal Cert.KernelIdeal.S8208x1024 .f32) (k v : FVec Ideal Cert.KernelIdeal.S8208x256 .f32)
    (eq : m ((c.tc : Thread Cert.KernelIdeal.nD Cert.KernelIdeal.τ).loc Cert.KernelIdeal.main_arg0) = q)
    (ek : m ((c.tc : Thread Cert.KernelIdeal.nD Cert.KernelIdeal.τ).loc Cert.KernelIdeal.main_arg1) = k)
    (ev : m ((c.tc : Thread Cert.KernelIdeal.nD Cert.KernelIdeal.τ).loc Cert.KernelIdeal.main_arg2) = v)
    (ec : m ((c.tc : Thread Cert.KernelIdeal.nD Cert.KernelIdeal.τ).loc Cert.KernelIdeal.main_arg3) = ct)
    (hq : ∀ i, ∃ r : ℝ, q i = (r : EReal)) (hk : ∀ i, ∃ r : ℝ, k i = (r : EReal))
    (hv : ∀ i, ∃ r : ℝ, v i = (r : EReal)) (hc : ∀ i, ∃ r : ℝ, ct i = (r : EReal)) :
    Cert.KernelIdeal.Value.G8 m c = Cert.ReferenceIdeal.Attn.refQ q ct k v
      ∧ Cert.KernelIdeal.Value.G9 m c = Cert.ReferenceIdeal.Attn.refK q ct k v
      ∧ Cert.KernelIdeal.Value.G10 m c = Cert.ReferenceIdeal.Attn.refV q ct k := by
  choose Q hQ using fun (n : Fin 8208) (i : Fin 1024) => hq (ix2 n i)
  choose K hK using fun (n : Fin 8208) (i : Fin 256) => hk (ix2 n i)
  choose V hV using fun (n : Fin 8208) (i : Fin 256) => hv (ix2 n i)
  choose C hC using fun (n : Fin 8208) (i : Fin 1024) => hc (ix2 n i)
  have H : Cert.KernelIdeal.Attn.Holds m c Q C K V :=
    ⟨fun n i => (congrFun eq _).trans (hQ n i), fun n i => (congrFun ek _).trans (hK n i),
      fun n i => (congrFun ev _).trans (hV n i), fun n i => (congrFun ec _).trans (hC n i)⟩
  obtain ⟨M, hM⟩ := Cert.KernelIdeal.Attn.maxes_real _ _ (Cert.KernelIdeal.Attn.s0_at m c Q C K V H)
  refine ⟨?_, ?_, ?_⟩
  · funext i
    rw [eq_ix2 i]
    exact (Cert.KernelIdeal.Attn.out_q m c Q C K V H M hM _ _).trans
      (Cert.ReferenceIdeal.Attn.refQ_at q ct k v Q C K V hQ hK hV hC _ _).symm
  · funext i
    rw [eq_ix3 i]
    exact (Cert.KernelIdeal.Attn.out_k m c Q C K V H M hM _ _ _).trans
      (Cert.ReferenceIdeal.Attn.refK_at q ct k v Q C K V hQ hK hV hC _ _ _).symm
  · funext i
    rw [eq_ix3 i]
    exact (Cert.KernelIdeal.Attn.out_v m c Q C K V H M hM _ _ _).trans
      (Cert.ReferenceIdeal.Attn.refV_at q ct k Q C K hQ hK hC _ _ _).symm

theorem equation : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre hargs
  refine ⟨fun c => Cert.KernelIdeal.Value.G8 m c, fun c => Cert.KernelIdeal.Value.G9 m c, fun c => Cert.KernelIdeal.Value.G10 m c,
    Cert.KernelIdeal.Value.run m g, ?_⟩
  refine (θ_run _ _ _).mono (fun r h c => ?_) (Cert.ReferenceIdeal.Value.run m' g')
  obtain ⟨a0, a1, a2, a3⟩ := hargs c
  obtain ⟨rq, rk, rv, rc⟩ := @Cert.Pre_finite.reals Cert.Pre_finite.facts _ _ _ _ (hpre c)
  obtain ⟨e8, e9, e10⟩ := results m c _ _ _ _ a0.symm a1.symm a2.symm a3.symm
    (fun i => by rw [a0]; exact rq i) (fun i => by rw [a1]; exact rk i) (fun i => by rw [a2]; exact rv i) (fun i => by rw [a3]; exact rc i)
  obtain ⟨h0, h1, h2, hrest⟩ := h c
  exact ⟨h0.trans ((Cert.ReferenceIdeal.Attn.res0 m' c).trans e8.symm), h1.trans ((Cert.ReferenceIdeal.Attn.res1 m' c).trans e9.symm),
    h2.trans e10.symm, hrest⟩

end Cert.Equation

end
-- ==== Proof.RefFrame.lean ====
/- The reference runs to its end and leaves its arguments unchanged. -/
module

public import proofs.«01_k».proof.Defs
public import proofs.«01_k».proof.Proof.Gen.ReferenceIdeal
public import proofs.«01_k».proof.Proof.Gen.ReferenceIdeal.Run
public import Idealize.ShloMosaic.Lib.Claim

@[expose] public section

set_option maxRecDepth 16384

noncomputable section

namespace Cert.RefFrame

open Idealize.ShloMosaic Idealize.SL.Sem

theorem frame : Cert.quiescent_ReferenceIdeal (hReferenceIdeal := Cert.ReferenceIdeal.Gen.facts) := fun m g _ =>
  (θ_run _ _ _).mono (fun r h => ⟨fun c => (h c).2.2.2, sem_eq_zero_of_no_sems (by decide) r.2⟩)
    (Cert.ReferenceIdeal.Value.run m g)

end Cert.RefFrame

end
-- ==== Proof.lean ====
/- The certificate (`Cert.Claim`): the attention's backward call, and the other calls of the step stated beside it,
   compute what their references state; assembled from the modules under Proof/. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.DwWide
public import proofs.«01_k».proof.Proof.Gen.DwWide.Frame
public import proofs.«01_k».proof.Proof.Gen.DwWideIdeal.Frame
public import proofs.«01_k».proof.Proof.DwWide
public import proofs.«01_k».proof.Proof.Gen.DwSquare
public import proofs.«01_k».proof.Proof.Gen.DwSquare.Frame
public import proofs.«01_k».proof.Proof.Gen.DwSquareIdeal.Frame
public import proofs.«01_k».proof.Proof.DwSquare
public import proofs.«01_k».proof.Proof.Gen.DwFlat
public import proofs.«01_k».proof.Proof.Gen.DwFlat.Frame
public import proofs.«01_k».proof.Proof.Gen.DwFlatIdeal.Frame
public import proofs.«01_k».proof.Proof.DwFlat
public import proofs.«01_k».proof.Proof.Gen.DwSsm
public import proofs.«01_k».proof.Proof.Gen.DwSsm.Frame
public import proofs.«01_k».proof.Proof.Gen.DwSsmIdeal.Frame
public import proofs.«01_k».proof.Proof.DwSsm
public import proofs.«01_k».proof.Proof.Gen.Mlp
public import proofs.«01_k».proof.Proof.Gen.Mlp.Frame
public import proofs.«01_k».proof.Proof.Gen.MlpIdeal.Frame
public import proofs.«01_k».proof.Proof.MlpEq
public import proofs.«01_k».proof.Proof.Gen.InProj
public import proofs.«01_k».proof.Proof.Gen.InProj.Frame
public import proofs.«01_k».proof.Proof.Gen.InProjIdeal.Frame
public import proofs.«01_k».proof.Proof.InProjEq
public import proofs.«01_k».proof.Proof.Gen.Loss
public import proofs.«01_k».proof.Proof.Gen.Loss.Frame
public import proofs.«01_k».proof.Proof.Gen.LossIdeal.Frame
public import proofs.«01_k».proof.Proof.LossEq
public import proofs.«01_k».proof.Proof.Gen.Fwd
public import proofs.«01_k».proof.Proof.Gen.Fwd.Frame
public import proofs.«01_k».proof.Proof.Gen.FwdIdeal.Frame
public import proofs.«01_k».proof.Proof.FwdEq
public import proofs.«01_k».proof.Proof.Gen.Proj
public import proofs.«01_k».proof.Proof.Gen.Proj.Frame
public import proofs.«01_k».proof.Proof.Gen.ProjIdeal.Frame
public import proofs.«01_k».proof.Proof.Proj
public import proofs.«01_k».proof.Proof.Gen.Mix
public import proofs.«01_k».proof.Proof.Gen.Mix.Frame
public import proofs.«01_k».proof.Proof.Gen.MixIdeal.Frame
public import proofs.«01_k».proof.Proof.Mix
public import proofs.«01_k».proof.Proof.Gen.Up
public import proofs.«01_k».proof.Proof.Gen.Up.Frame
public import proofs.«01_k».proof.Proof.Gen.UpIdeal.Frame
public import proofs.«01_k».proof.Proof.Up
public import proofs.«01_k».proof.Proof.Pre
public import proofs.«01_k».proof.Proof.Equation
public import proofs.«01_k».proof.Proof.RefFrame
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.DwWide.Gen.facts, Cert.DwWideIdeal.Gen.facts, Cert.DwWideRefIdeal.Gen.facts,
    Cert.DwSquare.Gen.facts, Cert.DwSquareIdeal.Gen.facts, Cert.DwSquareRefIdeal.Gen.facts,
    Cert.DwFlat.Gen.facts, Cert.DwFlatIdeal.Gen.facts, Cert.DwFlatRefIdeal.Gen.facts,
    Cert.DwSsm.Gen.facts, Cert.DwSsmIdeal.Gen.facts, Cert.DwSsmRefIdeal.Gen.facts,
    Cert.Mlp.Gen.facts, Cert.MlpIdeal.Gen.facts, Cert.MlpRefIdeal.Gen.facts,
    Cert.InProj.Gen.facts, Cert.InProjIdeal.Gen.facts, Cert.InProjRefIdeal.Gen.facts,
    Cert.Loss.Gen.facts, Cert.LossIdeal.Gen.facts, Cert.LossRefIdeal.Gen.facts,
    Cert.Fwd.Gen.facts, Cert.FwdIdeal.Gen.facts, Cert.FwdRefIdeal.Gen.facts,
    Cert.Proj.Gen.facts, Cert.ProjIdeal.Gen.facts, Cert.ProjRefIdeal.Gen.facts,
    Cert.Mix.Gen.facts, Cert.MixIdeal.Gen.facts, Cert.MixRefIdeal.Gen.facts,
    Cert.Up.Gen.facts, Cert.UpIdeal.Gen.facts, Cert.UpRefIdeal.Gen.facts,
    Cert.Pre_finite.facts,
    Cert.Pre_finite_fwd.facts,
    fun m ρ _ => Cert.Kernel.Gen.frame m ρ,
    fun m ρ _ => Cert.KernelIdeal.Gen.frame m ρ,
    fun m ρ _ => Cert.KernelIdeal.Gen.frame m ρ,
    Cert.RefFrame.frame,
    fun m ρ _ => Cert.RefFrame.frame m ρ ⟨⟩,
    fun m ρ _ => Cert.DwWide.Gen.frame m ρ, fun m ρ _ => Cert.DwWideIdeal.Gen.frame m ρ,
    Cert.DwWideIdeal.Grad.frame,
    fun m ρ _ => Cert.DwSquare.Gen.frame m ρ, fun m ρ _ => Cert.DwSquareIdeal.Gen.frame m ρ,
    Cert.DwSquareIdeal.Grad.frame,
    fun m ρ _ => Cert.DwFlat.Gen.frame m ρ, fun m ρ _ => Cert.DwFlatIdeal.Gen.frame m ρ,
    Cert.DwFlatIdeal.Grad.frame,
    fun m ρ _ => Cert.DwSsm.Gen.frame m ρ, fun m ρ _ => Cert.DwSsmIdeal.Gen.frame m ρ,
    Cert.DwSsmIdeal.Grad.frame,
    fun m ρ _ => Cert.Mlp.Gen.frame m ρ, fun m ρ _ => Cert.MlpIdeal.Gen.frame m ρ,
    Cert.MlpIdeal.Grad.frame,
    fun m ρ _ => Cert.InProj.Gen.frame m ρ, fun m ρ _ => Cert.InProjIdeal.Gen.frame m ρ,
    Cert.InProjIdeal.Grad.frame,
    fun m ρ _ => Cert.Loss.Gen.frame m ρ, fun m ρ _ => Cert.LossIdeal.Gen.frame m ρ,
    Cert.LossIdeal.Grad.frame,
    fun m ρ _ => Cert.Fwd.Gen.frame m ρ, fun m ρ _ => Cert.FwdIdeal.Gen.frame m ρ,
    fun m ρ _ => Cert.FwdIdeal.Gen.frame m ρ,
    Cert.FwdIdeal.Soft.frame,
    fun m ρ _ => Cert.FwdIdeal.Soft.frame m ρ ⟨⟩,
    fun m ρ _ => Cert.Proj.Gen.frame m ρ, fun m ρ _ => Cert.ProjIdeal.Gen.frame m ρ,
    Cert.ProjIdeal.Lin.frame,
    fun m ρ _ => Cert.Mix.Gen.frame m ρ, fun m ρ _ => Cert.MixIdeal.Gen.frame m ρ,
    Cert.MixIdeal.Gate.frame,
    fun m ρ _ => Cert.Up.Gen.frame m ρ, fun m ρ _ => Cert.UpIdeal.Gen.frame m ρ,
    Cert.UpIdeal.Act.frame,
    trivial, Cert.Equation.equation,
    trivial, Cert.DwWideIdeal.Grad.equation,
    trivial, Cert.DwSquareIdeal.Grad.equation,
    trivial, Cert.DwFlatIdeal.Grad.equation,
    trivial, Cert.DwSsmIdeal.Grad.equation,
    trivial, Cert.MlpIdeal.Grad.equation,
    trivial, Cert.InProjIdeal.Grad.equation,
    trivial, Cert.LossIdeal.Grad.equation,
    IdealRules.named_const.statement Cert.FwdIdeal.κ "mask" .f32 0xF149F2CA#32 ⊥ rfl, Cert.FwdIdeal.Soft.equation,
    trivial, Cert.ProjIdeal.Lin.equation,
    trivial, Cert.MixIdeal.Gate.equation,
    trivial, Cert.UpIdeal.Act.equation⟩

end Cert.Proof

end
